-- ==== Defs.lean ====
def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_qk [hPre_finite_qk : Cert.Pre_finite_qk.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_qk.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).1 = (fun _ => 1#1)
    ∧ (Cert.Pre_finite_qk.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_qk [hPre_finite_qk : Cert.Pre_finite_qk.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_qk.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).1 = (fun _ => 1#1)
    ∧ (Cert.Pre_finite_qk.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).2 = (fun _ => 1#1)

def Pre_FwdPre (m : (ℓ : Loc Cert.FwdPre.nD Cert.FwdPre.τ Cert.FwdPre.sig) → Buf (Elt Bits) ℓ) : Prop :=
  True

def Pre_FwdPreIdeal (m : (ℓ : Loc Cert.FwdPreIdeal.nD Cert.FwdPreIdeal.τ Cert.FwdPreIdeal.sig) → Buf (Elt Ideal) ℓ) : Prop :=
  True

def Pre_FwdPreRefIdeal (m : (ℓ : Loc Cert.FwdPreRefIdeal.nD Cert.FwdPreRefIdeal.τ Cert.FwdPreRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdRefIdeal (m : (ℓ : Loc Cert.AttnBwdRefIdeal.nD Cert.AttnBwdRefIdeal.τ Cert.AttnBwdRefIdeal.sig) → Buf (Elt Ideal) ℓ) : Prop :=
  True

def Pre_BwdPre (m : (ℓ : Loc Cert.BwdPre.nD Cert.BwdPre.τ Cert.BwdPre.sig) → Buf (Elt Bits) ℓ) : Prop :=
  True

def Pre_BwdPreIdeal (m : (ℓ : Loc Cert.BwdPreIdeal.nD Cert.BwdPreIdeal.τ Cert.BwdPreIdeal.sig) → Buf (Elt Ideal) ℓ) : Prop :=
  True

def Pre_BwdPreRefIdeal (m : (ℓ : Loc Cert.BwdPreRefIdeal.nD Cert.BwdPreRefIdeal.τ Cert.BwdPreRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_finite_qk [hAttnFwdIdeal : Cert.AttnFwdIdeal.Facts] [hPre_finite_qk : Cert.Pre_finite_qk.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_qk m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_finite_qk [hAttnFwdRefIdeal : Cert.AttnFwdRefIdeal.Facts] [hPre_finite_qk : Cert.Pre_finite_qk.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_qk m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_FwdPre [hFwdPre : Cert.FwdPre.Facts] : Prop :=
  ∀ (m : (ℓ : Loc Cert.FwdPre.nD Cert.FwdPre.τ Cert.FwdPre.sig) → Buf (Elt Bits) ℓ) (g : Dev Cert.FwdPre.nD → PrngReg), Pre_FwdPre m →
    θ_run (Cert.FwdPre.defs (F := Bits)) (onTc (τ := Cert.FwdPre.τ) (Cert.FwdPre.main (F := Bits))) ⟨m, fun _ => 0, g⟩ (fun r => (∀ c : Dev Cert.FwdPre.nD,
      r.2.mem ((c.tc : Thread Cert.FwdPre.nD Cert.FwdPre.τ).loc Cert.FwdPre.main_arg0) = m ((c.tc : Thread Cert.FwdPre.nD Cert.FwdPre.τ).loc Cert.FwdPre.main_arg0)
      ∧ r.2.mem ((c.tc : Thread Cert.FwdPre.nD Cert.FwdPre.τ).loc Cert.FwdPre.main_arg1) = m ((c.tc : Thread Cert.FwdPre.nD Cert.FwdPre.τ).loc Cert.FwdPre.main_arg1)
      ∧ r.2.mem ((c.tc : Thread Cert.FwdPre.nD Cert.FwdPre.τ).loc Cert.FwdPre.main_arg2) = m ((c.tc : Thread Cert.FwdPre.nD Cert.FwdPre.τ).loc Cert.FwdPre.main_arg2)
      ∧ r.2.mem ((c.tc : Thread Cert.FwdPre.nD Cert.FwdPre.τ).loc Cert.FwdPre.main_arg3) = m ((c.tc : Thread Cert.FwdPre.nD Cert.FwdPre.τ).loc Cert.FwdPre.main_arg3)
      ∧ r.2.mem ((c.tc : Thread Cert.FwdPre.nD Cert.FwdPre.τ).loc Cert.FwdPre.main_arg4) = m ((c.tc : Thread Cert.FwdPre.nD Cert.FwdPre.τ).loc Cert.FwdPre.main_arg4)
      ∧ r.2.mem ((c.tc : Thread Cert.FwdPre.nD Cert.FwdPre.τ).loc Cert.FwdPre.main_arg5) = m ((c.tc : Thread Cert.FwdPre.nD Cert.FwdPre.τ).loc Cert.FwdPre.main_arg5))
      ∧ r.2.sem = fun _ => 0)

def quiescent_FwdPreIdeal [hFwdPreIdeal : Cert.FwdPreIdeal.Facts] : Prop :=
  ∀ (m : (ℓ : Loc Cert.FwdPreIdeal.nD Cert.FwdPreIdeal.τ Cert.FwdPreIdeal.sig) → Buf (Elt Ideal) ℓ) (g : Dev Cert.FwdPreIdeal.nD → PrngReg), Pre_FwdPreIdeal m →
    θ_run (Cert.FwdPreIdeal.defs (F := Ideal)) (onTc (τ := Cert.FwdPreIdeal.τ) (Cert.FwdPreIdeal.main (F := Ideal))) ⟨m, fun _ => 0, g⟩ (fun r => (∀ c : Dev Cert.FwdPreIdeal.nD,
      r.2.mem ((c.tc : Thread Cert.FwdPreIdeal.nD Cert.FwdPreIdeal.τ).loc Cert.FwdPreIdeal.main_arg0) = m ((c.tc : Thread Cert.FwdPreIdeal.nD Cert.FwdPreIdeal.τ).loc Cert.FwdPreIdeal.main_arg0)
      ∧ r.2.mem ((c.tc : Thread Cert.FwdPreIdeal.nD Cert.FwdPreIdeal.τ).loc Cert.FwdPreIdeal.main_arg1) = m ((c.tc : Thread Cert.FwdPreIdeal.nD Cert.FwdPreIdeal.τ).loc Cert.FwdPreIdeal.main_arg1)
      ∧ r.2.mem ((c.tc : Thread Cert.FwdPreIdeal.nD Cert.FwdPreIdeal.τ).loc Cert.FwdPreIdeal.main_arg2) = m ((c.tc : Thread Cert.FwdPreIdeal.nD Cert.FwdPreIdeal.τ).loc Cert.FwdPreIdeal.main_arg2)
      ∧ r.2.mem ((c.tc : Thread Cert.FwdPreIdeal.nD Cert.FwdPreIdeal.τ).loc Cert.FwdPreIdeal.main_arg3) = m ((c.tc : Thread Cert.FwdPreIdeal.nD Cert.FwdPreIdeal.τ).loc Cert.FwdPreIdeal.main_arg3)
      ∧ r.2.mem ((c.tc : Thread Cert.FwdPreIdeal.nD Cert.FwdPreIdeal.τ).loc Cert.FwdPreIdeal.main_arg4) = m ((c.tc : Thread Cert.FwdPreIdeal.nD Cert.FwdPreIdeal.τ).loc Cert.FwdPreIdeal.main_arg4)
      ∧ r.2.mem ((c.tc : Thread Cert.FwdPreIdeal.nD Cert.FwdPreIdeal.τ).loc Cert.FwdPreIdeal.main_arg5) = m ((c.tc : Thread Cert.FwdPreIdeal.nD Cert.FwdPreIdeal.τ).loc Cert.FwdPreIdeal.main_arg5))
      ∧ r.2.sem = fun _ => 0)

def quiescent_FwdPreRefIdeal [hFwdPreRefIdeal : Cert.FwdPreRefIdeal.Facts] : Prop :=
  ∀ (m : (ℓ : Loc Cert.FwdPreRefIdeal.nD Cert.FwdPreRefIdeal.τ Cert.FwdPreRefIdeal.sig) → Buf (Elt Ideal) ℓ) (g : Dev Cert.FwdPreRefIdeal.nD → PrngReg), Pre_FwdPreRefIdeal m →
    θ_run (Cert.FwdPreRefIdeal.defs (F := Ideal)) (onTc (τ := Cert.FwdPreRefIdeal.τ) (Cert.FwdPreRefIdeal.main (F := Ideal))) ⟨m, fun _ => 0, g⟩ (fun r => (∀ c : Dev Cert.FwdPreRefIdeal.nD,
      r.2.mem ((c.tc : Thread Cert.FwdPreRefIdeal.nD Cert.FwdPreRefIdeal.τ).loc Cert.FwdPreRefIdeal.main_arg0) = m ((c.tc : Thread Cert.FwdPreRefIdeal.nD Cert.FwdPreRefIdeal.τ).loc Cert.FwdPreRefIdeal.main_arg0)
      ∧ r.2.mem ((c.tc : Thread Cert.FwdPreRefIdeal.nD Cert.FwdPreRefIdeal.τ).loc Cert.FwdPreRefIdeal.main_arg1) = m ((c.tc : Thread Cert.FwdPreRefIdeal.nD Cert.FwdPreRefIdeal.τ).loc Cert.FwdPreRefIdeal.main_arg1)
      ∧ r.2.mem ((c.tc : Thread Cert.FwdPreRefIdeal.nD Cert.FwdPreRefIdeal.τ).loc Cert.FwdPreRefIdeal.main_arg2) = m ((c.tc : Thread Cert.FwdPreRefIdeal.nD Cert.FwdPreRefIdeal.τ).loc Cert.FwdPreRefIdeal.main_arg2)
      ∧ r.2.mem ((c.tc : Thread Cert.FwdPreRefIdeal.nD Cert.FwdPreRefIdeal.τ).loc Cert.FwdPreRefIdeal.main_arg3) = m ((c.tc : Thread Cert.FwdPreRefIdeal.nD Cert.FwdPreRefIdeal.τ).loc Cert.FwdPreRefIdeal.main_arg3)
      ∧ r.2.mem ((c.tc : Thread Cert.FwdPreRefIdeal.nD Cert.FwdPreRefIdeal.τ).loc Cert.FwdPreRefIdeal.main_arg4) = m ((c.tc : Thread Cert.FwdPreRefIdeal.nD Cert.FwdPreRefIdeal.τ).loc Cert.FwdPreRefIdeal.main_arg4)
      ∧ r.2.mem ((c.tc : Thread Cert.FwdPreRefIdeal.nD Cert.FwdPreRefIdeal.τ).loc Cert.FwdPreRefIdeal.main_arg5) = m ((c.tc : Thread Cert.FwdPreRefIdeal.nD Cert.FwdPreRefIdeal.τ).loc Cert.FwdPreRefIdeal.main_arg5))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4)
      ∧ r.2.mem ((c.tc : Thread Cert.AttnBwd.nD Cert.AttnBwd.τ).loc Cert.AttnBwd.main_arg5) = m ((c.tc : Thread Cert.AttnBwd.nD Cert.AttnBwd.τ).loc Cert.AttnBwd.main_arg5)
      ∧ r.2.mem ((c.tc : Thread Cert.AttnBwd.nD Cert.AttnBwd.τ).loc Cert.AttnBwd.main_arg6) = m ((c.tc : Thread Cert.AttnBwd.nD Cert.AttnBwd.τ).loc Cert.AttnBwd.main_arg6)
      ∧ r.2.mem ((c.tc : Thread Cert.AttnBwd.nD Cert.AttnBwd.τ).loc Cert.AttnBwd.main_arg7) = m ((c.tc : Thread Cert.AttnBwd.nD Cert.AttnBwd.τ).loc Cert.AttnBwd.main_arg7))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5)
      ∧ r.2.mem ((c.tc : Thread Cert.AttnBwdIdeal.nD Cert.AttnBwdIdeal.τ).loc Cert.AttnBwdIdeal.main_arg6) = m ((c.tc : Thread Cert.AttnBwdIdeal.nD Cert.AttnBwdIdeal.τ).loc Cert.AttnBwdIdeal.main_arg6)
      ∧ r.2.mem ((c.tc : Thread Cert.AttnBwdIdeal.nD Cert.AttnBwdIdeal.τ).loc Cert.AttnBwdIdeal.main_arg7) = m ((c.tc : Thread Cert.AttnBwdIdeal.nD Cert.AttnBwdIdeal.τ).loc Cert.AttnBwdIdeal.main_arg7))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4)
      ∧ r.2.mem ((c.tc : Thread Cert.AttnBwdRefIdeal.nD Cert.AttnBwdRefIdeal.τ).loc Cert.AttnBwdRefIdeal.main_arg5) = m ((c.tc : Thread Cert.AttnBwdRefIdeal.nD Cert.AttnBwdRefIdeal.τ).loc Cert.AttnBwdRefIdeal.main_arg5)
      ∧ r.2.mem ((c.tc : Thread Cert.AttnBwdRefIdeal.nD Cert.AttnBwdRefIdeal.τ).loc Cert.AttnBwdRefIdeal.main_arg6) = m ((c.tc : Thread Cert.AttnBwdRefIdeal.nD Cert.AttnBwdRefIdeal.τ).loc Cert.AttnBwdRefIdeal.main_arg6)
      ∧ r.2.mem ((c.tc : Thread Cert.AttnBwdRefIdeal.nD Cert.AttnBwdRefIdeal.τ).loc Cert.AttnBwdRefIdeal.main_arg7) = m ((c.tc : Thread Cert.AttnBwdRefIdeal.nD Cert.AttnBwdRefIdeal.τ).loc Cert.AttnBwdRefIdeal.main_arg7))
      ∧ r.2.sem = fun _ => 0)

def quiescent_BwdPre [hBwdPre : Cert.BwdPre.Facts] : Prop :=
  ∀ (m : (ℓ : Loc Cert.BwdPre.nD Cert.BwdPre.τ Cert.BwdPre.sig) → Buf (Elt Bits) ℓ) (g : Dev Cert.BwdPre.nD → PrngReg), Pre_BwdPre m →
    θ_run (Cert.BwdPre.defs (F := Bits)) (onTc (τ := Cert.BwdPre.τ) (Cert.BwdPre.main (F := Bits))) ⟨m, fun _ => 0, g⟩ (fun r => (∀ c : Dev Cert.BwdPre.nD,
      r.2.mem ((c.tc : Thread Cert.BwdPre.nD Cert.BwdPre.τ).loc Cert.BwdPre.main_arg0) = m ((c.tc : Thread Cert.BwdPre.nD Cert.BwdPre.τ).loc Cert.BwdPre.main_arg0)
      ∧ r.2.mem ((c.tc : Thread Cert.BwdPre.nD Cert.BwdPre.τ).loc Cert.BwdPre.main_arg1) = m ((c.tc : Thread Cert.BwdPre.nD Cert.BwdPre.τ).loc Cert.BwdPre.main_arg1)
      ∧ r.2.mem ((c.tc : Thread Cert.BwdPre.nD Cert.BwdPre.τ).loc Cert.BwdPre.main_arg2) = m ((c.tc : Thread Cert.BwdPre.nD Cert.BwdPre.τ).loc Cert.BwdPre.main_arg2)
      ∧ r.2.mem ((c.tc : Thread Cert.BwdPre.nD Cert.BwdPre.τ).loc Cert.BwdPre.main_arg3) = m ((c.tc : Thread Cert.BwdPre.nD Cert.BwdPre.τ).loc Cert.BwdPre.main_arg3)
      ∧ r.2.mem ((c.tc : Thread Cert.BwdPre.nD Cert.BwdPre.τ).loc Cert.BwdPre.main_arg4) = m ((c.tc : Thread Cert.BwdPre.nD Cert.BwdPre.τ).loc Cert.BwdPre.main_arg4)
      ∧ r.2.mem ((c.tc : Thread Cert.BwdPre.nD Cert.BwdPre.τ).loc Cert.BwdPre.main_arg5) = m ((c.tc : Thread Cert.BwdPre.nD Cert.BwdPre.τ).loc Cert.BwdPre.main_arg5)
      ∧ r.2.mem ((c.tc : Thread Cert.BwdPre.nD Cert.BwdPre.τ).loc Cert.BwdPre.main_arg6) = m ((c.tc : Thread Cert.BwdPre.nD Cert.BwdPre.τ).loc Cert.BwdPre.main_arg6)
      ∧ r.2.mem ((c.tc : Thread Cert.BwdPre.nD Cert.BwdPre.τ).loc Cert.BwdPre.main_arg7) = m ((c.tc : Thread Cert.BwdPre.nD Cert.BwdPre.τ).loc Cert.BwdPre.main_arg7)
      ∧ r.2.mem ((c.tc : Thread Cert.BwdPre.nD Cert.BwdPre.τ).loc Cert.BwdPre.main_arg8) = m ((c.tc : Thread Cert.BwdPre.nD Cert.BwdPre.τ).loc Cert.BwdPre.main_arg8)
      ∧ r.2.mem ((c.tc : Thread Cert.BwdPre.nD Cert.BwdPre.τ).loc Cert.BwdPre.main_arg9) = m ((c.tc : Thread Cert.BwdPre.nD Cert.BwdPre.τ).loc Cert.BwdPre.main_arg9)
      ∧ r.2.mem ((c.tc : Thread Cert.BwdPre.nD Cert.BwdPre.τ).loc Cert.BwdPre.main_arg10) = m ((c.tc : Thread Cert.BwdPre.nD Cert.BwdPre.τ).loc Cert.BwdPre.main_arg10)
      ∧ r.2.mem ((c.tc : Thread Cert.BwdPre.nD Cert.BwdPre.τ).loc Cert.BwdPre.main_arg11) = m ((c.tc : Thread Cert.BwdPre.nD Cert.BwdPre.τ).loc Cert.BwdPre.main_arg11)
      ∧ r.2.mem ((c.tc : Thread Cert.BwdPre.nD Cert.BwdPre.τ).loc Cert.BwdPre.main_arg12) = m ((c.tc : Thread Cert.BwdPre.nD Cert.BwdPre.τ).loc Cert.BwdPre.main_arg12))
      ∧ r.2.sem = fun _ => 0)

def quiescent_BwdPreIdeal [hBwdPreIdeal : Cert.BwdPreIdeal.Facts] : Prop :=
  ∀ (m : (ℓ : Loc Cert.BwdPreIdeal.nD Cert.BwdPreIdeal.τ Cert.BwdPreIdeal.sig) → Buf (Elt Ideal) ℓ) (g : Dev Cert.BwdPreIdeal.nD → PrngReg), Pre_BwdPreIdeal m →
    θ_run (Cert.BwdPreIdeal.defs (F := Ideal)) (onTc (τ := Cert.BwdPreIdeal.τ) (Cert.BwdPreIdeal.main (F := Ideal))) ⟨m, fun _ => 0, g⟩ (fun r => (∀ c : Dev Cert.BwdPreIdeal.nD,
      r.2.mem ((c.tc : Thread Cert.BwdPreIdeal.nD Cert.BwdPreIdeal.τ).loc Cert.BwdPreIdeal.main_arg0) = m ((c.tc : Thread Cert.BwdPreIdeal.nD Cert.BwdPreIdeal.τ).loc Cert.BwdPreIdeal.main_arg0)
      ∧ r.2.mem ((c.tc : Thread Cert.BwdPreIdeal.nD Cert.BwdPreIdeal.τ).loc Cert.BwdPreIdeal.main_arg1) = m ((c.tc : Thread Cert.BwdPreIdeal.nD Cert.BwdPreIdeal.τ).loc Cert.BwdPreIdeal.main_arg1)
      ∧ r.2.mem ((c.tc : Thread Cert.BwdPreIdeal.nD Cert.BwdPreIdeal.τ).loc Cert.BwdPreIdeal.main_arg2) = m ((c.tc : Thread Cert.BwdPreIdeal.nD Cert.BwdPreIdeal.τ).loc Cert.BwdPreIdeal.main_arg2)
      ∧ r.2.mem ((c.tc : Thread Cert.BwdPreIdeal.nD Cert.BwdPreIdeal.τ).loc Cert.BwdPreIdeal.main_arg3) = m ((c.tc : Thread Cert.BwdPreIdeal.nD Cert.BwdPreIdeal.τ).loc Cert.BwdPreIdeal.main_arg3)
      ∧ r.2.mem ((c.tc : Thread Cert.BwdPreIdeal.nD Cert.BwdPreIdeal.τ).loc Cert.BwdPreIdeal.main_arg4) = m ((c.tc : Thread Cert.BwdPreIdeal.nD Cert.BwdPreIdeal.τ).loc Cert.BwdPreIdeal.main_arg4)
      ∧ r.2.mem ((c.tc : Thread Cert.BwdPreIdeal.nD Cert.BwdPreIdeal.τ).loc Cert.BwdPreIdeal.main_arg5) = m ((c.tc : Thread Cert.BwdPreIdeal.nD Cert.BwdPreIdeal.τ).loc Cert.BwdPreIdeal.main_arg5)
      ∧ r.2.mem ((c.tc : Thread Cert.BwdPreIdeal.nD Cert.BwdPreIdeal.τ).loc Cert.BwdPreIdeal.main_arg6) = m ((c.tc : Thread Cert.BwdPreIdeal.nD Cert.BwdPreIdeal.τ).loc Cert.BwdPreIdeal.main_arg6)
      ∧ r.2.mem ((c.tc : Thread Cert.BwdPreIdeal.nD Cert.BwdPreIdeal.τ).loc Cert.BwdPreIdeal.main_arg7) = m ((c.tc : Thread Cert.BwdPreIdeal.nD Cert.BwdPreIdeal.τ).loc Cert.BwdPreIdeal.main_arg7)
      ∧ r.2.mem ((c.tc : Thread Cert.BwdPreIdeal.nD Cert.BwdPreIdeal.τ).loc Cert.BwdPreIdeal.main_arg8) = m ((c.tc : Thread Cert.BwdPreIdeal.nD Cert.BwdPreIdeal.τ).loc Cert.BwdPreIdeal.main_arg8)
      ∧ r.2.mem ((c.tc : Thread Cert.BwdPreIdeal.nD Cert.BwdPreIdeal.τ).loc Cert.BwdPreIdeal.main_arg9) = m ((c.tc : Thread Cert.BwdPreIdeal.nD Cert.BwdPreIdeal.τ).loc Cert.BwdPreIdeal.main_arg9)
      ∧ r.2.mem ((c.tc : Thread Cert.BwdPreIdeal.nD Cert.BwdPreIdeal.τ).loc Cert.BwdPreIdeal.main_arg10) = m ((c.tc : Thread Cert.BwdPreIdeal.nD Cert.BwdPreIdeal.τ).loc Cert.BwdPreIdeal.main_arg10)
      ∧ r.2.mem ((c.tc : Thread Cert.BwdPreIdeal.nD Cert.BwdPreIdeal.τ).loc Cert.BwdPreIdeal.main_arg11) = m ((c.tc : Thread Cert.BwdPreIdeal.nD Cert.BwdPreIdeal.τ).loc Cert.BwdPreIdeal.main_arg11)
      ∧ r.2.mem ((c.tc : Thread Cert.BwdPreIdeal.nD Cert.BwdPreIdeal.τ).loc Cert.BwdPreIdeal.main_arg12) = m ((c.tc : Thread Cert.BwdPreIdeal.nD Cert.BwdPreIdeal.τ).loc Cert.BwdPreIdeal.main_arg12))
      ∧ r.2.sem = fun _ => 0)

def quiescent_BwdPreRefIdeal [hBwdPreRefIdeal : Cert.BwdPreRefIdeal.Facts] : Prop :=
  ∀ (m : (ℓ : Loc Cert.BwdPreRefIdeal.nD Cert.BwdPreRefIdeal.τ Cert.BwdPreRefIdeal.sig) → Buf (Elt Ideal) ℓ) (g : Dev Cert.BwdPreRefIdeal.nD → PrngReg), Pre_BwdPreRefIdeal m →
    θ_run (Cert.BwdPreRefIdeal.defs (F := Ideal)) (onTc (τ := Cert.BwdPreRefIdeal.τ) (Cert.BwdPreRefIdeal.main (F := Ideal))) ⟨m, fun _ => 0, g⟩ (fun r => (∀ c : Dev Cert.BwdPreRefIdeal.nD,
      r.2.mem ((c.tc : Thread Cert.BwdPreRefIdeal.nD Cert.BwdPreRefIdeal.τ).loc Cert.BwdPreRefIdeal.main_arg0) = m ((c.tc : Thread Cert.BwdPreRefIdeal.nD Cert.BwdPreRefIdeal.τ).loc Cert.BwdPreRefIdeal.main_arg0)
      ∧ r.2.mem ((c.tc : Thread Cert.BwdPreRefIdeal.nD Cert.BwdPreRefIdeal.τ).loc Cert.BwdPreRefIdeal.main_arg1) = m ((c.tc : Thread Cert.BwdPreRefIdeal.nD Cert.BwdPreRefIdeal.τ).loc Cert.BwdPreRefIdeal.main_arg1)
      ∧ r.2.mem ((c.tc : Thread Cert.BwdPreRefIdeal.nD Cert.BwdPreRefIdeal.τ).loc Cert.BwdPreRefIdeal.main_arg2) = m ((c.tc : Thread Cert.BwdPreRefIdeal.nD Cert.BwdPreRefIdeal.τ).loc Cert.BwdPreRefIdeal.main_arg2)
      ∧ r.2.mem ((c.tc : Thread Cert.BwdPreRefIdeal.nD Cert.BwdPreRefIdeal.τ).loc Cert.BwdPreRefIdeal.main_arg3) = m ((c.tc : Thread Cert.BwdPreRefIdeal.nD Cert.BwdPreRefIdeal.τ).loc Cert.BwdPreRefIdeal.main_arg3)
      ∧ r.2.mem ((c.tc : Thread Cert.BwdPreRefIdeal.nD Cert.BwdPreRefIdeal.τ).loc Cert.BwdPreRefIdeal.main_arg4) = m ((c.tc : Thread Cert.BwdPreRefIdeal.nD Cert.BwdPreRefIdeal.τ).loc Cert.BwdPreRefIdeal.main_arg4)
      ∧ r.2.mem ((c.tc : Thread Cert.BwdPreRefIdeal.nD Cert.BwdPreRefIdeal.τ).loc Cert.BwdPreRefIdeal.main_arg5) = m ((c.tc : Thread Cert.BwdPreRefIdeal.nD Cert.BwdPreRefIdeal.τ).loc Cert.BwdPreRefIdeal.main_arg5)
      ∧ r.2.mem ((c.tc : Thread Cert.BwdPreRefIdeal.nD Cert.BwdPreRefIdeal.τ).loc Cert.BwdPreRefIdeal.main_arg6) = m ((c.tc : Thread Cert.BwdPreRefIdeal.nD Cert.BwdPreRefIdeal.τ).loc Cert.BwdPreRefIdeal.main_arg6)
      ∧ r.2.mem ((c.tc : Thread Cert.BwdPreRefIdeal.nD Cert.BwdPreRefIdeal.τ).loc Cert.BwdPreRefIdeal.main_arg7) = m ((c.tc : Thread Cert.BwdPreRefIdeal.nD Cert.BwdPreRefIdeal.τ).loc Cert.BwdPreRefIdeal.main_arg7)
      ∧ r.2.mem ((c.tc : Thread Cert.BwdPreRefIdeal.nD Cert.BwdPreRefIdeal.τ).loc Cert.BwdPreRefIdeal.main_arg8) = m ((c.tc : Thread Cert.BwdPreRefIdeal.nD Cert.BwdPreRefIdeal.τ).loc Cert.BwdPreRefIdeal.main_arg8)
      ∧ r.2.mem ((c.tc : Thread Cert.BwdPreRefIdeal.nD Cert.BwdPreRefIdeal.τ).loc Cert.BwdPreRefIdeal.main_arg9) = m ((c.tc : Thread Cert.BwdPreRefIdeal.nD Cert.BwdPreRefIdeal.τ).loc Cert.BwdPreRefIdeal.main_arg9)
      ∧ r.2.mem ((c.tc : Thread Cert.BwdPreRefIdeal.nD Cert.BwdPreRefIdeal.τ).loc Cert.BwdPreRefIdeal.main_arg10) = m ((c.tc : Thread Cert.BwdPreRefIdeal.nD Cert.BwdPreRefIdeal.τ).loc Cert.BwdPreRefIdeal.main_arg10)
      ∧ r.2.mem ((c.tc : Thread Cert.BwdPreRefIdeal.nD Cert.BwdPreRefIdeal.τ).loc Cert.BwdPreRefIdeal.main_arg11) = m ((c.tc : Thread Cert.BwdPreRefIdeal.nD Cert.BwdPreRefIdeal.τ).loc Cert.BwdPreRefIdeal.main_arg11)
      ∧ r.2.mem ((c.tc : Thread Cert.BwdPreRefIdeal.nD Cert.BwdPreRefIdeal.τ).loc Cert.BwdPreRefIdeal.main_arg12) = m ((c.tc : Thread Cert.BwdPreRefIdeal.nD Cert.BwdPreRefIdeal.τ).loc Cert.BwdPreRefIdeal.main_arg12))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8))
      ∧ r.2.sem = fun _ => 0)

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v23) = v0 c
          ∧ r.2.mem ((c.tc : Thread Cert.AdamWRefIdeal.nD Cert.AdamWRefIdeal.τ).loc Cert.AdamWRefIdeal.main_v4) = v1 c
          ∧ r.2.mem ((c.tc : Thread Cert.AdamWRefIdeal.nD Cert.AdamWRefIdeal.τ).loc Cert.AdamWRefIdeal.main_v10) = v2 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def preserves_AttnFwd_AttnFwdIdeal : Prop :=
  True

def algebraic_AttnFwdIdeal_AttnFwdRefIdeal_pre_finite_qk [hAttnFwdIdeal : Cert.AttnFwdIdeal.Facts] [hAttnFwdRefIdeal : Cert.AttnFwdRefIdeal.Facts] [hPre_finite_qk : Cert.Pre_finite_qk.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_qk m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v0_0)) (v1 : (c : Dev Cert.AttnFwdIdeal.nD) → Buf (Elt Ideal) ((c.tc : Thread Cert.AttnFwdIdeal.nD Cert.AttnFwdIdeal.τ).loc Cert.AttnFwdIdeal.main_v0_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0_0) = v0 c
          ∧ r.2.mem ((c.tc : Thread Cert.AttnFwdIdeal.nD Cert.AttnFwdIdeal.τ).loc Cert.AttnFwdIdeal.main_v0_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v30) = v0 c
          ∧ r.2.mem ((c.tc : Thread Cert.AttnFwdRefIdeal.nD Cert.AttnFwdRefIdeal.τ).loc Cert.AttnFwdRefIdeal.main_v39) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_FwdPre_FwdPreIdeal : Prop :=
  True

def algebraic_FwdPreIdeal_FwdPreRefIdeal [hFwdPreIdeal : Cert.FwdPreIdeal.Facts] [hFwdPreRefIdeal : Cert.FwdPreRefIdeal.Facts] : Prop :=
  ∀ (m : (ℓ : Loc Cert.FwdPreIdeal.nD Cert.FwdPreIdeal.τ Cert.FwdPreIdeal.sig) → Buf (Elt Ideal) ℓ) (g : Dev Cert.FwdPreIdeal.nD → PrngReg)
    (m' : (ℓ : Loc Cert.FwdPreRefIdeal.nD Cert.FwdPreRefIdeal.τ Cert.FwdPreRefIdeal.sig) → Buf (Elt Ideal) ℓ) (g' : Dev Cert.FwdPreRefIdeal.nD → PrngReg), Pre_FwdPreIdeal m →
    (∀ c : Dev Cert.FwdPreIdeal.nD,
      m' ((c.tc : Thread Cert.FwdPreRefIdeal.nD Cert.FwdPreRefIdeal.τ).loc Cert.FwdPreRefIdeal.main_arg0) = m ((c.tc : Thread Cert.FwdPreIdeal.nD Cert.FwdPreIdeal.τ).loc Cert.FwdPreIdeal.main_arg0)
      ∧ m' ((c.tc : Thread Cert.FwdPreRefIdeal.nD Cert.FwdPreRefIdeal.τ).loc Cert.FwdPreRefIdeal.main_arg1) = m ((c.tc : Thread Cert.FwdPreIdeal.nD Cert.FwdPreIdeal.τ).loc Cert.FwdPreIdeal.main_arg1)
      ∧ m' ((c.tc : Thread Cert.FwdPreRefIdeal.nD Cert.FwdPreRefIdeal.τ).loc Cert.FwdPreRefIdeal.main_arg2) = m ((c.tc : Thread Cert.FwdPreIdeal.nD Cert.FwdPreIdeal.τ).loc Cert.FwdPreIdeal.main_arg2)
      ∧ m' ((c.tc : Thread Cert.FwdPreRefIdeal.nD Cert.FwdPreRefIdeal.τ).loc Cert.FwdPreRefIdeal.main_arg3) = m ((c.tc : Thread Cert.FwdPreIdeal.nD Cert.FwdPreIdeal.τ).loc Cert.FwdPreIdeal.main_arg3)
      ∧ m' ((c.tc : Thread Cert.FwdPreRefIdeal.nD Cert.FwdPreRefIdeal.τ).loc Cert.FwdPreRefIdeal.main_arg4) = m ((c.tc : Thread Cert.FwdPreIdeal.nD Cert.FwdPreIdeal.τ).loc Cert.FwdPreIdeal.main_arg4)
      ∧ m' ((c.tc : Thread Cert.FwdPreRefIdeal.nD Cert.FwdPreRefIdeal.τ).loc Cert.FwdPreRefIdeal.main_arg5) = m ((c.tc : Thread Cert.FwdPreIdeal.nD Cert.FwdPreIdeal.τ).loc Cert.FwdPreIdeal.main_arg5)) →
    ∃ (v0 : (c : Dev Cert.FwdPreIdeal.nD) → Buf (Elt Ideal) ((c.tc : Thread Cert.FwdPreIdeal.nD Cert.FwdPreIdeal.τ).loc Cert.FwdPreIdeal.main_v0_0)) (v1 : (c : Dev Cert.FwdPreIdeal.nD) → Buf (Elt Ideal) ((c.tc : Thread Cert.FwdPreIdeal.nD Cert.FwdPreIdeal.τ).loc Cert.FwdPreIdeal.main_v0_1)) (v2 : (c : Dev Cert.FwdPreIdeal.nD) → Buf (Elt Ideal) ((c.tc : Thread Cert.FwdPreIdeal.nD Cert.FwdPreIdeal.τ).loc Cert.FwdPreIdeal.main_v0_2)) (v3 : (c : Dev Cert.FwdPreIdeal.nD) → Buf (Elt Ideal) ((c.tc : Thread Cert.FwdPreIdeal.nD Cert.FwdPreIdeal.τ).loc Cert.FwdPreIdeal.main_v0_3)) (v4 : (c : Dev Cert.FwdPreIdeal.nD) → Buf (Elt Ideal) ((c.tc : Thread Cert.FwdPreIdeal.nD Cert.FwdPreIdeal.τ).loc Cert.FwdPreIdeal.main_v0_4)) (v5 : (c : Dev Cert.FwdPreIdeal.nD) → Buf (Elt Ideal) ((c.tc : Thread Cert.FwdPreIdeal.nD Cert.FwdPreIdeal.τ).loc Cert.FwdPreIdeal.main_v0_5)) (v6 : (c : Dev Cert.FwdPreIdeal.nD) → Buf (Elt Ideal) ((c.tc : Thread Cert.FwdPreIdeal.nD Cert.FwdPreIdeal.τ).loc Cert.FwdPreIdeal.main_v0_6)),
      θ_run (Cert.FwdPreIdeal.defs (F := Ideal)) (onTc (τ := Cert.FwdPreIdeal.τ) (Cert.FwdPreIdeal.main (F := Ideal))) ⟨m, fun _ => 0, g⟩ (fun r => ∀ c : Dev Cert.FwdPreIdeal.nD,
          r.2.mem ((c.tc : Thread Cert.FwdPreIdeal.nD Cert.FwdPreIdeal.τ).loc Cert.FwdPreIdeal.main_v0_0) = v0 c
          ∧ r.2.mem ((c.tc : Thread Cert.FwdPreIdeal.nD Cert.FwdPreIdeal.τ).loc Cert.FwdPreIdeal.main_v0_1) = v1 c
          ∧ r.2.mem ((c.tc : Thread Cert.FwdPreIdeal.nD Cert.FwdPreIdeal.τ).loc Cert.FwdPreIdeal.main_v0_2) = v2 c
          ∧ r.2.mem ((c.tc : Thread Cert.FwdPreIdeal.nD Cert.FwdPreIdeal.τ).loc Cert.FwdPreIdeal.main_v0_3) = v3 c
          ∧ r.2.mem ((c.tc : Thread Cert.FwdPreIdeal.nD Cert.FwdPreIdeal.τ).loc Cert.FwdPreIdeal.main_v0_4) = v4 c
          ∧ r.2.mem ((c.tc : Thread Cert.FwdPreIdeal.nD Cert.FwdPreIdeal.τ).loc Cert.FwdPreIdeal.main_v0_5) = v5 c
          ∧ r.2.mem ((c.tc : Thread Cert.FwdPreIdeal.nD Cert.FwdPreIdeal.τ).loc Cert.FwdPreIdeal.main_v0_6) = v6 c
          ∧ r.2.mem ((c.tc : Thread Cert.FwdPreIdeal.nD Cert.FwdPreIdeal.τ).loc Cert.FwdPreIdeal.main_arg0) = m ((c.tc : Thread Cert.FwdPreIdeal.nD Cert.FwdPreIdeal.τ).loc Cert.FwdPreIdeal.main_arg0)
          ∧ r.2.mem ((c.tc : Thread Cert.FwdPreIdeal.nD Cert.FwdPreIdeal.τ).loc Cert.FwdPreIdeal.main_arg1) = m ((c.tc : Thread Cert.FwdPreIdeal.nD Cert.FwdPreIdeal.τ).loc Cert.FwdPreIdeal.main_arg1)
          ∧ r.2.mem ((c.tc : Thread Cert.FwdPreIdeal.nD Cert.FwdPreIdeal.τ).loc Cert.FwdPreIdeal.main_arg2) = m ((c.tc : Thread Cert.FwdPreIdeal.nD Cert.FwdPreIdeal.τ).loc Cert.FwdPreIdeal.main_arg2)
          ∧ r.2.mem ((c.tc : Thread Cert.FwdPreIdeal.nD Cert.FwdPreIdeal.τ).loc Cert.FwdPreIdeal.main_arg3) = m ((c.tc : Thread Cert.FwdPreIdeal.nD Cert.FwdPreIdeal.τ).loc Cert.FwdPreIdeal.main_arg3)
          ∧ r.2.mem ((c.tc : Thread Cert.FwdPreIdeal.nD Cert.FwdPreIdeal.τ).loc Cert.FwdPreIdeal.main_arg4) = m ((c.tc : Thread Cert.FwdPreIdeal.nD Cert.FwdPreIdeal.τ).loc Cert.FwdPreIdeal.main_arg4)
          ∧ r.2.mem ((c.tc : Thread Cert.FwdPreIdeal.nD Cert.FwdPreIdeal.τ).loc Cert.FwdPreIdeal.main_arg5) = m ((c.tc : Thread Cert.FwdPreIdeal.nD Cert.FwdPreIdeal.τ).loc Cert.FwdPreIdeal.main_arg5))
      ∧ θ_run (Cert.FwdPreRefIdeal.defs (F := Ideal)) (onTc (τ := Cert.FwdPreRefIdeal.τ) (Cert.FwdPreRefIdeal.main (F := Ideal))) ⟨m', fun _ => 0, g'⟩ (fun r => ∀ c : Dev Cert.FwdPreRefIdeal.nD,
          r.2.mem ((c.tc : Thread Cert.FwdPreRefIdeal.nD Cert.FwdPreRefIdeal.τ).loc Cert.FwdPreRefIdeal.main_v2) = v0 c
          ∧ r.2.mem ((c.tc : Thread Cert.FwdPreRefIdeal.nD Cert.FwdPreRefIdeal.τ).loc Cert.FwdPreRefIdeal.main_v3) = v1 c
          ∧ r.2.mem ((c.tc : Thread Cert.FwdPreRefIdeal.nD Cert.FwdPreRefIdeal.τ).loc Cert.FwdPreRefIdeal.main_v5) = v2 c
          ∧ r.2.mem ((c.tc : Thread Cert.FwdPreRefIdeal.nD Cert.FwdPreRefIdeal.τ).loc Cert.FwdPreRefIdeal.main_v76) = v3 c
          ∧ r.2.mem ((c.tc : Thread Cert.FwdPreRefIdeal.nD Cert.FwdPreRefIdeal.τ).loc Cert.FwdPreRefIdeal.main_v78) = v4 c
          ∧ r.2.mem ((c.tc : Thread Cert.FwdPreRefIdeal.nD Cert.FwdPreRefIdeal.τ).loc Cert.FwdPreRefIdeal.main_v80) = v5 c
          ∧ r.2.mem ((c.tc : Thread Cert.FwdPreRefIdeal.nD Cert.FwdPreRefIdeal.τ).loc Cert.FwdPreRefIdeal.main_v81) = v6 c
          ∧ r.2.mem ((c.tc : Thread Cert.FwdPreRefIdeal.nD Cert.FwdPreRefIdeal.τ).loc Cert.FwdPreRefIdeal.main_arg0) = m' ((c.tc : Thread Cert.FwdPreRefIdeal.nD Cert.FwdPreRefIdeal.τ).loc Cert.FwdPreRefIdeal.main_arg0)
          ∧ r.2.mem ((c.tc : Thread Cert.FwdPreRefIdeal.nD Cert.FwdPreRefIdeal.τ).loc Cert.FwdPreRefIdeal.main_arg1) = m' ((c.tc : Thread Cert.FwdPreRefIdeal.nD Cert.FwdPreRefIdeal.τ).loc Cert.FwdPreRefIdeal.main_arg1)
          ∧ r.2.mem ((c.tc : Thread Cert.FwdPreRefIdeal.nD Cert.FwdPreRefIdeal.τ).loc Cert.FwdPreRefIdeal.main_arg2) = m' ((c.tc : Thread Cert.FwdPreRefIdeal.nD Cert.FwdPreRefIdeal.τ).loc Cert.FwdPreRefIdeal.main_arg2)
          ∧ r.2.mem ((c.tc : Thread Cert.FwdPreRefIdeal.nD Cert.FwdPreRefIdeal.τ).loc Cert.FwdPreRefIdeal.main_arg3) = m' ((c.tc : Thread Cert.FwdPreRefIdeal.nD Cert.FwdPreRefIdeal.τ).loc Cert.FwdPreRefIdeal.main_arg3)
          ∧ r.2.mem ((c.tc : Thread Cert.FwdPreRefIdeal.nD Cert.FwdPreRefIdeal.τ).loc Cert.FwdPreRefIdeal.main_arg4) = m' ((c.tc : Thread Cert.FwdPreRefIdeal.nD Cert.FwdPreRefIdeal.τ).loc Cert.FwdPreRefIdeal.main_arg4)
          ∧ r.2.mem ((c.tc : Thread Cert.FwdPreRefIdeal.nD Cert.FwdPreRefIdeal.τ).loc Cert.FwdPreRefIdeal.main_arg5) = m' ((c.tc : Thread Cert.FwdPreRefIdeal.nD Cert.FwdPreRefIdeal.τ).loc Cert.FwdPreRefIdeal.main_arg5))

def preserves_AttnBwd_AttnBwdIdeal : Prop :=
  True

def algebraic_AttnBwdIdeal_AttnBwdRefIdeal [hAttnBwdIdeal : Cert.AttnBwdIdeal.Facts] [hAttnBwdRefIdeal : Cert.AttnBwdRefIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)
      ∧ m' ((c.tc : Thread Cert.AttnBwdRefIdeal.nD Cert.AttnBwdRefIdeal.τ).loc Cert.AttnBwdRefIdeal.main_arg4) = m ((c.tc : Thread Cert.AttnBwdIdeal.nD Cert.AttnBwdIdeal.τ).loc Cert.AttnBwdIdeal.main_arg4)
      ∧ m' ((c.tc : Thread Cert.AttnBwdRefIdeal.nD Cert.AttnBwdRefIdeal.τ).loc Cert.AttnBwdRefIdeal.main_arg5) = m ((c.tc : Thread Cert.AttnBwdIdeal.nD Cert.AttnBwdIdeal.τ).loc Cert.AttnBwdIdeal.main_arg5)
      ∧ m' ((c.tc : Thread Cert.AttnBwdRefIdeal.nD Cert.AttnBwdRefIdeal.τ).loc Cert.AttnBwdRefIdeal.main_arg6) = m ((c.tc : Thread Cert.AttnBwdIdeal.nD Cert.AttnBwdIdeal.τ).loc Cert.AttnBwdIdeal.main_arg6)
      ∧ m' ((c.tc : Thread Cert.AttnBwdRefIdeal.nD Cert.AttnBwdRefIdeal.τ).loc Cert.AttnBwdRefIdeal.main_arg7) = m ((c.tc : Thread Cert.AttnBwdIdeal.nD Cert.AttnBwdIdeal.τ).loc Cert.AttnBwdIdeal.main_arg7)) →
    ∃ (v0 : (c : Dev Cert.AttnBwdIdeal.nD) → Buf (Elt Ideal) ((c.tc : Thread Cert.AttnBwdIdeal.nD Cert.AttnBwdIdeal.τ).loc Cert.AttnBwdIdeal.main_v0_0)) (v1 : (c : Dev Cert.AttnBwdIdeal.nD) → Buf (Elt Ideal) ((c.tc : Thread Cert.AttnBwdIdeal.nD Cert.AttnBwdIdeal.τ).loc Cert.AttnBwdIdeal.main_v0_1)) (v2 : (c : Dev Cert.AttnBwdIdeal.nD) → Buf (Elt Ideal) ((c.tc : Thread Cert.AttnBwdIdeal.nD Cert.AttnBwdIdeal.τ).loc Cert.AttnBwdIdeal.main_v0_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v0_0) = v0 c
          ∧ r.2.mem ((c.tc : Thread Cert.AttnBwdIdeal.nD Cert.AttnBwdIdeal.τ).loc Cert.AttnBwdIdeal.main_v0_1) = v1 c
          ∧ r.2.mem ((c.tc : Thread Cert.AttnBwdIdeal.nD Cert.AttnBwdIdeal.τ).loc Cert.AttnBwdIdeal.main_v0_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
          ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5)
          ∧ r.2.mem ((c.tc : Thread Cert.AttnBwdIdeal.nD Cert.AttnBwdIdeal.τ).loc Cert.AttnBwdIdeal.main_arg6) = m ((c.tc : Thread Cert.AttnBwdIdeal.nD Cert.AttnBwdIdeal.τ).loc Cert.AttnBwdIdeal.main_arg6)
          ∧ r.2.mem ((c.tc : Thread Cert.AttnBwdIdeal.nD Cert.AttnBwdIdeal.τ).loc Cert.AttnBwdIdeal.main_arg7) = m ((c.tc : Thread Cert.AttnBwdIdeal.nD Cert.AttnBwdIdeal.τ).loc Cert.AttnBwdIdeal.main_arg7))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v65) = v0 c
          ∧ r.2.mem ((c.tc : Thread Cert.AttnBwdRefIdeal.nD Cert.AttnBwdRefIdeal.τ).loc Cert.AttnBwdRefIdeal.main_v67) = v1 c
          ∧ r.2.mem ((c.tc : Thread Cert.AttnBwdRefIdeal.nD Cert.AttnBwdRefIdeal.τ).loc Cert.AttnBwdRefIdeal.main_v69) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3)
          ∧ r.2.mem ((c.tc : Thread Cert.AttnBwdRefIdeal.nD Cert.AttnBwdRefIdeal.τ).loc Cert.AttnBwdRefIdeal.main_arg4) = m' ((c.tc : Thread Cert.AttnBwdRefIdeal.nD Cert.AttnBwdRefIdeal.τ).loc Cert.AttnBwdRefIdeal.main_arg4)
          ∧ r.2.mem ((c.tc : Thread Cert.AttnBwdRefIdeal.nD Cert.AttnBwdRefIdeal.τ).loc Cert.AttnBwdRefIdeal.main_arg5) = m' ((c.tc : Thread Cert.AttnBwdRefIdeal.nD Cert.AttnBwdRefIdeal.τ).loc Cert.AttnBwdRefIdeal.main_arg5)
          ∧ r.2.mem ((c.tc : Thread Cert.AttnBwdRefIdeal.nD Cert.AttnBwdRefIdeal.τ).loc Cert.AttnBwdRefIdeal.main_arg6) = m' ((c.tc : Thread Cert.AttnBwdRefIdeal.nD Cert.AttnBwdRefIdeal.τ).loc Cert.AttnBwdRefIdeal.main_arg6)
          ∧ r.2.mem ((c.tc : Thread Cert.AttnBwdRefIdeal.nD Cert.AttnBwdRefIdeal.τ).loc Cert.AttnBwdRefIdeal.main_arg7) = m' ((c.tc : Thread Cert.AttnBwdRefIdeal.nD Cert.AttnBwdRefIdeal.τ).loc Cert.AttnBwdRefIdeal.main_arg7))

def preserves_BwdPre_BwdPreIdeal : Prop :=
  True

def algebraic_BwdPreIdeal_BwdPreRefIdeal [hBwdPreIdeal : Cert.BwdPreIdeal.Facts] [hBwdPreRefIdeal : Cert.BwdPreRefIdeal.Facts] : Prop :=
  ∀ (m : (ℓ : Loc Cert.BwdPreIdeal.nD Cert.BwdPreIdeal.τ Cert.BwdPreIdeal.sig) → Buf (Elt Ideal) ℓ) (g : Dev Cert.BwdPreIdeal.nD → PrngReg)
    (m' : (ℓ : Loc Cert.BwdPreRefIdeal.nD Cert.BwdPreRefIdeal.τ Cert.BwdPreRefIdeal.sig) → Buf (Elt Ideal) ℓ) (g' : Dev Cert.BwdPreRefIdeal.nD → PrngReg), Pre_BwdPreIdeal m →
    (∀ c : Dev Cert.BwdPreIdeal.nD,
      m' ((c.tc : Thread Cert.BwdPreRefIdeal.nD Cert.BwdPreRefIdeal.τ).loc Cert.BwdPreRefIdeal.main_arg0) = m ((c.tc : Thread Cert.BwdPreIdeal.nD Cert.BwdPreIdeal.τ).loc Cert.BwdPreIdeal.main_arg0)
      ∧ m' ((c.tc : Thread Cert.BwdPreRefIdeal.nD Cert.BwdPreRefIdeal.τ).loc Cert.BwdPreRefIdeal.main_arg1) = m ((c.tc : Thread Cert.BwdPreIdeal.nD Cert.BwdPreIdeal.τ).loc Cert.BwdPreIdeal.main_arg1)
      ∧ m' ((c.tc : Thread Cert.BwdPreRefIdeal.nD Cert.BwdPreRefIdeal.τ).loc Cert.BwdPreRefIdeal.main_arg2) = m ((c.tc : Thread Cert.BwdPreIdeal.nD Cert.BwdPreIdeal.τ).loc Cert.BwdPreIdeal.main_arg2)
      ∧ m' ((c.tc : Thread Cert.BwdPreRefIdeal.nD Cert.BwdPreRefIdeal.τ).loc Cert.BwdPreRefIdeal.main_arg3) = m ((c.tc : Thread Cert.BwdPreIdeal.nD Cert.BwdPreIdeal.τ).loc Cert.BwdPreIdeal.main_arg3)
      ∧ m' ((c.tc : Thread Cert.BwdPreRefIdeal.nD Cert.BwdPreRefIdeal.τ).loc Cert.BwdPreRefIdeal.main_arg4) = m ((c.tc : Thread Cert.BwdPreIdeal.nD Cert.BwdPreIdeal.τ).loc Cert.BwdPreIdeal.main_arg4)
      ∧ m' ((c.tc : Thread Cert.BwdPreRefIdeal.nD Cert.BwdPreRefIdeal.τ).loc Cert.BwdPreRefIdeal.main_arg5) = m ((c.tc : Thread Cert.BwdPreIdeal.nD Cert.BwdPreIdeal.τ).loc Cert.BwdPreIdeal.main_arg5)
      ∧ m' ((c.tc : Thread Cert.BwdPreRefIdeal.nD Cert.BwdPreRefIdeal.τ).loc Cert.BwdPreRefIdeal.main_arg6) = m ((c.tc : Thread Cert.BwdPreIdeal.nD Cert.BwdPreIdeal.τ).loc Cert.BwdPreIdeal.main_arg6)
      ∧ m' ((c.tc : Thread Cert.BwdPreRefIdeal.nD Cert.BwdPreRefIdeal.τ).loc Cert.BwdPreRefIdeal.main_arg7) = m ((c.tc : Thread Cert.BwdPreIdeal.nD Cert.BwdPreIdeal.τ).loc Cert.BwdPreIdeal.main_arg7)
      ∧ m' ((c.tc : Thread Cert.BwdPreRefIdeal.nD Cert.BwdPreRefIdeal.τ).loc Cert.BwdPreRefIdeal.main_arg8) = m ((c.tc : Thread Cert.BwdPreIdeal.nD Cert.BwdPreIdeal.τ).loc Cert.BwdPreIdeal.main_arg8)
      ∧ m' ((c.tc : Thread Cert.BwdPreRefIdeal.nD Cert.BwdPreRefIdeal.τ).loc Cert.BwdPreRefIdeal.main_arg9) = m ((c.tc : Thread Cert.BwdPreIdeal.nD Cert.BwdPreIdeal.τ).loc Cert.BwdPreIdeal.main_arg9)
      ∧ m' ((c.tc : Thread Cert.BwdPreRefIdeal.nD Cert.BwdPreRefIdeal.τ).loc Cert.BwdPreRefIdeal.main_arg10) = m ((c.tc : Thread Cert.BwdPreIdeal.nD Cert.BwdPreIdeal.τ).loc Cert.BwdPreIdeal.main_arg10)
      ∧ m' ((c.tc : Thread Cert.BwdPreRefIdeal.nD Cert.BwdPreRefIdeal.τ).loc Cert.BwdPreRefIdeal.main_arg11) = m ((c.tc : Thread Cert.BwdPreIdeal.nD Cert.BwdPreIdeal.τ).loc Cert.BwdPreIdeal.main_arg11)
      ∧ m' ((c.tc : Thread Cert.BwdPreRefIdeal.nD Cert.BwdPreRefIdeal.τ).loc Cert.BwdPreRefIdeal.main_arg12) = m ((c.tc : Thread Cert.BwdPreIdeal.nD Cert.BwdPreIdeal.τ).loc Cert.BwdPreIdeal.main_arg12)) →
    ∃ (v0 : (c : Dev Cert.BwdPreIdeal.nD) → Buf (Elt Ideal) ((c.tc : Thread Cert.BwdPreIdeal.nD Cert.BwdPreIdeal.τ).loc Cert.BwdPreIdeal.main_v0_0)) (v1 : (c : Dev Cert.BwdPreIdeal.nD) → Buf (Elt Ideal) ((c.tc : Thread Cert.BwdPreIdeal.nD Cert.BwdPreIdeal.τ).loc Cert.BwdPreIdeal.main_v0_1)) (v2 : (c : Dev Cert.BwdPreIdeal.nD) → Buf (Elt Ideal) ((c.tc : Thread Cert.BwdPreIdeal.nD Cert.BwdPreIdeal.τ).loc Cert.BwdPreIdeal.main_v0_2)) (v3 : (c : Dev Cert.BwdPreIdeal.nD) → Buf (Elt Ideal) ((c.tc : Thread Cert.BwdPreIdeal.nD Cert.BwdPreIdeal.τ).loc Cert.BwdPreIdeal.main_v0_3)) (v4 : (c : Dev Cert.BwdPreIdeal.nD) → Buf (Elt Ideal) ((c.tc : Thread Cert.BwdPreIdeal.nD Cert.BwdPreIdeal.τ).loc Cert.BwdPreIdeal.main_v0_4)),
      θ_run (Cert.BwdPreIdeal.defs (F := Ideal)) (onTc (τ := Cert.BwdPreIdeal.τ) (Cert.BwdPreIdeal.main (F := Ideal))) ⟨m, fun _ => 0, g⟩ (fun r => ∀ c : Dev Cert.BwdPreIdeal.nD,
          r.2.mem ((c.tc : Thread Cert.BwdPreIdeal.nD Cert.BwdPreIdeal.τ).loc Cert.BwdPreIdeal.main_v0_0) = v0 c
          ∧ r.2.mem ((c.tc : Thread Cert.BwdPreIdeal.nD Cert.BwdPreIdeal.τ).loc Cert.BwdPreIdeal.main_v0_1) = v1 c
          ∧ r.2.mem ((c.tc : Thread Cert.BwdPreIdeal.nD Cert.BwdPreIdeal.τ).loc Cert.BwdPreIdeal.main_v0_2) = v2 c
          ∧ r.2.mem ((c.tc : Thread Cert.BwdPreIdeal.nD Cert.BwdPreIdeal.τ).loc Cert.BwdPreIdeal.main_v0_3) = v3 c
          ∧ r.2.mem ((c.tc : Thread Cert.BwdPreIdeal.nD Cert.BwdPreIdeal.τ).loc Cert.BwdPreIdeal.main_v0_4) = v4 c
          ∧ r.2.mem ((c.tc : Thread Cert.BwdPreIdeal.nD Cert.BwdPreIdeal.τ).loc Cert.BwdPreIdeal.main_arg0) = m ((c.tc : Thread Cert.BwdPreIdeal.nD Cert.BwdPreIdeal.τ).loc Cert.BwdPreIdeal.main_arg0)
          ∧ r.2.mem ((c.tc : Thread Cert.BwdPreIdeal.nD Cert.BwdPreIdeal.τ).loc Cert.BwdPreIdeal.main_arg1) = m ((c.tc : Thread Cert.BwdPreIdeal.nD Cert.BwdPreIdeal.τ).loc Cert.BwdPreIdeal.main_arg1)
          ∧ r.2.mem ((c.tc : Thread Cert.BwdPreIdeal.nD Cert.BwdPreIdeal.τ).loc Cert.BwdPreIdeal.main_arg2) = m ((c.tc : Thread Cert.BwdPreIdeal.nD Cert.BwdPreIdeal.τ).loc Cert.BwdPreIdeal.main_arg2)
          ∧ r.2.mem ((c.tc : Thread Cert.BwdPreIdeal.nD Cert.BwdPreIdeal.τ).loc Cert.BwdPreIdeal.main_arg3) = m ((c.tc : Thread Cert.BwdPreIdeal.nD Cert.BwdPreIdeal.τ).loc Cert.BwdPreIdeal.main_arg3)
          ∧ r.2.mem ((c.tc : Thread Cert.BwdPreIdeal.nD Cert.BwdPreIdeal.τ).loc Cert.BwdPreIdeal.main_arg4) = m ((c.tc : Thread Cert.BwdPreIdeal.nD Cert.BwdPreIdeal.τ).loc Cert.BwdPreIdeal.main_arg4)
          ∧ r.2.mem ((c.tc : Thread Cert.BwdPreIdeal.nD Cert.BwdPreIdeal.τ).loc Cert.BwdPreIdeal.main_arg5) = m ((c.tc : Thread Cert.BwdPreIdeal.nD Cert.BwdPreIdeal.τ).loc Cert.BwdPreIdeal.main_arg5)
          ∧ r.2.mem ((c.tc : Thread Cert.BwdPreIdeal.nD Cert.BwdPreIdeal.τ).loc Cert.BwdPreIdeal.main_arg6) = m ((c.tc : Thread Cert.BwdPreIdeal.nD Cert.BwdPreIdeal.τ).loc Cert.BwdPreIdeal.main_arg6)
          ∧ r.2.mem ((c.tc : Thread Cert.BwdPreIdeal.nD Cert.BwdPreIdeal.τ).loc Cert.BwdPreIdeal.main_arg7) = m ((c.tc : Thread Cert.BwdPreIdeal.nD Cert.BwdPreIdeal.τ).loc Cert.BwdPreIdeal.main_arg7)
          ∧ r.2.mem ((c.tc : Thread Cert.BwdPreIdeal.nD Cert.BwdPreIdeal.τ).loc Cert.BwdPreIdeal.main_arg8) = m ((c.tc : Thread Cert.BwdPreIdeal.nD Cert.BwdPreIdeal.τ).loc Cert.BwdPreIdeal.main_arg8)
          ∧ r.2.mem ((c.tc : Thread Cert.BwdPreIdeal.nD Cert.BwdPreIdeal.τ).loc Cert.BwdPreIdeal.main_arg9) = m ((c.tc : Thread Cert.BwdPreIdeal.nD Cert.BwdPreIdeal.τ).loc Cert.BwdPreIdeal.main_arg9)
          ∧ r.2.mem ((c.tc : Thread Cert.BwdPreIdeal.nD Cert.BwdPreIdeal.τ).loc Cert.BwdPreIdeal.main_arg10) = m ((c.tc : Thread Cert.BwdPreIdeal.nD Cert.BwdPreIdeal.τ).loc Cert.BwdPreIdeal.main_arg10)
          ∧ r.2.mem ((c.tc : Thread Cert.BwdPreIdeal.nD Cert.BwdPreIdeal.τ).loc Cert.BwdPreIdeal.main_arg11) = m ((c.tc : Thread Cert.BwdPreIdeal.nD Cert.BwdPreIdeal.τ).loc Cert.BwdPreIdeal.main_arg11)
          ∧ r.2.mem ((c.tc : Thread Cert.BwdPreIdeal.nD Cert.BwdPreIdeal.τ).loc Cert.BwdPreIdeal.main_arg12) = m ((c.tc : Thread Cert.BwdPreIdeal.nD Cert.BwdPreIdeal.τ).loc Cert.BwdPreIdeal.main_arg12))
      ∧ θ_run (Cert.BwdPreRefIdeal.defs (F := Ideal)) (onTc (τ := Cert.BwdPreRefIdeal.τ) (Cert.BwdPreRefIdeal.main (F := Ideal))) ⟨m', fun _ => 0, g'⟩ (fun r => ∀ c : Dev Cert.BwdPreRefIdeal.nD,
          r.2.mem ((c.tc : Thread Cert.BwdPreRefIdeal.nD Cert.BwdPreRefIdeal.τ).loc Cert.BwdPreRefIdeal.main_v94) = v0 c
          ∧ r.2.mem ((c.tc : Thread Cert.BwdPreRefIdeal.nD Cert.BwdPreRefIdeal.τ).loc Cert.BwdPreRefIdeal.main_v89) = v1 c
          ∧ r.2.mem ((c.tc : Thread Cert.BwdPreRefIdeal.nD Cert.BwdPreRefIdeal.τ).loc Cert.BwdPreRefIdeal.main_v25) = v2 c
          ∧ r.2.mem ((c.tc : Thread Cert.BwdPreRefIdeal.nD Cert.BwdPreRefIdeal.τ).loc Cert.BwdPreRefIdeal.main_v56) = v3 c
          ∧ r.2.mem ((c.tc : Thread Cert.BwdPreRefIdeal.nD Cert.BwdPreRefIdeal.τ).loc Cert.BwdPreRefIdeal.main_v100) = v4 c
          ∧ r.2.mem ((c.tc : Thread Cert.BwdPreRefIdeal.nD Cert.BwdPreRefIdeal.τ).loc Cert.BwdPreRefIdeal.main_arg0) = m' ((c.tc : Thread Cert.BwdPreRefIdeal.nD Cert.BwdPreRefIdeal.τ).loc Cert.BwdPreRefIdeal.main_arg0)
          ∧ r.2.mem ((c.tc : Thread Cert.BwdPreRefIdeal.nD Cert.BwdPreRefIdeal.τ).loc Cert.BwdPreRefIdeal.main_arg1) = m' ((c.tc : Thread Cert.BwdPreRefIdeal.nD Cert.BwdPreRefIdeal.τ).loc Cert.BwdPreRefIdeal.main_arg1)
          ∧ r.2.mem ((c.tc : Thread Cert.BwdPreRefIdeal.nD Cert.BwdPreRefIdeal.τ).loc Cert.BwdPreRefIdeal.main_arg2) = m' ((c.tc : Thread Cert.BwdPreRefIdeal.nD Cert.BwdPreRefIdeal.τ).loc Cert.BwdPreRefIdeal.main_arg2)
          ∧ r.2.mem ((c.tc : Thread Cert.BwdPreRefIdeal.nD Cert.BwdPreRefIdeal.τ).loc Cert.BwdPreRefIdeal.main_arg3) = m' ((c.tc : Thread Cert.BwdPreRefIdeal.nD Cert.BwdPreRefIdeal.τ).loc Cert.BwdPreRefIdeal.main_arg3)
          ∧ r.2.mem ((c.tc : Thread Cert.BwdPreRefIdeal.nD Cert.BwdPreRefIdeal.τ).loc Cert.BwdPreRefIdeal.main_arg4) = m' ((c.tc : Thread Cert.BwdPreRefIdeal.nD Cert.BwdPreRefIdeal.τ).loc Cert.BwdPreRefIdeal.main_arg4)
          ∧ r.2.mem ((c.tc : Thread Cert.BwdPreRefIdeal.nD Cert.BwdPreRefIdeal.τ).loc Cert.BwdPreRefIdeal.main_arg5) = m' ((c.tc : Thread Cert.BwdPreRefIdeal.nD Cert.BwdPreRefIdeal.τ).loc Cert.BwdPreRefIdeal.main_arg5)
          ∧ r.2.mem ((c.tc : Thread Cert.BwdPreRefIdeal.nD Cert.BwdPreRefIdeal.τ).loc Cert.BwdPreRefIdeal.main_arg6) = m' ((c.tc : Thread Cert.BwdPreRefIdeal.nD Cert.BwdPreRefIdeal.τ).loc Cert.BwdPreRefIdeal.main_arg6)
          ∧ r.2.mem ((c.tc : Thread Cert.BwdPreRefIdeal.nD Cert.BwdPreRefIdeal.τ).loc Cert.BwdPreRefIdeal.main_arg7) = m' ((c.tc : Thread Cert.BwdPreRefIdeal.nD Cert.BwdPreRefIdeal.τ).loc Cert.BwdPreRefIdeal.main_arg7)
          ∧ r.2.mem ((c.tc : Thread Cert.BwdPreRefIdeal.nD Cert.BwdPreRefIdeal.τ).loc Cert.BwdPreRefIdeal.main_arg8) = m' ((c.tc : Thread Cert.BwdPreRefIdeal.nD Cert.BwdPreRefIdeal.τ).loc Cert.BwdPreRefIdeal.main_arg8)
          ∧ r.2.mem ((c.tc : Thread Cert.BwdPreRefIdeal.nD Cert.BwdPreRefIdeal.τ).loc Cert.BwdPreRefIdeal.main_arg9) = m' ((c.tc : Thread Cert.BwdPreRefIdeal.nD Cert.BwdPreRefIdeal.τ).loc Cert.BwdPreRefIdeal.main_arg9)
          ∧ r.2.mem ((c.tc : Thread Cert.BwdPreRefIdeal.nD Cert.BwdPreRefIdeal.τ).loc Cert.BwdPreRefIdeal.main_arg10) = m' ((c.tc : Thread Cert.BwdPreRefIdeal.nD Cert.BwdPreRefIdeal.τ).loc Cert.BwdPreRefIdeal.main_arg10)
          ∧ r.2.mem ((c.tc : Thread Cert.BwdPreRefIdeal.nD Cert.BwdPreRefIdeal.τ).loc Cert.BwdPreRefIdeal.main_arg11) = m' ((c.tc : Thread Cert.BwdPreRefIdeal.nD Cert.BwdPreRefIdeal.τ).loc Cert.BwdPreRefIdeal.main_arg11)
          ∧ r.2.mem ((c.tc : Thread Cert.BwdPreRefIdeal.nD Cert.BwdPreRefIdeal.τ).loc Cert.BwdPreRefIdeal.main_arg12) = m' ((c.tc : Thread Cert.BwdPreRefIdeal.nD Cert.BwdPreRefIdeal.τ).loc Cert.BwdPreRefIdeal.main_arg12))

def preserves_Post_PostIdeal : Prop :=
  True

def Claim : Prop :=
  ∃ (hAdamW : Cert.AdamW.Facts) (hAdamWIdeal : Cert.AdamWIdeal.Facts) (hAdamWRefIdeal : Cert.AdamWRefIdeal.Facts) (hAttnFwd : Cert.AttnFwd.Facts) (hAttnFwdIdeal : Cert.AttnFwdIdeal.Facts) (hAttnFwdRefIdeal : Cert.AttnFwdRefIdeal.Facts) (hFwdPre : Cert.FwdPre.Facts) (hFwdPreIdeal : Cert.FwdPreIdeal.Facts) (hFwdPreRefIdeal : Cert.FwdPreRefIdeal.Facts) (hAttnBwd : Cert.AttnBwd.Facts) (hAttnBwdIdeal : Cert.AttnBwdIdeal.Facts) (hAttnBwdRefIdeal : Cert.AttnBwdRefIdeal.Facts) (hBwdPre : Cert.BwdPre.Facts) (hBwdPreIdeal : Cert.BwdPreIdeal.Facts) (hBwdPreRefIdeal : Cert.BwdPreRefIdeal.Facts) (hPost : Cert.Post.Facts) (hPostIdeal : Cert.PostIdeal.Facts) (hPostRefIdeal : Cert.PostRefIdeal.Facts) (hPre_finite_qk : Cert.Pre_finite_qk.Facts),
    quiescent_AdamW (hAdamW := hAdamW)
    ∧ quiescent_AdamWIdeal (hAdamWIdeal := hAdamWIdeal)
    ∧ quiescent_AdamWRefIdeal (hAdamWRefIdeal := hAdamWRefIdeal)
    ∧ quiescent_AttnFwd (hAttnFwd := hAttnFwd)
    ∧ quiescent_AttnFwdIdeal (hAttnFwdIdeal := hAttnFwdIdeal)
    ∧ quiescent_AttnFwdIdeal_pre_finite_qk (hAttnFwdIdeal := hAttnFwdIdeal) (hPre_finite_qk := hPre_finite_qk)
    ∧ quiescent_AttnFwdRefIdeal (hAttnFwdRefIdeal := hAttnFwdRefIdeal)
    ∧ quiescent_AttnFwdRefIdeal_pre_finite_qk (hAttnFwdRefIdeal := hAttnFwdRefIdeal) (hPre_finite_qk := hPre_finite_qk)
    ∧ quiescent_FwdPre (hFwdPre := hFwdPre)
    ∧ quiescent_FwdPreIdeal (hFwdPreIdeal := hFwdPreIdeal)
    ∧ quiescent_FwdPreRefIdeal (hFwdPreRefIdeal := hFwdPreRefIdeal)
    ∧ quiescent_AttnBwd (hAttnBwd := hAttnBwd)
    ∧ quiescent_AttnBwdIdeal (hAttnBwdIdeal := hAttnBwdIdeal)
    ∧ quiescent_AttnBwdRefIdeal (hAttnBwdRefIdeal := hAttnBwdRefIdeal)
    ∧ quiescent_BwdPre (hBwdPre := hBwdPre)
    ∧ quiescent_BwdPreIdeal (hBwdPreIdeal := hBwdPreIdeal)
    ∧ quiescent_BwdPreRefIdeal (hBwdPreRefIdeal := hBwdPreRefIdeal)
    ∧ quiescent_Post (hPost := hPost)
    ∧ quiescent_PostIdeal (hPostIdeal := hPostIdeal)
    ∧ quiescent_PostRefIdeal (hPostRefIdeal := hPostRefIdeal)
    ∧ preserves_AdamW_AdamWIdeal
    ∧ algebraic_AdamWIdeal_AdamWRefIdeal (hAdamWIdeal := hAdamWIdeal) (hAdamWRefIdeal := hAdamWRefIdeal)
    ∧ preserves_AttnFwd_AttnFwdIdeal
    ∧ algebraic_AttnFwdIdeal_AttnFwdRefIdeal_pre_finite_qk (hAttnFwdIdeal := hAttnFwdIdeal) (hAttnFwdRefIdeal := hAttnFwdRefIdeal) (hPre_finite_qk := hPre_finite_qk)
    ∧ preserves_FwdPre_FwdPreIdeal
    ∧ algebraic_FwdPreIdeal_FwdPreRefIdeal (hFwdPreIdeal := hFwdPreIdeal) (hFwdPreRefIdeal := hFwdPreRefIdeal)
    ∧ preserves_AttnBwd_AttnBwdIdeal
    ∧ algebraic_AttnBwdIdeal_AttnBwdRefIdeal (hAttnBwdIdeal := hAttnBwdIdeal) (hAttnBwdRefIdeal := hAttnBwdRefIdeal)
    ∧ preserves_BwdPre_BwdPreIdeal
    ∧ algebraic_BwdPreIdeal_BwdPreRefIdeal (hBwdPreIdeal := hBwdPreIdeal) (hBwdPreRefIdeal := hBwdPreRefIdeal)
    ∧ preserves_Post_PostIdeal
-- ==== Pre_finite_qk.lean ====
abbrev S8192x1024 : Shape := ⟨2, ![8192, 1024]⟩
abbrev S8192x512 : Shape := ⟨2, ![8192, 512]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)

variable [Facts]

def fn {F : FTy → Type} [FloatOps F] (main_arg0 : FVec F S8192x1024 .bf16) (main_arg1 : FVec F S8192x1024 .bf16) (main_arg2 : FVec F S8192x512 .bf16) : IVec S8192x1024 1 × IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  (main_v3, main_v7)
-- ==== AdamW.lean ====
abbrev S8704x128 : Shape := ⟨2, ![8704, 128]⟩
abbrev S1088x128 : Shape := ⟨2, ![1088, 128]⟩

abbrev nBuf : Space → Nat
  | .hbm => 7
  | .vmem => 14
  | .smem => 0
  | _ => 0

abbrev bufTy : (tb : Table) → Fin (tcTables nBuf tb) → BufTy
  | .hbm, ⟨0, _⟩ => ⟨S8704x128, .f32⟩
  | .hbm, ⟨1, _⟩ => ⟨S8704x128, .f32⟩
  | .hbm, ⟨2, _⟩ => ⟨S8704x128, .f32⟩
  | .hbm, ⟨3, _⟩ => ⟨S8704x128, .f32⟩
  | .hbm, ⟨4, _⟩ => ⟨S8704x128, .f32⟩
  | .hbm, ⟨5, _⟩ => ⟨S8704x128, .f32⟩
  | .hbm, ⟨6, _⟩ => ⟨S8704x128, .f32⟩
  | .local _ .vmem, ⟨0, _⟩ => ⟨S1088x128, .f32⟩
  | .local _ .vmem, ⟨1, _⟩ => ⟨S1088x128, .f32⟩
  | .local _ .vmem, ⟨2, _⟩ => ⟨S1088x128, .f32⟩
  | .local _ .vmem, ⟨3, _⟩ => ⟨S1088x128, .f32⟩
  | .local _ .vmem, ⟨4, _⟩ => ⟨S1088x128, .f32⟩
  | .local _ .vmem, ⟨5, _⟩ => ⟨S1088x128, .f32⟩
  | .local _ .vmem, ⟨6, _⟩ => ⟨S1088x128, .f32⟩
  | .local _ .vmem, ⟨7, _⟩ => ⟨S1088x128, .f32⟩
  | .local _ .vmem, ⟨8, _⟩ => ⟨S1088x128, .f32⟩
  | .local _ .vmem, ⟨9, _⟩ => ⟨S1088x128, .f32⟩
  | .local _ .vmem, ⟨10, _⟩ => ⟨S1088x128, .f32⟩
  | .local _ .vmem, ⟨11, _⟩ => ⟨S1088x128, .f32⟩
  | .local _ .vmem, ⟨12, _⟩ => ⟨S1088x128, .f32⟩
  | .local _ .vmem, ⟨13, _⟩ => ⟨S1088x128, .f32⟩
  | _, _ => ⟨S8704x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1088x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1088x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1088x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1088x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1088x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1088x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWRefIdeal.lean ====
abbrev S8704x128 : Shape := ⟨2, ![8704, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8704x128, .f32⟩
  | .hbm, ⟨1, _⟩ => ⟨S8704x128, .f32⟩
  | .hbm, ⟨2, _⟩ => ⟨S8704x128, .f32⟩
  | .hbm, ⟨3, _⟩ => ⟨S8704x128, .f32⟩
  | .hbm, ⟨4, _⟩ => ⟨S_, .f32⟩
  | .hbm, ⟨5, _⟩ => ⟨S8704x128, .f32⟩
  | .hbm, ⟨6, _⟩ => ⟨S8704x128, .f32⟩
  | .hbm, ⟨7, _⟩ => ⟨S_, .f32⟩
  | .hbm, ⟨8, _⟩ => ⟨S8704x128, .f32⟩
  | .hbm, ⟨9, _⟩ => ⟨S8704x128, .f32⟩
  | .hbm, ⟨10, _⟩ => ⟨S8704x128, .f32⟩
  | .hbm, ⟨11, _⟩ => ⟨S_, .f32⟩
  | .hbm, ⟨12, _⟩ => ⟨S8704x128, .f32⟩
  | .hbm, ⟨13, _⟩ => ⟨S8704x128, .f32⟩
  | .hbm, ⟨14, _⟩ => ⟨S8704x128, .f32⟩
  | .hbm, ⟨15, _⟩ => ⟨S_, .f32⟩
  | .hbm, ⟨16, _⟩ => ⟨S8704x128, .f32⟩
  | .hbm, ⟨17, _⟩ => ⟨S8704x128, .f32⟩
  | .hbm, ⟨18, _⟩ => ⟨S8704x128, .f32⟩
  | .hbm, ⟨19, _⟩ => ⟨S_, .f32⟩
  | .hbm, ⟨20, _⟩ => ⟨S8704x128, .f32⟩
  | .hbm, ⟨21, _⟩ => ⟨S8704x128, .f32⟩
  | .hbm, ⟨22, _⟩ => ⟨S_, .f32⟩
  | .hbm, ⟨23, _⟩ => ⟨S8704x128, .f32⟩
  | .hbm, ⟨24, _⟩ => ⟨S8704x128, .f32⟩
  | .hbm, ⟨25, _⟩ => ⟨S8704x128, .f32⟩
  | .hbm, ⟨26, _⟩ => ⟨S_, .f32⟩
  | .hbm, ⟨27, _⟩ => ⟨S8704x128, .f32⟩
  | .hbm, ⟨28, _⟩ => ⟨S8704x128, .f32⟩
  | .hbm, ⟨29, _⟩ => ⟨S8704x128, .f32⟩
  | .hbm, ⟨30, _⟩ => ⟨S_, .f32⟩
  | .hbm, ⟨31, _⟩ => ⟨S8704x128, .f32⟩
  | .hbm, ⟨32, _⟩ => ⟨S8704x128, .f32⟩
  | .hbm, ⟨33, _⟩ => ⟨S8704x128, .f32⟩
  | .hbm, ⟨34, _⟩ => ⟨S_, .f32⟩
  | .hbm, ⟨35, _⟩ => ⟨S8704x128, .f32⟩
  | .hbm, ⟨36, _⟩ => ⟨S8704x128, .f32⟩
  | _, _ => ⟨S8704x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AttnFwd.lean ====
abbrev S8192x1024 : Shape := ⟨2, ![8192, 1024]⟩
abbrev S8192x512 : Shape := ⟨2, ![8192, 512]⟩
abbrev S4x2x8192 : Shape := ⟨3, ![4, 2, 8192]⟩
abbrev S256x256 : Shape := ⟨2, ![256, 256]⟩
abbrev S8192x256 : Shape := ⟨2, ![8192, 256]⟩
abbrev S8192x128 : Shape := ⟨2, ![8192, 128]⟩
abbrev S256x128 : Shape := ⟨2, ![256, 128]⟩
abbrev S1x2x256 : Shape := ⟨3, ![1, 2, 256]⟩
abbrev S256x1 : Shape := ⟨2, ![256, 1]⟩
abbrev S256 : Shape := ⟨1, ![256]⟩
abbrev S128x256 : Shape := ⟨2, ![128, 256]⟩
abbrev S1x256 : Shape := ⟨2, ![1, 256]⟩
abbrev S1x1x256 : Shape := ⟨3, ![1, 1, 256]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x512, .f32⟩
  | .hbm, ⟨4, _⟩ => ⟨S4x2x8192, .f32⟩
  | .local _ .vmem, ⟨0, _⟩ => ⟨S256x256, .bf16⟩
  | .local _ .vmem, ⟨1, _⟩ => ⟨S256x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S256x128, .f32⟩
  | .local _ .vmem, ⟨7, _⟩ => ⟨S256x128, .f32⟩
  | .local _ .vmem, ⟨8, _⟩ => ⟨S1x2x256, .f32⟩
  | .local _ .vmem, ⟨9, _⟩ => ⟨S1x2x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

@[reducible] def k0_t1_loop (i : grid0.Coords) : Scf.Loop 32 :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_7 : BitVec 32 := 1#32
  ⟨c0_i32, v12, c1_i32_7⟩
def k0_mult1 (i : grid0.Coords) (k0_t1 : Fin (k0_t1_loop i).trips) : BitVec 32 :=
  let c0_i32 : BitVec 32 := 0#32
  let c1_i32_7 : BitVec 32 := 1#32
  let arg7 : BitVec 32 := Scf.iv c0_i32 c1_i32_7 k0_t1
  let c256_i32_31 : BitVec 32 := 256#32
  let v100 : BitVec 32 := Scalar.muli arg7 c256_i32_31
  v100
def k0_off1 (i : grid0.Coords) (k0_t1 : Fin (k0_t1_loop i).trips) : Fin 2 → Nat :=
  let c0_i32 : BitVec 32 := 0#32
  let c1_i32_7 : BitVec 32 := 1#32
  let arg7 : BitVec 32 := Scf.iv c0_i32 c1_i32_7 k0_t1
  let c256_i32_31 : BitVec 32 := 256#32
  let v100 : BitVec 32 := Scalar.muli arg7 c256_i32_31
  let v101 : BitVec 32 := v100
  let v102 : Index := Scalar.indexCast v101
  let c0_32 : Index := 0#32
  ![v102.toNat, 0]
def k0_off2 (i : grid0.Coords) (k0_t1 : Fin (k0_t1_loop i).trips) : Fin 2 → Nat :=
  let c0_i32 : BitVec 32 := 0#32
  let c1_i32_7 : BitVec 32 := 1#32
  let arg7 : BitVec 32 := Scf.iv c0_i32 c1_i32_7 k0_t1
  let c256_i32_31 : BitVec 32 := 256#32
  let v100 : BitVec 32 := Scalar.muli arg7 c256_i32_31
  let v101 : BitVec 32 := v100
  let v104 : Index := Scalar.indexCast v101
  let c0_33 : Index := 0#32
  ![v104.toNat, 0]
def k0_off3 (i : grid0.Coords) (k0_t1 : Fin (k0_t1_loop i).trips) : Fin 2 → Nat :=
  let c0_i32 : BitVec 32 := 0#32
  let c1_i32_7 : BitVec 32 := 1#32
  let arg7 : BitVec 32 := Scf.iv c0_i32 c1_i32_7 k0_t1
  let c256_i32_31 : BitVec 32 := 256#32
  let v100 : BitVec 32 := Scalar.muli arg7 c256_i32_31
  let v101 : BitVec 32 := v100
  let v126 : Index := Scalar.indexCast v101
  let c128_39 : Index := 128#32
  ![v126.toNat, 128]
@[reducible] def k0_t2_loop (i : grid0.Coords) : Scf.Loop 32 :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let v9 : BitVec 32 := Scalar.addi c0_i32 v8
  let c1_i32_8 : BitVec 32 := 1#32
  ⟨v12, v9, c1_i32_8⟩
def k0_mult2 (i : grid0.Coords) (k0_t2 : Fin (k0_t2_loop i).trips) : BitVec 32 :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let c256_i32_31 : BitVec 32 := 256#32
  let v100 : BitVec 32 := Scalar.muli arg7 c256_i32_31
  v100
def k0_off4 (i : grid0.Coords) (k0_t2 : Fin (k0_t2_loop i).trips) : Fin 2 → Nat :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let c256_i32_31 : BitVec 32 := 256#32
  let v100 : BitVec 32 := Scalar.muli arg7 c256_i32_31
  let v101 : BitVec 32 := v100
  let v102 : Index := Scalar.indexCast v101
  let c0_32 : Index := 0#32
  ![v102.toNat, 0]
def k0_off5 (i : grid0.Coords) (k0_t2 : Fin (k0_t2_loop i).trips) : Fin 2 → Nat :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let c256_i32_31 : BitVec 32 := 256#32
  let v100 : BitVec 32 := Scalar.muli arg7 c256_i32_31
  let v101 : BitVec 32 := v100
  let v104 : Index := Scalar.indexCast v101
  let c0_33 : Index := 0#32
  ![v104.toNat, 0]
def k0_off6 (i : grid0.Coords) (k0_t2 : Fin (k0_t2_loop i).trips) : Fin 2 → Nat :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let c256_i32_31 : BitVec 32 := 256#32
  let v100 : BitVec 32 := Scalar.muli arg7 c256_i32_31
  let v101 : BitVec 32 := v100
  let v126 : Index := Scalar.indexCast v101
  let c128_39 : Index := 128#32
  ![v126.toNat, 128]
def k0_mult3 (i : grid0.Coords) : BitVec 32 :=
  let arg1 : BitVec 32 := BitVec.ofNat 32 (i 1).val
  let c256_i32 : BitVec 32 := 256#32
  let v15 : BitVec 32 := Scalar.muli arg1 c256_i32
  v15
def k0_off7 (i : grid0.Coords) : Fin 2 → Nat :=
  let arg1 : BitVec 32 := BitVec.ofNat 32 (i 1).val
  let c256_i32 : BitVec 32 := 256#32
  let v15 : BitVec 32 := Scalar.muli arg1 c256_i32
  let v16 : BitVec 32 := v15
  let v17 : Index := Scalar.indexCast v16
  let c0_9 : Index := 0#32
  ![v17.toNat, 0]
def k0_off8 (i : grid0.Coords) : Fin 2 → Nat :=
  let arg1 : BitVec 32 := BitVec.ofNat 32 (i 1).val
  let c256_i32 : BitVec 32 := 256#32
  let v15 : BitVec 32 := Scalar.muli arg1 c256_i32
  let v16 : BitVec 32 := v15
  let v19 : Index := Scalar.indexCast v16
  let c0_10 : Index := 0#32
  ![v19.toNat, 0]
def k0_off9 (i : grid0.Coords) : Fin 2 → Nat :=
  let arg1 : BitVec 32 := BitVec.ofNat 32 (i 1).val
  let c256_i32 : BitVec 32 := 256#32
  let v15 : BitVec 32 := Scalar.muli arg1 c256_i32
  let v16 : BitVec 32 := v15
  let v46 : Index := Scalar.indexCast v16
  let c128_17 : Index := 128#32
  ![v46.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFwdRefIdeal.lean ====
abbrev S8192x1024 : Shape := ⟨2, ![8192, 1024]⟩
abbrev S8192x512 : Shape := ⟨2, ![8192, 512]⟩
abbrev S8192x8x128 : Shape := ⟨3, ![8192, 8, 128]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S4x2x8192 : Shape := ⟨3, ![4, 2, 8192]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x1024, .f32⟩
  | .hbm, ⟨4, _⟩ => ⟨S8192x8x128, .f32⟩
  | .hbm, ⟨5, _⟩ => ⟨S8192x1024, .f32⟩
  | .hbm, ⟨6, _⟩ => ⟨S8192x8x128, .f32⟩
  | .hbm, ⟨7, _⟩ => ⟨S8192x512, .f32⟩
  | .hbm, ⟨8, _⟩ => ⟨S8192x8x64, .f32⟩
  | .hbm, ⟨9, _⟩ => ⟨S8x8192x8192, .f32⟩
  | .hbm, ⟨10, _⟩ => ⟨S_, .f32⟩
  | .hbm, ⟨11, _⟩ => ⟨S8x8192x8192, .f32⟩
  | .hbm, ⟨12, _⟩ => ⟨S8x8192x8192, .f32⟩
  | .hbm, ⟨13, _⟩ => ⟨S8192, .i32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S1x8192x8192, .i1⟩
  | .hbm, ⟨20, _⟩ => ⟨S_, .f32⟩
  | .hbm, ⟨21, _⟩ => ⟨S_, .f32⟩
  | .hbm, ⟨22, _⟩ => ⟨S8x8192x8192, .i1⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S8x8192, .f32⟩
  | .hbm, ⟨27, _⟩ => ⟨S_, .f32⟩
  | .hbm, ⟨28, _⟩ => ⟨S8x8192, .f32⟩
  | .hbm, ⟨29, _⟩ => ⟨S8x8192, .f32⟩
  | .hbm, ⟨30, _⟩ => ⟨S8x8192x1, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S_, .f32⟩
  | .hbm, ⟨35, _⟩ => ⟨S8x8192, .f32⟩
  | .hbm, ⟨36, _⟩ => ⟨S8x8192x1, .f32⟩
  | .hbm, ⟨37, _⟩ => ⟨S8x8192x8192, .f32⟩
  | .hbm, ⟨38, _⟩ => ⟨S8x8192x8192, .f32⟩
  | .hbm, ⟨39, _⟩ => ⟨S8x64x8192, .f32⟩
  | .hbm, ⟨40, _⟩ => ⟨S8192x8x64, .f32⟩
  | .hbm, ⟨41, _⟩ => ⟨S8192x512, .f32⟩
  | .hbm, ⟨42, _⟩ => ⟨S_, .f32⟩
  | .hbm, ⟨43, _⟩ => ⟨S8x8192, .f32⟩
  | .hbm, ⟨44, _⟩ => ⟨S8x8192x1, .f32⟩
  | .hbm, ⟨45, _⟩ => ⟨S8x8192x8192, .f32⟩
  | .hbm, ⟨46, _⟩ => ⟨S8x8192x8192, .f32⟩
  | .hbm, ⟨47, _⟩ => ⟨S8x8192x8192, .f32⟩
  | .hbm, ⟨48, _⟩ => ⟨S_, .f32⟩
  | .hbm, ⟨49, _⟩ => ⟨S8x8192, .f32⟩
  | .hbm, ⟨50, _⟩ => ⟨S8x8192, .f32⟩
  | .hbm, ⟨51, _⟩ => ⟨S8x8192, .f32⟩
  | .hbm, ⟨52, _⟩ => ⟨S4x2x8192, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== FwdPre.lean ====
abbrev S8192x1024 : Shape := ⟨2, ![8192, 1024]⟩
abbrev S8192x1 : Shape := ⟨2, ![8192, 1]⟩
abbrev S1024x2560 : Shape := ⟨2, ![1024, 2560]⟩
abbrev S256x1024 : Shape := ⟨2, ![256, 1024]⟩
abbrev S128x1536 : Shape := ⟨2, ![128, 1536]⟩
abbrev S16x1024 : Shape := ⟨2, ![16, 1024]⟩
abbrev S8192x256 : Shape := ⟨2, ![8192, 256]⟩
abbrev S8192x128 : Shape := ⟨2, ![8192, 128]⟩
abbrev S8192x2048 : Shape := ⟨2, ![8192, 2048]⟩
abbrev S8192x512 : Shape := ⟨2, ![8192, 512]⟩
abbrev S256x1 : Shape := ⟨2, ![256, 1]⟩
abbrev S256x256 : Shape := ⟨2, ![256, 256]⟩
abbrev S256x128 : Shape := ⟨2, ![256, 128]⟩
abbrev S256x2048 : Shape := ⟨2, ![256, 2048]⟩
abbrev S256x512 : Shape := ⟨2, ![256, 512]⟩
abbrev S256x2560 : Shape := ⟨2, ![256, 2560]⟩
abbrev S1x128 : Shape := ⟨2, ![1, 128]⟩
abbrev S256 : Shape := ⟨1, ![256]⟩
abbrev S1x256 : Shape := ⟨2, ![1, 256]⟩
abbrev S256x1536 : Shape := ⟨2, ![256, 1536]⟩

abbrev nBuf : Space → Nat
  | .hbm => 13
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1, .i32⟩
  | .hbm, ⟨2, _⟩ => ⟨S1024x2560, .bf16⟩
  | .hbm, ⟨3, _⟩ => ⟨S256x1024, .bf16⟩
  | .hbm, ⟨4, _⟩ => ⟨S128x1536, .bf16⟩
  | .hbm, ⟨5, _⟩ => ⟨S16x1024, .f32⟩
  | .hbm, ⟨6, _⟩ => ⟨S8192x256, .f32⟩
  | .hbm, ⟨7, _⟩ => ⟨S8192x128, .f32⟩
  | .hbm, ⟨8, _⟩ => ⟨S8192x2048, .f32⟩
  | .hbm, ⟨9, _⟩ => ⟨S8192x1024, .bf16⟩
  | .hbm, ⟨10, _⟩ => ⟨S8192x1024, .bf16⟩
  | .hbm, ⟨11, _⟩ => ⟨S8192x512, .bf16⟩
  | .hbm, ⟨12, _⟩ => ⟨S8192x256, .f32⟩
  | .local _ .vmem, ⟨0, _⟩ => ⟨S256x1024, .f32⟩
  | .local _ .vmem, ⟨1, _⟩ => ⟨S256x1024, .f32⟩
  | .local _ .vmem, ⟨2, _⟩ => ⟨S256x1, .i32⟩
  | .local _ .vmem, ⟨3, _⟩ => ⟨S256x1, .i32⟩
  | .local _ .vmem, ⟨4, _⟩ => ⟨S1024x2560, .bf16⟩
  | .local _ .vmem, ⟨5, _⟩ => ⟨S256x1024, .bf16⟩
  | .local _ .vmem, ⟨6, _⟩ => ⟨S128x1536, .bf16⟩
  | .local _ .vmem, ⟨7, _⟩ => ⟨S16x1024, .f32⟩
  | .local _ .vmem, ⟨8, _⟩ => ⟨S256x256, .f32⟩
  | .local _ .vmem, ⟨9, _⟩ => ⟨S256x256, .f32⟩
  | .local _ .vmem, ⟨10, _⟩ => ⟨S256x128, .f32⟩
  | .local _ .vmem, ⟨11, _⟩ => ⟨S256x128, .f32⟩
  | .local _ .vmem, ⟨12, _⟩ => ⟨S256x2048, .f32⟩
  | .local _ .vmem, ⟨13, _⟩ => ⟨S256x2048, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x512, .bf16⟩
  | .local _ .vmem, ⟨19, _⟩ => ⟨S256x512, .bf16⟩
  | .local _ .vmem, ⟨20, _⟩ => ⟨S256x256, .f32⟩
  | .local _ .vmem, ⟨21, _⟩ => ⟨S256x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FwdPreRefIdeal.lean ====
abbrev S8192x1024 : Shape := ⟨2, ![8192, 1024]⟩
abbrev S8192x1 : Shape := ⟨2, ![8192, 1]⟩
abbrev S1024x2560 : Shape := ⟨2, ![1024, 2560]⟩
abbrev S256x1024 : Shape := ⟨2, ![256, 1024]⟩
abbrev S128x1536 : Shape := ⟨2, ![128, 1536]⟩
abbrev S16x1024 : Shape := ⟨2, ![16, 1024]⟩
abbrev S8192x2560 : Shape := ⟨2, ![8192, 2560]⟩
abbrev S8192x256 : Shape := ⟨2, ![8192, 256]⟩
abbrev S8192x128 : Shape := ⟨2, ![8192, 128]⟩
abbrev S8192x2048 : Shape := ⟨2, ![8192, 2048]⟩
abbrev S1x256 : Shape := ⟨2, ![1, 256]⟩
abbrev S1x128 : Shape := ⟨2, ![1, 128]⟩
abbrev S_ : Shape := ⟨0, ![]⟩
abbrev S8192 : Shape := ⟨1, ![8192]⟩
abbrev S8192x8x128 : Shape := ⟨3, ![8192, 8, 128]⟩
abbrev S8192x1x128 : Shape := ⟨3, ![8192, 1, 128]⟩
abbrev S8192x8x112 : Shape := ⟨3, ![8192, 8, 112]⟩
abbrev S8192x8x16 : Shape := ⟨3, ![8192, 8, 16]⟩
abbrev S8192x1536 : Shape := ⟨2, ![8192, 1536]⟩
abbrev S8192x112 : Shape := ⟨2, ![8192, 112]⟩
abbrev S8192x16 : Shape := ⟨2, ![8192, 16]⟩
abbrev S8192x512 : Shape := ⟨2, ![8192, 512]⟩

abbrev nBuf : Space → Nat
  | .hbm => 102
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1, .i32⟩
  | .hbm, ⟨2, _⟩ => ⟨S1024x2560, .bf16⟩
  | .hbm, ⟨3, _⟩ => ⟨S256x1024, .bf16⟩
  | .hbm, ⟨4, _⟩ => ⟨S128x1536, .bf16⟩
  | .hbm, ⟨5, _⟩ => ⟨S16x1024, .f32⟩
  | .hbm, ⟨6, _⟩ => ⟨S1024x2560, .f32⟩
  | .hbm, ⟨7, _⟩ => ⟨S8192x2560, .f32⟩
  | .hbm, ⟨8, _⟩ => ⟨S8192x256, .f32⟩
  | .hbm, ⟨9, _⟩ => ⟨S8192x128, .f32⟩
  | .hbm, ⟨10, _⟩ => ⟨S8192x128, .f32⟩
  | .hbm, ⟨11, _⟩ => ⟨S8192x2048, .f32⟩
  | .hbm, ⟨12, _⟩ => ⟨S1x256, .f32⟩
  | .hbm, ⟨13, _⟩ => ⟨S1x128, .f32⟩
  | .hbm, ⟨14, _⟩ => ⟨S1x128, .f32⟩
  | .hbm, ⟨15, _⟩ => ⟨S8192x1, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S1x128, .f32⟩
  | .hbm, ⟨22, _⟩ => ⟨S8192x128, .f32⟩
  | .hbm, ⟨23, _⟩ => ⟨S8192x128, .f32⟩
  | .hbm, ⟨24, _⟩ => ⟨S1x128, .f32⟩
  | .hbm, ⟨25, _⟩ => ⟨S8192x128, .f32⟩
  | .hbm, ⟨26, _⟩ => ⟨S8192x128, .f32⟩
  | .hbm, ⟨27, _⟩ => ⟨S8192x256, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x256, .f32⟩
  | .hbm, ⟨39, _⟩ => ⟨S8192x256, .f32⟩
  | .hbm, ⟨40, _⟩ => ⟨S8192x256, .f32⟩
  | .hbm, ⟨41, _⟩ => ⟨S8192x256, .f32⟩
  | .hbm, ⟨42, _⟩ => ⟨S256x1024, .f32⟩
  | .hbm, ⟨43, _⟩ => ⟨S8192x1024, .f32⟩
  | .hbm, ⟨44, _⟩ => ⟨S8192x8x128, .f32⟩
  | .hbm, ⟨45, _⟩ => ⟨S8192x1x128, .f32⟩
  | .hbm, ⟨46, _⟩ => ⟨S8192x8x128, .f32⟩
  | .hbm, ⟨47, _⟩ => ⟨S8192x8x128, .f32⟩
  | .hbm, ⟨48, _⟩ => ⟨S8192x8x112, .f32⟩
  | .hbm, ⟨49, _⟩ => ⟨S8192x8x16, .f32⟩
  | .hbm, ⟨50, _⟩ => ⟨S8192x8x128, .f32⟩
  | .hbm, ⟨51, _⟩ => ⟨S8192x1x128, .f32⟩
  | .hbm, ⟨52, _⟩ => ⟨S8192x8x128, .f32⟩
  | .hbm, ⟨53, _⟩ => ⟨S8192x8x128, .f32⟩
  | .hbm, ⟨54, _⟩ => ⟨S8192x8x128, .f32⟩
  | .hbm, ⟨55, _⟩ => ⟨S8192x8x16, .f32⟩
  | .hbm, ⟨56, _⟩ => ⟨S8192x8x112, .f32⟩
  | .hbm, ⟨57, _⟩ => ⟨S8192x8x128, .f32⟩
  | .hbm, ⟨58, _⟩ => ⟨S8192x1x128, .f32⟩
  | .hbm, ⟨59, _⟩ => ⟨S8192x8x128, .f32⟩
  | .hbm, ⟨60, _⟩ => ⟨S8192x8x128, .f32⟩
  | .hbm, ⟨61, _⟩ => ⟨S8192x8x128, .f32⟩
  | .hbm, ⟨62, _⟩ => ⟨S8192x128, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S8192x1, .f32⟩
  | .hbm, ⟨73, _⟩ => ⟨S8192x128, .f32⟩
  | .hbm, ⟨74, _⟩ => ⟨S8192x128, .f32⟩
  | .hbm, ⟨75, _⟩ => ⟨S8192x128, .f32⟩
  | .hbm, ⟨76, _⟩ => ⟨S8192x128, .f32⟩
  | .hbm, ⟨77, _⟩ => ⟨S128x1536, .f32⟩
  | .hbm, ⟨78, _⟩ => ⟨S8192x1536, .f32⟩
  | .hbm, ⟨79, _⟩ => ⟨S8192x128, .f32⟩
  | .hbm, ⟨80, _⟩ => ⟨S8192x112, .f32⟩
  | .hbm, ⟨81, _⟩ => ⟨S8192x16, .f32⟩
  | .hbm, ⟨82, _⟩ => ⟨S8192x128, .f32⟩
  | .hbm, ⟨83, _⟩ => ⟨S8192x128, .f32⟩
  | .hbm, ⟨84, _⟩ => ⟨S8192x128, .f32⟩
  | .hbm, ⟨85, _⟩ => ⟨S8192x16, .f32⟩
  | .hbm, ⟨86, _⟩ => ⟨S8192x112, .f32⟩
  | .hbm, ⟨87, _⟩ => ⟨S8192x128, .f32⟩
  | .hbm, ⟨88, _⟩ => ⟨S8192x128, .f32⟩
  | .hbm, ⟨89, _⟩ => ⟨S8192x128, .f32⟩
  | .hbm, ⟨90, _⟩ => ⟨S8192x1024, .f32⟩
  | .hbm, ⟨91, _⟩ => ⟨S8192x8x128, .f32⟩
  | .hbm, ⟨92, _⟩ => ⟨S8192x1x128, .f32⟩
  | .hbm, ⟨93, _⟩ => ⟨S8192x8x128, .f32⟩
  | .hbm, ⟨94, _⟩ => ⟨S8192x8x128, .f32⟩
  | .hbm, ⟨95, _⟩ => ⟨S8192x1024, .f32⟩
  | .hbm, ⟨96, _⟩ => ⟨S8192x1024, .bf16⟩
  | .hbm, ⟨97, _⟩ => ⟨S8192x1024, .f32⟩
  | .hbm, ⟨98, _⟩ => ⟨S8192x1024, .bf16⟩
  | .hbm, ⟨99, _⟩ => ⟨S8192x512, .f32⟩
  | .hbm, ⟨100, _⟩ => ⟨S8192x512, .bf16⟩
  | .hbm, ⟨101, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_call0_v0 : Ref sig .tc := ⟨.hbm, 48, rfl⟩
abbrev main_call0_v1 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_call1_v0 : Ref sig .tc := ⟨.hbm, 55, rfl⟩
abbrev main_call1_v1 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_2 : Ref sig .tc := ⟨.hbm, 63, rfl⟩
abbrev main_v50 : Ref sig .tc := ⟨.hbm, 64, rfl⟩
abbrev main_v51 : Ref sig .tc := ⟨.hbm, 65, rfl⟩
abbrev main_cst_3 : Ref sig .tc := ⟨.hbm, 66, rfl⟩
abbrev main_v52 : Ref sig .tc := ⟨.hbm, 67, rfl⟩
abbrev main_v53 : Ref sig .tc := ⟨.hbm, 68, rfl⟩
abbrev main_cst_4 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_call2_v0 : Ref sig .tc := ⟨.hbm, 80, rfl⟩
abbrev main_call2_v1 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_call3_v0 : Ref sig .tc := ⟨.hbm, 85, rfl⟩
abbrev main_call3_v1 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩

abbrev nD : Nat := 1
abbrev τ : Topo := Topo.v7x

variable {F : FTy → Type} [FloatOps F]
-- ==== AttnBwd.lean ====
abbrev S8192x1024 : Shape := ⟨2, ![8192, 1024]⟩
abbrev S8192x512 : Shape := ⟨2, ![8192, 512]⟩
abbrev S4x2x8192 : Shape := ⟨3, ![4, 2, 8192]⟩
abbrev S8192x256 : Shape := ⟨2, ![8192, 256]⟩
abbrev S16x1024 : Shape := ⟨2, ![16, 1024]⟩
abbrev S256x256 : Shape := ⟨2, ![256, 256]⟩
abbrev S8192x128 : Shape := ⟨2, ![8192, 128]⟩
abbrev S256x128 : Shape := ⟨2, ![256, 128]⟩
abbrev S1x2x256 : Shape := ⟨3, ![1, 2, 256]⟩
abbrev S128x256 : Shape := ⟨2, ![128, 256]⟩
abbrev S64x256 : Shape := ⟨2, ![64, 256]⟩
abbrev S256 : Shape := ⟨1, ![256]⟩
abbrev S1x256 : Shape := ⟨2, ![1, 256]⟩
abbrev S1x1x256 : Shape := ⟨3, ![1, 1, 256]⟩
abbrev S1x128 : Shape := ⟨2, ![1, 128]⟩

abbrev nBuf : Space → Nat
  | .hbm => 11
  | .vmem => 23
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x512, .bf16⟩
  | .hbm, ⟨4, _⟩ => ⟨S8192x512, .f32⟩
  | .hbm, ⟨5, _⟩ => ⟨S4x2x8192, .f32⟩
  | .hbm, ⟨6, _⟩ => ⟨S8192x256, .f32⟩
  | .hbm, ⟨7, _⟩ => ⟨S16x1024, .f32⟩
  | .hbm, ⟨8, _⟩ => ⟨S8192x1024, .bf16⟩
  | .hbm, ⟨9, _⟩ => ⟨S8192x1024, .bf16⟩
  | .hbm, ⟨10, _⟩ => ⟨S8192x512, .bf16⟩
  | .local _ .vmem, ⟨0, _⟩ => ⟨S256x256, .bf16⟩
  | .local _ .vmem, ⟨1, _⟩ => ⟨S256x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S256x128, .bf16⟩
  | .local _ .vmem, ⟨7, _⟩ => ⟨S256x128, .bf16⟩
  | .local _ .vmem, ⟨8, _⟩ => ⟨S256x128, .f32⟩
  | .local _ .vmem, ⟨9, _⟩ => ⟨S256x128, .f32⟩
  | .local _ .vmem, ⟨10, _⟩ => ⟨S1x2x256, .f32⟩
  | .local _ .vmem, ⟨11, _⟩ => ⟨S1x2x256, .f32⟩
  | .local _ .vmem, ⟨12, _⟩ => ⟨S256x256, .f32⟩
  | .local _ .vmem, ⟨13, _⟩ => ⟨S256x256, .f32⟩
  | .local _ .vmem, ⟨14, _⟩ => ⟨S16x1024, .f32⟩
  | .local _ .vmem, ⟨15, _⟩ => ⟨S256x256, .bf16⟩
  | .local _ .vmem, ⟨16, _⟩ => ⟨S256x256, .bf16⟩
  | .local _ .vmem, ⟨17, _⟩ => ⟨S8192x256, .bf16⟩
  | .local _ .vmem, ⟨18, _⟩ => ⟨S8192x256, .bf16⟩
  | .local _ .vmem, ⟨19, _⟩ => ⟨S8192x128, .bf16⟩
  | .local _ .vmem, ⟨20, _⟩ => ⟨S8192x128, .bf16⟩
  | .local _ .vmem, ⟨21, _⟩ => ⟨S8192x256, .f32⟩
  | .local _ .vmem, ⟨22, _⟩ => ⟨S8192x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 32], ![false, false]⟩

@[reducible] def k0_t1_loop (i : grid0.Coords) : Scf.Loop 32 :=
  let c0_i32_16 : BitVec 32 := 0#32
  let arg1 : BitVec 32 := BitVec.ofNat 32 (i 1).val
  let v28 : BitVec 32 := Scalar.subi arg1 c0_i32_16
  let c1_i32 : BitVec 32 := 1#32
  let v30 : BitVec 32 := Scalar.divsi v28 c1_i32
  let v31 : BitVec 32 := Scalar.muli v30 c1_i32
  let v32 : BitVec 32 := Scalar.addi c0_i32_16 v31
  let c1_i32_17 : BitVec 32 := 1#32
  ⟨c0_i32_16, v32, c1_i32_17⟩
def k0_mult1 (i : grid0.Coords) (k0_t1 : Fin (k0_t1_loop i).trips) : BitVec 32 :=
  let c0_i32_16 : BitVec 32 := 0#32
  let c1_i32_17 : BitVec 32 := 1#32
  let arg15 : BitVec 32 := Scf.iv c0_i32_16 c1_i32_17 k0_t1
  let c256_i32_57 : BitVec 32 := 256#32
  let v140 : BitVec 32 := Scalar.muli arg15 c256_i32_57
  v140
def k0_off1 (i : grid0.Coords) (k0_t1 : Fin (k0_t1_loop i).trips) : Fin 2 → Nat :=
  let c0_i32_16 : BitVec 32 := 0#32
  let c1_i32_17 : BitVec 32 := 1#32
  let arg15 : BitVec 32 := Scf.iv c0_i32_16 c1_i32_17 k0_t1
  let c256_i32_57 : BitVec 32 := 256#32
  let v140 : BitVec 32 := Scalar.muli arg15 c256_i32_57
  let v141 : BitVec 32 := v140
  let v142 : Index := Scalar.indexCast v141
  let c0_58 : Index := 0#32
  ![v142.toNat, 0]
def k0_off2 (i : grid0.Coords) (k0_t1 : Fin (k0_t1_loop i).trips) : Fin 2 → Nat :=
  let c0_i32_16 : BitVec 32 := 0#32
  let c1_i32_17 : BitVec 32 := 1#32
  let arg15 : BitVec 32 := Scf.iv c0_i32_16 c1_i32_17 k0_t1
  let c256_i32_57 : BitVec 32 := 256#32
  let v140 : BitVec 32 := Scalar.muli arg15 c256_i32_57
  let v141 : BitVec 32 := v140
  let v144 : Index := Scalar.indexCast v141
  let c0_59 : Index := 0#32
  ![v144.toNat, 0]
def k0_off3 (i : grid0.Coords) (k0_t1 : Fin (k0_t1_loop i).trips) : Fin 2 → Nat :=
  let c0_i32_16 : BitVec 32 := 0#32
  let c1_i32_17 : BitVec 32 := 1#32
  let arg15 : BitVec 32 := Scf.iv c0_i32_16 c1_i32_17 k0_t1
  let c256_i32_57 : BitVec 32 := 256#32
  let v140 : BitVec 32 := Scalar.muli arg15 c256_i32_57
  let v141 : BitVec 32 := v140
  let v171 : Index := Scalar.indexCast v141
  let c128_69 : Index := 128#32
  ![v171.toNat, 128]
@[reducible] def k0_t2_loop (i : grid0.Coords) : Scf.Loop 32 :=
  let c0_i32_16 : BitVec 32 := 0#32
  let arg1 : BitVec 32 := BitVec.ofNat 32 (i 1).val
  let v28 : BitVec 32 := Scalar.subi arg1 c0_i32_16
  let c1_i32 : BitVec 32 := 1#32
  let v30 : BitVec 32 := Scalar.divsi v28 c1_i32
  let v31 : BitVec 32 := Scalar.muli v30 c1_i32
  let v32 : BitVec 32 := Scalar.addi c0_i32_16 v31
  let v29 : BitVec 32 := Scalar.addi c0_i32_16 v28
  let c1_i32_18 : BitVec 32 := 1#32
  ⟨v32, v29, c1_i32_18⟩
def k0_mult2 (i : grid0.Coords) (k0_t2 : Fin (k0_t2_loop i).trips) : BitVec 32 :=
  let c0_i32_16 : BitVec 32 := 0#32
  let arg1 : BitVec 32 := BitVec.ofNat 32 (i 1).val
  let v28 : BitVec 32 := Scalar.subi arg1 c0_i32_16
  let c1_i32 : BitVec 32 := 1#32
  let v30 : BitVec 32 := Scalar.divsi v28 c1_i32
  let v31 : BitVec 32 := Scalar.muli v30 c1_i32
  let v32 : BitVec 32 := Scalar.addi c0_i32_16 v31
  let c1_i32_18 : BitVec 32 := 1#32
  let arg15 : BitVec 32 := Scf.iv v32 c1_i32_18 k0_t2
  let c256_i32_57 : BitVec 32 := 256#32
  let v140 : BitVec 32 := Scalar.muli arg15 c256_i32_57
  v140
def k0_off4 (i : grid0.Coords) (k0_t2 : Fin (k0_t2_loop i).trips) : Fin 2 → Nat :=
  let c0_i32_16 : BitVec 32 := 0#32
  let arg1 : BitVec 32 := BitVec.ofNat 32 (i 1).val
  let v28 : BitVec 32 := Scalar.subi arg1 c0_i32_16
  let c1_i32 : BitVec 32 := 1#32
  let v30 : BitVec 32 := Scalar.divsi v28 c1_i32
  let v31 : BitVec 32 := Scalar.muli v30 c1_i32
  let v32 : BitVec 32 := Scalar.addi c0_i32_16 v31
  let c1_i32_18 : BitVec 32 := 1#32
  let arg15 : BitVec 32 := Scf.iv v32 c1_i32_18 k0_t2
  let c256_i32_57 : BitVec 32 := 256#32
  let v140 : BitVec 32 := Scalar.muli arg15 c256_i32_57
  let v141 : BitVec 32 := v140
  let v142 : Index := Scalar.indexCast v141
  let c0_58 : Index := 0#32
  ![v142.toNat, 0]
def k0_off5 (i : grid0.Coords) (k0_t2 : Fin (k0_t2_loop i).trips) : Fin 2 → Nat :=
  let c0_i32_16 : BitVec 32 := 0#32
  let arg1 : BitVec 32 := BitVec.ofNat 32 (i 1).val
  let v28 : BitVec 32 := Scalar.subi arg1 c0_i32_16
  let c1_i32 : BitVec 32 := 1#32
  let v30 : BitVec 32 := Scalar.divsi v28 c1_i32
  let v31 : BitVec 32 := Scalar.muli v30 c1_i32
  let v32 : BitVec 32 := Scalar.addi c0_i32_16 v31
  let c1_i32_18 : BitVec 32 := 1#32
  let arg15 : BitVec 32 := Scf.iv v32 c1_i32_18 k0_t2
  let c256_i32_57 : BitVec 32 := 256#32
  let v140 : BitVec 32 := Scalar.muli arg15 c256_i32_57
  let v141 : BitVec 32 := v140
  let v144 : Index := Scalar.indexCast v141
  let c0_59 : Index := 0#32
  ![v144.toNat, 0]
def k0_off6 (i : grid0.Coords) (k0_t2 : Fin (k0_t2_loop i).trips) : Fin 2 → Nat :=
  let c0_i32_16 : BitVec 32 := 0#32
  let arg1 : BitVec 32 := BitVec.ofNat 32 (i 1).val
  let v28 : BitVec 32 := Scalar.subi arg1 c0_i32_16
  let c1_i32 : BitVec 32 := 1#32
  let v30 : BitVec 32 := Scalar.divsi v28 c1_i32
  let v31 : BitVec 32 := Scalar.muli v30 c1_i32
  let v32 : BitVec 32 := Scalar.addi c0_i32_16 v31
  let c1_i32_18 : BitVec 32 := 1#32
  let arg15 : BitVec 32 := Scf.iv v32 c1_i32_18 k0_t2
  let c256_i32_57 : BitVec 32 := 256#32
  let v140 : BitVec 32 := Scalar.muli arg15 c256_i32_57
  let v141 : BitVec 32 := v140
  let v171 : Index := Scalar.indexCast v141
  let c128_69 : Index := 128#32
  ![v171.toNat, 128]
def k0_mult3 (i : grid0.Coords) : BitVec 32 :=
  let arg1 : BitVec 32 := BitVec.ofNat 32 (i 1).val
  let c256_i32 : BitVec 32 := 256#32
  let v35 : BitVec 32 := Scalar.muli arg1 c256_i32
  v35
def k0_off7 (i : grid0.Coords) : Fin 2 → Nat :=
  let arg1 : BitVec 32 := BitVec.ofNat 32 (i 1).val
  let c256_i32 : BitVec 32 := 256#32
  let v35 : BitVec 32 := Scalar.muli arg1 c256_i32
  let v36 : BitVec 32 := v35
  let v37 : Index := Scalar.indexCast v36
  let c0_19 : Index := 0#32
  ![v37.toNat, 0]
def k0_off8 (i : grid0.Coords) : Fin 2 → Nat :=
  let arg1 : BitVec 32 := BitVec.ofNat 32 (i 1).val
  let c256_i32 : BitVec 32 := 256#32
  let v35 : BitVec 32 := Scalar.muli arg1 c256_i32
  let v36 : BitVec 32 := v35
  let v39 : Index := Scalar.indexCast v36
  let c0_20 : Index := 0#32
  ![v39.toNat, 0]
def k0_off9 (i : grid0.Coords) : Fin 2 → Nat :=
  let arg1 : BitVec 32 := BitVec.ofNat 32 (i 1).val
  let c256_i32 : BitVec 32 := 256#32
  let v35 : BitVec 32 := Scalar.muli arg1 c256_i32
  let v36 : BitVec 32 := v35
  let v71 : Index := Scalar.indexCast v36
  let c128_31 : Index := 128#32
  ![v71.toNat, 128]
def k0_cond2 (i : grid0.Coords) : BitVec 1 :=
  let arg1 : BitVec 32 := BitVec.ofNat 32 (i 1).val
  let c31_i32 : BitVec 32 := 31#32
  let v137 : BitVec 1 := Scalar.cmpi .eq arg1 c31_i32
  let v138 : BitVec 32 := Scalar.extui v137
  let c0_i32_56 : BitVec 32 := 0#32
  let v139 : BitVec 1 := Scalar.cmpi .ne v138 c0_i32_56
  v139

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8192x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8192x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== AttnBwdRefIdeal.lean ====
abbrev S8192x1024 : Shape := ⟨2, ![8192, 1024]⟩
abbrev S8192x512 : Shape := ⟨2, ![8192, 512]⟩
abbrev S4x2x8192 : Shape := ⟨3, ![4, 2, 8192]⟩
abbrev S8192x256 : Shape := ⟨2, ![8192, 256]⟩
abbrev S16x1024 : Shape := ⟨2, ![16, 1024]⟩
abbrev S8192x8x128 : Shape := ⟨3, ![8192, 8, 128]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S8x1x8192 : Shape := ⟨3, ![8, 1, 8192]⟩
abbrev S8x64x8192 : Shape := ⟨3, ![8, 64, 8192]⟩
abbrev S8192x8 : Shape := ⟨2, ![8192, 8]⟩
abbrev S8x8192 : Shape := ⟨2, ![8, 8192]⟩
abbrev S8x128x8192 : Shape := ⟨3, ![8, 128, 8192]⟩
abbrev S8192x128 : Shape := ⟨2, ![8192, 128]⟩
abbrev S8192x1x128 : Shape := ⟨3, ![8192, 1, 128]⟩
abbrev S1x128 : Shape := ⟨2, ![1, 128]⟩
abbrev S128 : Shape := ⟨1, ![128]⟩
abbrev S1x1x128 : Shape := ⟨3, ![1, 1, 128]⟩
abbrev S8192x8x16 : Shape := ⟨3, ![8192, 8, 16]⟩
abbrev S8192x8x112 : Shape := ⟨3, ![8192, 8, 112]⟩

abbrev nBuf : Space → Nat
  | .hbm => 89
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x512, .bf16⟩
  | .hbm, ⟨4, _⟩ => ⟨S8192x512, .f32⟩
  | .hbm, ⟨5, _⟩ => ⟨S4x2x8192, .f32⟩
  | .hbm, ⟨6, _⟩ => ⟨S8192x256, .f32⟩
  | .hbm, ⟨7, _⟩ => ⟨S16x1024, .f32⟩
  | .hbm, ⟨8, _⟩ => ⟨S8192x1024, .f32⟩
  | .hbm, ⟨9, _⟩ => ⟨S8192x8x128, .f32⟩
  | .hbm, ⟨10, _⟩ => ⟨S8192x1024, .f32⟩
  | .hbm, ⟨11, _⟩ => ⟨S8192x8x128, .f32⟩
  | .hbm, ⟨12, _⟩ => ⟨S8192x512, .f32⟩
  | .hbm, ⟨13, _⟩ => ⟨S8192x8x64, .f32⟩
  | .hbm, ⟨14, _⟩ => ⟨S8192x512, .f32⟩
  | .hbm, ⟨15, _⟩ => ⟨S8192x8x64, .f32⟩
  | .hbm, ⟨16, _⟩ => ⟨S8x8192x8192, .f32⟩
  | .hbm, ⟨17, _⟩ => ⟨S_, .f32⟩
  | .hbm, ⟨18, _⟩ => ⟨S8x8192x8192, .f32⟩
  | .hbm, ⟨19, _⟩ => ⟨S8x8192x8192, .f32⟩
  | .hbm, ⟨20, _⟩ => ⟨S8192, .i32⟩
  | .hbm, ⟨21, _⟩ => ⟨S8192x1, .i32⟩
  | .hbm, ⟨22, _⟩ => ⟨S1x8192, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S1x8192x8192, .i1⟩
  | .hbm, ⟨27, _⟩ => ⟨S8x1x8192, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S_, .f32⟩
  | .hbm, ⟨32, _⟩ => ⟨S_, .f32⟩
  | .hbm, ⟨33, _⟩ => ⟨S8x8192x8192, .i1⟩
  | .hbm, ⟨34, _⟩ => ⟨S8x8192x8192, .f32⟩
  | .hbm, ⟨35, _⟩ => ⟨S8x8192x8192, .f32⟩
  | .hbm, ⟨36, _⟩ => ⟨S8x64x8192, .f32⟩
  | .hbm, ⟨37, _⟩ => ⟨S8192x8x64, .f32⟩
  | .hbm, ⟨38, _⟩ => ⟨S8x8192x8192, .f32⟩
  | .hbm, ⟨39, _⟩ => ⟨S8192x8x64, .f32⟩
  | .hbm, ⟨40, _⟩ => ⟨S8192x8x64, .f32⟩
  | .hbm, ⟨41, _⟩ => ⟨S_, .f32⟩
  | .hbm, ⟨42, _⟩ => ⟨S8192x8, .f32⟩
  | .hbm, ⟨43, _⟩ => ⟨S8x8192, .f32⟩
  | .hbm, ⟨44, _⟩ => ⟨S8x1x8192, .f32⟩
  | .hbm, ⟨45, _⟩ => ⟨S8x8192x8192, .f32⟩
  | .hbm, ⟨46, _⟩ => ⟨S8x8192x8192, .f32⟩
  | .hbm, ⟨47, _⟩ => ⟨S8x8192x8192, .f32⟩
  | .hbm, ⟨48, _⟩ => ⟨S_, .f32⟩
  | .hbm, ⟨49, _⟩ => ⟨S8x8192x8192, .f32⟩
  | .hbm, ⟨50, _⟩ => ⟨S8x8192x8192, .f32⟩
  | .hbm, ⟨51, _⟩ => ⟨S8x128x8192, .f32⟩
  | .hbm, ⟨52, _⟩ => ⟨S8192x8x128, .f32⟩
  | .hbm, ⟨53, _⟩ => ⟨S8x128x8192, .f32⟩
  | .hbm, ⟨54, _⟩ => ⟨S8192x8x128, .f32⟩
  | .hbm, ⟨55, _⟩ => ⟨S8192x128, .f32⟩
  | .hbm, ⟨56, _⟩ => ⟨S8192x1x128, .f32⟩
  | .hbm, ⟨57, _⟩ => ⟨S8192x128, .f32⟩
  | .hbm, ⟨58, _⟩ => ⟨S8192x1x128, .f32⟩
  | .hbm, ⟨59, _⟩ => ⟨S1x128, .f32⟩
  | .hbm, ⟨60, _⟩ => ⟨S128, .f32⟩
  | .hbm, ⟨61, _⟩ => ⟨S1x128, .f32⟩
  | .hbm, ⟨62, _⟩ => ⟨S128, .f32⟩
  | .hbm, ⟨63, _⟩ => ⟨S8192x8x128, .f32⟩
  | .hbm, ⟨64, _⟩ => ⟨S8192x8x128, .f32⟩
  | .hbm, ⟨65, _⟩ => ⟨S1x1x128, .f32⟩
  | .hbm, ⟨66, _⟩ => ⟨S8192x1x128, .f32⟩
  | .hbm, ⟨67, _⟩ => ⟨S8192x1x128, .f32⟩
  | .hbm, ⟨68, _⟩ => ⟨S8192x8x128, .f32⟩
  | .hbm, ⟨69, _⟩ => ⟨S8192x8x128, .f32⟩
  | .hbm, ⟨70, _⟩ => ⟨S8192x8x16, .f32⟩
  | .hbm, ⟨71, _⟩ => ⟨S8192x8x112, .f32⟩
  | .hbm, ⟨72, _⟩ => ⟨S8192x8x128, .f32⟩
  | .hbm, ⟨73, _⟩ => ⟨S8192x8x128, .f32⟩
  | .hbm, ⟨74, _⟩ => ⟨S1x1x128, .f32⟩
  | .hbm, ⟨75, _⟩ => ⟨S8192x1x128, .f32⟩
  | .hbm, ⟨76, _⟩ => ⟨S8192x1x128, .f32⟩
  | .hbm, ⟨77, _⟩ => ⟨S8192x8x128, .f32⟩
  | .hbm, ⟨78, _⟩ => ⟨S8192x8x128, .f32⟩
  | .hbm, ⟨79, _⟩ => ⟨S8192x8x112, .f32⟩
  | .hbm, ⟨80, _⟩ => ⟨S8192x8x16, .f32⟩
  | .hbm, ⟨81, _⟩ => ⟨S8192x8x128, .f32⟩
  | .hbm, ⟨82, _⟩ => ⟨S8192x8x128, .f32⟩
  | .hbm, ⟨83, _⟩ => ⟨S8192x1024, .f32⟩
  | .hbm, ⟨84, _⟩ => ⟨S8192x1024, .bf16⟩
  | .hbm, ⟨85, _⟩ => ⟨S8192x1024, .f32⟩
  | .hbm, ⟨86, _⟩ => ⟨S8192x1024, .bf16⟩
  | .hbm, ⟨87, _⟩ => ⟨S8192x512, .f32⟩
  | .hbm, ⟨88, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_call1_v0 : Ref sig .tc := ⟨.hbm, 70, rfl⟩
abbrev main_call1_v1 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_call2_v0 : Ref sig .tc := ⟨.hbm, 79, rfl⟩
abbrev main_call2_v1 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== BwdPre.lean ====
abbrev S8192x1024 : Shape := ⟨2, ![8192, 1024]⟩
abbrev S8192x256 : Shape := ⟨2, ![8192, 256]⟩
abbrev S8192x128 : Shape := ⟨2, ![8192, 128]⟩
abbrev S8192x512 : Shape := ⟨2, ![8192, 512]⟩
abbrev S8192x2048 : Shape := ⟨2, ![8192, 2048]⟩
abbrev S1024x2560 : Shape := ⟨2, ![1024, 2560]⟩
abbrev S256x1024 : Shape := ⟨2, ![256, 1024]⟩
abbrev S128x1536 : Shape := ⟨2, ![128, 1536]⟩
abbrev S16x1024 : Shape := ⟨2, ![16, 1024]⟩
abbrev S8x256 : Shape := ⟨2, ![8, 256]⟩
abbrev S256x256 : Shape := ⟨2, ![256, 256]⟩
abbrev S256x128 : Shape := ⟨2, ![256, 128]⟩
abbrev S256x512 : Shape := ⟨2, ![256, 512]⟩
abbrev S256x2048 : Shape := ⟨2, ![256, 2048]⟩
abbrev S1x256 : Shape := ⟨2, ![1, 256]⟩
abbrev S1x128 : Shape := ⟨2, ![1, 128]⟩
abbrev S256 : Shape := ⟨1, ![256]⟩
abbrev S256x1 : Shape := ⟨2, ![256, 1]⟩
abbrev S256x1536 : Shape := ⟨2, ![256, 1536]⟩
abbrev S128 : Shape := ⟨1, ![128]⟩
abbrev S256x2560 : Shape := ⟨2, ![256, 2560]⟩

abbrev nBuf : Space → Nat
  | .hbm => 18
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S8192x128, .f32⟩
  | .hbm, ⟨4, _⟩ => ⟨S8192x256, .f32⟩
  | .hbm, ⟨5, _⟩ => ⟨S8192x1024, .bf16⟩
  | .hbm, ⟨6, _⟩ => ⟨S8192x1024, .bf16⟩
  | .hbm, ⟨7, _⟩ => ⟨S8192x512, .bf16⟩
  | .hbm, ⟨8, _⟩ => ⟨S8192x2048, .bf16⟩
  | .hbm, ⟨9, _⟩ => ⟨S1024x2560, .bf16⟩
  | .hbm, ⟨10, _⟩ => ⟨S256x1024, .bf16⟩
  | .hbm, ⟨11, _⟩ => ⟨S128x1536, .bf16⟩
  | .hbm, ⟨12, _⟩ => ⟨S16x1024, .f32⟩
  | .hbm, ⟨13, _⟩ => ⟨S8192x1024, .f32⟩
  | .hbm, ⟨14, _⟩ => ⟨S1024x2560, .f32⟩
  | .hbm, ⟨15, _⟩ => ⟨S256x1024, .f32⟩
  | .hbm, ⟨16, _⟩ => ⟨S128x1536, .f32⟩
  | .hbm, ⟨17, _⟩ => ⟨S8x256, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x256, .f32⟩
  | .local _ .vmem, ⟨5, _⟩ => ⟨S256x256, .f32⟩
  | .local _ .vmem, ⟨6, _⟩ => ⟨S256x128, .f32⟩
  | .local _ .vmem, ⟨7, _⟩ => ⟨S256x128, .f32⟩
  | .local _ .vmem, ⟨8, _⟩ => ⟨S256x256, .f32⟩
  | .local _ .vmem, ⟨9, _⟩ => ⟨S256x256, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x512, .bf16⟩
  | .local _ .vmem, ⟨15, _⟩ => ⟨S256x512, .bf16⟩
  | .local _ .vmem, ⟨16, _⟩ => ⟨S256x2048, .bf16⟩
  | .local _ .vmem, ⟨17, _⟩ => ⟨S256x2048, .bf16⟩
  | .local _ .vmem, ⟨18, _⟩ => ⟨S1024x2560, .bf16⟩
  | .local _ .vmem, ⟨19, _⟩ => ⟨S256x1024, .bf16⟩
  | .local _ .vmem, ⟨20, _⟩ => ⟨S128x1536, .bf16⟩
  | .local _ .vmem, ⟨21, _⟩ => ⟨S16x1024, .f32⟩
  | .local _ .vmem, ⟨22, _⟩ => ⟨S256x1024, .f32⟩
  | .local _ .vmem, ⟨23, _⟩ => ⟨S256x1024, .f32⟩
  | .local _ .vmem, ⟨24, _⟩ => ⟨S1024x2560, .f32⟩
  | .local _ .vmem, ⟨25, _⟩ => ⟨S256x1024, .f32⟩
  | .local _ .vmem, ⟨26, _⟩ => ⟨S128x1536, .f32⟩
  | .local _ .vmem, ⟨27, _⟩ => ⟨S8x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x2560 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1536 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x2560 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x1536 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== BwdPreRefIdeal.lean ====
abbrev S8192x1024 : Shape := ⟨2, ![8192, 1024]⟩
abbrev S8192x256 : Shape := ⟨2, ![8192, 256]⟩
abbrev S8192x128 : Shape := ⟨2, ![8192, 128]⟩
abbrev S8192x512 : Shape := ⟨2, ![8192, 512]⟩
abbrev S8192x2048 : Shape := ⟨2, ![8192, 2048]⟩
abbrev S1024x2560 : Shape := ⟨2, ![1024, 2560]⟩
abbrev S256x1024 : Shape := ⟨2, ![256, 1024]⟩
abbrev S128x1536 : Shape := ⟨2, ![128, 1536]⟩
abbrev S16x1024 : Shape := ⟨2, ![16, 1024]⟩
abbrev S1x256 : Shape := ⟨2, ![1, 256]⟩
abbrev S1x128 : Shape := ⟨2, ![1, 128]⟩
abbrev S_ : Shape := ⟨0, ![]⟩
abbrev S8192 : Shape := ⟨1, ![8192]⟩
abbrev S8192x1 : Shape := ⟨2, ![8192, 1]⟩
abbrev S1024x256 : Shape := ⟨2, ![1024, 256]⟩
abbrev S256x8192 : Shape := ⟨2, ![256, 8192]⟩
abbrev S256 : Shape := ⟨1, ![256]⟩
abbrev S8192x1536 : Shape := ⟨2, ![8192, 1536]⟩
abbrev S1536x128 : Shape := ⟨2, ![1536, 128]⟩
abbrev S128x8192 : Shape := ⟨2, ![128, 8192]⟩
abbrev S128 : Shape := ⟨1, ![128]⟩
abbrev S8192x8x128 : Shape := ⟨3, ![8192, 8, 128]⟩
abbrev S8192x16 : Shape := ⟨2, ![8192, 16]⟩
abbrev S8192x112 : Shape := ⟨2, ![8192, 112]⟩
abbrev S8192x2560 : Shape := ⟨2, ![8192, 2560]⟩
abbrev S1024x8192 : Shape := ⟨2, ![1024, 8192]⟩
abbrev S2560x1024 : Shape := ⟨2, ![2560, 1024]⟩
abbrev S6x256 : Shape := ⟨2, ![6, 256]⟩
abbrev S8x256 : Shape := ⟨2, ![8, 256]⟩

abbrev nBuf : Space → Nat
  | .hbm => 134
  | .vmem => 0
  | .smem => 0
  | _ => 0

abbrev hbmTy0_0 (i : Nat) : BufTy := match i % 128 with
  | 0 => ⟨S8192x1024, .f32⟩
  | 1 => ⟨S8192x1024, .f32⟩
  | 2 => ⟨S8192x256, .f32⟩
  | 3 => ⟨S8192x128, .f32⟩
  | 4 => ⟨S8192x256, .f32⟩
  | 5 => ⟨S8192x1024, .bf16⟩
  | 6 => ⟨S8192x1024, .bf16⟩
  | 7 => ⟨S8192x512, .bf16⟩
  | 8 => ⟨S8192x2048, .bf16⟩
  | 9 => ⟨S1024x2560, .bf16⟩
  | 10 => ⟨S256x1024, .bf16⟩
  | 11 => ⟨S128x1536, .bf16⟩
  | 12 => ⟨S16x1024, .f32⟩
  | 13 => ⟨S1024x2560, .f32⟩
  | 14 => ⟨S256x1024, .f32⟩
  | 15 => ⟨S128x1536, .f32⟩
  | 16 => ⟨S8192x1024, .f32⟩
  | 17 => ⟨S8192x1024, .f32⟩
  | 18 => ⟨S8192x512, .f32⟩
  | 19 => ⟨S1x256, .f32⟩
  | 20 => ⟨S1x128, .f32⟩
  | 21 => ⟨S1x128, .f32⟩
  | 22 => ⟨S1x128, .f32⟩
  | 23 => ⟨S8192x256, .f32⟩
  | 24 => ⟨S_, .f32⟩
  | 25 => ⟨S8192, .f32⟩
  | 26 => ⟨S8192x1, .f32⟩
  | 27 => ⟨S_, .f32⟩
  | 28 => ⟨S8192x1, .f32⟩
  | 29 => ⟨S8192x1, .f32⟩
  | 30 => ⟨S_, .f32⟩
  | 31 => ⟨S8192x1, .f32⟩
  | 32 => ⟨S8192x1, .f32⟩
  | 33 => ⟨S8192x1, .f32⟩
  | 34 => ⟨S8192x256, .f32⟩
  | 35 => ⟨S8192x256, .f32⟩
  | 36 => ⟨S1024x256, .f32⟩
  | 37 => ⟨S8192x256, .f32⟩
  | 38 => ⟨S8192x256, .f32⟩
  | 39 => ⟨S8192x256, .f32⟩
  | 40 => ⟨S256x8192, .f32⟩
  | 41 => ⟨S256x1024, .f32⟩
  | 42 => ⟨S8192x256, .f32⟩
  | 43 => ⟨S_, .f32⟩
  | 44 => ⟨S256, .f32⟩
  | 45 => ⟨S8192x256, .f32⟩
  | 46 => ⟨S8192x256, .f32⟩
  | 47 => ⟨S8192x256, .f32⟩
  | 48 => ⟨S_, .f32⟩
  | 49 => ⟨S8192, .f32⟩
  | 50 => ⟨S8192x1, .f32⟩
  | 51 => ⟨S_, .f32⟩
  | 52 => ⟨S8192x1, .f32⟩
  | 53 => ⟨S8192x1, .f32⟩
  | 54 => ⟨S8192x256, .f32⟩
  | 55 => ⟨S8192x256, .f32⟩
  | 56 => ⟨S8192x256, .f32⟩
  | 57 => ⟨S8192x256, .f32⟩
  | 58 => ⟨S8192x256, .f32⟩
  | 59 => ⟨S8192x1536, .f32⟩
  | 60 => ⟨S8192x128, .f32⟩
  | 61 => ⟨S_, .f32⟩
  | 62 => ⟨S8192, .f32⟩
  | 63 => ⟨S8192x1, .f32⟩
  | 64 => ⟨S_, .f32⟩
  | 65 => ⟨S8192x1, .f32⟩
  | 66 => ⟨S8192x1, .f32⟩
  | 67 => ⟨S_, .f32⟩
  | 68 => ⟨S8192x1, .f32⟩
  | 69 => ⟨S8192x1, .f32⟩
  | 70 => ⟨S8192x1, .f32⟩
  | 71 => ⟨S8192x128, .f32⟩
  | 72 => ⟨S8192x128, .f32⟩
  | 73 => ⟨S1536x128, .f32⟩
  | 74 => ⟨S8192x128, .f32⟩
  | 75 => ⟨S8192x128, .f32⟩
  | 76 => ⟨S8192x128, .f32⟩
  | 77 => ⟨S128x8192, .f32⟩
  | 78 => ⟨S128x1536, .f32⟩
  | 79 => ⟨S8192x128, .f32⟩
  | 80 => ⟨S_, .f32⟩
  | 81 => ⟨S128, .f32⟩
  | 82 => ⟨S8192x128, .f32⟩
  | 83 => ⟨S8192x128, .f32⟩
  | 84 => ⟨S8192x128, .f32⟩
  | 85 => ⟨S_, .f32⟩
  | 86 => ⟨S8192, .f32⟩
  | 87 => ⟨S8192x1, .f32⟩
  | 88 => ⟨S_, .f32⟩
  | 89 => ⟨S8192x1, .f32⟩
  | 90 => ⟨S8192x1, .f32⟩
  | 91 => ⟨S8192x128, .f32⟩
  | 92 => ⟨S8192x128, .f32⟩
  | 93 => ⟨S8192x128, .f32⟩
  | 94 => ⟨S8192x128, .f32⟩
  | 95 => ⟨S8192x128, .f32⟩
  | 96 => ⟨S8192x8x128, .f32⟩
  | 97 => ⟨S_, .f32⟩
  | 98 => ⟨S8192x128, .f32⟩
  | 99 => ⟨S8192x128, .f32⟩
  | 100 => ⟨S8192x128, .f32⟩
  | 101 => ⟨S8192x128, .f32⟩
  | 102 => ⟨S8192x128, .f32⟩
  | 103 => ⟨S8192x128, .f32⟩
  | 104 => ⟨S8192x128, .f32⟩
  | 105 => ⟨S8192x16, .f32⟩
  | 106 => ⟨S8192x112, .f32⟩
  | 107 => ⟨S8192x128, .f32⟩
  | 108 => ⟨S8192x128, .f32⟩
  | 109 => ⟨S8192x128, .f32⟩
  | 110 => ⟨S8192x128, .f32⟩
  | 111 => ⟨S8192x128, .f32⟩
  | 112 => ⟨S8192x112, .f32⟩
  | 113 => ⟨S8192x16, .f32⟩
  | 114 => ⟨S8192x128, .f32⟩
  | 115 => ⟨S8192x128, .f32⟩
  | 116 => ⟨S8192x2048, .f32⟩
  | 117 => ⟨S8192x2560, .f32⟩
  | 118 => ⟨S1024x8192, .f32⟩
  | 119 => ⟨S1024x2560, .f32⟩
  | 120 => ⟨S_, .f32⟩
  | 121 => ⟨S8192x1024, .f32⟩
  | 122 => ⟨S8192x1024, .f32⟩
  | 123 => ⟨S2560x1024, .f32⟩
  | 124 => ⟨S8192x1024, .f32⟩
  | 125 => ⟨S8192x1024, .f32⟩
  | 126 => ⟨S1x256, .f32⟩
  | 127 => ⟨S_, .f32⟩
  | _ => ⟨S8192x1024, .f32⟩

abbrev hbmTy0_1 (i : Nat) : BufTy := match i % 128 with
  | 0 => ⟨S128, .f32⟩
  | 1 => ⟨S256, .f32⟩
  | 2 => ⟨S1x256, .f32⟩
  | 3 => ⟨S_, .f32⟩
  | 4 => ⟨S6x256, .f32⟩
  | 5 => ⟨S8x256, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_5 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_8 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_9 : Ref sig .tc := ⟨.hbm, 85, rfl⟩
abbrev main_v62 : Ref sig .tc := ⟨.hbm, 86, rfl⟩
abbrev main_v63 : Ref sig .tc := ⟨.hbm, 87, rfl⟩
abbrev main_cst_10 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_11 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_call0_v0 : Ref sig .tc := ⟨.hbm, 105, rfl⟩
abbrev main_call0_v1 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_call1_v0 : Ref sig .tc := ⟨.hbm, 112, rfl⟩
abbrev main_call1_v1 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_12 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_13 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_14 : Ref sig .tc := ⟨.hbm, 131, rfl⟩
abbrev main_v99 : Ref sig .tc := ⟨.hbm, 132, rfl⟩
abbrev main_v100 : Ref sig .tc := ⟨.hbm, 133, rfl⟩

abbrev nD : Nat := 1
abbrev τ : Topo := Topo.v7x

variable {F : FTy → Type} [FloatOps F]
-- ==== Post.lean ====
abbrev S8192x1024 : Shape := ⟨2, ![8192, 1024]⟩
abbrev S8192x512 : Shape := ⟨2, ![8192, 512]⟩
abbrev S8192x2048 : Shape := ⟨2, ![8192, 2048]⟩
abbrev S1024x1024 : Shape := ⟨2, ![1024, 1024]⟩
abbrev S16x1024 : Shape := ⟨2, ![16, 1024]⟩
abbrev S8x128x128 : Shape := ⟨3, ![8, 128, 128]⟩
abbrev S128x512 : Shape := ⟨2, ![128, 512]⟩
abbrev S128x128 : Shape := ⟨2, ![128, 128]⟩
abbrev S8x1024 : Shape := ⟨2, ![8, 1024]⟩
abbrev S256x1024 : Shape := ⟨2, ![256, 1024]⟩
abbrev S256x512 : Shape := ⟨2, ![256, 512]⟩
abbrev S256x2048 : Shape := ⟨2, ![256, 2048]⟩
abbrev S1x512 : Shape := ⟨2, ![1, 512]⟩
abbrev S1x1024 : Shape := ⟨2, ![1, 1024]⟩
abbrev S256 : Shape := ⟨1, ![256]⟩
abbrev S256x1 : Shape := ⟨2, ![256, 1]⟩
abbrev S1x128x128 : Shape := ⟨3, ![1, 128, 128]⟩
abbrev S1024 : Shape := ⟨1, ![1024]⟩
abbrev S512 : Shape := ⟨1, ![512]⟩
abbrev S128 : Shape := ⟨1, ![128]⟩
abbrev S128x1 : Shape := ⟨2, ![128, 1]⟩

abbrev nBuf : Space → Nat
  | .hbm => 16
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x2048, .f32⟩
  | .hbm, ⟨4, _⟩ => ⟨S1024x1024, .bf16⟩
  | .hbm, ⟨5, _⟩ => ⟨S16x1024, .f32⟩
  | .hbm, ⟨6, _⟩ => ⟨S8x128x128, .bf16⟩
  | .hbm, ⟨7, _⟩ => ⟨S8x128x128, .bf16⟩
  | .hbm, ⟨8, _⟩ => ⟨S128x512, .f32⟩
  | .hbm, ⟨9, _⟩ => ⟨S8192x1024, .f32⟩
  | .hbm, ⟨10, _⟩ => ⟨S8192x512, .bf16⟩
  | .hbm, ⟨11, _⟩ => ⟨S8192x2048, .bf16⟩
  | .hbm, ⟨12, _⟩ => ⟨S1024x1024, .f32⟩
  | .hbm, ⟨13, _⟩ => ⟨S8x128x128, .f32⟩
  | .hbm, ⟨14, _⟩ => ⟨S128x128, .f32⟩
  | .hbm, ⟨15, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x2048, .f32⟩
  | .local _ .vmem, ⟨7, _⟩ => ⟨S256x2048, .f32⟩
  | .local _ .vmem, ⟨8, _⟩ => ⟨S1024x1024, .bf16⟩
  | .local _ .vmem, ⟨9, _⟩ => ⟨S16x1024, .f32⟩
  | .local _ .vmem, ⟨10, _⟩ => ⟨S8x128x128, .bf16⟩
  | .local _ .vmem, ⟨11, _⟩ => ⟨S8x128x128, .bf16⟩
  | .local _ .vmem, ⟨12, _⟩ => ⟨S128x512, .f32⟩
  | .local _ .vmem, ⟨13, _⟩ => ⟨S256x1024, .f32⟩
  | .local _ .vmem, ⟨14, _⟩ => ⟨S256x1024, .f32⟩
  | .local _ .vmem, ⟨15, _⟩ => ⟨S256x512, .bf16⟩
  | .local _ .vmem, ⟨16, _⟩ => ⟨S256x512, .bf16⟩
  | .local _ .vmem, ⟨17, _⟩ => ⟨S256x2048, .bf16⟩
  | .local _ .vmem, ⟨18, _⟩ => ⟨S256x2048, .bf16⟩
  | .local _ .vmem, ⟨19, _⟩ => ⟨S1024x1024, .f32⟩
  | .local _ .vmem, ⟨20, _⟩ => ⟨S8x128x128, .f32⟩
  | .local _ .vmem, ⟨21, _⟩ => ⟨S128x128, .f32⟩
  | .local _ .vmem, ⟨22, _⟩ => ⟨S8x1024, .f32⟩
  | .local _ .vmem, ⟨23, _⟩ => ⟨S256x512, .f32⟩
  | .local _ .vmem, ⟨24, _⟩ => ⟨S256x512, .f32⟩
  | .local _ .vmem, ⟨25, _⟩ => ⟨S128x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem15_0 : DmaSem sig := 22

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v666 : BitVec 1 := Scalar.cmpi .eq arg0 c31_i32
  let v667 : BitVec 32 := Scalar.extui v666
  let c0_i32_423 : BitVec 32 := 0#32
  let v668 : BitVec 1 := Scalar.cmpi .ne v667 c0_i32_423
  v668

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== PostRefIdeal.lean ====
abbrev S8192x1024 : Shape := ⟨2, ![8192, 1024]⟩
abbrev S8192x512 : Shape := ⟨2, ![8192, 512]⟩
abbrev S8192x2048 : Shape := ⟨2, ![8192, 2048]⟩
abbrev S1024x1024 : Shape := ⟨2, ![1024, 1024]⟩
abbrev S16x1024 : Shape := ⟨2, ![16, 1024]⟩
abbrev S8x128x128 : Shape := ⟨3, ![8, 128, 128]⟩
abbrev S128x512 : Shape := ⟨2, ![128, 512]⟩
abbrev S1x512 : Shape := ⟨2, ![1, 512]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S64x128x8x64 : Shape := ⟨4, ![64, 128, 8, 64]⟩
abbrev S8x64x64x128 : Shape := ⟨4, ![8, 64, 64, 128]⟩
abbrev S64x128x512 : Shape := ⟨3, ![64, 128, 512]⟩
abbrev S1x128x512 : Shape := ⟨3, ![1, 128, 512]⟩
abbrev S1024 : Shape := ⟨1, ![1024]⟩
abbrev S1024x8192 : Shape := ⟨2, ![1024, 8192]⟩
abbrev S128x8x64 : Shape := ⟨3, ![128, 8, 64]⟩
abbrev S128x8 : Shape := ⟨2, ![128, 8]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S512 : Shape := ⟨1, ![512]⟩
abbrev S3x1024 : Shape := ⟨2, ![3, 1024]⟩
abbrev S8x1024 : Shape := ⟨2, ![8, 1024]⟩
abbrev S128x120 : Shape := ⟨2, ![128, 120]⟩

abbrev nBuf : Space → Nat
  | .hbm => 306
  | .vmem => 0
  | .smem => 0
  | _ => 0

abbrev hbmTy0_0 (i : Nat) : BufTy := match i % 128 with
  | 0 => ⟨S8192x1024, .f32⟩
  | 1 => ⟨S8192x1024, .f32⟩
  | 2 => ⟨S8192x512, .f32⟩
  | 3 => ⟨S8192x2048, .f32⟩
  | 4 => ⟨S1024x1024, .bf16⟩
  | 5 => ⟨S16x1024, .f32⟩
  | 6 => ⟨S8x128x128, .bf16⟩
  | 7 => ⟨S8x128x128, .bf16⟩
  | 8 => ⟨S128x512, .f32⟩
  | 9 => ⟨S1024x1024, .f32⟩
  | 10 => ⟨S8x128x128, .f32⟩
  | 11 => ⟨S8x128x128, .f32⟩
  | 12 => ⟨S8192x512, .f32⟩
  | 13 => ⟨S8192x512, .f32⟩
  | 14 => ⟨S8192x512, .f32⟩
  | 15 => ⟨S8192x512, .f32⟩
  | 16 => ⟨S1x512, .f32⟩
  | 17 => ⟨S1x512, .f32⟩
  | 18 => ⟨S1x1024, .f32⟩
  | 19 => ⟨S1x1024, .f32⟩
  | 20 => ⟨S8192x512, .f32⟩
  | 21 => ⟨S8192x512, .f32⟩
  | 22 => ⟨S_, .f32⟩
  | 23 => ⟨S8192x512, .f32⟩
  | 24 => ⟨S8192x512, .f32⟩
  | 25 => ⟨S_, .f32⟩
  | 26 => ⟨S8192x512, .f32⟩
  | 27 => ⟨S8192x512, .f32⟩
  | 28 => ⟨S8192x512, .f32⟩
  | 29 => ⟨S8192x512, .f32⟩
  | 30 => ⟨S_, .f32⟩
  | 31 => ⟨S8192x512, .f32⟩
  | 32 => ⟨S8192x512, .f32⟩
  | 33 => ⟨S_, .f32⟩
  | 34 => ⟨S8192x512, .f32⟩
  | 35 => ⟨S8192x512, .f32⟩
  | 36 => ⟨S_, .f32⟩
  | 37 => ⟨S8192x512, .f32⟩
  | 38 => ⟨S8192x512, .f32⟩
  | 39 => ⟨S_, .f32⟩
  | 40 => ⟨S8192x512, .f32⟩
  | 41 => ⟨S8192x512, .f32⟩
  | 42 => ⟨S8192x512, .f32⟩
  | 43 => ⟨S_, .f32⟩
  | 44 => ⟨S8192x512, .f32⟩
  | 45 => ⟨S8192x512, .f32⟩
  | 46 => ⟨S8192x512, .f32⟩
  | 47 => ⟨S_, .f32⟩
  | 48 => ⟨S8192x512, .f32⟩
  | 49 => ⟨S8192x512, .f32⟩
  | 50 => ⟨S_, .f32⟩
  | 51 => ⟨S8192x512, .f32⟩
  | 52 => ⟨S8192x512, .f32⟩
  | 53 => ⟨S8192x512, .f32⟩
  | 54 => ⟨S_, .f32⟩
  | 55 => ⟨S8192x512, .f32⟩
  | 56 => ⟨S8192x512, .f32⟩
  | 57 => ⟨S8192x512, .f32⟩
  | 58 => ⟨S_, .f32⟩
  | 59 => ⟨S8192, .f32⟩
  | 60 => ⟨S8192x1, .f32⟩
  | 61 => ⟨S_, .f32⟩
  | 62 => ⟨S8192x1, .f32⟩
  | 63 => ⟨S8192x1, .f32⟩
  | 64 => ⟨S8192x512, .f32⟩
  | 65 => ⟨S8192x512, .f32⟩
  | 66 => ⟨S8192x512, .f32⟩
  | 67 => ⟨S_, .f32⟩
  | 68 => ⟨S8192, .f32⟩
  | 69 => ⟨S8192x1, .f32⟩
  | 70 => ⟨S_, .f32⟩
  | 71 => ⟨S8192x1, .f32⟩
  | 72 => ⟨S8192x1, .f32⟩
  | 73 => ⟨S_, .f32⟩
  | 74 => ⟨S8192x1, .f32⟩
  | 75 => ⟨S8192x1, .f32⟩
  | 76 => ⟨S8192x1, .f32⟩
  | 77 => ⟨S8192x512, .f32⟩
  | 78 => ⟨S8192x512, .f32⟩
  | 79 => ⟨S8192x512, .f32⟩
  | 80 => ⟨S8192x512, .f32⟩
  | 81 => ⟨S8192x512, .f32⟩
  | 82 => ⟨S8192x512, .f32⟩
  | 83 => ⟨S64x128x8x64, .f32⟩
  | 84 => ⟨S8x64x64x128, .f32⟩
  | 85 => ⟨S64x128x8x64, .f32⟩
  | 86 => ⟨S64x128x512, .f32⟩
  | 87 => ⟨S1x128x512, .f32⟩
  | 88 => ⟨S64x128x512, .f32⟩
  | 89 => ⟨S64x128x512, .f32⟩
  | 90 => ⟨S8192x512, .f32⟩
  | 91 => ⟨S8192x512, .f32⟩
  | 92 => ⟨S8192x512, .f32⟩
  | 93 => ⟨S8192x512, .f32⟩
  | 94 => ⟨S8192x512, .f32⟩
  | 95 => ⟨S8192x512, .f32⟩
  | 96 => ⟨S8192x1024, .f32⟩
  | 97 => ⟨S_, .f32⟩
  | 98 => ⟨S8192x1024, .f32⟩
  | 99 => ⟨S8192x1024, .f32⟩
  | 100 => ⟨S8192x1024, .f32⟩
  | 101 => ⟨S8192x1024, .f32⟩
  | 102 => ⟨S_, .f32⟩
  | 103 => ⟨S8192, .f32⟩
  | 104 => ⟨S8192x1, .f32⟩
  | 105 => ⟨S_, .f32⟩
  | 106 => ⟨S8192x1, .f32⟩
  | 107 => ⟨S8192x1, .f32⟩
  | 108 => ⟨S8192x1024, .f32⟩
  | 109 => ⟨S8192x1024, .f32⟩
  | 110 => ⟨S8192x1024, .f32⟩
  | 111 => ⟨S_, .f32⟩
  | 112 => ⟨S8192, .f32⟩
  | 113 => ⟨S8192x1, .f32⟩
  | 114 => ⟨S_, .f32⟩
  | 115 => ⟨S8192x1, .f32⟩
  | 116 => ⟨S8192x1, .f32⟩
  | 117 => ⟨S_, .f32⟩
  | 118 => ⟨S8192x1, .f32⟩
  | 119 => ⟨S8192x1, .f32⟩
  | 120 => ⟨S8192x1, .f32⟩
  | 121 => ⟨S8192x1024, .f32⟩
  | 122 => ⟨S8192x1024, .f32⟩
  | 123 => ⟨S8192x1024, .f32⟩
  | 124 => ⟨S8192x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S_, .f32⟩
  | 1 => ⟨S8192x1024, .f32⟩
  | 2 => ⟨S8192x1024, .f32⟩
  | 3 => ⟨S8192x1024, .f32⟩
  | 4 => ⟨S_, .f32⟩
  | 5 => ⟨S1024, .f32⟩
  | 6 => ⟨S_, .f32⟩
  | 7 => ⟨S1024, .f32⟩
  | 8 => ⟨S8192x1024, .f32⟩
  | 9 => ⟨S_, .f32⟩
  | 10 => ⟨S1024, .f32⟩
  | 11 => ⟨S_, .f32⟩
  | 12 => ⟨S1024, .f32⟩
  | 13 => ⟨S1024, .f32⟩
  | 14 => ⟨S8192x1024, .f32⟩
  | 15 => ⟨S8192x1024, .f32⟩
  | 16 => ⟨S_, .f32⟩
  | 17 => ⟨S8192, .f32⟩
  | 18 => ⟨S8192x1, .f32⟩
  | 19 => ⟨S_, .f32⟩
  | 20 => ⟨S8192x1, .f32⟩
  | 21 => ⟨S8192x1, .f32⟩
  | 22 => ⟨S8192x1024, .f32⟩
  | 23 => ⟨S8192x1024, .f32⟩
  | 24 => ⟨S8192x1024, .f32⟩
  | 25 => ⟨S_, .f32⟩
  | 26 => ⟨S8192, .f32⟩
  | 27 => ⟨S8192x1, .f32⟩
  | 28 => ⟨S_, .f32⟩
  | 29 => ⟨S8192x1, .f32⟩
  | 30 => ⟨S8192x1, .f32⟩
  | 31 => ⟨S8192x1024, .f32⟩
  | 32 => ⟨S8192x1024, .f32⟩
  | 33 => ⟨S8192x1024, .f32⟩
  | 34 => ⟨S8192x1024, .f32⟩
  | 35 => ⟨S8192x1024, .f32⟩
  | 36 => ⟨S1024x8192, .f32⟩
  | 37 => ⟨S1024x1024, .f32⟩
  | 38 => ⟨S1024x1024, .f32⟩
  | 39 => ⟨S8192x1024, .f32⟩
  | 40 => ⟨S8192x512, .f32⟩
  | 41 => ⟨S8192x512, .f32⟩
  | 42 => ⟨S8192x512, .f32⟩
  | 43 => ⟨S8192x512, .f32⟩
  | 44 => ⟨S8192x512, .f32⟩
  | 45 => ⟨S_, .f32⟩
  | 46 => ⟨S8192x512, .f32⟩
  | 47 => ⟨S8192x512, .f32⟩
  | 48 => ⟨S8192x512, .f32⟩
  | 49 => ⟨S_, .f32⟩
  | 50 => ⟨S8192x512, .f32⟩
  | 51 => ⟨S8192x512, .f32⟩
  | 52 => ⟨S8192x512, .f32⟩
  | 53 => ⟨S8192x512, .f32⟩
  | 54 => ⟨S8192x512, .f32⟩
  | 55 => ⟨S_, .f32⟩
  | 56 => ⟨S8192x512, .f32⟩
  | 57 => ⟨S8192x512, .f32⟩
  | 58 => ⟨S8192x512, .f32⟩
  | 59 => ⟨S_, .f32⟩
  | 60 => ⟨S8192x512, .f32⟩
  | 61 => ⟨S8192x512, .f32⟩
  | 62 => ⟨S8192x512, .f32⟩
  | 63 => ⟨S8192x512, .f32⟩
  | 64 => ⟨S8192x512, .f32⟩
  | 65 => ⟨S8192x512, .f32⟩
  | 66 => ⟨S8192x512, .f32⟩
  | 67 => ⟨S_, .f32⟩
  | 68 => ⟨S8192x512, .f32⟩
  | 69 => ⟨S8192x512, .f32⟩
  | 70 => ⟨S8192x512, .f32⟩
  | 71 => ⟨S_, .f32⟩
  | 72 => ⟨S8192x512, .f32⟩
  | 73 => ⟨S8192x512, .f32⟩
  | 74 => ⟨S_, .f32⟩
  | 75 => ⟨S8192x512, .f32⟩
  | 76 => ⟨S8192x512, .f32⟩
  | 77 => ⟨S_, .f32⟩
  | 78 => ⟨S8192x512, .f32⟩
  | 79 => ⟨S8192x512, .f32⟩
  | 80 => ⟨S8192x512, .f32⟩
  | 81 => ⟨S8192x512, .f32⟩
  | 82 => ⟨S_, .f32⟩
  | 83 => ⟨S8192x512, .f32⟩
  | 84 => ⟨S8192x512, .f32⟩
  | 85 => ⟨S8192x512, .f32⟩
  | 86 => ⟨S8192x512, .f32⟩
  | 87 => ⟨S8192x512, .f32⟩
  | 88 => ⟨S8192x512, .f32⟩
  | 89 => ⟨S64x128x8x64, .f32⟩
  | 90 => ⟨S_, .f32⟩
  | 91 => ⟨S128x8x64, .f32⟩
  | 92 => ⟨S_, .f32⟩
  | 93 => ⟨S128x8, .f32⟩
  | 94 => ⟨S128, .i32⟩
  | 95 => ⟨S1x128, .i32⟩
  | 96 => ⟨S128x1, .i32⟩
  | 97 => ⟨S128x128, .i32⟩
  | 98 => ⟨S128x128, .i32⟩
  | 99 => ⟨S128x128, .i1⟩
  | 100 => ⟨S1x128x128, .i1⟩
  | 101 => ⟨S8x128x128, .f32⟩
  | 102 => ⟨S_, .f32⟩
  | 103 => ⟨S_, .f32⟩
  | 104 => ⟨S8x128x128, .i1⟩
  | 105 => ⟨S8x128x128, .f32⟩
  | 106 => ⟨S8x128x128, .f32⟩
  | 107 => ⟨S8x64x64x128, .f32⟩
  | 108 => ⟨S64x128x8x64, .f32⟩
  | 109 => ⟨S8192x512, .f32⟩
  | 110 => ⟨S8192x512, .f32⟩
  | 111 => ⟨S_, .f32⟩
  | 112 => ⟨S512, .f32⟩
  | 113 => ⟨S_, .f32⟩
  | 114 => ⟨S512, .f32⟩
  | 115 => ⟨S8192x512, .f32⟩
  | 116 => ⟨S8192x512, .f32⟩
  | 117 => ⟨S_, .f32⟩
  | 118 => ⟨S8192, .f32⟩
  | 119 => ⟨S8192x1, .f32⟩
  | 120 => ⟨S_, .f32⟩
  | 121 => ⟨S8192x1, .f32⟩
  | 122 => ⟨S8192x1, .f32⟩
  | 123 => ⟨S8192x512, .f32⟩
  | 124 => ⟨S8192x512, .f32⟩
  | 125 => ⟨S8192x512, .f32⟩
  | 126 => ⟨S_, .f32⟩
  | 127 => ⟨S8192, .f32⟩
  | _ => ⟨S8192x1024, .f32⟩

abbrev hbmTy0_2 (i : Nat) : BufTy := match i % 128 with
  | 0 => ⟨S8192x1, .f32⟩
  | 1 => ⟨S_, .f32⟩
  | 2 => ⟨S8192x1, .f32⟩
  | 3 => ⟨S8192x1, .f32⟩
  | 4 => ⟨S8192x512, .f32⟩
  | 5 => ⟨S8192x512, .f32⟩
  | 6 => ⟨S8192x512, .f32⟩
  | 7 => ⟨S8192x512, .f32⟩
  | 8 => ⟨S8192x512, .f32⟩
  | 9 => ⟨S_, .f32⟩
  | 10 => ⟨S8192x512, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S_, .f32⟩
  | 17 => ⟨S8192x512, .f32⟩
  | 18 => ⟨S8192x512, .f32⟩
  | 19 => ⟨S_, .f32⟩
  | 20 => ⟨S8192x512, .f32⟩
  | 21 => ⟨S8192x512, .f32⟩
  | 22 => ⟨S8192x512, .f32⟩
  | 23 => ⟨S8192x512, .f32⟩
  | 24 => ⟨S_, .f32⟩
  | 25 => ⟨S8192x512, .f32⟩
  | 26 => ⟨S8192x512, .f32⟩
  | 27 => ⟨S8192x512, .f32⟩
  | 28 => ⟨S8192x512, .f32⟩
  | 29 => ⟨S8192x512, .f32⟩
  | 30 => ⟨S8192x2048, .f32⟩
  | 31 => ⟨S1x1024, .f32⟩
  | 32 => ⟨S1x1024, .f32⟩
  | 33 => ⟨S_, .f32⟩
  | 34 => ⟨S512, .f32⟩
  | 35 => ⟨S1024, .f32⟩
  | 36 => ⟨S1x1024, .f32⟩
  | 37 => ⟨S_, .f32⟩
  | 38 => ⟨S512, .f32⟩
  | 39 => ⟨S1024, .f32⟩
  | 40 => ⟨S1x1024, .f32⟩
  | 41 => ⟨S1x1024, .f32⟩
  | 42 => ⟨S_, .f32⟩
  | 43 => ⟨S3x1024, .f32⟩
  | 44 => ⟨S8x1024, .f32⟩
  | 45 => ⟨S8192x512, .bf16⟩
  | 46 => ⟨S8192x2048, .bf16⟩
  | 47 => ⟨S_, .f32⟩
  | 48 => ⟨S128x120, .f32⟩
  | 49 => ⟨S128x128, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_cst_13 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_14 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_15 : Ref sig .tc := ⟨.hbm, 102, rfl⟩
abbrev main_v77 : Ref sig .tc := ⟨.hbm, 103, rfl⟩
abbrev main_v78 : Ref sig .tc := ⟨.hbm, 104, rfl⟩
abbrev main_cst_16 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_17 : Ref sig .tc := ⟨.hbm, 111, rfl⟩
abbrev main_v84 : Ref sig .tc := ⟨.hbm, 112, rfl⟩
abbrev main_v85 : Ref sig .tc := ⟨.hbm, 113, rfl⟩
abbrev main_cst_18 : Ref sig .tc := ⟨.hbm, 114, rfl⟩
abbrev main_v86 : Ref sig .tc := ⟨.hbm, 115, rfl⟩
abbrev main_v87 : Ref sig .tc := ⟨.hbm, 116, rfl⟩
abbrev main_cst_19 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_20 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_21 : Ref sig .tc := ⟨.hbm, 132, rfl⟩
abbrev main_v101 : Ref sig .tc := ⟨.hbm, 133, rfl⟩
abbrev main_cst_22 : Ref sig .tc := ⟨.hbm, 134, rfl⟩
abbrev main_v102 : Ref sig .tc := ⟨.hbm, 135, rfl⟩
abbrev main_v103 : Ref sig .tc := ⟨.hbm, 136, rfl⟩
abbrev main_cst_23 : Ref sig .tc := ⟨.hbm, 137, rfl⟩
abbrev main_v104 : Ref sig .tc := ⟨.hbm, 138, rfl⟩
abbrev main_cst_24 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_cst_25 : Ref sig .tc := ⟨.hbm, 144, rfl⟩
abbrev main_v109 : Ref sig .tc := ⟨.hbm, 145, rfl⟩
abbrev main_v110 : Ref sig .tc := ⟨.hbm, 146, rfl⟩
abbrev main_cst_26 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_27 : Ref sig .tc := ⟨.hbm, 153, rfl⟩
abbrev main_v116 : Ref sig .tc := ⟨.hbm, 154, rfl⟩
abbrev main_v117 : Ref sig .tc := ⟨.hbm, 155, rfl⟩
abbrev main_cst_28 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_cst_29 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_cst_30 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_cst_31 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_cst_32 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_cst_33 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_cst_34 : Ref sig .tc := ⟨.hbm, 199, rfl⟩
abbrev main_v155 : Ref sig .tc := ⟨.hbm, 200, rfl⟩
abbrev main_v156 : Ref sig .tc := ⟨.hbm, 201, rfl⟩
abbrev main_cst_35 : Ref sig .tc := ⟨.hbm, 202, rfl⟩
abbrev main_v157 : Ref sig .tc := ⟨.hbm, 203, rfl⟩
abbrev main_v158 : Ref sig .tc := ⟨.hbm, 204, rfl⟩
abbrev main_cst_36 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_cst_37 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_cst_38 : Ref sig .tc := ⟨.hbm, 218, rfl⟩
abbrev main_v170 : Ref sig .tc := ⟨.hbm, 219, rfl⟩
abbrev main_cst_39 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_cst_40 : Ref sig .tc := ⟨.hbm, 230, rfl⟩
abbrev main_call0_v0 : Ref sig .tc := ⟨.hbm, 231, rfl⟩
abbrev main_call0_v1 : Ref sig .tc := ⟨.hbm, 232, rfl⟩
abbrev main_call0_v2 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_cst_41 : Ref sig .tc := ⟨.hbm, 239, rfl⟩
abbrev main_v185 : Ref sig .tc := ⟨.hbm, 240, rfl⟩
abbrev main_cst_42 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_cst_43 : Ref sig .tc := ⟨.hbm, 245, rfl⟩
abbrev main_v189 : Ref sig .tc := ⟨.hbm, 246, rfl⟩
abbrev main_v190 : Ref sig .tc := ⟨.hbm, 247, rfl⟩
abbrev main_cst_44 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_cst_45 : Ref sig .tc := ⟨.hbm, 254, rfl⟩
abbrev main_v196 : Ref sig .tc := ⟨.hbm, 255, rfl⟩
abbrev main_v197 : Ref sig .tc := ⟨.hbm, 256, rfl⟩
abbrev main_cst_46 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_cst_47 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_cst_48 : Ref sig .tc := ⟨.hbm, 269, rfl⟩
abbrev main_v208 : Ref sig .tc := ⟨.hbm, 270, rfl⟩
abbrev main_v209 : Ref sig .tc := ⟨.hbm, 271, rfl⟩
abbrev main_cst_49 : Ref sig .tc := ⟨.hbm, 272, rfl⟩
abbrev main_v210 : Ref sig .tc := ⟨.hbm, 273, rfl⟩
abbrev main_v211 : Ref sig .tc := ⟨.hbm, 274, rfl⟩
abbrev main_cst_50 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_cst_51 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_cst_52 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_cst_53 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩
abbrev main_v230 : Ref sig .tc := ⟨.hbm, 297, rfl⟩
abbrev main_cst_54 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_v234 : Ref sig .tc := ⟨.hbm, 302, rfl⟩
abbrev main_cst_55 : Ref sig .tc := ⟨.hbm, 303, rfl⟩
abbrev main_v235 : Ref sig .tc := ⟨.hbm, 304, rfl⟩
abbrev main_v236 : Ref sig .tc := ⟨.hbm, 305, rfl⟩

abbrev nD : Nat := 1
abbrev τ : Topo := Topo.v7x

variable {F : FTy → Type} [FloatOps F]
-- ==== Proof.AdamW.lean ====
module

public import proofs.«01_k».proof.Defs
public import proofs.«01_k».proof.Proof.Gen.AdamWIdeal.Value
public import proofs.«01_k».proof.Proof.Gen.AdamWRefIdeal.Read
public import Idealize.ShloMosaic.Lib.Tactic.ValueTie

@[expose] public section

noncomputable section

namespace Cert.Own.AdamW

open Idealize.ShloMosaic Idealize.ShloMosaic.TcCoe Idealize.SL.Sem
open Cert.AdamWRefIdeal.Read

/-- The reference's step is the kernel's closed form of the four argument arrays. -/
theorem step_eq (g w m v : FVec Ideal Cert.AdamWIdeal.S8704x128 .f32) :
    val_main_v23 (F := Ideal) g w m v = Cert.AdamWIdeal.Value.G4 g m v w := by
  funext i
  simp only [val_main_v23_apply]
  rfl

/-- The reference's first moment is the kernel's. -/
theorem mean_eq (g m : FVec Ideal Cert.AdamWIdeal.S8704x128 .f32) :
    val_main_v4 (F := Ideal) g m = Cert.AdamWIdeal.Value.G5 g m := by
  funext i
  rfl

/-- The reference's second moment is the kernel's. -/
theorem square_eq (g v : FVec Ideal Cert.AdamWIdeal.S8704x128 .f32) :
    val_main_v10 (F := Ideal) g v = Cert.AdamWIdeal.Value.G6 g v := by
  funext i
  rfl

/-- The reference runs, leaves its arguments alone and ends with every counter at zero. -/
theorem ref_frame : Cert.quiescent_AdamWRefIdeal := fun m ρ _ =>
  (θ_run _ _ _).mono (fun r h => ⟨fun c => (h c).2.2.2, sem_eq_zero_of_no_sems (by decide) r.2⟩)
    (Cert.AdamWRefIdeal.Value.run (F := Ideal) m ρ)

/-- The kernel and the reference compute the same step and the same two moments. -/
theorem algebraic : Cert.algebraic_AdamWIdeal_AdamWRefIdeal := by
  intro m ρ m' ρ' _ hag
  refine ⟨_, _, _, Cert.AdamWIdeal.Value.run m ρ, ?_⟩
  refine (θ_run _ _ _).mono (fun r h c => ?_) (Cert.AdamWRefIdeal.Value.run (F := Ideal) m' ρ')
  obtain ⟨h0, h1, h2, h3⟩ := hag c
  refine ⟨(h c).1.trans ?_, (h c).2.1.trans ?_, (h c).2.2.1.trans ?_, (h c).2.2.2⟩
  · rw [val_main_v23_eq, step_eq, h0, h1, h2, h3]
  · rw [val_main_v4_eq, mean_eq, h0, h2]
  · rw [val_main_v10_eq, square_eq, h0, h3]

end Cert.Own.AdamW

end
-- ==== Proof.AttnFrame.lean ====
module

public import proofs.«01_k».proof.Defs
public import proofs.«01_k».proof.Proof.Gen.AttnFwdRefIdeal.Run
public import Idealize.ShloMosaic.Lib.Quiescent

@[expose] public section

noncomputable section

namespace Cert.Own.AttnFwd

open Idealize.ShloMosaic Idealize.ShloMosaic.TcCoe Idealize.SL.Sem

/-- The attention reference runs, leaves its arguments alone and ends with every counter at zero. -/
theorem ref_frame : Cert.quiescent_AttnFwdRefIdeal := fun m ρ _ =>
  (θ_run _ _ _).mono (fun r h => ⟨fun c => (h c).2.2, sem_eq_zero_of_no_sems (by decide) r.2⟩)
    (Cert.AttnFwdRefIdeal.Value.run (F := Ideal) m ρ)

end Cert.Own.AttnFwd

end
-- ==== Proof.Online.lean ====
module

public import Idealize.ShloMosaic.PureOps.Ideal.Laws
public import Mathlib.Analysis.SpecialFunctions.Exp
public import Mathlib.Algebra.BigOperators.Fin

@[expose] public section

/-! The arithmetic of a softmax row that is taken block by block: real scores `r k`, and a carried maximum, sum and
    weighted sum over the keys below a bound. -/

noncomputable section

namespace Cert.Own.Online

open Idealize.ShloMosaic

/-- A nonnegative real factor goes into a sum of extended reals. -/
theorem coe_mul_sum {ι : Type*} (S : Finset ι) (a : ℝ) (ha : 0 ≤ a) (f : ι → EReal) :
    (a : EReal) * ∑ k ∈ S, f k = ∑ k ∈ S, (a : EReal) * f k := by
  classical
  induction S using Finset.induction_on with
  | empty => simp
  | insert x S hx ih =>
    rw [Finset.sum_insert hx, Finset.sum_insert hx, ← ih]
    exact EReal.left_distrib_of_nonneg_of_ne_top (by exact_mod_cast ha) (EReal.coe_ne_top a) _ _

/-- A sum of reals, taken in the extended reals. -/
theorem coe_sum {ι : Type*} (S : Finset ι) (f : ι → ℝ) : ((∑ k ∈ S, f k : ℝ) : EReal) = ∑ k ∈ S, (f k : EReal) := by
  classical
  induction S using Finset.induction_on with
  | empty => simp
  | insert x S hx ih => rw [Finset.sum_insert hx, Finset.sum_insert hx, EReal.coe_add, ih]

/-- `M` is the largest of the scores of the keys below `b`. -/
def IsTop (r : ℕ → ℝ) (b : ℕ) (M : ℝ) : Prop := (∀ k < b, r k ≤ M) ∧ ∃ k < b, r k = M

/-- The sum of a row's weights over the keys below `b`. -/
def wsum (r : ℕ → ℝ) (b : ℕ) (M : ℝ) : ℝ := ∑ k ∈ Finset.range b, Real.exp (r k - M)

/-- The sum of a row's weighted values over the keys below `b`. -/
def vsum (r : ℕ → ℝ) (v : ℕ → EReal) (b : ℕ) (M : ℝ) : EReal :=
  ∑ k ∈ Finset.range b, ((Real.exp (r k - M) : ℝ) : EReal) * v k

/-- What a row carries after the keys below `b`: the maximum and the sum of weights. -/
def Carry (r : ℕ → ℝ) (b : ℕ) (m l : EReal) : Prop :=
  (b = 0 ∧ m = ⊥ ∧ l = 0) ∨ ∃ M : ℝ, IsTop r b M ∧ m = (M : EReal) ∧ l = ((wsum r b M : ℝ) : EReal)

/-- What one lane of a row's weighted sum holds after the keys below `b`, beside the maximum `m`. -/
def CarryV (r : ℕ → ℝ) (v : ℕ → EReal) (b : ℕ) (m a : EReal) : Prop :=
  (b = 0 ∧ m = ⊥ ∧ a = 0) ∨ ∃ M : ℝ, IsTop r b M ∧ m = (M : EReal) ∧ a = vsum r v b M

/-- A largest score is unique. -/
theorem IsTop.unique {r : ℕ → ℝ} {b : ℕ} {M M' : ℝ} (h : IsTop r b M) (h' : IsTop r b M') : M = M' := by
  obtain ⟨k, hk, rfl⟩ := h.2
  obtain ⟨k', hk', rfl⟩ := h'.2
  exact le_antisymm (h'.1 k hk) (h.1 k' hk')

/-- There is a largest score below a positive bound. -/
theorem exists_isTop (r : ℕ → ℝ) (b : ℕ) (hb : 0 < b) : ∃ M, IsTop r b M := by
  obtain ⟨k, hk, hmax⟩ := Finset.exists_max_image (Finset.range b) r ⟨0, Finset.mem_range.2 hb⟩
  exact ⟨r k, fun j hj => hmax j (Finset.mem_range.2 hj), k, Finset.mem_range.1 hk, rfl⟩

/-- A row's weights sum to a positive number. -/
theorem wsum_pos {r : ℕ → ℝ} {b : ℕ} {M : ℝ} (h : IsTop r b M) : 0 < wsum r b M := by
  obtain ⟨k, hk, -⟩ := h.2
  exact Finset.sum_pos (fun _ _ => Real.exp_pos _) ⟨k, Finset.mem_range.2 hk⟩

/-- Moving the maximum rescales the sum of weights. -/
theorem wsum_rescale (r : ℕ → ℝ) (b : ℕ) (M M' : ℝ) : Real.exp (M - M') * wsum r b M = wsum r b M' := by
  unfold wsum
  rw [Finset.mul_sum]
  refine Finset.sum_congr rfl fun k _ => ?_
  rw [← Real.exp_add]; congr 1; ring

/-- Moving the maximum rescales the weighted sum. -/
theorem vsum_rescale (r : ℕ → ℝ) (v : ℕ → EReal) (b : ℕ) (M M' : ℝ) :
    ((Real.exp (M - M') : ℝ) : EReal) * vsum r v b M = vsum r v b M' := by
  unfold vsum
  rw [coe_mul_sum _ _ (Real.exp_pos _).le]
  refine Finset.sum_congr rfl fun k _ => ?_
  rw [← mul_assoc, ← EReal.coe_mul, ← Real.exp_add]; congr 3; ring

/-- The scores of a block of `N` keys from `b` on, of which the first `n` count. -/
def block (r : ℕ → ℝ) (b n : ℕ) {N : ℕ} (j : Fin N) : EReal := if j.val < n then ((r (b + j.val) : ℝ) : EReal) else ⊥

/-- A fold by `max` from `⊥` is the least upper bound. -/
theorem fold_max_eq_sup {ι : Type*} (S : Finset ι) (f : ι → EReal) : S.fold max ⊥ f = S.sup f := rfl

/-- The exponential of a block's score less a real. -/
theorem exp_block (r : ℕ → ℝ) (b n : ℕ) {N : ℕ} (j : Fin N) (M : ℝ) :
    Ideal.exp (block r b n j - (M : EReal)) = if j.val < n then ((Real.exp (r (b + j.val) - M) : ℝ) : EReal) else 0 := by
  unfold block
  split
  · rw [← EReal.coe_sub]; rfl
  · rw [EReal.bot_sub]; rfl

/-- A sum over a block of which the first `n` terms count. -/
theorem sum_block {N n : ℕ} (hn : n ≤ N) (f : ℕ → EReal) :
    (∑ j : Fin N, if j.val < n then f j.val else 0) = ∑ j ∈ Finset.range n, f j := by
  rw [Fin.sum_univ_eq_sum_range (fun j => if j < n then f j else 0) N, ← Finset.sum_filter]
  refine Finset.sum_congr ?_ fun _ _ => rfl
  ext j; simp only [Finset.mem_filter, Finset.mem_range]; omega

/-- The least upper bound of a block. -/
theorem sup_block (r : ℕ → ℝ) (b : ℕ) {N n : ℕ} (hn : n ≤ N) (h0 : 0 < n) :
    ∃ B : ℝ, IsTop (fun j => r (b + j)) n B ∧ (Finset.univ : Finset (Fin N)).sup (block r b n) = (B : EReal) := by
  obtain ⟨B, hB⟩ := exists_isTop (fun j => r (b + j)) n h0
  refine ⟨B, hB, le_antisymm (Finset.sup_le fun j _ => ?_) ?_⟩
  · unfold block; split
    · rename_i h; exact_mod_cast hB.1 j.val h
    · exact bot_le
  · obtain ⟨k, hk, e⟩ := hB.2
    have := Finset.le_sup (f := block r b n) (Finset.mem_univ (⟨k, by omega⟩ : Fin N))
    refine le_trans (le_of_eq ?_) this
    simp only [block, hk, if_true]; exact_mod_cast e.symm

/-- The maximum after a block. -/
theorem top_step {r : ℕ → ℝ} {b n : ℕ} {m : EReal} (hm : (b = 0 ∧ m = ⊥) ∨ ∃ M : ℝ, IsTop r b M ∧ m = (M : EReal))
    {B : ℝ} (hB : IsTop (fun j => r (b + j)) n B) : ∃ M' : ℝ, IsTop r (b + n) M' ∧ max m (B : EReal) = (M' : EReal) := by
  obtain ⟨kB, hkB, eB⟩ := hB.2
  rcases hm with ⟨rfl, rfl⟩ | ⟨M, hM, rfl⟩
  · refine ⟨B, ⟨fun k hk => ?_, kB, by omega, ?_⟩, max_eq_right bot_le⟩
    · have := hB.1 k (by omega); simpa using this
    · simpa using eB
  · refine ⟨max M B, ⟨fun k hk => ?_, ?_⟩, (EReal.coe_strictMono.monotone.map_max).symm⟩
    · by_cases h : k < b
      · exact le_trans (hM.1 k h) (le_max_left _ _)
      · have : r (b + (k - b)) ≤ B := hB.1 (k - b) (by omega)
        rw [show b + (k - b) = k by omega] at this
        exact le_trans this (le_max_right _ _)
    · rcases le_total M B with h | h
      · exact ⟨b + kB, by omega, by rw [max_eq_right h]; exact eB⟩
      · obtain ⟨k, hk, e⟩ := hM.2
        exact ⟨k, by omega, by rw [max_eq_left h]; exact e⟩

/-- A sum over the keys below `b + n` in two parts. -/
theorem wsum_split (r : ℕ → ℝ) (b n : ℕ) (M : ℝ) :
    wsum r (b + n) M = wsum r b M + ∑ j ∈ Finset.range n, Real.exp (r (b + j) - M) := by
  unfold wsum; rw [Finset.sum_range_add]

/-- A weighted sum over the keys below `b + n` in two parts. -/
theorem vsum_split (r : ℕ → ℝ) (v : ℕ → EReal) (b n : ℕ) (M : ℝ) :
    vsum r v (b + n) M = vsum r v b M + ∑ j ∈ Finset.range n, ((Real.exp (r (b + j) - M) : ℝ) : EReal) * v (b + j) := by
  unfold vsum; rw [Finset.sum_range_add]

/-- ONE BLOCK: the new maximum and the rescaled sum carry the row's state over `n` more keys. -/
theorem carry_step {r : ℕ → ℝ} {b n N : ℕ} (hn : n ≤ N) (h0 : 0 < n) {m l : EReal} (h : Carry r b m l)
    {m' : EReal} (hm' : m' = max m ((Finset.univ : Finset (Fin N)).sup (block r b n))) :
    Carry r (b + n) m' (Ideal.exp (m - m') * l + ∑ j : Fin N, Ideal.exp (block r b n j - m')) := by
  obtain ⟨B, hB, eB⟩ := sup_block (N := N) r b hn h0
  have hm : (b = 0 ∧ m = ⊥) ∨ ∃ M : ℝ, IsTop r b M ∧ m = (M : EReal) :=
    h.imp (fun h => ⟨h.1, h.2.1⟩) fun ⟨M, h1, h2, _⟩ => ⟨M, h1, h2⟩
  obtain ⟨M', hM', e'⟩ := top_step hm hB
  rw [eB, e'] at hm'
  subst hm'
  refine Or.inr ⟨M', hM', rfl, ?_⟩
  simp only [exp_block]
  rw [sum_block hn (fun j => ((Real.exp (r (b + j) - M') : ℝ) : EReal)), wsum_split, EReal.coe_add, coe_sum]
  congr 1
  rcases h with ⟨rfl, rfl, rfl⟩ | ⟨M, hM, rfl, rfl⟩
  · simp [wsum]
  · rw [← EReal.coe_sub]
    show ((Real.exp (M - M') : ℝ) : EReal) * _ = _
    rw [← EReal.coe_mul, wsum_rescale]

/-- ONE BLOCK, for a lane of the weighted sum. -/
theorem carryV_step {r : ℕ → ℝ} {v : ℕ → EReal} {b n N : ℕ} (hn : n ≤ N) (h0 : 0 < n) {m a : EReal} (h : CarryV r v b m a)
    {m' : EReal} (hm' : m' = max m ((Finset.univ : Finset (Fin N)).sup (block r b n))) :
    CarryV r v (b + n) m' (Ideal.exp (m - m') * a + ∑ j : Fin N, Ideal.exp (block r b n j - m') * v (b + j.val)) := by
  obtain ⟨B, hB, eB⟩ := sup_block (N := N) r b hn h0
  have hm : (b = 0 ∧ m = ⊥) ∨ ∃ M : ℝ, IsTop r b M ∧ m = (M : EReal) :=
    h.imp (fun h => ⟨h.1, h.2.1⟩) fun ⟨M, h1, h2, _⟩ => ⟨M, h1, h2⟩
  obtain ⟨M', hM', e'⟩ := top_step hm hB
  rw [eB, e'] at hm'
  subst hm'
  refine Or.inr ⟨M', hM', rfl, ?_⟩
  simp only [exp_block, ite_mul, zero_mul]
  rw [sum_block hn (fun j => ((Real.exp (r (b + j) - M') : ℝ) : EReal) * v (b + j)), vsum_split]
  congr 1
  rcases h with ⟨rfl, rfl, rfl⟩ | ⟨M, hM, rfl, rfl⟩
  · simp [vsum]
  · rw [← EReal.coe_sub]
    exact vsum_rescale r v b M M'

/-- THE WHOLE ROW, normalised first: the quotient of the carried sums is the sum of the normalised weights' products. -/
theorem row_eq {r : ℕ → ℝ} {v : ℕ → EReal} {b N : ℕ} (hb : 0 < b) (hN : b ≤ N) {m l a : EReal}
    (h : Carry r b m l) (hv : CarryV r v b m a) :
    m = (Finset.univ : Finset (Fin N)).sup (block r 0 b)
      ∧ l = ∑ j : Fin N, Ideal.exp (block r 0 b j - m)
      ∧ Ideal.div a l = ∑ j : Fin N, Ideal.div (Ideal.exp (block r 0 b j - m)) l * v j.val := by
  rcases h with ⟨rfl, -⟩ | ⟨M, hM, rfl, rfl⟩
  · omega
  rcases hv with ⟨rfl, -⟩ | ⟨M₂, hM₂, e₂, rfl⟩
  · omega
  obtain rfl : M = M₂ := hM.unique hM₂
  have hpos := wsum_pos hM
  refine ⟨?_, ?_, ?_⟩
  · obtain ⟨B, hB, eB⟩ := sup_block (N := N) r 0 hN hb
    rw [eB]
    simp only [zero_add] at hB
    rw [hM.unique hB]
  · simp only [exp_block, zero_add]
    rw [sum_block hN (fun j => ((Real.exp (r j - M) : ℝ) : EReal)), wsum, coe_sum]
  · have hd : ∀ x : EReal, Ideal.div x ((wsum r b M : ℝ) : EReal) = (((wsum r b M)⁻¹ : ℝ) : EReal) * x := by
      intro x
      have h0 : ((wsum r b M : ℝ) : EReal) ≠ 0 := by exact_mod_cast hpos.ne'
      unfold Ideal.div
      rw [if_neg h0, mul_comm, EReal.coe_inv]
    simp only [hd, exp_block, zero_add, mul_ite, mul_zero, ite_mul, zero_mul]
    rw [sum_block hN (fun j => (((wsum r b M)⁻¹ : ℝ) : EReal) * ((Real.exp (r j - M) : ℝ) : EReal) * v j), vsum,
      coe_mul_sum _ _ (inv_pos.2 hpos).le]
    exact Finset.sum_congr rfl fun k _ => (mul_assoc _ _ _).symm

end Cert.Own.Online

end
-- ==== Proof.AttnStep.lean ====
module

public import proofs.«01_k».proof.Proof.Online
public import proofs.«01_k».proof.Proof.Gen.AttnFwdIdeal.Skeleton
public import Idealize.ShloMosaic.Lib.Pointwise
public import Idealize.ShloMosaic.Lib.WordCmp

@[expose] public section

/-! What one block of keys does to a row of the attention kernel: the named values of the program, read at a row, are the
    block steps of `Online`. -/

noncomputable section

namespace Cert.Own.AttnFwd

open Idealize.ShloMosaic Cert.AttnFwdIdeal Cert.AttnFwdIdeal.Gen Cert.Own.Online

/-- The literal 1/√96 as printed, as an extended real. -/
abbrev scale : EReal := Ideal.ofBits .f32 0x3DD105EC#32

/-- The literal −∞. -/
theorem ofBits_neg_inf : Ideal.ofBits .f32 0xFF800000#32 = ⊥ := by simp [Ideal.ofBits, Ideal.ieee]

/-- The literal +∞. -/
theorem ofBits_pos_inf : Ideal.ofBits .f32 0x7F800000#32 = ⊤ := by simp [Ideal.ofBits, Ideal.ieee]

/-- The scale is a real. -/
theorem scale_real : ∃ c : ℝ, scale = (c : EReal) := by
  unfold scale Ideal.ofBits Ideal.ieee
  exact ⟨_, rfl⟩

/-- One score: a query row against a key row, scaled. -/
abbrev score (q k : Vec Ideal S256x128 .bf16) (r x : Fin 256) : EReal := (∑ y : Fin 128, q (ix2 r y) * k (ix2 x y)) * scale

variable {q k v : Vec Ideal S256x128 .bf16} {m l : FVec Ideal S256x1 .f32} {a : FVec Ideal S256x128 .f32}
  {r : Fin 256} {d : Fin 128} {ρ : ℕ → ℝ} {w : ℕ → EReal} {b : ℕ}

/-- A full block: the carried maximum and sum. -/
theorem full_carry (hs : ∀ x : Fin 256, score q k r x = block ρ b 256 x) (h : Carry ρ b (m (ix2 r 0)) (l (ix2 r 0))) :
    Carry ρ (b + 256) (k0_pay5 q m k (ix2 r 0)) (k0_pay8 q m l k (ix2 r 0)) := by
  have e : k0_pay5 q m k (ix2 r 0) = max (m (ix2 r 0)) ((Finset.univ : Finset (Fin 256)).sup (block ρ b 256)) := by
    rw [← funext hs, ← fold_max_eq_sup, ← ofBits_neg_inf]
    pointwise [k0_pay5, k0_pay4]
  have e2 : k0_pay8 q m l k (ix2 r 0) = Ideal.exp (m (ix2 r 0) - k0_pay5 q m k (ix2 r 0)) * l (ix2 r 0)
      + ∑ x : Fin 256, Ideal.exp (block ρ b 256 x - k0_pay5 q m k (ix2 r 0)) := by
    simp only [← hs]
    pointwise [k0_pay8, k0_pay7, k0_pay6, k0_pay4]
  rw [e2]
  exact carry_step le_rfl (by norm_num) h e

/-- A full block: a lane of the weighted sum. -/
theorem full_carryV (hs : ∀ x : Fin 256, score q k r x = block ρ b 256 x) (hv : ∀ x : Fin 256, v (ix2 x d) = w (b + x.val))
    (h : CarryV ρ w b (m (ix2 r 0)) (a (ix2 r d))) :
    CarryV ρ w (b + 256) (k0_pay5 q m k (ix2 r 0)) (k0_pay9 q m a v k (ix2 r d)) := by
  have e : k0_pay5 q m k (ix2 r 0) = max (m (ix2 r 0)) ((Finset.univ : Finset (Fin 256)).sup (block ρ b 256)) := by
    rw [← funext hs, ← fold_max_eq_sup, ← ofBits_neg_inf]
    pointwise [k0_pay5, k0_pay4]
  have e2 : k0_pay9 q m a v k (ix2 r d) = Ideal.exp (m (ix2 r 0) - k0_pay5 q m k (ix2 r 0)) * a (ix2 r d)
      + ∑ x : Fin 256, Ideal.exp (block ρ b 256 x - k0_pay5 q m k (ix2 r 0)) * w (b + x.val) := by
    simp only [← hs, ← hv]
    pointwise [k0_pay9, k0_pay7, k0_pay6, k0_pay4]
  rw [e2]
  exact carryV_step le_rfl (by norm_num) h e

/-- The diagonal block's scores: those of the keys after the query are −∞. -/
theorem diag_score (hs : ∀ x : Fin 256, score q k r x = ((ρ (b + x.val) : ℝ) : EReal)) (x : Fin 256) :
    k0_pay38 q k (ix2 r x) = block ρ b (r.val + 1) x := by
  have e : k0_pay38 q k (ix2 r x) = Scalar.select (IntOp.cmpi .sle (BitVec.ofNat 32 x.val) (BitVec.ofNat 32 r.val))
      (score q k r x) (Ideal.ofBits .f32 0xFF800000#32) := by
    pointwise [k0_pay38]
  rw [e, WordCmp.cmpi_sle_ofNat (by have := x.isLt; omega) (by have := r.isLt; omega), ofBits_neg_inf, hs]
  unfold block
  by_cases h : x.val ≤ r.val
  · rw [decide_eq_true h, if_pos (by omega)]; rfl
  · rw [decide_eq_false h, if_neg (by omega)]; rfl

/-- The diagonal block: the carried maximum and sum. -/
theorem diag_carry (hs : ∀ x : Fin 256, score q k r x = ((ρ (b + x.val) : ℝ) : EReal)) (h : Carry ρ b (m (ix2 r 0)) (l (ix2 r 0))) :
    Carry ρ (b + (r.val + 1)) (k0_pay39 q m k (ix2 r 0)) (k0_pay42 l (k0_pay40 q m k) (k0_pay41 q m k) (ix2 r 0)) := by
  have hd := diag_score hs
  have e : k0_pay39 q m k (ix2 r 0) = max (m (ix2 r 0)) ((Finset.univ : Finset (Fin 256)).sup (block ρ b (r.val + 1))) := by
    rw [← funext hd, ← fold_max_eq_sup, ← ofBits_neg_inf]
    pointwise [k0_pay39]
  have e2 : k0_pay42 l (k0_pay40 q m k) (k0_pay41 q m k) (ix2 r 0) = Ideal.exp (m (ix2 r 0) - k0_pay39 q m k (ix2 r 0)) * l (ix2 r 0)
      + ∑ x : Fin 256, Ideal.exp (block ρ b (r.val + 1) x - k0_pay39 q m k (ix2 r 0)) := by
    simp only [← hd]
    pointwise [k0_pay42, k0_pay41, k0_pay40]
  rw [e2]
  exact carry_step (by have := r.isLt; omega) (by omega) h e

/-- A lane of the weighted sum after the diagonal block, as the program computes it. -/
abbrev diagV (q : Vec Ideal S256x128 .bf16) (m : FVec Ideal S256x1 .f32) (a : FVec Ideal S256x128 .f32) (v k : Vec Ideal S256x128 .bf16)
    (r : Fin 256) (d : Fin 128) : EReal :=
  k0_pay40 q m k (ix2 r 0) * a (ix2 r d) + ∑ x : Fin 256, k0_pay41 q m k (ix2 r x) * v (ix2 x d)

/-- The diagonal block: a lane of the weighted sum. -/
theorem diag_carryV (hs : ∀ x : Fin 256, score q k r x = ((ρ (b + x.val) : ℝ) : EReal)) (hv : ∀ x : Fin 256, v (ix2 x d) = w (b + x.val))
    (h : CarryV ρ w b (m (ix2 r 0)) (a (ix2 r d))) :
    CarryV ρ w (b + (r.val + 1)) (k0_pay39 q m k (ix2 r 0)) (diagV q m a v k r d) := by
  have hd := diag_score hs
  have e : k0_pay39 q m k (ix2 r 0) = max (m (ix2 r 0)) ((Finset.univ : Finset (Fin 256)).sup (block ρ b (r.val + 1))) := by
    rw [← funext hd, ← fold_max_eq_sup, ← ofBits_neg_inf]
    pointwise [k0_pay39]
  have e2 : diagV q m a v k r d = Ideal.exp (m (ix2 r 0) - k0_pay39 q m k (ix2 r 0)) * a (ix2 r d)
      + ∑ x : Fin 256, Ideal.exp (block ρ b (r.val + 1) x - k0_pay39 q m k (ix2 r 0)) * w (b + x.val) := by
    simp only [← hd, ← hv]
    unfold diagV
    pointwise [k0_pay41, k0_pay40]
  rw [e2]
  exact carryV_step (by have := r.isLt; omega) (by omega) h e

/-- The second head's values are the first head's, of its own operands. -/
theorem head_max : k0_pay11 (F := Ideal) q m k = k0_pay5 q m k := rfl
theorem head_sum : k0_pay14 (F := Ideal) q m l k = k0_pay8 q m l k := rfl
theorem head_acc : k0_pay36 (F := Ideal) v (k0_pay15 q m a k) (k0_pay16 q m k) = k0_pay9 q m a v k := rfl
theorem head_diag_max : k0_pay44 (F := Ideal) q m k = k0_pay39 q m k := rfl
theorem head_diag_sum : k0_pay47 (F := Ideal) q m l k = k0_pay42 l (k0_pay40 q m k) (k0_pay41 q m k) := rfl

/-- The block of results: a head's lane divided by the head's sum, the first head in lanes below 64. -/
theorem out_apply (q₀ q₁ k₀ k₁ v : Vec Ideal S256x128 .bf16) (m₀ l₀ m₁ l₁ : FVec Ideal S256x1 .f32) (a₀ a₁ : FVec Ideal S256x128 .f32)
    (r : Fin 256) (d : Fin 128) :
    k0_pay49 q₁ l₀ a₀ m₁ l₁ a₁ v (k0_pay40 q₀ m₀ k₀) (k0_pay41 q₀ m₀ k₀) k₁ (ix2 r d)
      = if d.val < 64 then Ideal.div (diagV q₀ m₀ a₀ v k₀ r d) (k0_pay42 l₀ (k0_pay40 q₀ m₀ k₀) (k0_pay41 q₀ m₀ k₀) (ix2 r 0))
        else Ideal.div (diagV q₁ m₁ a₁ v k₁ r d) (k0_pay42 l₁ (k0_pay40 q₁ m₁ k₁) (k0_pay41 q₁ m₁ k₁) (ix2 r 0)) := by
  have e : k0_pay49 q₁ l₀ a₀ m₁ l₁ a₁ v (k0_pay40 q₀ m₀ k₀) (k0_pay41 q₀ m₀ k₀) k₁ (ix2 r d)
      = Scalar.select (IntOp.cmpi .slt (BitVec.ofNat 32 d.val) 64#32)
          (Ideal.div (diagV q₀ m₀ a₀ v k₀ r d) (k0_pay42 l₀ (k0_pay40 q₀ m₀ k₀) (k0_pay41 q₀ m₀ k₀) (ix2 r 0)))
          (Ideal.div (diagV q₁ m₁ a₁ v k₁ r d) (k0_pay47 q₁ m₁ l₁ k₁ (ix2 r 0))) := by
    have e1 : k0_pay45 (F := Ideal) q₁ m₁ k₁ = k0_pay40 q₁ m₁ k₁ := rfl
    have e2 : k0_pay46 (F := Ideal) q₁ m₁ k₁ = k0_pay41 q₁ m₁ k₁ := rfl
    unfold k0_pay49 k0_pay48 diagV
    rw [e1, e2]
    pointwise
  rw [e, head_diag_sum, show (64#32 : BitVec 32) = BitVec.ofNat 32 64 from rfl, WordCmp.cmpi_slt_ofNat (by have := d.isLt; omega) (by norm_num)]
  by_cases h : d.val < 64
  · rw [decide_eq_true h, if_pos h]; rfl
  · rw [decide_eq_false h, if_neg h]; rfl

/-- The first head's row of logs. -/
theorem lse0_apply (l₀ : FVec Ideal S256x1 .f32) (m₀' p₀ : FVec Ideal S256x1 .f32) (P₀ : FVec Ideal S256x256 .f32)
    (m₁' l₁' : FVec Ideal S256x1 .f32) (i j : Fin 1) (r : Fin 256) :
    k0_pay2 m₁' l₁' k0_pay48 (k0_pay50 l₀ m₀' p₀ P₀) (ix3 i j r)
      = m₀' (ix2 r 0) + Ideal.log (k0_pay42 l₀ p₀ P₀ (ix2 r 0)) := by
  have e : k0_pay2 m₁' l₁' k0_pay48 (k0_pay50 l₀ m₀' p₀ P₀) (ix3 i j r)
      = Scalar.select (IntOp.cmpi .slt (BitVec.ofNat 32 0) 64#32) (k0_pay50 l₀ m₀' p₀ P₀ (ix2 r 0)) (m₁' (ix2 r 0) + Ideal.log (l₁' (ix2 r 0))) := by
    unfold k0_pay2 k0_pay1 k0_pay48
    pointwise
  rw [e]
  show k0_pay50 l₀ m₀' p₀ P₀ (ix2 r 0) = _
  unfold k0_pay50
  pointwise

/-- The second head's row of logs. -/
theorem lse1_apply (m₁' l₁' z : FVec Ideal S256x1 .f32) (i j : Fin 1) (r : Fin 256) :
    k0_pay3 m₁' l₁' k0_pay48 z (ix3 i j r) = m₁' (ix2 r 0) + Ideal.log (l₁' (ix2 r 0)) := by
  have e : k0_pay3 m₁' l₁' k0_pay48 z (ix3 i j r)
      = Scalar.select (IntOp.cmpi .slt (BitVec.ofNat 32 64) 64#32) (z (ix2 r 0)) (m₁' (ix2 r 0) + Ideal.log (l₁' (ix2 r 0))) := by
    unfold k0_pay3 k0_pay1 k0_pay48
    pointwise
  rw [e]
  rfl

end Cert.Own.AttnFwd

end
-- ==== Proof.AttnTrip.lean ====
module

public import proofs.«01_k».proof.Proof.AttnStep
public import proofs.«01_k».proof.Proof.Gen.AttnFwdIdeal.Value
public import Idealize.ShloMosaic.Lib.LoopRemainder

@[expose] public section

/-! The loop over the blocks of keys before the query's own: after `n` trips each row of each of the two heads carries the
    maximum, the sum and the weighted sums of its first `256·n` keys. -/

noncomputable section

namespace Cert.Own.AttnFwd

open Idealize.ShloMosaic Idealize.ShloMosaic.TcCoe Idealize.SL.Sem Cert.AttnFwdIdeal Cert.AttnFwdIdeal.Gen Cert.Own.Online

/-- Lane `y` of head `a` of a pair of heads. -/
abbrev lane (a : Fin 2) (y : Fin 128) : Fin 256 := ⟨128 * a.val + y.val, by omega⟩

/-- The score of query row `r` of head `a` against key `n` of a pair of heads. -/
abbrev rowScore (x0 : Vec Ideal S256x256 .bf16) (x1 : Vec Ideal S8192x256 .bf16) (a : Fin 2) (r : Fin 256) (n : Fin 8192) : EReal :=
  (∑ y : Fin 128, x0 (ix2 r (lane a y)) * x1 (ix2 n (lane a y))) * scale

/-- The values of the keys at one lane, by key number. -/
abbrev valAt (x2 : Vec Ideal S8192x128 .bf16) (d : Fin 128) (n : ℕ) : EReal := if h : n < 8192 then x2 (ix2 ⟨n, h⟩ d) else 0

/-- A load of a tile at given offsets, at an index. -/
theorem ld_tile {R C s0 s1 : ℕ} {e : EltTy} (X : Vec Ideal ⟨2, ![R, C]⟩ e) (off : Fin 2 → ℕ) (inb) (b o : ℕ) (h : off = ![b, o])
    (r : Fin s0) (y : Fin s1) (hb : b + r.val < R) (ho : o + y.val < C) :
    View.ld X (Rect.unit (s := ⟨2, ![R, C]⟩) off ![s0, s1] inb) (ix2 r y) = X (ix2 ⟨b + r.val, hb⟩ ⟨o + y.val, ho⟩) := by
  subst h
  rw [View.ld_unit]
  exact congrArg X (funext fun a => by fin_cases a <;> rfl)

/-- What a trip of the loop leaves of its carried values. -/
theorem trip_eq (c : Dev nD) (i : grid0.Coords) (arg2 : Memref sig .tc .vmem S256x256 .bf16) (harg2 : arg2.IsWhole)
    (arg3 : Memref sig .tc .vmem S8192x256 .bf16) (harg3 : arg3.IsWhole) (arg4 : Memref sig .tc .vmem S8192x128 .bf16) (harg4 : arg4.IsWhole)
    (arg5 : Memref sig .tc .vmem S256x128 .f32) (harg5 : arg5.IsWhole) (arg6 : Memref sig .tc .vmem S1x2x256 .f32) (harg6 : arg6.IsWhole)
    (v0 v1 : Vec Ideal S256x128 .bf16) (x1 : Vec Ideal S8192x256 .bf16) (x2 : Vec Ideal S8192x128 .bf16) (k : Fin (k0_t1_loop i).trips)
    (acc : FVec Ideal S256x1 .f32 × FVec Ideal S256x1 .f32 × FVec Ideal S256x128 .f32 × FVec Ideal S256x1 .f32 × FVec Ideal S256x1 .f32 × FVec Ideal S256x128 .f32)
    (K0 K1 V : Vec Ideal S256x128 .bf16)
    (h0 : K0 = View.ld x1 (Rect.unit (k0_off2 i k) S256x128.size (k0_off2_inb i k)))
    (h1 : K1 = View.ld x1 (Rect.unit (k0_off3 i k) S256x128.size (k0_off3_inb i k)))
    (hv : V = View.ld x2 (Rect.unit (k0_off1 i k) S256x128.size (k0_off1_inb i k))) :
    tripR_k0_t1 Variants.none c none i arg2 harg2 arg3 harg3 arg4 harg4 arg5 harg5 arg6 harg6 v0 v1 (harg3.unread x1) (harg4.unread x2) k acc
      = (k0_pay5 v0 acc.1 K0, k0_pay8 v0 acc.1 acc.2.1 K0, k0_pay9 v0 acc.1 acc.2.2.1 V K0,
         k0_pay5 v1 acc.2.2.2.1 K1, k0_pay8 v1 acc.2.2.2.1 acc.2.2.2.2.1 K1, k0_pay9 v1 acc.2.2.2.1 acc.2.2.2.2.2 V K1) := by
  subst h0 h1 hv
  unfold tripR_k0_t1 trip_k0_t1
  dsimp only
  sl_unfold_words
  simp only [View.readAt_eq_ld, Memref.IsWhole.read_unread]
  rfl

/-- The first key of trip `k`'s block. -/
theorem off_word (i : grid0.Coords) (k : Fin (k0_t1_loop i).trips) :
    BitVec.toNat (Scalar.indexCast (Scalar.muli (Scf.iv 0#32 1#32 k.val) 256#32)) = 256 * k.val := by
  have h_c0 : Affine.IsInt 0#32 (0) := Affine.ofNat _ (by omega)
  have h_c1 : Affine.IsInt 1#32 (1) := Affine.ofNat _ (by omega)
  have hk : k.val < 31 := Nat.lt_of_lt_of_le k.isLt (k0_t1_abs i).2.1
  have h7 : Affine.IsInt _ ((k.val : Int)) := Affine.iv h_c0 h_c1 k.val (by omega)
  have h256 : Affine.IsInt 256#32 (256) := Affine.ofNat _ (by omega)
  exact Affine.nat_eq (Affine.indexCast (Affine.muli h7 h256 (e := 256 * (k.val : Int)) (by omega))) _ (by omega)

theorem off1_eq (i : grid0.Coords) (k : Fin (k0_t1_loop i).trips) : k0_off1 i k = ![256 * k.val, 0] := by
  rw [← off_word i k]; rfl
theorem off2_eq (i : grid0.Coords) (k : Fin (k0_t1_loop i).trips) : k0_off2 i k = ![256 * k.val, 0] := by
  rw [← off_word i k]; rfl
theorem off3_eq (i : grid0.Coords) (k : Fin (k0_t1_loop i).trips) : k0_off3 i k = ![256 * k.val, 128] := by
  rw [← off_word i k]; rfl

/-- The loop makes a trip for each block of keys before the query's own. -/
theorem trips_eq (i : grid0.Coords) : (k0_t1_loop i).trips = (i 1).val := by
  have h0 : Affine.IsInt 0#32 (0) := Affine.ofNat _ (by omega)
  have r_i1 : (i 1).val < 32 := (i 1).isLt
  have h_arg1 : Affine.IsInt (BitVec.ofNat 32 (i 1).val) (((i 1).val : Int)) := Affine.ofNat _ (by omega)
  have h8 : Affine.IsInt _ (((i 1).val : Int)) := Affine.subi h_arg1 h0 (by omega)
  have h1 : Affine.IsInt 1#32 (1) := Affine.ofNat _ (by omega)
  have h10 : Affine.IsInt _ (((i 1).val : Int)) := Affine.divsi h8 h1 (by omega)
  have h11 : Affine.IsInt _ (((i 1).val : Int)) := Affine.muli h10 h1 (by omega)
  have h12 : Affine.IsInt _ (((i 1).val : Int)) := Affine.addi h0 h11 (by omega)
  exact Affine.trips_eq h0 h12 h1 _ (by omega)

/-- A head's carried values after its first `b` keys, at every row and lane. -/
def HeadInv (ρ : Fin 256 → ℕ → ℝ) (x2 : Vec Ideal S8192x128 .bf16) (b : ℕ) (m l : FVec Ideal S256x1 .f32) (acc : FVec Ideal S256x128 .f32) : Prop :=
  ∀ r : Fin 256, Carry (ρ r) b (m (ix2 r 0)) (l (ix2 r 0)) ∧ ∀ d : Fin 128, CarryV (ρ r) (valAt x2 d) b (m (ix2 r 0)) (acc (ix2 r d))

/-- Before any key. -/
theorem head_init (ρ : Fin 256 → ℕ → ℝ) (x2 : Vec Ideal S8192x128 .bf16) : HeadInv ρ x2 0 k0_pay30 k0_pay31 k0_pay32 := by
  have e0 : ∀ r : Fin 256, (k0_pay30 (F := Ideal)) (ix2 r 0) = ⊥ := fun r => by
    rw [← ofBits_neg_inf]; pointwise [k0_pay30]
  have e1 : ∀ r : Fin 256, (k0_pay31 (F := Ideal)) (ix2 r 0) = 0 := fun r => by pointwise [k0_pay31]
  have e2 : ∀ (r : Fin 256) (d : Fin 128), (k0_pay32 (F := Ideal)) (ix2 r d) = 0 := fun r d => by pointwise [k0_pay32]
  intro r
  rw [e0, e1]
  refine ⟨Or.inl ⟨rfl, rfl, rfl⟩, fun d => ?_⟩
  rw [e2]
  exact Or.inl ⟨rfl, rfl, rfl⟩

/-- One trip on one head. -/
theorem head_step (x0 : Vec Ideal S256x256 .bf16) (x1 : Vec Ideal S8192x256 .bf16) (x2 : Vec Ideal S8192x128 .bf16) (a : Fin 2)
    (ρ : Fin 256 → ℕ → ℝ) (hρ : ∀ (r : Fin 256) (n : Fin 8192), rowScore x0 x1 a r n = ((ρ r n.val : ℝ) : EReal))
    (b : ℕ) (hb : b + 256 ≤ 8192) (q K V : Vec Ideal S256x128 .bf16) (m l : FVec Ideal S256x1 .f32) (acc : FVec Ideal S256x128 .f32)
    (hq : ∀ (r : Fin 256) (y : Fin 128), q (ix2 r y) = x0 (ix2 r (lane a y)))
    (hK : ∀ (x : Fin 256) (y : Fin 128), K (ix2 x y) = x1 (ix2 ⟨b + x.val, by omega⟩ (lane a y)))
    (hV : ∀ (x : Fin 256) (d : Fin 128), V (ix2 x d) = x2 (ix2 ⟨b + x.val, by omega⟩ d))
    (h : HeadInv ρ x2 b m l acc) : HeadInv ρ x2 (b + 256) (k0_pay5 q m K) (k0_pay8 q m l K) (k0_pay9 q m acc V K) := by
  intro r
  have hs : ∀ x : Fin 256, score q K r x = block (ρ r) b 256 x := fun x => by
    have e := hρ r ⟨b + x.val, by omega⟩
    unfold block
    rw [if_pos x.isLt, ← e]
    unfold score rowScore
    simp only [hq, hK]
  refine ⟨full_carry hs (h r).1, fun d => full_carryV hs (fun x => ?_) ((h r).2 d)⟩
  rw [hV, valAt, dif_pos (show b + x.val < 8192 by omega)]

section
variable (c : Dev nD) (i : grid0.Coords) (arg2 : Memref sig .tc .vmem S256x256 .bf16) (harg2 : arg2.IsWhole)
    (arg3 : Memref sig .tc .vmem S8192x256 .bf16) (harg3 : arg3.IsWhole) (arg4 : Memref sig .tc .vmem S8192x128 .bf16) (harg4 : arg4.IsWhole)
    (arg5 : Memref sig .tc .vmem S256x128 .f32) (harg5 : arg5.IsWhole) (arg6 : Memref sig .tc .vmem S1x2x256 .f32) (harg6 : arg6.IsWhole)
    (x0 : Vec Ideal S256x256 .bf16) (x1 : Vec Ideal S8192x256 .bf16) (x2 : Vec Ideal S8192x128 .bf16)
    (ρ : Fin 2 → Fin 256 → ℕ → ℝ)

/-- The loop's carried values after `n` trips. -/
theorem loop_inv (hρ : ∀ (a : Fin 2) (r : Fin 256) (n : Fin 8192), rowScore x0 x1 a r n = ((ρ a r n.val : ℝ) : EReal))
    (q0 q1 : Vec Ideal S256x128 .bf16) (h0 : ∀ (r : Fin 256) (y : Fin 128), q0 (ix2 r y) = x0 (ix2 r (lane 0 y)))
    (h1 : ∀ (r : Fin 256) (y : Fin 128), q1 (ix2 r y) = x0 (ix2 r (lane 1 y))) :
    ∀ n : ℕ, n ≤ (k0_t1_loop i).trips → ∀ S, S = st_k0_t1 Variants.none c none i arg2 harg2 arg3 harg3 arg4 harg4 arg5 harg5 arg6 harg6 q0 q1
      (harg3.unread x1) (harg4.unread x2) (k0_pay30, k0_pay31, k0_pay32, k0_pay33, k0_pay34, k0_pay35) n →
      HeadInv (ρ 0) x2 (256 * n) S.1 S.2.1 S.2.2.1 ∧ HeadInv (ρ 1) x2 (256 * n) S.2.2.2.1 S.2.2.2.2.1 S.2.2.2.2.2 := by
  intro n
  induction n with
  | zero =>
    intro _ S hS
    rw [st_k0_t1_zero] at hS
    subst hS
    exact ⟨head_init _ _, head_init _ _⟩
  | succ n ih =>
    intro hn S hS
    have hlt : n < (k0_t1_loop i).trips := by omega
    have h31 := (k0_t1_abs i).2.1
    obtain ⟨ih0, ih1⟩ := ih (by omega) _ rfl
    have hk : (⟨n, hlt⟩ : Fin (k0_t1_loop i).trips).val = n := rfl
    rw [show n + 1 = (⟨n, hlt⟩ : Fin (k0_t1_loop i).trips).val + 1 from rfl, st_k0_t1_succ,
      trip_eq c i arg2 harg2 arg3 harg3 arg4 harg4 arg5 harg5 arg6 harg6 q0 q1 x1 x2 ⟨n, hlt⟩ _ _ _ _ rfl rfl rfl] at hS
    subst hS
    rw [show 256 * (n + 1) = 256 * n + 256 by ring]
    have hV : ∀ (x : Fin 256) (d : Fin 128), View.ld x2 (Rect.unit (k0_off1 i ⟨n, hlt⟩) S256x128.size (k0_off1_inb i ⟨n, hlt⟩)) (ix2 x d)
        = x2 (ix2 ⟨256 * n + x.val, by omega⟩ d) := fun x d => by
      rw [ld_tile x2 _ _ (256 * n) 0 (off1_eq i ⟨n, hlt⟩) x d (by omega) (by omega)]
      exact congrArg (fun z => x2 (ix2 _ z)) (Fin.ext (Nat.zero_add _))
    refine ⟨head_step x0 x1 x2 0 (ρ 0) (hρ 0) (256 * n) (by omega) _ _ _ _ _ _ h0 (fun x y => ?_) hV ih0,
      head_step x0 x1 x2 1 (ρ 1) (hρ 1) (256 * n) (by omega) _ _ _ _ _ _ h1 (fun x y => ?_) hV ih1⟩
    · rw [ld_tile x1 _ _ (256 * n) 0 (off2_eq i ⟨n, hlt⟩) x y (by omega) (by omega)]
      rfl
    · rw [ld_tile x1 _ _ (256 * n) 128 (off3_eq i ⟨n, hlt⟩) x y (by omega) (by omega)]
      rfl

/-- After the loop: the carried values of the keys before the query's own block; the remainder loop makes no trip. -/
theorem loops_done (hρ : ∀ (a : Fin 2) (r : Fin 256) (n : Fin 8192), rowScore x0 x1 a r n = ((ρ a r n.val : ℝ) : EReal))
    (q0 q1 : Vec Ideal S256x128 .bf16) (h0 : ∀ (r : Fin 256) (y : Fin 128), q0 (ix2 r y) = x0 (ix2 r (lane 0 y)))
    (h1 : ∀ (r : Fin 256) (y : Fin 128), q1 (ix2 r y) = x0 (ix2 r (lane 1 y))) :
    ∀ S, S = st_k0_t1 Variants.none c none i arg2 harg2 arg3 harg3 arg4 harg4 arg5 harg5 arg6 harg6 q0 q1
      (harg3.unread x1) (harg4.unread x2) (k0_pay30, k0_pay31, k0_pay32, k0_pay33, k0_pay34, k0_pay35) (k0_t1_loop i).trips →
      HeadInv (ρ 0) x2 (256 * (i 1).val) S.1 S.2.1 S.2.2.1 ∧ HeadInv (ρ 1) x2 (256 * (i 1).val) S.2.2.2.1 S.2.2.2.2.1 S.2.2.2.2.2 := by
  have h := loop_inv c i arg2 harg2 arg3 harg3 arg4 harg4 arg5 harg5 arg6 harg6 x0 x1 x2 ρ hρ q0 q1 h0 h1 _ le_rfl
  rw [trips_eq i] at h ⊢
  exact h

end

/-- The remainder loop makes no trip. -/
theorem rem_trips_eq (i : grid0.Coords) : Scf.trips (k0_t2_loop i).lb (k0_t2_loop i).ub (k0_t2_loop i).st = 0 :=
  Nat.le_zero.1 (k0_t2_abs i).2.1

end Cert.Own.AttnFwd

end
-- ==== Proof.AttnBlock.lean ====
module

public import proofs.«01_k».proof.Proof.AttnTrip
public import Idealize.ShloMosaic.Lib.Pipeline.RowLoads

@[expose] public section

/-! A block of results of the attention kernel: each row's weighted mean of the values and the log of its sum, both of the keys up
    to the query's own. -/

noncomputable section

namespace Cert.Own.AttnFwd

open Idealize.ShloMosaic Idealize.ShloMosaic.TcCoe Idealize.SL.Sem Cert.AttnFwdIdeal Cert.AttnFwdIdeal.Gen Cert.Own.Online

/-- The largest of the first `b` scores of a row of 8192. -/
abbrev top (ρ : ℕ → ℝ) (b : ℕ) : EReal := (Finset.univ : Finset (Fin 8192)).sup (block ρ 0 b)

/-- The sum of the exponentials of the first `b` scores, each less the largest. -/
abbrev tot (ρ : ℕ → ℝ) (b : ℕ) : EReal := ∑ j : Fin 8192, Ideal.exp (block ρ 0 b j - top ρ b)

/-- The softmax of the first `b` scores, applied to the values `w`. -/
abbrev mean (ρ : ℕ → ℝ) (b : ℕ) (w : ℕ → EReal) : EReal := ∑ j : Fin 8192, Ideal.div (Ideal.exp (block ρ 0 b j - top ρ b)) (tot ρ b) * w j.val

/-- The query block's own block of keys starts at its first row. -/
theorem diag_word (i : grid0.Coords) : BitVec.toNat (Scalar.indexCast (Scalar.muli (BitVec.ofNat 32 (i 1).val) 256#32)) = 256 * (i 1).val := by
  have r_i1 : (i 1).val < 32 := (i 1).isLt
  have h_arg1 : Affine.IsInt (BitVec.ofNat 32 (i 1).val) (((i 1).val : Int)) := Affine.ofNat _ (by omega)
  have h256 : Affine.IsInt 256#32 (256) := Affine.ofNat _ (by omega)
  exact Affine.nat_eq (Affine.indexCast (Affine.muli h_arg1 h256 (e := 256 * ((i 1).val : Int)) (by omega))) _ (by omega)

theorem off7_eq (i : grid0.Coords) : k0_off7 i = ![256 * (i 1).val, 0] := by rw [← diag_word i]; rfl
theorem off8_eq (i : grid0.Coords) : k0_off8 i = ![256 * (i 1).val, 0] := by rw [← diag_word i]; rfl
theorem off9_eq (i : grid0.Coords) : k0_off9 i = ![256 * (i 1).val, 128] := by rw [← diag_word i]; rfl

/-- A row of two written as two pieces, the second last: at row 1 the second's, at row 0 the first's. -/
theorem canon_rows (w0 w1 : (⟨3, ![1, 1, 256]⟩ : Shape).Idx → EReal) (inb0) (inb1) (j : Fin 1) (a : Fin 2) (r : Fin 256) :
    View.canon (Val := Elt Ideal) (s := ⟨3, ![1, 2, 256]⟩) (e := .f32)
      [⟨Rect.unit (s := ⟨3, ![1, 2, 256]⟩) ![0, 1, 0] ![1, 1, 256] inb1, w1⟩, ⟨Rect.unit (s := ⟨3, ![1, 2, 256]⟩) ![0, 0, 0] ![1, 1, 256] inb0, w0⟩] (ix3 j a r)
      = if a = 0 then w0 (ix3 0 0 r) else w1 (ix3 0 0 r) := by
  obtain rfl : j = 0 := Subsingleton.elim _ _
  have e0 : (Rect.unit (s := ⟨3, ![1, 2, 256]⟩) ![0, 0, 0] ![1, 1, 256] inb0).emb (ix3 (0 : Fin 1) (0 : Fin 1) r) = ix3 (0 : Fin 1) (0 : Fin 2) r := by
    funext x; fin_cases x <;> exact Fin.ext (by simp [Rect.emb, Rect.unit, ix3])
  have e1 : (Rect.unit (s := ⟨3, ![1, 2, 256]⟩) ![0, 1, 0] ![1, 1, 256] inb1).emb (ix3 (0 : Fin 1) (0 : Fin 1) r) = ix3 (0 : Fin 1) (1 : Fin 2) r := by
    funext x; fin_cases x <;> exact Fin.ext (by simp [Rect.emb, Rect.unit, ix3])
  have ha : a = 0 ∨ a = 1 := by omega
  rcases ha with rfl | rfl
  · rw [if_pos rfl]
    refine (View.canon_cons_of_not_mem _ _ ?_).trans ?_
    · intro hm
      have h := ((Rect.mem_set_unit (inb := inb1)).1 hm) 1
      exact absurd (show 1 ≤ 0 from h.1) (by decide)
    · rw [← e0]
      exact View.canon_cons_emb (Val := Elt Ideal) (e := .f32) (Rect.unit (s := ⟨3, ![1, 2, 256]⟩) ![0, 0, 0] ![1, 1, 256] inb0) w0 [] _
  · rw [if_neg (by decide)]
    rw [← e1]
    exact View.canon_cons_emb (Val := Elt Ideal) (e := .f32) (Rect.unit (s := ⟨3, ![1, 2, 256]⟩) ![0, 1, 0] ![1, 1, 256] inb1) w1 _ _

/-- The diagonal block on one head: the row's sum, its log and a lane of its quotient. -/
theorem head_diag (x0 : Vec Ideal S256x256 .bf16) (x1 : Vec Ideal S8192x256 .bf16) (x2 : Vec Ideal S8192x128 .bf16) (a : Fin 2)
    (ρ : Fin 256 → ℕ → ℝ) (hρ : ∀ (r : Fin 256) (n : Fin 8192), rowScore x0 x1 a r n = ((ρ r n.val : ℝ) : EReal))
    (b : ℕ) (hb : b + 256 ≤ 8192) (q K V : Vec Ideal S256x128 .bf16) (m l : FVec Ideal S256x1 .f32) (acc : FVec Ideal S256x128 .f32)
    (hq : ∀ (r : Fin 256) (y : Fin 128), q (ix2 r y) = x0 (ix2 r (lane a y)))
    (hK : ∀ (x : Fin 256) (y : Fin 128), K (ix2 x y) = x1 (ix2 ⟨b + x.val, by omega⟩ (lane a y)))
    (hV : ∀ (x : Fin 256) (d : Fin 128), V (ix2 x d) = x2 (ix2 ⟨b + x.val, by omega⟩ d))
    (h : HeadInv ρ x2 b m l acc) (r : Fin 256) (d : Fin 128) :
    Ideal.div (diagV q m acc V K r d) (k0_pay42 l (k0_pay40 q m K) (k0_pay41 q m K) (ix2 r 0)) = mean (ρ r) (b + (r.val + 1)) (valAt x2 d)
      ∧ k0_pay39 q m K (ix2 r 0) + Ideal.log (k0_pay42 l (k0_pay40 q m K) (k0_pay41 q m K) (ix2 r 0))
        = top (ρ r) (b + (r.val + 1)) + Ideal.log (tot (ρ r) (b + (r.val + 1))) := by
  have hs : ∀ x : Fin 256, score q K r x = ((ρ r (b + x.val) : ℝ) : EReal) := fun x => by
    rw [← hρ r ⟨b + x.val, by omega⟩]
    unfold score rowScore
    simp only [hq, hK]
  have hv : ∀ x : Fin 256, V (ix2 x d) = valAt x2 d (b + x.val) := fun x => by
    rw [hV, valAt, dif_pos (show b + x.val < 8192 by omega)]
  have c1 := diag_carry hs (h r).1
  have c2 := diag_carryV hs hv ((h r).2 d)
  obtain ⟨e1, e2, e3⟩ := row_eq (N := 8192) (by omega) (by have := r.isLt; omega) c1 c2
  refine ⟨e3.trans ?_, ?_⟩
  · rw [e2, e1]
  · rw [e2, e1]

section
variable (c : Dev nD) (i : grid0.Coords) (arg2 : Memref sig .tc .vmem S256x256 .bf16) (harg2 : arg2.IsWhole)
    (arg3 : Memref sig .tc .vmem S8192x256 .bf16) (harg3 : arg3.IsWhole) (arg4 : Memref sig .tc .vmem S8192x128 .bf16) (harg4 : arg4.IsWhole)
    (arg5 : Memref sig .tc .vmem S256x128 .f32) (harg5 : arg5.IsWhole) (arg6 : Memref sig .tc .vmem S1x2x256 .f32) (harg6 : arg6.IsWhole)
    (x0 : Vec Ideal S256x256 .bf16) (x1 : Vec Ideal S8192x256 .bf16) (x2 : Vec Ideal S8192x128 .bf16)

/-- The first head's queries of a block. -/
abbrev q0Of : Vec Ideal S256x128 .bf16 := View.ld x0 (Rect.unit ![0, 0] S256x128.size inb_S256x256_S256x128_0_0)
/-- The second head's queries of a block. -/
abbrev q1Of : Vec Ideal S256x128 .bf16 := View.ld x0 (Rect.unit ![0, 128] S256x128.size inb_S256x256_S256x128_0_128)
/-- The first head's keys of the query's own block. -/
abbrev k0Of : Vec Ideal S256x128 .bf16 := View.ld x1 (Rect.unit (k0_off8 i) S256x128.size (k0_off8_inb i))
/-- The second head's keys of the query's own block. -/
abbrev k1Of : Vec Ideal S256x128 .bf16 := View.ld x1 (Rect.unit (k0_off9 i) S256x128.size (k0_off9_inb i))
/-- The values of the query's own block. -/
abbrev vOf : Vec Ideal S256x128 .bf16 := View.ld x2 (Rect.unit (k0_off7 i) S256x128.size (k0_off7_inb i))

/-- What the loop carries: of each head the maximum, the sum and the weighted sums. -/
abbrev Carried := FVec Ideal S256x1 .f32 × FVec Ideal S256x1 .f32 × FVec Ideal S256x128 .f32 × FVec Ideal S256x1 .f32 × FVec Ideal S256x1 .f32 × FVec Ideal S256x128 .f32

/-- The carried values after the loop. -/
abbrev loopOf := st_k0_t1 (F := Ideal) Variants.none c none i arg2 harg2 arg3 harg3 arg4 harg4 arg5 harg5 arg6 harg6 (q0Of x0) (q1Of x0)
  (harg3.unread x1) (harg4.unread x2) (k0_pay30, k0_pay31, k0_pay32, k0_pay33, k0_pay34, k0_pay35) (k0_t1_loop i).trips

/-- The block of weighted means, as the program names it. -/
theorem out3_open (S : Carried) (hS : S = loopOf c i arg2 harg2 arg3 harg3 arg4 harg4 arg5 harg5 arg6 harg6 x0 x1 x2) :
    out0_A_3 c i arg2 harg2 arg3 harg3 arg4 harg4 arg5 harg5 arg6 harg6 x0 x1 x2
      = k0_pay49 (q1Of x0) S.2.1 S.2.2.1 S.2.2.2.1 S.2.2.2.2.1 S.2.2.2.2.2 (vOf i x2)
          (k0_pay40 (q0Of x0) S.1 (k0Of i x1)) (k0_pay41 (q0Of x0) S.1 (k0Of i x1)) (k1Of i x1) := by
  have hz : (![0,0] : Fin 2 → Nat) = fun _ => 0 := funext fun a => by fin_cases a <;> rfl
  subst hS
  unfold out0_A_3
  rw [View.read_writes_eq_canon _ _ _ (cover0_A_3 c i arg2 harg2 arg3 harg3 arg4 harg4 arg5 harg5 arg6 harg6 x0 x1 x2)]
  unfold kernelRun0_A
  dsimp only
  sl_unfold_words
  rw [View.canon_unit_zero hz]
  simp only [View.readAt_eq_ld, Memref.IsWhole.read_unread]
  rw [rem_trips_eq]
  rfl

set_option maxHeartbeats 2000000 in
/-- The block of logs, as the program names it. -/
theorem out4_open (S : Carried) (hS : S = loopOf c i arg2 harg2 arg3 harg3 arg4 harg4 arg5 harg5 arg6 harg6 x0 x1 x2) (j : Fin 1) (a : Fin 2) (r : Fin 256) :
    out0_A_4 c i arg2 harg2 arg3 harg3 arg4 harg4 arg5 harg5 arg6 harg6 x0 x1 x2 (ix3 j a r)
      = if a = 0 then
          k0_pay2 (k0_pay39 (q1Of x0) S.2.2.2.1 (k1Of i x1))
            (k0_pay42 S.2.2.2.2.1 (k0_pay40 (q1Of x0) S.2.2.2.1 (k1Of i x1)) (k0_pay41 (q1Of x0) S.2.2.2.1 (k1Of i x1))) k0_pay48
            (k0_pay50 S.2.1 (k0_pay39 (q0Of x0) S.1 (k0Of i x1)) (k0_pay40 (q0Of x0) S.1 (k0Of i x1)) (k0_pay41 (q0Of x0) S.1 (k0Of i x1)))
            (ix3 0 0 r)
        else
          k0_pay3 (k0_pay39 (q1Of x0) S.2.2.2.1 (k1Of i x1))
            (k0_pay42 S.2.2.2.2.1 (k0_pay40 (q1Of x0) S.2.2.2.1 (k1Of i x1)) (k0_pay41 (q1Of x0) S.2.2.2.1 (k1Of i x1))) k0_pay48
            (k0_pay50 S.2.1 (k0_pay39 (q0Of x0) S.1 (k0Of i x1)) (k0_pay40 (q0Of x0) S.1 (k0Of i x1)) (k0_pay41 (q0Of x0) S.1 (k0Of i x1)))
            (ix3 0 0 r) := by
  subst hS
  refine Eq.trans ?_ (canon_rows _ _ inb_S1x2x256_S1x1x256_0_0_0 inb_S1x2x256_S1x1x256_0_1_0 j a r)
  unfold out0_A_4
  rw [View.read_writes_eq_canon _ _ _ (cover0_A_4 c i arg2 harg2 arg3 harg3 arg4 harg4 arg5 harg5 arg6 harg6 x0 x1 x2)]
  unfold kernelRun0_A
  dsimp only
  sl_unfold_words
  simp only [View.readAt_eq_ld, Memref.IsWhole.read_unread]
  rw [rem_trips_eq]
  rfl

variable (ρ : Fin 2 → Fin 256 → ℕ → ℝ)

theorem q0_apply (r : Fin 256) (y : Fin 128) : q0Of x0 (ix2 r y) = x0 (ix2 r (lane 0 y)) := by
  refine (ld_tile x0 _ _ 0 0 rfl r y (by omega) (by omega)).trans ?_
  exact congrArg (fun z => x0 (ix2 z _)) (Fin.ext (Nat.zero_add _))
theorem q1_apply (r : Fin 256) (y : Fin 128) : q1Of x0 (ix2 r y) = x0 (ix2 r (lane 1 y)) := by
  refine (ld_tile x0 _ _ 0 128 rfl r y (by omega) (by omega)).trans ?_
  exact congrArg (fun z => x0 (ix2 z _)) (Fin.ext (Nat.zero_add _))

/-- The row's count of keys before its block. -/
theorem before_lt (i : grid0.Coords) : 256 * (i 1).val + 256 ≤ 8192 := by
  have r_i1 : (i 1).val < 32 := (i 1).isLt
  omega

theorem k0_apply (x : Fin 256) (y : Fin 128) : k0Of i x1 (ix2 x y) = x1 (ix2 ⟨256 * (i 1).val + x.val, by have := before_lt i; omega⟩ (lane 0 y)) := by
  have := before_lt i
  refine (ld_tile x1 _ _ (256 * (i 1).val) 0 (off8_eq i) x y (by omega) (by omega)).trans ?_
  rfl
theorem k1_apply (x : Fin 256) (y : Fin 128) : k1Of i x1 (ix2 x y) = x1 (ix2 ⟨256 * (i 1).val + x.val, by have := before_lt i; omega⟩ (lane 1 y)) := by
  have := before_lt i
  refine (ld_tile x1 _ _ (256 * (i 1).val) 128 (off9_eq i) x y (by omega) (by omega)).trans ?_
  rfl
theorem v_apply (x : Fin 256) (d : Fin 128) : vOf i x2 (ix2 x d) = x2 (ix2 ⟨256 * (i 1).val + x.val, by have := before_lt i; omega⟩ d) := by
  have := before_lt i
  refine (ld_tile x2 _ _ (256 * (i 1).val) 0 (off7_eq i) x d (by omega) (by omega)).trans ?_
  exact congrArg (fun z => x2 (ix2 _ z)) (Fin.ext (Nat.zero_add _))

/-- The block of weighted means at an index: head `d / 64` of the pair. -/
theorem out3_apply (hρ : ∀ (a : Fin 2) (r : Fin 256) (n : Fin 8192), rowScore x0 x1 a r n = ((ρ a r n.val : ℝ) : EReal)) (r : Fin 256) (d : Fin 128) :
    out0_A_3 c i arg2 harg2 arg3 harg3 arg4 harg4 arg5 harg5 arg6 harg6 x0 x1 x2 (ix2 r d)
      = mean (ρ (if d.val < 64 then 0 else 1) r) (256 * (i 1).val + (r.val + 1)) (valAt x2 d) := by
  rw [out3_open c i arg2 harg2 arg3 harg3 arg4 harg4 arg5 harg5 arg6 harg6 x0 x1 x2 _ rfl, out_apply]
  obtain ⟨h0, h1⟩ := loops_done c i arg2 harg2 arg3 harg3 arg4 harg4 arg5 harg5 arg6 harg6 x0 x1 x2 ρ hρ (q0Of x0) (q1Of x0) (q0_apply x0) (q1_apply x0) _ rfl
  by_cases hd : d.val < 64
  · rw [if_pos hd, if_pos hd]
    exact (head_diag x0 x1 x2 0 (ρ 0) (hρ 0) (256 * (i 1).val) (before_lt i) _ _ _ _ _ _ (q0_apply x0) (k0_apply i x1) (v_apply i x2) h0 r d).1
  · rw [if_neg hd, if_neg hd]
    exact (head_diag x0 x1 x2 1 (ρ 1) (hρ 1) (256 * (i 1).val) (before_lt i) _ _ _ _ _ _ (q1_apply x0) (k1_apply i x1) (v_apply i x2) h1 r d).1

/-- The block of logs at an index. -/
theorem out4_apply (hρ : ∀ (a : Fin 2) (r : Fin 256) (n : Fin 8192), rowScore x0 x1 a r n = ((ρ a r n.val : ℝ) : EReal)) (j : Fin 1) (a : Fin 2) (r : Fin 256) :
    out0_A_4 c i arg2 harg2 arg3 harg3 arg4 harg4 arg5 harg5 arg6 harg6 x0 x1 x2 (ix3 j a r)
      = top (ρ a r) (256 * (i 1).val + (r.val + 1)) + Ideal.log (tot (ρ a r) (256 * (i 1).val + (r.val + 1))) := by
  rw [out4_open c i arg2 harg2 arg3 harg3 arg4 harg4 arg5 harg5 arg6 harg6 x0 x1 x2 _ rfl]
  obtain ⟨h0, h1⟩ := loops_done c i arg2 harg2 arg3 harg3 arg4 harg4 arg5 harg5 arg6 harg6 x0 x1 x2 ρ hρ (q0Of x0) (q1Of x0) (q0_apply x0) (q1_apply x0) _ rfl
  have ha : a = 0 ∨ a = 1 := by omega
  rcases ha with rfl | rfl
  · rw [if_pos rfl, lse0_apply]
    exact (head_diag x0 x1 x2 0 (ρ 0) (hρ 0) (256 * (i 1).val) (before_lt i) _ _ _ _ _ _ (q0_apply x0) (k0_apply i x1) (v_apply i x2) h0 r 0).2
  · rw [if_neg (by decide), lse1_apply]
    exact (head_diag x0 x1 x2 1 (ρ 1) (hρ 1) (256 * (i 1).val) (before_lt i) _ _ _ _ _ _ (q1_apply x0) (k1_apply i x1) (v_apply i x2) h1 r 0).2

end

end Cert.Own.AttnFwd

end
-- ==== Proof.AttnArray.lean ====
module

public import proofs.«01_k».proof.Proof.AttnBlock

@[expose] public section

/-! The two arrays the attention kernel leaves, as functions of the queries, keys and values: every row's softmax of its scores
    up to its own key, applied to the values, and the log of the softmax's sum. -/

noncomputable section

namespace Cert.Own.AttnFwd

open Idealize.ShloMosaic Idealize.ShloMosaic.TcCoe Idealize.SL.Sem Cert.AttnFwdIdeal Cert.AttnFwdIdeal.Gen Cert.Own.Online

/-- Lane `y` of head `h` of eight. -/
abbrev hlane (h : Fin 8) (y : Fin 128) : Fin 1024 := ⟨128 * h.val + y.val, by omega⟩

/-- The score of query `q` against key `n` on head `h`. -/
abbrev scoreAt (Q K : Vec Ideal S8192x1024 .bf16) (h : Fin 8) (q n : Fin 8192) : EReal :=
  (∑ y : Fin 128, Q (ix2 q (hlane h y)) * K (ix2 n (hlane h y))) * scale

/-- The same as a real, by key number. -/
abbrev rho (Q K : Vec Ideal S8192x1024 .bf16) (h : Fin 8) (q : Fin 8192) (n : ℕ) : ℝ :=
  if hn : n < 8192 then (scoreAt Q K h q ⟨n, hn⟩).toReal else 0

/-- A lane of the values, by key number. -/
abbrev valOf (V : Vec Ideal S8192x512 .bf16) (d : Fin 512) (n : ℕ) : EReal := if h : n < 8192 then V (ix2 ⟨n, h⟩ d) else 0

/-- The array of weighted means. -/
def outO (Q K : Vec Ideal S8192x1024 .bf16) (V : Vec Ideal S8192x512 .bf16) (q : Fin 8192) (d : Fin 512) : EReal :=
  mean (rho Q K ⟨d.val / 64, by omega⟩ q) (q.val + 1) (valOf V d)

/-- The array of logs. -/
def outL (Q K : Vec Ideal S8192x1024 .bf16) (p : Fin 4) (a : Fin 2) (q : Fin 8192) : EReal :=
  top (rho Q K ⟨2 * p.val + a.val, by omega⟩ q) (q.val + 1) + Ideal.log (tot (rho Q K ⟨2 * p.val + a.val, by omega⟩ q) (q.val + 1))

/-- Every score is a real. -/
def RealScores (Q K : Vec Ideal S8192x1024 .bf16) : Prop := ∀ (h : Fin 8) (q n : Fin 8192), ∃ x : ℝ, scoreAt Q K h q n = (x : EReal)

theorem rho_eq {Q K : Vec Ideal S8192x1024 .bf16} (hR : RealScores Q K) (h : Fin 8) (q n : Fin 8192) :
    scoreAt Q K h q n = ((rho Q K h q n.val : ℝ) : EReal) := by
  obtain ⟨x, hx⟩ := hR h q n
  rw [rho, dif_pos n.isLt]
  show _ = (((scoreAt Q K h q n).toReal : ℝ) : EReal)
  rw [hx, EReal.toReal_coe]

/-- The printed index maps over the grid: point `(p, i)` takes query block `i` of pair `p` and all the keys and values of the pair. -/
theorem idx_facts : ∀ t : Fin cfg0.N, win0_0.index t = ![(grid0.coords t 1).val, (grid0.coords t 0).val]
    ∧ win0_1.index t = ![0, (grid0.coords t 0).val] ∧ win0_2.index t = ![0, (grid0.coords t 0).val]
    ∧ win0_3.index t = ![(grid0.coords t 1).val, (grid0.coords t 0).val]
    ∧ win0_4.index t = ![(grid0.coords t 0).val, 0, (grid0.coords t 1).val] :=
  (by decide +kernel : ∀ t : Fin grid0.N, _)

/-- Every pair and query block is some point's. -/
theorem idx_onto : ∀ (p : Fin 4) (i : Fin 32), ∃ t : Fin cfg0.N, (grid0.coords t 0).val = p.val ∧ (grid0.coords t 1).val = i.val :=
  (by decide +kernel : ∀ (p : Fin 4) (i : Fin 32), ∃ t : Fin grid0.N, _)

variable (m : (ℓ : Loc nD τ sig) → Buf (Elt Ideal) ℓ)

/-- The queries, keys and values on device `c`. -/
abbrev Qof (c : Dev nD) : Vec Ideal S8192x1024 .bf16 := m ((c : Thread nD τ).loc main_arg0)
abbrev Kof (c : Dev nD) : Vec Ideal S8192x1024 .bf16 := m ((c : Thread nD τ).loc main_arg1)
abbrev Vof (c : Dev nD) : Vec Ideal S8192x512 .bf16 := m ((c : Thread nD τ).loc main_arg2)

theorem p_lt (t : Fin cfg0.N) : (grid0.coords t 0).val < 4 := (grid0.coords t 0).isLt
theorem i_lt (t : Fin cfg0.N) : (grid0.coords t 1).val < 32 := (grid0.coords t 1).isLt

/-- The query block of a point. -/
theorem blk0_apply (c : Dev nD) (t : Fin cfg0.N) (r y : Fin 256) :
    (iblk m c 0 t : Vec Ideal S256x256 .bf16) (ix2 r y)
      = Qof m c (ix2 ⟨256 * (grid0.coords t 1).val + r.val, by have := i_lt t; omega⟩ ⟨256 * (grid0.coords t 0).val + y.val, by have := p_lt t; omega⟩) := by
  have e := (idx_facts t).1
  have e0 : win0_0.index t 0 = (grid0.coords t 1).val := by rw [e]; rfl
  have e1 : win0_0.index t 1 = (grid0.coords t 0).val := by rw [e]; rfl
  refine congrArg (Qof m c) (funext fun a => Fin.ext ?_)
  match a with
  | ⟨0, _⟩ => show win0_0.index t (0 : Fin 2) * 256 + 1 * r.val = 256 * (grid0.coords t 1).val + r.val; omega
  | ⟨1, _⟩ => show win0_0.index t (1 : Fin 2) * 256 + 1 * y.val = 256 * (grid0.coords t 0).val + y.val; omega

/-- The keys of a point. -/
theorem blk1_apply (c : Dev nD) (t : Fin cfg0.N) (n : Fin 8192) (y : Fin 256) :
    (iblk m c 1 t : Vec Ideal S8192x256 .bf16) (ix2 n y)
      = Kof m c (ix2 n ⟨256 * (grid0.coords t 0).val + y.val, by have := p_lt t; omega⟩) := by
  have e := (idx_facts t).2.1
  have e0 : win0_1.index t 0 = 0 := by rw [e]; rfl
  have e1 : win0_1.index t 1 = (grid0.coords t 0).val := by rw [e]; rfl
  refine congrArg (Kof m c) (funext fun a => Fin.ext ?_)
  match a with
  | ⟨0, _⟩ => show win0_1.index t (0 : Fin 2) * 8192 + 1 * n.val = n.val; omega
  | ⟨1, _⟩ => show win0_1.index t (1 : Fin 2) * 256 + 1 * y.val = 256 * (grid0.coords t 0).val + y.val; omega

/-- The values of a point. -/
theorem blk2_apply (c : Dev nD) (t : Fin cfg0.N) (n : Fin 8192) (d : Fin 128) :
    (iblk m c 2 t : Vec Ideal S8192x128 .bf16) (ix2 n d)
      = Vof m c (ix2 n ⟨128 * (grid0.coords t 0).val + d.val, by have := p_lt t; omega⟩) := by
  have e := (idx_facts t).2.2.1
  have e0 : win0_2.index t 0 = 0 := by rw [e]; rfl
  have e1 : win0_2.index t 1 = (grid0.coords t 0).val := by rw [e]; rfl
  refine congrArg (Vof m c) (funext fun a => Fin.ext ?_)
  match a with
  | ⟨0, _⟩ => show win0_2.index t (0 : Fin 2) * 8192 + 1 * n.val = n.val; omega
  | ⟨1, _⟩ => show win0_2.index t (1 : Fin 2) * 128 + 1 * d.val = 128 * (grid0.coords t 0).val + d.val; omega

/-- The real scores of a point's two heads. -/
abbrev rhoAt (c : Dev nD) (t : Fin cfg0.N) (a : Fin 2) (r : Fin 256) : ℕ → ℝ :=
  rho (Qof m c) (Kof m c) ⟨2 * (grid0.coords t 0).val + a.val, by have := p_lt t; omega⟩
    ⟨256 * (grid0.coords t 1).val + r.val, by have := i_lt t; omega⟩

theorem rhoAt_eq (c : Dev nD) (hR : RealScores (Qof m c) (Kof m c)) (t : Fin cfg0.N) (a : Fin 2) (r : Fin 256) (n : Fin 8192) :
    rowScore (iblk m c 0 t) (iblk m c 1 t) a r n = ((rhoAt m c t a r n.val : ℝ) : EReal) := by
  rw [rhoAt, ← rho_eq hR]
  unfold rowScore scoreAt
  congr 1
  refine Finset.sum_congr rfl fun y _ => ?_
  rw [blk0_apply, blk1_apply]
  have e : ∀ h1 h2, (⟨256 * (grid0.coords t 0).val + (lane a y).val, h1⟩ : Fin 1024)
      = ⟨128 * (2 * (grid0.coords t 0).val + a.val) + y.val, h2⟩ := fun h1 h2 => Fin.ext (by
      show 256 * (grid0.coords t 0).val + (128 * a.val + y.val) = 128 * (2 * (grid0.coords t 0).val + a.val) + y.val; omega)
  rw [e]

/-- A point's block of an array of means, at an index. -/
theorem blk3_read (f : S8192x512.Idx → EReal) (t : Fin cfg0.N) (r : Fin 256) (d : Fin 128) :
    (((cfg0.win 3).blk t).view.read (Elt Ideal) f : S256x128.Idx → EReal) (ix2 r d)
      = f (ix2 ⟨256 * (grid0.coords t 1).val + r.val, by have := i_lt t; omega⟩ ⟨128 * (grid0.coords t 0).val + d.val, by have := p_lt t; omega⟩) := by
  have e := (idx_facts t).2.2.2.1
  have e0 : win0_3.index t 0 = (grid0.coords t 1).val := by rw [e]; rfl
  have e1 : win0_3.index t 1 = (grid0.coords t 0).val := by rw [e]; rfl
  refine congrArg f (funext fun a => Fin.ext ?_)
  match a with
  | ⟨0, _⟩ => show win0_3.index t (0 : Fin 2) * 256 + 1 * r.val = 256 * (grid0.coords t 1).val + r.val; omega
  | ⟨1, _⟩ => show win0_3.index t (1 : Fin 2) * 128 + 1 * d.val = 128 * (grid0.coords t 0).val + d.val; omega

/-- A point's block of an array of logs, at an index. -/
theorem blk4_read (f : S4x2x8192.Idx → EReal) (t : Fin cfg0.N) (u : Fin 1) (a : Fin 2) (r : Fin 256) :
    (((cfg0.win 4).blk t).view.read (Elt Ideal) f : S1x2x256.Idx → EReal) (ix3 u a r)
      = f (ix3 ⟨(grid0.coords t 0).val, p_lt t⟩ a ⟨256 * (grid0.coords t 1).val + r.val, by have := i_lt t; omega⟩) := by
  have e := (idx_facts t).2.2.2.2
  have e0 : win0_4.index t 0 = (grid0.coords t 0).val := by rw [e]; rfl
  have e1 : win0_4.index t 1 = 0 := by rw [e]; rfl
  have e2 : win0_4.index t 2 = (grid0.coords t 1).val := by rw [e]; rfl
  refine congrArg f (funext fun x => Fin.ext ?_)
  match x with
  | ⟨0, _⟩ => show win0_4.index t (0 : Fin 3) * 1 + 1 * u.val = (grid0.coords t 0).val; omega
  | ⟨1, _⟩ => show win0_4.index t (1 : Fin 3) * 2 + 1 * a.val = a.val; omega
  | ⟨2, _⟩ => show win0_4.index t (2 : Fin 3) * 256 + 1 * r.val = 256 * (grid0.coords t 1).val + r.val; omega

/-- What point `t` writes back of the means is its block of the array. -/
theorem flushedO (c : Dev nD) (hR : RealScores (Qof m c) (Kof m c)) (t : Fin cfg0.N) :
    (dats m 0 c).flushed 3 t = ((cfg0.win 3).blk t).view.read (Elt Ideal)
      (fun i : S8192x512.Idx => outO (Qof m c) (Kof m c) (Vof m c) (i 0) (i 1)) := by
  rw [Value.flushed3_A]
  funext j
  obtain ⟨r, d, rfl⟩ : ∃ (r : Fin 256) (d : Fin 128), j = ix2 r d := ⟨j 0, j 1, funext fun a => by fin_cases a <;> rfl⟩
  refine (out3_apply c (grid0.coords t) _ _ _ _ _ _ _ _ _ _ _ _ _ (rhoAt m c t) (rhoAt_eq m c hR t) r d).trans ?_
  have hp := p_lt t
  have hi := i_lt t
  rw [blk3_read]
  have ev : valAt (iblk m c 2 t) d = valOf (Vof m c) ⟨128 * (grid0.coords t 0).val + d.val, by omega⟩ := by
    funext n
    unfold valAt valOf
    by_cases hn : n < 8192
    · rw [dif_pos hn, dif_pos hn, blk2_apply]
    · rw [dif_neg hn, dif_neg hn]
  have er : rhoAt m c t (if d.val < 64 then 0 else 1) r
      = rho (Qof m c) (Kof m c) ⟨(128 * (grid0.coords t 0).val + d.val) / 64, by omega⟩ ⟨256 * (grid0.coords t 1).val + r.val, by omega⟩ := by
    have eh : ∀ h1 h2, (⟨2 * (grid0.coords t 0).val + (if d.val < 64 then (0 : Fin 2) else 1).val, h1⟩ : Fin 8)
        = ⟨(128 * (grid0.coords t 0).val + d.val) / 64, h2⟩ := fun h1 h2 => Fin.ext (by
      have hd := d.isLt
      by_cases h : d.val < 64
      · simp only [if_pos h]; show 2 * (grid0.coords t 0).val + 0 = _; omega
      · simp only [if_neg h]; show 2 * (grid0.coords t 0).val + 1 = _; omega)
    unfold rhoAt
    rw [eh]
  unfold outO
  rw [ev, er]
  rfl

/-- What point `t` writes back of the logs is its block of the array. -/
theorem flushedL (c : Dev nD) (hR : RealScores (Qof m c) (Kof m c)) (t : Fin cfg0.N) :
    (dats m 0 c).flushed 4 t = ((cfg0.win 4).blk t).view.read (Elt Ideal)
      (fun i : S4x2x8192.Idx => outL (Qof m c) (Kof m c) (i 0) (i 1) (i 2)) := by
  rw [Value.flushed4_A]
  funext j
  obtain ⟨u, a, r, rfl⟩ : ∃ (u : Fin 1) (a : Fin 2) (r : Fin 256), j = ix3 u a r := ⟨j 0, j 1, j 2, funext fun a => by fin_cases a <;> rfl⟩
  refine (out4_apply c (grid0.coords t) _ _ _ _ _ _ _ _ _ _ _ _ _ (rhoAt m c t) (rhoAt_eq m c hR t) u a r).trans ?_
  rw [blk4_read]
  rfl

theorem mem_blkO (t : Fin cfg0.N) (i : S8192x512.Idx) :
    i ∈ ((cfg0.win 3).blk t).view.set ↔ ∀ a : Fin 2, win0_3.index t a * S256x128.size a ≤ (i a).val ∧ (i a).val < win0_3.index t a * S256x128.size a + S256x128.size a := by
  show i ∈ ((View.whole main_v0_0).slice (win0_3.rect t)).set ↔ _
  rw [View.set_slice_whole, Rect.mem_set_unit]
  exact Iff.rfl

theorem mem_blkL (t : Fin cfg0.N) (i : S4x2x8192.Idx) :
    i ∈ ((cfg0.win 4).blk t).view.set ↔ ∀ a : Fin 3, win0_4.index t a * S1x2x256.size a ≤ (i a).val ∧ (i a).val < win0_4.index t a * S1x2x256.size a + S1x2x256.size a := by
  show i ∈ ((View.whole main_v0_1).slice (win0_4.rect t)).set ↔ _
  rw [View.set_slice_whole, Rect.mem_set_unit]
  exact Iff.rfl

/-- The array of means after the run. -/
theorem arrO (c : Dev nD) (hR : RealScores (Qof m c) (Kof m c)) :
    (dats m 0 c).arrAt 3 cfg0.N = fun i : S8192x512.Idx => outO (Qof m c) (Kof m c) (Vof m c) (i 0) (i 1) := by
  refine (dats m 0 c).arrAt_eq_of_cover 3 _ (fun t _ => flushedO m c hR t) (fun i => ?_)
  have h0 : (i 0).val < 8192 := (i 0).isLt
  have h1 : (i 1).val < 512 := (i 1).isLt
  obtain ⟨t, tp, ti⟩ := idx_onto ⟨(i 1).val / 128, by omega⟩ ⟨(i 0).val / 256, by omega⟩
  have e := (idx_facts t).2.2.2.1
  have e0 : win0_3.index t (0 : Fin 2) = (i 0).val / 256 := by rw [e]; exact ti
  have e1 : win0_3.index t (1 : Fin 2) = (i 1).val / 128 := by rw [e]; exact tp
  refine ⟨t, flush0_3 t, (mem_blkO t i).2 fun a => ?_⟩
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 128 ≤ (i 1).val ∧ (i 1).val < win0_3.index t (1 : Fin 2) * 128 + 128; omega

/-- The array of logs after the run. -/
theorem arrL (c : Dev nD) (hR : RealScores (Qof m c) (Kof m c)) :
    (dats m 0 c).arrAt 4 cfg0.N = fun i : S4x2x8192.Idx => outL (Qof m c) (Kof m c) (i 0) (i 1) (i 2) := by
  refine (dats m 0 c).arrAt_eq_of_cover 4 _ (fun t _ => flushedL m c hR t) (fun i => ?_)
  have h0 : (i 0).val < 4 := (i 0).isLt
  have h1 : (i 1).val < 2 := (i 1).isLt
  have h2 : (i 2).val < 8192 := (i 2).isLt
  obtain ⟨t, tp, ti⟩ := idx_onto ⟨(i 0).val, by omega⟩ ⟨(i 2).val / 256, by omega⟩
  have e := (idx_facts t).2.2.2.2
  have e0 : win0_4.index t (0 : Fin 3) = (i 0).val := by rw [e]; exact tp
  have e1 : win0_4.index t (1 : Fin 3) = 0 := by rw [e]; rfl
  have e2 : win0_4.index t (2 : Fin 3) = (i 2).val / 256 := by rw [e]; exact ti
  refine ⟨t, flush0_4 t, (mem_blkL t i).2 fun a => ?_⟩
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2 ≤ (i 1).val ∧ (i 1).val < win0_4.index t (1 : Fin 3) * 2 + 2; omega
  | ⟨2, _⟩ => show win0_4.index t (2 : Fin 3) * 256 ≤ (i 2).val ∧ (i 2).val < win0_4.index t (2 : Fin 3) * 256 + 256; omega

end Cert.Own.AttnFwd

end
-- ==== Proof.AttnRef.lean ====
module

public import proofs.«01_k».proof.Proof.AttnArray
public import proofs.«01_k».proof.Proof.Gen.AttnFwdRefIdeal.Run
public import proofs.«01_k».proof.Proof.Gen.AttnFwdRefIdeal.Read

@[expose] public section

/-! The reference's two results at an index: causal softmax attention and the log of each row's sum are the functions the kernel's
    arrays are. -/

noncomputable section

namespace Cert.Own.AttnFwd

open Idealize.ShloMosaic Cert.AttnFwdRefIdeal Cert.AttnFwdRefIdeal.Gen Cert.AttnFwdRefIdeal.Read Cert.Own.Online

variable (Q K : Vec Ideal ⟨2, ![8192, 1024]⟩ .bf16) (V : Vec Ideal ⟨2, ![8192, 512]⟩ .bf16)

/-- The scaled product at head `h`, query `q`, key `n`. -/
theorem ref_score (h : Fin 8) (q n : Fin 8192) : val_main_v8 (F := Ideal) Q K (ix3 h q n) = scoreAt Q K h q n := by
  rw [val_main_v8_apply, val_main_v6_apply, val_main_v7_apply, val_main_cst_apply]
  show (∑ k : Fin 128, _) * scale = (∑ k : Fin 128, _) * scale
  congr 1
  refine Finset.sum_congr rfl fun k _ => ?_
  rw [val_main_v1_apply, val_main_v3_apply, val_main_v0_apply, val_main_v2_apply]
  have e0 : idx_main_v1 (lidx_main_v6 (ix3 h q n) k) = ix2 q (hlane h k) := funext fun a => Fin.ext (by
    have := h.isLt; have := k.isLt
    match a with
    | ⟨0, _⟩ => show ((q.val * 8 + h.val) * 128 + k.val) / 1024 = q.val; omega
    | ⟨1, _⟩ => show ((q.val * 8 + h.val) * 128 + k.val) % 1024 = 128 * h.val + k.val; omega)
  have e1 : idx_main_v3 (ridx_main_v6 (ix3 h q n) k) = ix2 n (hlane h k) := funext fun a => Fin.ext (by
    have := h.isLt; have := k.isLt
    match a with
    | ⟨0, _⟩ => show ((n.val * 8 + h.val) * 128 + k.val) / 1024 = n.val; omega
    | ⟨1, _⟩ => show ((n.val * 8 + h.val) * 128 + k.val) % 1024 = 128 * h.val + k.val; omega)
  rw [e0, e1]
  rfl

/-- The masked score: −∞ after the query's own key. -/
theorem ref_masked (hR : RealScores Q K) (h : Fin 8) (q n : Fin 8192) :
    val_main_v16 (F := Ideal) Q K (ix3 h q n) = block (rho Q K h q) 0 (q.val + 1) n := by
  rw [val_main_v16_apply, ref_score, val_main_call0_v1_apply, val_main_call0_v2_apply, val_main_call0_v0_apply, val_main_cst_0_apply,
    val_main_v15_apply, val_main_v14_apply, val_main_v12_apply, val_main_v13_apply, val_main_v10_apply, val_main_v11_apply,
    val_main_v9_apply, val_main_v9_apply]
  show Scalar.select (IntOp.cmpi .sle (BitVec.ofNat 32 n.val) (BitVec.ofNat 32 q.val)) (scoreAt Q K h q n) (Ideal.ofBits .f32 0xFF800000#32) = _
  rw [WordCmp.cmpi_sle_ofNat (by have := n.isLt; omega) (by have := q.isLt; omega), ofBits_neg_inf, rho_eq hR]
  unfold block
  rw [Nat.zero_add]
  by_cases hle : n.val ≤ q.val
  · rw [decide_eq_true hle, if_pos (by omega)]; rfl
  · rw [decide_eq_false hle, if_neg (by omega)]; rfl

/-- A row's maximum, folded over the keys. -/
theorem ref_fold (y : FVec Ideal S8x8192x8192 .f32) (h : Fin 8) (q : Fin 8192) :
    Host.reduce (FloatOps.maximumf (F := Ideal) (φ := .f32)) y (val_main_cst_1 (F := Ideal)) reducesTo_S8x8192x8192_S8x8192_d2 h_S_ (ix2 h q)
      = Finset.fold max ⊥ (fun n : Fin 8192 => y (ix3 h q n)) Finset.univ := by
  rw [← ofBits_neg_inf]
  pointwise [val_main_cst_1]

/-- The row's largest score. -/
theorem ref_top (hR : RealScores Q K) (h : Fin 8) (q : Fin 8192) :
    val_main_v17 (F := Ideal) Q K (ix2 h q) = top (rho Q K h q) (q.val + 1) := by
  unfold val_main_v17
  rw [ref_fold, fold_max_eq_sup]
  unfold top
  exact Finset.sup_congr rfl fun n _ => ref_masked Q K hR h q n

theorem ref_top' (hR : RealScores Q K) (h : Fin 8) (q : Fin 8192) :
    val_main_v19 (F := Ideal) Q K (ix2 h q) = top (rho Q K h q) (q.val + 1) := by
  rw [val_main_v19_apply, ref_top Q K hR, val_main_v18_apply, val_main_cst_2_apply]
  show max (Ideal.ofBits .f32 0xFF800000#32) _ = _
  rw [ofBits_neg_inf, max_eq_right bot_le]

/-- The exponential of a score's distance from the largest. -/
theorem ref_exp (hR : RealScores Q K) (h : Fin 8) (q n : Fin 8192) :
    val_main_v23 (F := Ideal) Q K (ix3 h q n)
      = Ideal.exp (block (rho Q K h q) 0 (q.val + 1) n - top (rho Q K h q) (q.val + 1)) := by
  have e : idx_main_v20 (idx_main_v21 (ix3 h q n)) = ix2 h q := funext fun a => Fin.ext (by
    match a with
    | ⟨0, _⟩ => rfl
    | ⟨1, _⟩ => rfl)
  rw [val_main_v23_apply, val_main_v22_apply, ref_masked Q K hR, val_main_v21_apply, val_main_v20_apply, e, ref_top' Q K hR]
  rfl

/-- The row's sum of exponentials. -/
theorem ref_tot (hR : RealScores Q K) (h : Fin 8) (q : Fin 8192) :
    val_main_v24 (F := Ideal) Q K (ix2 h q) = tot (rho Q K h q) (q.val + 1) := by
  rw [val_main_v24_apply, val_main_cst_3_apply]
  show Ideal.ofBits .f32 0x00000000#32 + _ = _
  rw [Ideal.ofBits_zero_f32, zero_add]
  unfold tot
  refine Finset.sum_congr rfl fun n _ => ?_
  have e : idx_main_v24 (ix2 h q) n = ix3 h q n := funext fun a => Fin.ext (by
    match a with
    | ⟨0, _⟩ => rfl
    | ⟨1, _⟩ => rfl
    | ⟨2, _⟩ => rfl)
  rw [e, ref_exp Q K hR]

/-- A weight of the softmax. -/
theorem ref_weight (hR : RealScores Q K) (h : Fin 8) (q n : Fin 8192) :
    val_main_v27 (F := Ideal) Q K (ix3 h q n)
      = Ideal.div (Ideal.exp (block (rho Q K h q) 0 (q.val + 1) n - top (rho Q K h q) (q.val + 1))) (tot (rho Q K h q) (q.val + 1)) := by
  have e : idx_main_v25 (idx_main_v26 (ix3 h q n)) = ix2 h q := funext fun a => Fin.ext (by
    match a with
    | ⟨0, _⟩ => rfl
    | ⟨1, _⟩ => rfl)
  rw [val_main_v27_apply, ref_exp Q K hR, val_main_v26_apply, val_main_v25_apply, e, ref_tot Q K hR]
  rfl

/-- The first result is the array of weighted means. -/
theorem ref_out (hR : RealScores Q K) (q : Fin 8192) (d : Fin 512) :
    val_main_v30 (F := Ideal) Q K V (ix2 q d) = outO Q K V q d := by
  rw [val_main_v30_apply, val_main_v29_apply, val_main_v28_apply]
  unfold outO mean
  refine Finset.sum_congr rfl fun n _ => ?_
  have hd := d.isLt
  have er : ridx_main_v28 (idx_main_v29 (idx_main_v30 (ix2 q d))) n = ix3 ⟨d.val / 64, by omega⟩ q n := funext fun a => Fin.ext (by
    match a with
    | ⟨0, _⟩ => show (q.val * 512 + d.val) / 64 % 8 = d.val / 64; omega
    | ⟨1, _⟩ => show (q.val * 512 + d.val) / 512 = q.val; omega
    | ⟨2, _⟩ => rfl)
  have el : idx_main_v5 (lidx_main_v28 (idx_main_v29 (idx_main_v30 (ix2 q d))) n) = ix2 n d := funext fun a => Fin.ext (by
    match a with
    | ⟨0, _⟩ => show ((n.val * 8 + (q.val * 512 + d.val) / 64 % 8) * 64 + (q.val * 512 + d.val) % 64) / 512 = n.val; omega
    | ⟨1, _⟩ => show ((n.val * 8 + (q.val * 512 + d.val) / 64 % 8) * 64 + (q.val * 512 + d.val) % 64) % 512 = d.val; omega)
  rw [val_main_v5_apply, val_main_v4_apply, er, el, ref_weight Q K hR]
  have ev : valOf V d n.val = V (ix2 n d) := dif_pos n.isLt
  rw [ev]
  exact mul_comm _ _

theorem add_log (x y : Ideal .f32) : FloatOps.addf (F := Ideal) (φ := .f32) x (FloatOps.hostUnary (F := Ideal) (φ := .f32) .log y)
    = (x : EReal) + Ideal.log y := rfl

/-- The second result is the array of logs. -/
theorem ref_log (hR : RealScores Q K) (p : Fin 4) (a : Fin 2) (q : Fin 8192) :
    val_main_v39 (F := Ideal) Q K (ix3 p a q) = outL Q K p a q := by
  have hp := p.isLt
  have ha := a.isLt
  have e : idx_main_v39 (ix3 p a q) = ix2 ⟨2 * p.val + a.val, by omega⟩ q := funext fun x => Fin.ext (by
    match x with
    | ⟨0, _⟩ => show ((p.val * 2 + a.val) * 8192 + q.val) / 8192 = 2 * p.val + a.val; omega
    | ⟨1, _⟩ => show ((p.val * 2 + a.val) * 8192 + q.val) % 8192 = q.val; omega)
  have t31 : ∀ h : Fin 8, val_main_v31 (F := Ideal) Q K (ix2 h q) = top (rho Q K h q) (q.val + 1) := fun h => ref_top Q K hR h q
  have t36 : ∀ h : Fin 8, val_main_v36 (F := Ideal) Q K (ix2 h q) = tot (rho Q K h q) (q.val + 1) := fun h => by
    rw [val_main_v36_apply, val_main_cst_5_apply]
    show Ideal.ofBits .f32 0x00000000#32 + _ = _
    rw [Ideal.ofBits_zero_f32, zero_add]
    unfold tot
    refine Finset.sum_congr rfl fun n _ => ?_
    have e : idx_main_v36 (ix2 h q) n = ix3 h q n := funext fun x => Fin.ext (by
      match x with
      | ⟨0, _⟩ => rfl
      | ⟨1, _⟩ => rfl
      | ⟨2, _⟩ => rfl)
    have e' : idx_main_v32 (idx_main_v33 (ix3 h q n)) = ix2 h q := funext fun x => Fin.ext (by
      match x with
      | ⟨0, _⟩ => rfl
      | ⟨1, _⟩ => rfl)
    rw [e, val_main_v35_apply, val_main_v34_apply, ref_masked Q K hR, val_main_v33_apply, val_main_v32_apply, e', t31]
    rfl
  rw [val_main_v39_apply, e, val_main_v38_apply, val_main_v37_apply, t31, t36]
  exact add_log _ _

end Cert.Own.AttnFwd

end
-- ==== Proof.AttnValue.lean ====
module

public import proofs.«01_k».proof.Proof.AttnRef
public import proofs.«01_k».proof.Proof.AttnFrame
public import proofs.«01_k».proof.Proof.Gen.AttnFwdIdeal.Value

@[expose] public section

/-! Finite queries and keys make every score a real; then the kernel's two arrays are the reference's. -/

noncomputable section

namespace Cert.Own.AttnFwd

open Idealize.ShloMosaic Idealize.ShloMosaic.TcCoe Idealize.SL.Sem

/-- The shape relations of the precondition. -/
instance pre_facts : Cert.Pre_finite_qk.Facts where
  bitsLt_bf16_f32 := by decide
  bcast_S_S8192x1024 := by decide

/-- An extended real of absolute value below +∞ is a real. -/
theorem real_of_abs_lt {x : EReal} (h : max x (-x) < ⊤) : ∃ y : ℝ, x = (y : EReal) := by
  induction x using EReal.rec with
  | bot => exact absurd h (by simp)
  | coe y => exact ⟨y, rfl⟩
  | top => exact absurd h (by simp)

/-- A sum of reals is a real. -/
theorem real_sum {ι : Type} (s : Finset ι) (f : ι → EReal) (h : ∀ i, ∃ x : ℝ, f i = (x : EReal)) : ∃ x : ℝ, ∑ i ∈ s, f i = (x : EReal) := by
  exact Finset.sum_induction f (fun z => ∃ x : ℝ, z = (x : EReal))
    (fun a b ⟨x, hx⟩ ⟨y, hy⟩ => ⟨x + y, by rw [hx, hy]; exact (EReal.coe_add x y).symm⟩) ⟨0, rfl⟩ (fun i _ => h i)

/-- Queries and keys that are reals have real scores. -/
theorem real_scores (Q K : Vec Ideal Cert.AttnFwdIdeal.S8192x1024 .bf16) (hQ : ∀ i, ∃ x : ℝ, (Q i : EReal) = (x : EReal))
    (hK : ∀ i, ∃ x : ℝ, (K i : EReal) = (x : EReal)) : RealScores Q K := by
  intro h q n
  obtain ⟨s, hs⟩ := scale_real
  obtain ⟨x, hx⟩ := real_sum Finset.univ (fun y : Fin 128 => (Q (ix2 q (hlane h y)) : EReal) * K (ix2 n (hlane h y))) (fun y => by
    obtain ⟨a, ha⟩ := hQ (ix2 q (hlane h y))
    obtain ⟨b, hb⟩ := hK (ix2 n (hlane h y))
    exact ⟨a * b, by rw [ha, hb]; exact (EReal.coe_mul a b).symm⟩)
  exact ⟨x * s, by unfold scoreAt; rw [hx, hs]; exact (EReal.coe_mul x s).symm⟩

/-- What the precondition says of an array: its test is all ones exactly where every entry is a real. -/
theorem real_of_test (x : Vec Ideal Cert.Pre_finite_qk.S8192x1024 .bf16) (h1 : FTy.bits .bf16 < FTy.bits .f32)
    (h2 : Cert.Pre_finite_qk.S_.BroadcastsInDim Cert.Pre_finite_qk.S8192x1024 ![])
    (h : cmpf (F := Ideal) .olt (Host.absf (extf .f32 x h1)) (broadcastInDim Cert.Pre_finite_qk.S8192x1024 ![] h2
      (constant (F := Ideal) Cert.Pre_finite_qk.S_ .f32 0x7F800000#32)) = fun _ => 1#1) (i : Cert.Pre_finite_qk.S8192x1024.Idx) :
    ∃ y : ℝ, (x i : EReal) = (y : EReal) := by
  have e := congrFun h i
  have e' : BitVec.ofBool (decide (max (x i : EReal) (-(x i : EReal)) < Ideal.ofBits .f32 0x7F800000#32)) = 1#1 := e
  rw [ofBits_pos_inf] at e'
  exact real_of_abs_lt (by by_contra hn; rw [decide_eq_false hn] at e'; exact absurd e' (by decide))

/-- The kernel and the reference leave the same softmax-weighted means and the same logs, when queries and keys are finite. -/
theorem algebraic : Cert.algebraic_AttnFwdIdeal_AttnFwdRefIdeal_pre_finite_qk := by
  intro m ρ m' ρ' hpre hag
  have hR : ∀ c : Dev Cert.AttnFwdIdeal.nD, RealScores (Qof m c) (Kof m c) := fun c =>
    real_scores _ _ (real_of_test _ _ _ (hpre c).1) (real_of_test _ _ _ (hpre c).2)
  refine ⟨_, _, Cert.AttnFwdIdeal.Value.run_blocks m ρ, ?_⟩
  refine (θ_run _ _ _).mono (fun r h c => ?_) (Cert.AttnFwdRefIdeal.Value.run (F := Ideal) m' ρ')
  obtain ⟨h0, h1, h2⟩ := hag c
  refine ⟨(h c).1.trans ?_, (h c).2.1.trans ?_, (h c).2.2⟩
  · rw [Cert.AttnFwdRefIdeal.Read.val_main_v30_eq, h0, h1, h2]
    refine Eq.trans ?_ (arrO m c (hR c)).symm
    funext i
    obtain ⟨q, d, rfl⟩ : ∃ (q : Fin 8192) (d : Fin 512), i = ix2 q d := ⟨i 0, i 1, funext fun a => by fin_cases a <;> rfl⟩
    exact ref_out _ _ _ (hR c) q d
  · rw [Cert.AttnFwdRefIdeal.Read.val_main_v39_eq, h0, h1]
    refine Eq.trans ?_ (arrL m c (hR c)).symm
    funext i
    obtain ⟨p, a, q, rfl⟩ : ∃ (p : Fin 4) (a : Fin 2) (q : Fin 8192), i = ix3 p a q := ⟨i 0, i 1, i 2, funext fun a => by fin_cases a <;> rfl⟩
    exact ref_log _ _ (hR c) p a q

end Cert.Own.AttnFwd

end
-- ==== Proof.Rows.lean ====
module

public import Idealize.ShloMosaic.PureOps.Ideal.Laws
public import Idealize.ShloMosaic.Lib.Pointwise

@[expose] public section

/-! The arithmetic of one row of the projections before the attention, as functions of the row alone: its products with the
    weights, the two root-mean-square norms and the rotary embedding. -/

noncomputable section

namespace Cert.Own.Rows

open Idealize.ShloMosaic

/-- The norms' small constant. -/
abbrev eps : EReal := Ideal.ofBits .f32 0x3727C5AC#32

/-- A row times the weights. -/
abbrev proj (x : Fin 1024 → EReal) (W : Vec Ideal ⟨2, ![1024, 2560]⟩ .bf16) (e : Fin 2560) : EReal :=
  ∑ k : Fin 1024, x k * W (ix2 k e)

/-- A segment of the projected row: the compressed query, the compressed key and value, the rotary key, the gate. -/
abbrev cqOf (x : Fin 1024 → EReal) (W : Vec Ideal ⟨2, ![1024, 2560]⟩ .bf16) (e : Fin 256) : EReal := proj x W ⟨e.val, by omega⟩
abbrev ckvOf (x : Fin 1024 → EReal) (W : Vec Ideal ⟨2, ![1024, 2560]⟩ .bf16) (e : Fin 128) : EReal := proj x W ⟨256 + e.val, by omega⟩
abbrev krOf (x : Fin 1024 → EReal) (W : Vec Ideal ⟨2, ![1024, 2560]⟩ .bf16) (e : Fin 128) : EReal := proj x W ⟨384 + e.val, by omega⟩
abbrev gateOf (x : Fin 1024 → EReal) (W : Vec Ideal ⟨2, ![1024, 2560]⟩ .bf16) (e : Fin 2048) : EReal := proj x W ⟨512 + e.val, by omega⟩

/-- One over the root of a row's mean square. -/
abbrev rms {d : ℕ} (n : EReal) (c : Fin d → EReal) : EReal := Ideal.rsqrt (Ideal.div (∑ k, c k * c k) n + eps)

/-- The queries of a row, before the rotation, for a compressed row `c`. -/
abbrev qRow (c : Fin 256 → EReal) (U : Vec Ideal ⟨2, ![256, 1024]⟩ .bf16) (V : Vec Ideal ⟨2, ![16, 1024]⟩ .f32) (e : Fin 1024) : EReal :=
  ∑ k : Fin 256, c k * rms (Ideal.ofBits .f32 0x43800000#32) c * V (ix2 0 ⟨k.val, by omega⟩) * U (ix2 k e)

/-- The keys and values of a row, before the rotary part is added, for a compressed row `c`. -/
abbrev kvRow (c : Fin 128 → EReal) (U : Vec Ideal ⟨2, ![128, 1536]⟩ .bf16) (V : Vec Ideal ⟨2, ![16, 1024]⟩ .f32) (e : Fin 1536) : EReal :=
  ∑ k : Fin 128, c k * rms (Ideal.ofBits .f32 0x43000000#32) c * V (ix2 1 ⟨k.val, by omega⟩) * U (ix2 k e)

/-- The rotation's angle on lane `y` at position `p`. -/
abbrev ang (p : BitVec 32) (V : Vec Ideal ⟨2, ![16, 1024]⟩ .f32) (y : Fin 128) : EReal :=
  FloatOps.sitofp (F := Ideal) (φ := .f32) p * V (ix2 4 ⟨y.val, by omega⟩)

/-- The lane `16` after `y`, around the head. -/
abbrev fwd16 (y : Fin 128) : Fin 128 := ⟨(y.val + 128 - 112) % 128, by omega⟩
/-- The lane `16` before `y`, around the head. -/
abbrev bwd16 (y : Fin 128) : Fin 128 := ⟨(y.val + 128 - 16) % 128, by omega⟩

/-- A head rotated at position `p`. -/
abbrev rope (v : Fin 128 → EReal) (p : BitVec 32) (V : Vec Ideal ⟨2, ![16, 1024]⟩ .f32) (y : Fin 128) : EReal :=
  v y * Ideal.cos (ang p V y) + v (fwd16 y) * (Ideal.sin (ang p V y) * V (ix2 5 ⟨y.val, by omega⟩))
    + v (bwd16 y) * (Ideal.sin (ang p V y) * V (ix2 6 ⟨y.val, by omega⟩))

/-- Lane `y` of head `h`. -/
abbrev hl (h : Fin 8) (y : Fin 128) : Fin 1024 := ⟨128 * h.val + y.val, by omega⟩

/-- The rotated queries of a row. -/
abbrev qOut (x : Fin 1024 → EReal) (p : BitVec 32) (W : Vec Ideal ⟨2, ![1024, 2560]⟩ .bf16) (U : Vec Ideal ⟨2, ![256, 1024]⟩ .bf16)
    (V : Vec Ideal ⟨2, ![16, 1024]⟩ .f32) (e : Fin 1024) : EReal :=
  rope (fun y => qRow (cqOf x W) U V (hl ⟨e.val / 128, by omega⟩ y)) p V ⟨e.val % 128, by omega⟩

/-- The keys of a row: each head's own part and the rotated part all heads share. -/
abbrev kOut (x : Fin 1024 → EReal) (p : BitVec 32) (W : Vec Ideal ⟨2, ![1024, 2560]⟩ .bf16) (K : Vec Ideal ⟨2, ![128, 1536]⟩ .bf16)
    (V : Vec Ideal ⟨2, ![16, 1024]⟩ .f32) (e : Fin 1024) : EReal :=
  kvRow (ckvOf x W) K V ⟨e.val, by omega⟩ + rope (krOf x W) p V ⟨e.val % 128, by omega⟩

/-- The values of a row. -/
abbrev vOut (x : Fin 1024 → EReal) (W : Vec Ideal ⟨2, ![1024, 2560]⟩ .bf16) (K : Vec Ideal ⟨2, ![128, 1536]⟩ .bf16)
    (V : Vec Ideal ⟨2, ![16, 1024]⟩ .f32) (e : Fin 512) : EReal :=
  kvRow (ckvOf x W) K V ⟨1024 + e.val, by omega⟩

/-- A row's cosines, then its sines. -/
abbrev csOut (p : BitVec 32) (V : Vec Ideal ⟨2, ![16, 1024]⟩ .f32) (e : Fin 256) : EReal :=
  if h : e.val < 128 then Ideal.cos (ang p V ⟨e.val, h⟩) else Ideal.sin (ang p V ⟨e.val - 128, by omega⟩)

/-- A head's lanes turned by 16 either way, written as two pieces set side by side. -/
theorem turn_fwd (f : Fin 128 → EReal) (y : Fin 128) :
    (if h : y.val < 112 then f ⟨16 + y.val, by omega⟩ else f ⟨y.val - 112, by omega⟩) = f (fwd16 y) := by
  split <;> exact congrArg f (Fin.ext (by show _ = (y.val + 128 - 112) % 128; simp only []; omega))

theorem turn_bwd (f : Fin 128 → EReal) (y : Fin 128) :
    (if h : y.val < 16 then f ⟨112 + y.val, by omega⟩ else f ⟨y.val - 16, by omega⟩) = f (bwd16 y) := by
  split <;> exact congrArg f (Fin.ext (by show _ = (y.val + 128 - 16) % 128; simp only []; omega))

end Cert.Own.Rows
-- ==== Proof.FwdPreBlock.lean ====
module

public import proofs.«01_k».proof.Proof.Gen.FwdPreIdeal.Value
public import proofs.«01_k».proof.Proof.Rows

@[expose] public section

/-! A block of the seven results of the projections: each row of it is the function of the same row of the block of the input. -/

noncomputable section

namespace Cert.Own.FwdPre

open Idealize.ShloMosaic Idealize.ShloMosaic.TcCoe Idealize.SL.Sem Cert.FwdPreIdeal Cert.FwdPreIdeal.Gen Cert.Own.Rows

variable (X : Vec Ideal S256x1024 .f32) (P : Vec Ideal S256x1 .i32) (W : Vec Ideal S1024x2560 .bf16)
  (U : Vec Ideal S256x1024 .bf16) (K : Vec Ideal S128x1536 .bf16) (V : Vec Ideal S16x1024 .f32)

theorem offs_zero : (![0, 0] : Fin 2 → ℕ) = fun _ => 0 := by funext a; match a with | ⟨0, _⟩ => rfl | ⟨1, _⟩ => rfl

theorem ldX : View.ld X r0_0 = X := View.ld_unit_zero (S := S256x1024) offs_zero _ X
theorem ldP : View.ld P r0_5 = P := View.ld_unit_zero (S := S256x1) offs_zero _ P
theorem ldW : View.ld W r0_1 = W := View.ld_unit_zero (S := S1024x2560) offs_zero _ W
theorem ldU : View.ld U r0_0 = U := View.ld_unit_zero (S := S256x1024) offs_zero _ U
theorem ldK : View.ld K r0_13 = K := View.ld_unit_zero (S := S128x1536) offs_zero _ K

/-- The parameter rows the body reads. -/
theorem ldV0 (e : Fin 256) : View.ld V r0_11 (ix2 0 e) = V (ix2 0 ⟨e.val, by omega⟩) := by
  unfold r0_11; rw [View.ld_unit]; pointwise []
theorem ldV1 (e : Fin 128) : View.ld V r0_12 (ix2 0 e) = V (ix2 1 ⟨e.val, by omega⟩) := by
  unfold r0_12; rw [View.ld_unit]; pointwise []
theorem ldV4 (e : Fin 128) : View.ld V r0_6 (ix2 0 e) = V (ix2 4 ⟨e.val, by omega⟩) := by
  unfold r0_6; rw [View.ld_unit]; pointwise []
theorem ldV5 (e : Fin 128) : View.ld V r0_9 (ix2 0 e) = V (ix2 5 ⟨e.val, by omega⟩) := by
  unfold r0_9; rw [View.ld_unit]; pointwise []
theorem ldV6 (e : Fin 128) : View.ld V r0_10 (ix2 0 e) = V (ix2 6 ⟨e.val, by omega⟩) := by
  unfold r0_10; rw [View.ld_unit]; pointwise []

theorem blk_cq (r : Fin 256) (e : Fin 256) : k0_pay8 (F := Ideal) X W (ix2 r e) = cqOf (fun k => X (ix2 r k)) W e := by
  pointwise [k0_pay8, k0_pay7]
theorem blk_ckv (r : Fin 256) (e : Fin 128) : k0_pay9 (F := Ideal) X W (ix2 r e) = ckvOf (fun k => X (ix2 r k)) W e := by
  pointwise [k0_pay9, k0_pay7]
theorem blk_kr (r : Fin 256) (e : Fin 128) : k0_pay10 (F := Ideal) X W (ix2 r e) = krOf (fun k => X (ix2 r k)) W e := by
  pointwise [k0_pay10, k0_pay7]
theorem blk_gate (r : Fin 256) (e : Fin 2048) : k0_pay11 (F := Ideal) X W (ix2 r e) = gateOf (fun k => X (ix2 r k)) W e := by
  pointwise [k0_pay11, k0_pay7]

/-- The queries before their rotation. -/
theorem blk_q0 (r : Fin 256) (e : Fin 1024) : k0_pay41 (F := Ideal) X P W U K V (ix2 r e) = qRow (cqOf (fun k => X (ix2 r k)) W) U V e := by
  rw [show cqOf (fun k => X (ix2 r k)) W = fun k => k0_pay8 (F := Ideal) X W (ix2 r k) from funext fun k => (blk_cq X W r k).symm]
  unfold k0_pay41 k0_pay36 k0_pay40
  rw [ldX, ldW, ldU]
  unfold qRow
  simp only [← ldV0]
  pointwise [k0_pay18, k0_pay17]

/-- The keys and values before the rotary part is added. -/
theorem blk_kv (r : Fin 256) (e : Fin 1536) : k0_pay42 (F := Ideal) X P W U K V (ix2 r e) = kvRow (ckvOf (fun k => X (ix2 r k)) W) K V e := by
  rw [show ckvOf (fun k => X (ix2 r k)) W = fun k => k0_pay9 (F := Ideal) X W (ix2 r k) from funext fun k => (blk_ckv X W r k).symm]
  unfold k0_pay42
  rw [ldX, ldW, ldK]
  unfold kvRow
  simp only [← ldV1]
  pointwise [k0_pay19]

theorem blk_cos (r : Fin 256) (y : Fin 128) : k0_pay37 (F := Ideal) X P W U K V (ix2 r y) = Ideal.cos (ang (P (ix2 r 0)) V y) := by
  unfold k0_pay37
  rw [ldP]
  unfold ang
  rw [← ldV4 V]
  pointwise [k0_pay13, k0_pay12]

theorem blk_s1 (r : Fin 256) (y : Fin 128) :
    k0_pay38 (F := Ideal) X P W U K V (ix2 r y) = Ideal.sin (ang (P (ix2 r 0)) V y) * V (ix2 5 ⟨y.val, by omega⟩) := by
  unfold k0_pay38
  rw [ldP]
  unfold ang
  rw [← ldV4 V, ← ldV5 V]
  pointwise [k0_pay15, k0_pay14, k0_pay12]

theorem blk_s2 (r : Fin 256) (y : Fin 128) :
    k0_pay39 (F := Ideal) X P W U K V (ix2 r y) = Ideal.sin (ang (P (ix2 r 0)) V y) * V (ix2 6 ⟨y.val, by omega⟩) := by
  unfold k0_pay39
  rw [ldP]
  unfold ang
  rw [← ldV4 V, ← ldV6 V]
  pointwise [k0_pay16, k0_pay14, k0_pay12]

/-- The rotary key. -/
theorem blk_kr1 (r : Fin 256) (y : Fin 128) :
    k0_pay43 (F := Ideal) X P W U K V (ix2 r y) = rope (krOf (fun k => X (ix2 r k)) W) (P (ix2 r 0)) V y := by
  unfold rope
  rw [← blk_cos X P W U K V, ← blk_s1 X P W U K V, ← blk_s2 X P W U K V, ← blk_kr, ← blk_kr, ← blk_kr]
  unfold k0_pay43
  rw [ldX, ldW]
  pointwise [k0_pay20]

/-- The compressed query, the compressed key and value, and the gate of a block. -/
theorem out6_apply (r : Fin 256) (e : Fin 256) : out0_6 (F := Ideal) X P W U K V (ix2 r e) = cqOf (fun k => X (ix2 r k)) W e := by
  unfold out0_6
  rw [View.canon_unit_zero (S := S256x256) offs_zero, ldX, ldW, blk_cq]
theorem out7_apply (r : Fin 256) (e : Fin 128) : out0_7 (F := Ideal) X P W U K V (ix2 r e) = ckvOf (fun k => X (ix2 r k)) W e := by
  unfold out0_7
  rw [View.canon_unit_zero (S := S256x128) offs_zero, ldX, ldW, blk_ckv]
theorem out8_apply (r : Fin 256) (e : Fin 2048) : out0_8 (F := Ideal) X P W U K V (ix2 r e) = gateOf (fun k => X (ix2 r k)) W e := by
  unfold out0_8
  rw [View.canon_unit_zero (S := S256x2048) offs_zero, ldX, ldW, blk_gate]
/-- The values of a block. -/
theorem out11_apply (r : Fin 256) (e : Fin 512) : out0_11 (F := Ideal) X P W U K V (ix2 r e) = vOut (fun k => X (ix2 r k)) W K V e := by
  unfold out0_11
  rw [View.canon_unit_zero (S := S256x512) offs_zero]
  unfold vOut
  rw [← blk_kv X P W U K V]
  pointwise [k0_pay6]

/-- An index of a piece of 128 lanes that starts at lane `o`, in the block. -/
theorem emb_at {n : ℕ} (o : ℕ) (inb : ∀ a, (![0, o] : Fin 2 → ℕ) a + S256x128.size a ≤ (⟨2, ![256, n]⟩ : Shape).size a) (r : Fin 256) (y : Fin 128) (hy : o + y.val < n) :
    (Rect.unit (s := ⟨2, ![256, n]⟩) ![0, o] S256x128.size inb).emb (ix2 r y) = ix2 r ⟨o + y.val, hy⟩ :=
  funext fun a => Fin.ext (by
    match a with
    | ⟨0, _⟩ => show 0 + 1 * r.val = r.val; omega
    | ⟨1, _⟩ => show o + 1 * y.val = o + y.val; omega)

theorem ix2_eta {n m : ℕ} (x : (⟨2, ![n, m]⟩ : Shape).Idx) : x = ix2 (x 0) (x 1) := funext fun a => by
  match a with | ⟨0, _⟩ => rfl | ⟨1, _⟩ => rfl

/-- A head of the rotated queries, its lanes counted from `o`. -/
theorem blk_q1 (h : Fin 8) (o : ℕ) (ho : o = 128 * h.val) (r : Fin 256) (y : Fin 128) :
    k0_pay41 (F := Ideal) X P W U K V (ix2 r ⟨o + y.val, by omega⟩) * k0_pay37 (F := Ideal) X P W U K V (ix2 r y)
      + k0_pay41 (F := Ideal) X P W U K V (ix2 r ⟨o + (fwd16 y).val, by omega⟩) * k0_pay38 (F := Ideal) X P W U K V (ix2 r y)
      + k0_pay41 (F := Ideal) X P W U K V (ix2 r ⟨o + (bwd16 y).val, by omega⟩) * k0_pay39 (F := Ideal) X P W U K V (ix2 r y)
    = qOut (fun k => X (ix2 r k)) (P (ix2 r 0)) W U V ⟨o + y.val, by omega⟩ := by
  subst ho
  rw [blk_cos, blk_s1, blk_s2, blk_q0, blk_q0, blk_q0]
  have e1 : (⟨(128 * h.val + y.val) / 128, by omega⟩ : Fin 8) = h := Fin.ext (by show (128 * h.val + y.val) / 128 = h.val; omega)
  have e2 : (⟨(128 * h.val + y.val) % 128, by omega⟩ : Fin 128) = y := Fin.ext (by show (128 * h.val + y.val) % 128 = y.val; omega)
  unfold qOut
  rw [e1, e2]

/-- A head of the keys. -/
theorem blk_k1 (h : Fin 8) (r : Fin 256) (y : Fin 128) (e : Fin 1024) (he : e.val = 128 * h.val + y.val) :
    k0_pay42 (F := Ideal) X P W U K V (ix2 r ⟨e.val, by omega⟩) + k0_pay43 (F := Ideal) X P W U K V (ix2 r y)
    = kOut (fun k => X (ix2 r k)) (P (ix2 r 0)) W K V e := by
  rw [blk_kr1, blk_kv]
  have e2 : (⟨e.val % 128, by omega⟩ : Fin 128) = y := Fin.ext (by show e.val % 128 = y.val; omega)
  unfold kOut
  rw [e2]

/-- The blocks of queries, of keys and of cosines and sines, by index. -/
abbrev qG (x : S256x1024.Idx) : EReal := qOut (fun k => X (ix2 (x 0) k)) (P (ix2 (x 0) 0)) W U V (x 1)
abbrev kG (x : S256x1024.Idx) : EReal := kOut (fun k => X (ix2 (x 0) k)) (P (ix2 (x 0) 0)) W K V (x 1)
abbrev csG (x : S256x256.Idx) : EReal := csOut (P (ix2 (x 0) 0)) V (x 1)

/-- The rotated queries of a block. -/
theorem out9_apply (r : Fin 256) (e : Fin 1024) : out0_9 (F := Ideal) X P W U K V (ix2 r e) = qOut (fun k => X (ix2 r k)) (P (ix2 r 0)) W U V e := by
  unfold out0_9
  refine View.canon_apply_of_pieces (Val := Elt Ideal) (qG X P W U V) _ ?_ (ix2 r e) (cover0_9 _ _ _ _ _ _ _ _ _)
  intro pc hpc
  rcases List.mem_cons.mp hpc with rfl | hpc
  · intro x
    obtain ⟨r, y, rfl⟩ : ∃ (r : Fin 256) (y : Fin 128), x = ix2 r y := ⟨x 0, x 1, ix2_eta x⟩
    clear hpc
    refine Eq.trans ?_ ((blk_q1 X P W U K V 7 896 rfl r y).trans (congrArg (qG X P W U V) (emb_at 896 inb_S256x1024_S256x128_0_896 r y (by omega))).symm)
    pointwise [k0_pay4]
  rcases List.mem_cons.mp hpc with rfl | hpc
  · intro x
    obtain ⟨r, y, rfl⟩ : ∃ (r : Fin 256) (y : Fin 128), x = ix2 r y := ⟨x 0, x 1, ix2_eta x⟩
    clear hpc
    refine Eq.trans ?_ ((blk_q1 X P W U K V 6 768 rfl r y).trans (congrArg (qG X P W U V) (emb_at 768 inb_S256x1024_S256x128_0_768 r y (by omega))).symm)
    pointwise [k0_pay2]
  rcases List.mem_cons.mp hpc with rfl | hpc
  · intro x
    obtain ⟨r, y, rfl⟩ : ∃ (r : Fin 256) (y : Fin 128), x = ix2 r y := ⟨x 0, x 1, ix2_eta x⟩
    clear hpc
    refine Eq.trans ?_ ((blk_q1 X P W U K V 5 640 rfl r y).trans (congrArg (qG X P W U V) (emb_at 640 inb_S256x1024_S256x128_0_640 r y (by omega))).symm)
    pointwise [k0_pay34]
  rcases List.mem_cons.mp hpc with rfl | hpc
  · intro x
    obtain ⟨r, y, rfl⟩ : ∃ (r : Fin 256) (y : Fin 128), x = ix2 r y := ⟨x 0, x 1, ix2_eta x⟩
    clear hpc
    refine Eq.trans ?_ ((blk_q1 X P W U K V 4 512 rfl r y).trans (congrArg (qG X P W U V) (emb_at 512 inb_S256x1024_S256x128_0_512 r y (by omega))).symm)
    pointwise [k0_pay32]
  rcases List.mem_cons.mp hpc with rfl | hpc
  · intro x
    obtain ⟨r, y, rfl⟩ : ∃ (r : Fin 256) (y : Fin 128), x = ix2 r y := ⟨x 0, x 1, ix2_eta x⟩
    clear hpc
    refine Eq.trans ?_ ((blk_q1 X P W U K V 3 384 rfl r y).trans (congrArg (qG X P W U V) (emb_at 384 inb_S256x1024_S256x128_0_384 r y (by omega))).symm)
    pointwise [k0_pay30, k0_pay29]
  rcases List.mem_cons.mp hpc with rfl | hpc
  · intro x
    obtain ⟨r, y, rfl⟩ : ∃ (r : Fin 256) (y : Fin 128), x = ix2 r y := ⟨x 0, x 1, ix2_eta x⟩
    clear hpc
    refine Eq.trans ?_ ((blk_q1 X P W U K V 2 256 rfl r y).trans (congrArg (qG X P W U V) (emb_at 256 inb_S256x1024_S256x128_0_256 r y (by omega))).symm)
    pointwise [k0_pay27]
  rcases List.mem_cons.mp hpc with rfl | hpc
  · intro x
    obtain ⟨r, y, rfl⟩ : ∃ (r : Fin 256) (y : Fin 128), x = ix2 r y := ⟨x 0, x 1, ix2_eta x⟩
    clear hpc
    refine Eq.trans ?_ ((blk_q1 X P W U K V 1 128 rfl r y).trans (congrArg (qG X P W U V) (emb_at 128 inb_S256x1024_S256x128_0_128 r y (by omega))).symm)
    pointwise [k0_pay25]
  rcases List.mem_cons.mp hpc with rfl | hpc
  · intro x
    obtain ⟨r, y, rfl⟩ : ∃ (r : Fin 256) (y : Fin 128), x = ix2 r y := ⟨x 0, x 1, ix2_eta x⟩
    clear hpc
    refine Eq.trans ?_ ((blk_q1 X P W U K V 0 0 rfl r y).trans (congrArg (qG X P W U V) (emb_at 0 inb_S256x1024_S256x128_0_0 r y (by omega))).symm)
    unfold k0_pay41
    pointwise [k0_pay23, k0_pay22, k0_pay21]
  nomatch hpc

/-- The keys of a block. -/
theorem out10_apply (r : Fin 256) (e : Fin 1024) : out0_10 (F := Ideal) X P W U K V (ix2 r e) = kOut (fun k => X (ix2 r k)) (P (ix2 r 0)) W K V e := by
  unfold out0_10
  refine View.canon_apply_of_pieces (Val := Elt Ideal) (kG X P W K V) _ ?_ (ix2 r e) (cover0_10 _ _ _ _ _ _ _ _ _)
  intro pc hpc
  rcases List.mem_cons.mp hpc with rfl | hpc
  · intro x
    obtain ⟨r, y, rfl⟩ : ∃ (r : Fin 256) (y : Fin 128), x = ix2 r y := ⟨x 0, x 1, ix2_eta x⟩
    clear hpc
    refine Eq.trans ?_ ((blk_k1 X P W U K V 7 r y ⟨896 + y.val, by omega⟩ (by show 896 + y.val = 128 * 7 + y.val; omega)).trans (congrArg (kG X P W K V) (emb_at 896 inb_S256x1024_S256x128_0_896 r y (by omega))).symm)
    pointwise [k0_pay5]
  rcases List.mem_cons.mp hpc with rfl | hpc
  · intro x
    obtain ⟨r, y, rfl⟩ : ∃ (r : Fin 256) (y : Fin 128), x = ix2 r y := ⟨x 0, x 1, ix2_eta x⟩
    clear hpc
    refine Eq.trans ?_ ((blk_k1 X P W U K V 6 r y ⟨768 + y.val, by omega⟩ (by show 768 + y.val = 128 * 6 + y.val; omega)).trans (congrArg (kG X P W K V) (emb_at 768 inb_S256x1024_S256x128_0_768 r y (by omega))).symm)
    pointwise [k0_pay3]
  rcases List.mem_cons.mp hpc with rfl | hpc
  · intro x
    obtain ⟨r, y, rfl⟩ : ∃ (r : Fin 256) (y : Fin 128), x = ix2 r y := ⟨x 0, x 1, ix2_eta x⟩
    clear hpc
    refine Eq.trans ?_ ((blk_k1 X P W U K V 5 r y ⟨640 + y.val, by omega⟩ (by show 640 + y.val = 128 * 5 + y.val; omega)).trans (congrArg (kG X P W K V) (emb_at 640 inb_S256x1024_S256x128_0_640 r y (by omega))).symm)
    pointwise [k0_pay1, k0_pay35]
  rcases List.mem_cons.mp hpc with rfl | hpc
  · intro x
    obtain ⟨r, y, rfl⟩ : ∃ (r : Fin 256) (y : Fin 128), x = ix2 r y := ⟨x 0, x 1, ix2_eta x⟩
    clear hpc
    refine Eq.trans ?_ ((blk_k1 X P W U K V 4 r y ⟨512 + y.val, by omega⟩ (by show 512 + y.val = 128 * 4 + y.val; omega)).trans (congrArg (kG X P W K V) (emb_at 512 inb_S256x1024_S256x128_0_512 r y (by omega))).symm)
    pointwise [k0_pay33]
  rcases List.mem_cons.mp hpc with rfl | hpc
  · intro x
    obtain ⟨r, y, rfl⟩ : ∃ (r : Fin 256) (y : Fin 128), x = ix2 r y := ⟨x 0, x 1, ix2_eta x⟩
    clear hpc
    refine Eq.trans ?_ ((blk_k1 X P W U K V 3 r y ⟨384 + y.val, by omega⟩ (by show 384 + y.val = 128 * 3 + y.val; omega)).trans (congrArg (kG X P W K V) (emb_at 384 inb_S256x1024_S256x128_0_384 r y (by omega))).symm)
    pointwise [k0_pay31]
  rcases List.mem_cons.mp hpc with rfl | hpc
  · intro x
    obtain ⟨r, y, rfl⟩ : ∃ (r : Fin 256) (y : Fin 128), x = ix2 r y := ⟨x 0, x 1, ix2_eta x⟩
    clear hpc
    refine Eq.trans ?_ ((blk_k1 X P W U K V 2 r y ⟨256 + y.val, by omega⟩ (by show 256 + y.val = 128 * 2 + y.val; omega)).trans (congrArg (kG X P W K V) (emb_at 256 inb_S256x1024_S256x128_0_256 r y (by omega))).symm)
    pointwise [k0_pay28]
  rcases List.mem_cons.mp hpc with rfl | hpc
  · intro x
    obtain ⟨r, y, rfl⟩ : ∃ (r : Fin 256) (y : Fin 128), x = ix2 r y := ⟨x 0, x 1, ix2_eta x⟩
    clear hpc
    refine Eq.trans ?_ ((blk_k1 X P W U K V 1 r y ⟨128 + y.val, by omega⟩ (by show 128 + y.val = 128 * 1 + y.val; omega)).trans (congrArg (kG X P W K V) (emb_at 128 inb_S256x1024_S256x128_0_128 r y (by omega))).symm)
    pointwise [k0_pay26]
  rcases List.mem_cons.mp hpc with rfl | hpc
  · intro x
    obtain ⟨r, y, rfl⟩ : ∃ (r : Fin 256) (y : Fin 128), x = ix2 r y := ⟨x 0, x 1, ix2_eta x⟩
    clear hpc
    refine Eq.trans ?_ ((blk_k1 X P W U K V 0 r y ⟨0 + y.val, by omega⟩ (by show 0 + y.val = 128 * 0 + y.val; omega)).trans (congrArg (kG X P W K V) (emb_at 0 inb_S256x1024_S256x128_0_0 r y (by omega))).symm)
    pointwise [k0_pay24]
  nomatch hpc

/-- The cosines and sines of a block. -/
theorem out12_apply (r : Fin 256) (e : Fin 256) : out0_12 (F := Ideal) X P W U K V (ix2 r e) = csOut (P (ix2 r 0)) V e := by
  unfold out0_12
  refine View.canon_apply_of_pieces (Val := Elt Ideal) (csG P V) _ ?_ (ix2 r e) (cover0_12 _ _ _)
  intro pc hpc
  rcases List.mem_cons.mp hpc with rfl | hpc
  · intro x
    obtain ⟨r, y, rfl⟩ : ∃ (r : Fin 256) (y : Fin 128), x = ix2 r y := ⟨x 0, x 1, ix2_eta x⟩
    refine Eq.trans ?_ (congrArg (csG P V) (emb_at 128 inb_S256x256_S256x128_0_128 r y (by omega))).symm
    show _ = csOut (P (ix2 r 0)) V ⟨128 + y.val, _⟩
    unfold csOut
    rw [dif_neg (by show ¬(128 + y.val < 128); omega)]
    have ey : (⟨128 + y.val - 128, by omega⟩ : Fin 128) = y := Fin.ext (by show 128 + y.val - 128 = y.val; omega)
    rw [ey, ldP]
    unfold ang
    rw [← ldV4 V]
    pointwise [k0_pay14, k0_pay12]
  rcases List.mem_cons.mp hpc with rfl | hpc
  · intro x
    obtain ⟨r, y, rfl⟩ : ∃ (r : Fin 256) (y : Fin 128), x = ix2 r y := ⟨x 0, x 1, ix2_eta x⟩
    refine Eq.trans ?_ (congrArg (csG P V) (emb_at 0 inb_S256x256_S256x128_0_0 r y (by omega))).symm
    show _ = csOut (P (ix2 r 0)) V ⟨0 + y.val, _⟩
    unfold csOut
    rw [dif_pos (by show 0 + y.val < 128; omega)]
    have ey : (⟨0 + y.val, by omega⟩ : Fin 128) = y := Fin.ext (by show 0 + y.val = y.val; omega)
    rw [ey, ← blk_cos X P W U K V]
    rfl
  nomatch hpc

end Cert.Own.FwdPre
-- ==== Proof.FwdPreArray.lean ====
module

public import proofs.«01_k».proof.Proof.FwdPreBlock

@[expose] public section

/-! The seven arrays the projections leave: every row is the function of the same row of the input. -/

noncomputable section

namespace Cert.Own.FwdPre

open Idealize.ShloMosaic Idealize.ShloMosaic.TcCoe Idealize.SL.Sem Cert.FwdPreIdeal Cert.FwdPreIdeal.Gen Cert.Own.Rows

/-- The printed index maps over the grid: point `t` takes the rows from `256 t`, and all of the weights and parameters. -/
theorem idx_facts : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] :=
  (by decide +kernel : ∀ t : Fin grid0.N, _)

theorem idx_outs : ∀ t : Fin cfg0.N, win0_6.index t = ![t.val, 0] ∧ win0_7.index t = ![t.val, 0] ∧ win0_8.index t = ![t.val, 0]
    ∧ win0_9.index t = ![t.val, 0] ∧ win0_10.index t = ![t.val, 0] ∧ win0_11.index t = ![t.val, 0] ∧ win0_12.index t = ![t.val, 0] :=
  (by decide +kernel : ∀ t : Fin grid0.N, _)

theorem t_lt (t : Fin cfg0.N) : t.val < 32 := t.isLt

variable (m : (ℓ : Loc nD τ sig) → Buf (Elt Ideal) ℓ)

/-- The arguments on device `c`. -/
abbrev Xof (c : Dev nD) : Vec Ideal S8192x1024 .f32 := m ((c : Thread nD τ).loc main_arg0)
abbrev Pof (c : Dev nD) : Vec Ideal S8192x1 .i32 := m ((c : Thread nD τ).loc main_arg1)
abbrev Wof (c : Dev nD) : Vec Ideal S1024x2560 .bf16 := m ((c : Thread nD τ).loc main_arg2)
abbrev Uof (c : Dev nD) : Vec Ideal S256x1024 .bf16 := m ((c : Thread nD τ).loc main_arg3)
abbrev Kof (c : Dev nD) : Vec Ideal S128x1536 .bf16 := m ((c : Thread nD τ).loc main_arg4)
abbrev Vof (c : Dev nD) : Vec Ideal S16x1024 .f32 := m ((c : Thread nD τ).loc main_arg5)

/-- Row `r` of point `t`'s block, in the array. -/
abbrev grow (t : Fin cfg0.N) (r : Fin 256) : Fin 8192 := ⟨256 * t.val + r.val, by have := t_lt t; omega⟩

/-- An array's index from a block's, where the block's index is `(t, 0)`. -/
theorem row_idx {n : ℕ} (t : Fin cfg0.N) (w : Fin 2 → ℕ) (hw : w = ![t.val, 0]) (r : Fin 256) (e : Fin n)
    (i : (⟨2, ![8192, n]⟩ : Shape).Idx) (h0 : (i 0).val = w 0 * 256 + 1 * r.val) (h1 : (i 1).val = w 1 * n + 1 * e.val) :
    i = ix2 (grow t r) e := by
  subst hw
  funext a
  apply Fin.ext
  match a with
  | ⟨0, _⟩ => show (i 0).val = 256 * t.val + r.val; rw [h0]; show t.val * 256 + 1 * r.val = _; omega
  | ⟨1, _⟩ => show (i 1).val = e.val; rw [h1]; show 0 * n + 1 * e.val = _; omega

/-- The same where the block is the whole array. -/
theorem whole_idx {n k : ℕ} (w : Fin 2 → ℕ) (hw : w = ![0, 0]) (r : Fin n) (e : Fin k)
    (i : (⟨2, ![n, k]⟩ : Shape).Idx) (h0 : (i 0).val = w 0 * n + 1 * r.val) (h1 : (i 1).val = w 1 * k + 1 * e.val) :
    i = ix2 r e := by
  subst hw
  funext a
  apply Fin.ext
  match a with
  | ⟨0, _⟩ => show (i 0).val = r.val; rw [h0]; show 0 * n + 1 * r.val = _; omega
  | ⟨1, _⟩ => show (i 1).val = e.val; rw [h1]; show 0 * k + 1 * e.val = _; omega

theorem blkX (c : Dev nD) (t : Fin cfg0.N) (r : Fin 256) (k : Fin 1024) :
    (iblk m c 0 t : Vec Ideal S256x1024 .f32) (ix2 r k) = Xof m c (ix2 (grow t r) k) :=
  congrArg (Xof m c) (row_idx t _ (idx_facts t).1 r k _ rfl rfl)
theorem blkP (c : Dev nD) (t : Fin cfg0.N) (r : Fin 256) (k : Fin 1) :
    (iblk m c 1 t : Vec Ideal S256x1 .i32) (ix2 r k) = Pof m c (ix2 (grow t r) k) :=
  congrArg (Pof m c) (row_idx t _ (idx_facts t).2.1 r k _ rfl rfl)
theorem blkW (c : Dev nD) (t : Fin cfg0.N) : (iblk m c 2 t : Vec Ideal S1024x2560 .bf16) = Wof m c := by
  funext j; rw [ix2_eta j]
  exact congrArg (Wof m c) (whole_idx _ (idx_facts t).2.2.1 (j 0) (j 1) _ rfl rfl)
theorem blkU (c : Dev nD) (t : Fin cfg0.N) : (iblk m c 3 t : Vec Ideal S256x1024 .bf16) = Uof m c := by
  funext j; rw [ix2_eta j]
  exact congrArg (Uof m c) (whole_idx _ (idx_facts t).2.2.2.1 (j 0) (j 1) _ rfl rfl)
theorem blkK (c : Dev nD) (t : Fin cfg0.N) : (iblk m c 4 t : Vec Ideal S128x1536 .bf16) = Kof m c := by
  funext j; rw [ix2_eta j]
  exact congrArg (Kof m c) (whole_idx _ (idx_facts t).2.2.2.2.1 (j 0) (j 1) _ rfl rfl)
theorem blkV (c : Dev nD) (t : Fin cfg0.N) : (iblk m c 5 t : Vec Ideal S16x1024 .f32) = Vof m c := by
  funext j; rw [ix2_eta j]
  exact congrArg (Vof m c) (whole_idx _ (idx_facts t).2.2.2.2.2 (j 0) (j 1) _ rfl rfl)
theorem rowX (c : Dev nD) (t : Fin cfg0.N) (r : Fin 256) :
    (fun k => (iblk m c 0 t : Vec Ideal S256x1024 .f32) (ix2 r k)) = fun k => Xof m c (ix2 (grow t r) k) := funext (blkX m c t r)

/-- Bounds of a row in the block that holds it. -/
theorem row_mem (t : Fin cfg0.N) (w : Fin 2 → ℕ) (hw : w = ![t.val, 0]) (n a b : ℕ) (ht : t.val = a / 256) (hb : b < n) :
    (w 0 * 256 ≤ a ∧ a < w 0 * 256 + 256) ∧ (w 1 * n ≤ b ∧ b < w 1 * n + n) := by
  subst hw
  show (t.val * 256 ≤ a ∧ a < t.val * 256 + 256) ∧ (0 * n ≤ b ∧ b < 0 * n + n)
  omega

/-- The array of the compressed query after the run. -/
theorem arr6 (c : Dev nD) : (dats m 0 c).arrAt 6 cfg0.N = fun i : S8192x256.Idx => cqOf (fun k => Xof m c (ix2 (i 0) k)) (Wof m c) (i 1) := by
  refine (dats m 0 c).arrAt_eq_of_cover 6 _ (fun t _ => ?_) (fun i => ?_)
  · rw [Value.flushed6]
    funext j
    obtain ⟨r, e, rfl⟩ : ∃ (r : Fin 256) (e : Fin 256), j = ix2 r e := ⟨j 0, j 1, ix2_eta j⟩
    refine (out6_apply _ _ _ _ _ _ r e).trans ?_
    rw [rowX, blkW]
    exact (congrArg (fun i : S8192x256.Idx => cqOf (fun k => Xof m c (ix2 (i 0) k)) (Wof m c) (i 1)) (row_idx t _ (idx_outs t).1 r e (((cfg0.win 6).blk t).view.emb (ix2 r e)) rfl rfl)).symm
  · have ht : (i 0).val < 8192 := (i 0).isLt
    let t : Fin cfg0.N := ⟨(i 0).val / 256, by show (i 0).val / 256 < 32; omega⟩
    have hm := row_mem t _ (idx_outs t).1 256 (i 0).val (i 1).val rfl (i 1).isLt
    refine ⟨t, flush0_6 t, ?_⟩
    show i ∈ ((View.whole main_v0_0).slice (win0_6.rect t)).set
    rw [View.set_slice_whole, Rect.mem_set_unit]
    intro a
    match a with
    | ⟨0, _⟩ => exact hm.1
    | ⟨1, _⟩ => exact hm.2

/-- The array of the compressed key and value after the run. -/
theorem arr7 (c : Dev nD) : (dats m 0 c).arrAt 7 cfg0.N = fun i : S8192x128.Idx => ckvOf (fun k => Xof m c (ix2 (i 0) k)) (Wof m c) (i 1) := by
  refine (dats m 0 c).arrAt_eq_of_cover 7 _ (fun t _ => ?_) (fun i => ?_)
  · rw [Value.flushed7]
    funext j
    obtain ⟨r, e, rfl⟩ : ∃ (r : Fin 256) (e : Fin 128), j = ix2 r e := ⟨j 0, j 1, ix2_eta j⟩
    refine (out7_apply _ _ _ _ _ _ r e).trans ?_
    rw [rowX, blkW]
    exact (congrArg (fun i : S8192x128.Idx => ckvOf (fun k => Xof m c (ix2 (i 0) k)) (Wof m c) (i 1)) (row_idx t _ (idx_outs t).2.1 r e (((cfg0.win 7).blk t).view.emb (ix2 r e)) rfl rfl)).symm
  · have ht : (i 0).val < 8192 := (i 0).isLt
    let t : Fin cfg0.N := ⟨(i 0).val / 256, by show (i 0).val / 256 < 32; omega⟩
    have hm := row_mem t _ (idx_outs t).2.1 128 (i 0).val (i 1).val rfl (i 1).isLt
    refine ⟨t, flush0_7 t, ?_⟩
    show i ∈ ((View.whole main_v0_1).slice (win0_7.rect t)).set
    rw [View.set_slice_whole, Rect.mem_set_unit]
    intro a
    match a with
    | ⟨0, _⟩ => exact hm.1
    | ⟨1, _⟩ => exact hm.2

/-- The array of the gate after the run. -/
theorem arr8 (c : Dev nD) : (dats m 0 c).arrAt 8 cfg0.N = fun i : S8192x2048.Idx => gateOf (fun k => Xof m c (ix2 (i 0) k)) (Wof m c) (i 1) := by
  refine (dats m 0 c).arrAt_eq_of_cover 8 _ (fun t _ => ?_) (fun i => ?_)
  · rw [Value.flushed8]
    funext j
    obtain ⟨r, e, rfl⟩ : ∃ (r : Fin 256) (e : Fin 2048), j = ix2 r e := ⟨j 0, j 1, ix2_eta j⟩
    refine (out8_apply _ _ _ _ _ _ r e).trans ?_
    rw [rowX, blkW]
    exact (congrArg (fun i : S8192x2048.Idx => gateOf (fun k => Xof m c (ix2 (i 0) k)) (Wof m c) (i 1)) (row_idx t _ (idx_outs t).2.2.1 r e (((cfg0.win 8).blk t).view.emb (ix2 r e)) rfl rfl)).symm
  · have ht : (i 0).val < 8192 := (i 0).isLt
    let t : Fin cfg0.N := ⟨(i 0).val / 256, by show (i 0).val / 256 < 32; omega⟩
    have hm := row_mem t _ (idx_outs t).2.2.1 2048 (i 0).val (i 1).val rfl (i 1).isLt
    refine ⟨t, flush0_8 t, ?_⟩
    show i ∈ ((View.whole main_v0_2).slice (win0_8.rect t)).set
    rw [View.set_slice_whole, Rect.mem_set_unit]
    intro a
    match a with
    | ⟨0, _⟩ => exact hm.1
    | ⟨1, _⟩ => exact hm.2

/-- The array of the rotated queries after the run. -/
theorem arr9 (c : Dev nD) : (dats m 0 c).arrAt 9 cfg0.N = fun i : S8192x1024.Idx => qOut (fun k => Xof m c (ix2 (i 0) k)) (Pof m c (ix2 (i 0) 0)) (Wof m c) (Uof m c) (Vof m c) (i 1) := by
  refine (dats m 0 c).arrAt_eq_of_cover 9 _ (fun t _ => ?_) (fun i => ?_)
  · rw [Value.flushed9]
    funext j
    obtain ⟨r, e, rfl⟩ : ∃ (r : Fin 256) (e : Fin 1024), j = ix2 r e := ⟨j 0, j 1, ix2_eta j⟩
    refine (out9_apply _ _ _ _ _ _ r e).trans ?_
    rw [rowX, blkW, blkP, blkU, blkV]
    exact (congrArg (fun i : S8192x1024.Idx => qOut (fun k => Xof m c (ix2 (i 0) k)) (Pof m c (ix2 (i 0) 0)) (Wof m c) (Uof m c) (Vof m c) (i 1)) (row_idx t _ (idx_outs t).2.2.2.1 r e (((cfg0.win 9).blk t).view.emb (ix2 r e)) rfl rfl)).symm
  · have ht : (i 0).val < 8192 := (i 0).isLt
    let t : Fin cfg0.N := ⟨(i 0).val / 256, by show (i 0).val / 256 < 32; omega⟩
    have hm := row_mem t _ (idx_outs t).2.2.2.1 1024 (i 0).val (i 1).val rfl (i 1).isLt
    refine ⟨t, flush0_9 t, ?_⟩
    show i ∈ ((View.whole main_v0_3).slice (win0_9.rect t)).set
    rw [View.set_slice_whole, Rect.mem_set_unit]
    intro a
    match a with
    | ⟨0, _⟩ => exact hm.1
    | ⟨1, _⟩ => exact hm.2

/-- The array of the keys after the run. -/
theorem arr10 (c : Dev nD) : (dats m 0 c).arrAt 10 cfg0.N = fun i : S8192x1024.Idx => kOut (fun k => Xof m c (ix2 (i 0) k)) (Pof m c (ix2 (i 0) 0)) (Wof m c) (Kof m c) (Vof m c) (i 1) := by
  refine (dats m 0 c).arrAt_eq_of_cover 10 _ (fun t _ => ?_) (fun i => ?_)
  · rw [Value.flushed10]
    funext j
    obtain ⟨r, e, rfl⟩ : ∃ (r : Fin 256) (e : Fin 1024), j = ix2 r e := ⟨j 0, j 1, ix2_eta j⟩
    refine (out10_apply _ _ _ _ _ _ r e).trans ?_
    rw [rowX, blkW, blkP, blkK, blkV]
    exact (congrArg (fun i : S8192x1024.Idx => kOut (fun k => Xof m c (ix2 (i 0) k)) (Pof m c (ix2 (i 0) 0)) (Wof m c) (Kof m c) (Vof m c) (i 1)) (row_idx t _ (idx_outs t).2.2.2.2.1 r e (((cfg0.win 10).blk t).view.emb (ix2 r e)) rfl rfl)).symm
  · have ht : (i 0).val < 8192 := (i 0).isLt
    let t : Fin cfg0.N := ⟨(i 0).val / 256, by show (i 0).val / 256 < 32; omega⟩
    have hm := row_mem t _ (idx_outs t).2.2.2.2.1 1024 (i 0).val (i 1).val rfl (i 1).isLt
    refine ⟨t, flush0_10 t, ?_⟩
    show i ∈ ((View.whole main_v0_4).slice (win0_10.rect t)).set
    rw [View.set_slice_whole, Rect.mem_set_unit]
    intro a
    match a with
    | ⟨0, _⟩ => exact hm.1
    | ⟨1, _⟩ => exact hm.2

/-- The array of the values after the run. -/
theorem arr11 (c : Dev nD) : (dats m 0 c).arrAt 11 cfg0.N = fun i : S8192x512.Idx => vOut (fun k => Xof m c (ix2 (i 0) k)) (Wof m c) (Kof m c) (Vof m c) (i 1) := by
  refine (dats m 0 c).arrAt_eq_of_cover 11 _ (fun t _ => ?_) (fun i => ?_)
  · rw [Value.flushed11]
    funext j
    obtain ⟨r, e, rfl⟩ : ∃ (r : Fin 256) (e : Fin 512), j = ix2 r e := ⟨j 0, j 1, ix2_eta j⟩
    refine (out11_apply _ _ _ _ _ _ r e).trans ?_
    rw [rowX, blkW, blkK, blkV]
    exact (congrArg (fun i : S8192x512.Idx => vOut (fun k => Xof m c (ix2 (i 0) k)) (Wof m c) (Kof m c) (Vof m c) (i 1)) (row_idx t _ (idx_outs t).2.2.2.2.2.1 r e (((cfg0.win 11).blk t).view.emb (ix2 r e)) rfl rfl)).symm
  · have ht : (i 0).val < 8192 := (i 0).isLt
    let t : Fin cfg0.N := ⟨(i 0).val / 256, by show (i 0).val / 256 < 32; omega⟩
    have hm := row_mem t _ (idx_outs t).2.2.2.2.2.1 512 (i 0).val (i 1).val rfl (i 1).isLt
    refine ⟨t, flush0_11 t, ?_⟩
    show i ∈ ((View.whole main_v0_5).slice (win0_11.rect t)).set
    rw [View.set_slice_whole, Rect.mem_set_unit]
    intro a
    match a with
    | ⟨0, _⟩ => exact hm.1
    | ⟨1, _⟩ => exact hm.2

/-- The array of the cosines and sines after the run. -/
theorem arr12 (c : Dev nD) : (dats m 0 c).arrAt 12 cfg0.N = fun i : S8192x256.Idx => csOut (Pof m c (ix2 (i 0) 0)) (Vof m c) (i 1) := by
  refine (dats m 0 c).arrAt_eq_of_cover 12 _ (fun t _ => ?_) (fun i => ?_)
  · rw [Value.flushed12]
    funext j
    obtain ⟨r, e, rfl⟩ : ∃ (r : Fin 256) (e : Fin 256), j = ix2 r e := ⟨j 0, j 1, ix2_eta j⟩
    refine (out12_apply _ _ _ _ _ _ r e).trans ?_
    rw [blkP, blkV]
    exact (congrArg (fun i : S8192x256.Idx => csOut (Pof m c (ix2 (i 0) 0)) (Vof m c) (i 1)) (row_idx t _ (idx_outs t).2.2.2.2.2.2 r e (((cfg0.win 12).blk t).view.emb (ix2 r e)) rfl rfl)).symm
  · have ht : (i 0).val < 8192 := (i 0).isLt
    let t : Fin cfg0.N := ⟨(i 0).val / 256, by show (i 0).val / 256 < 32; omega⟩
    have hm := row_mem t _ (idx_outs t).2.2.2.2.2.2 256 (i 0).val (i 1).val rfl (i 1).isLt
    refine ⟨t, flush0_12 t, ?_⟩
    show i ∈ ((View.whole main_v0_6).slice (win0_12.rect t)).set
    rw [View.set_slice_whole, Rect.mem_set_unit]
    intro a
    match a with
    | ⟨0, _⟩ => exact hm.1
    | ⟨1, _⟩ => exact hm.2

end Cert.Own.FwdPre
-- ==== Proof.FwdPreRef.lean ====
module

public import proofs.«01_k».proof.Proof.Gen.FwdPreRefIdeal.Read
public import proofs.«01_k».proof.Proof.Rows

@[expose] public section

/-! The reference's seven results at an index, as functions of the index's row of the input and its position. -/

noncomputable section

namespace Cert.Own.FwdPre

open Idealize.ShloMosaic Cert.FwdPreRefIdeal Cert.FwdPreRefIdeal.Gen Cert.FwdPreRefIdeal.Read Cert.Own.Rows

variable (X : Vec Ideal ⟨2, ![8192, 1024]⟩ .f32) (P : Vec Ideal ⟨2, ![8192, 1]⟩ .i32) (W : Vec Ideal ⟨2, ![1024, 2560]⟩ .bf16)
  (U : Vec Ideal ⟨2, ![256, 1024]⟩ .bf16) (K : Vec Ideal ⟨2, ![128, 1536]⟩ .bf16) (V : Vec Ideal ⟨2, ![16, 1024]⟩ .f32)

/-- The compressed query. -/
theorem ref_cq (q : Fin 8192) (e : Fin 256) : val_main_v2 (F := Ideal) X W (ix2 q e) = cqOf (fun k => X (ix2 q k)) W e := by
  pointwise [val_main_v2, val_main_v1, val_main_v0]

/-- The compressed key and value. -/
theorem ref_ckv (q : Fin 8192) (e : Fin 128) : val_main_v3 (F := Ideal) X W (ix2 q e) = ckvOf (fun k => X (ix2 q k)) W e := by
  pointwise [val_main_v3, val_main_v1, val_main_v0]

/-- The rotary key before its rotation. -/
theorem ref_kr (q : Fin 8192) (e : Fin 128) : val_main_v4 (F := Ideal) X W (ix2 q e) = krOf (fun k => X (ix2 q k)) W e := by
  pointwise [val_main_v4, val_main_v1, val_main_v0]

/-- The gate. -/
theorem ref_gate (q : Fin 8192) (e : Fin 2048) : val_main_v5 (F := Ideal) X W (ix2 q e) = gateOf (fun k => X (ix2 q k)) W e := by
  pointwise [val_main_v5, val_main_v1, val_main_v0]

/-- The queries before their rotation. -/
theorem ref_q0 (q : Fin 8192) (e : Fin 1024) :
    val_main_v34 (F := Ideal) X W U V (ix2 q e) = qRow (cqOf (fun k => X (ix2 q k)) W) U V e := by
  rw [show cqOf (fun k => X (ix2 q k)) W = fun k => val_main_v2 (F := Ideal) X W (ix2 q k) from funext fun k => (ref_cq X W q k).symm]
  pointwise [val_main_v34, val_main_v33, val_main_v32, val_main_v31, val_main_v30, val_main_v29, val_main_v28, val_main_v27,
    val_main_v26, val_main_v25, val_main_v24, val_main_v23, val_main_v22, val_main_v21, val_main_cst, val_main_cst_0,
    val_main_cst_1, val_main_v6]

/-- The keys and values before the rotary part is added. -/
theorem ref_kv (q : Fin 8192) (e : Fin 1536) :
    val_main_v62 (F := Ideal) X W K V (ix2 q e) = kvRow (ckvOf (fun k => X (ix2 q k)) W) K V e := by
  rw [show ckvOf (fun k => X (ix2 q k)) W = fun k => val_main_v3 (F := Ideal) X W (ix2 q k) from funext fun k => (ref_ckv X W q k).symm]
  pointwise [val_main_v62, val_main_v61, val_main_v60, val_main_v59, val_main_v58, val_main_v57, val_main_v56, val_main_v55,
    val_main_v54, val_main_v53, val_main_v52, val_main_v51, val_main_v50, val_main_v49, val_main_cst_2, val_main_cst_3,
    val_main_cst_4, val_main_v7]

/-- The cosine, the sine and its two masked copies at a position. -/
theorem ref_cos (q : Fin 8192) (y : Fin 128) : val_main_v13 (F := Ideal) P V (ix2 q y) = Ideal.cos (ang (P (ix2 q 0)) V y) := by
  pointwise [val_main_v13, val_main_v12, val_main_v11, val_main_v10, val_main_v9, val_main_v8]

theorem ref_sin (q : Fin 8192) (y : Fin 128) : val_main_v14 (F := Ideal) P V (ix2 q y) = Ideal.sin (ang (P (ix2 q 0)) V y) := by
  pointwise [val_main_v14, val_main_v12, val_main_v11, val_main_v10, val_main_v9, val_main_v8]

theorem ref_s1 (q : Fin 8192) (y : Fin 128) :
    val_main_v17 (F := Ideal) P V (ix2 q y) = Ideal.sin (ang (P (ix2 q 0)) V y) * V (ix2 5 ⟨y.val, by omega⟩) := by
  rw [← ref_sin]; pointwise [val_main_v17, val_main_v16, val_main_v15]

theorem ref_s2 (q : Fin 8192) (y : Fin 128) :
    val_main_v20 (F := Ideal) P V (ix2 q y) = Ideal.sin (ang (P (ix2 q 0)) V y) * V (ix2 6 ⟨y.val, by omega⟩) := by
  rw [← ref_sin]; pointwise [val_main_v20, val_main_v19, val_main_v18]

/-- The rotated queries, by head. -/
theorem ref_q1 (q : Fin 8192) (h : Fin 8) (y : Fin 128) : val_main_v48 (F := Ideal) X P W U V (ix3 q h y)
    = rope (fun y => qRow (cqOf (fun k => X (ix2 q k)) W) U V (hl h y)) (P (ix2 q 0)) V y := by
  have e : ∀ z : Fin 128, val_main_v35 (F := Ideal) X W U V (ix3 q h z) = qRow (cqOf (fun k => X (ix2 q k)) W) U V (hl h z) := fun z => by
    rw [← ref_q0, show hl h z = ⟨h.val * 128 + z.val, by omega⟩ from Fin.ext (by show 128 * h.val + z.val = h.val * 128 + z.val; omega)]
    pointwise [val_main_v35]
  have e1 : val_main_v39 (F := Ideal) X W U V (ix3 q h y) = val_main_v35 (F := Ideal) X W U V (ix3 q h (fwd16 y)) := by
    rw [← turn_fwd (fun z => val_main_v35 (F := Ideal) X W U V (ix3 q h z))]
    pointwise [val_main_v39, val_main_call0_v0, val_main_call0_v1]
  have e2 : val_main_v44 (F := Ideal) X W U V (ix3 q h y) = val_main_v35 (F := Ideal) X W U V (ix3 q h (bwd16 y)) := by
    rw [← turn_bwd (fun z => val_main_v35 (F := Ideal) X W U V (ix3 q h z))]
    pointwise [val_main_v44, val_main_call1_v0, val_main_call1_v1]
  unfold rope
  beta_reduce
  rw [← ref_cos, ← ref_s1, ← ref_s2, ← e, ← e, ← e, ← e1, ← e2]
  pointwise [val_main_v48, val_main_v47, val_main_v46, val_main_v45, val_main_v43, val_main_v42, val_main_v41, val_main_v40,
    val_main_v38, val_main_v37, val_main_v36]

/-- The rotated queries. -/
theorem ref_q (q : Fin 8192) (e : Fin 1024) : val_main_v76 (F := Ideal) X P W U V (ix2 q e)
    = qOut (fun k => X (ix2 q k)) (P (ix2 q 0)) W U V e := by
  unfold qOut
  rw [← ref_q1]
  pointwise [val_main_v76, val_main_v75]

/-- The rotary key. -/
theorem ref_kr1 (q : Fin 8192) (y : Fin 128) : val_main_v69 (F := Ideal) X P W V (ix2 q y)
    = rope (krOf (fun k => X (ix2 q k)) W) (P (ix2 q 0)) V y := by
  have e1 : val_main_v64 (F := Ideal) X W (ix2 q y) = val_main_v4 (F := Ideal) X W (ix2 q (fwd16 y)) := by
    rw [← turn_fwd (fun z => val_main_v4 (F := Ideal) X W (ix2 q z))]
    pointwise [val_main_v64, val_main_call2_v0, val_main_call2_v1]
  have e2 : val_main_v67 (F := Ideal) X W (ix2 q y) = val_main_v4 (F := Ideal) X W (ix2 q (bwd16 y)) := by
    rw [← turn_bwd (fun z => val_main_v4 (F := Ideal) X W (ix2 q z))]
    pointwise [val_main_v67, val_main_call3_v0, val_main_call3_v1]
  unfold rope
  rw [← ref_cos, ← ref_s1, ← ref_s2, ← ref_kr, ← ref_kr, ← ref_kr, ← e1, ← e2]
  pointwise [val_main_v69, val_main_v68, val_main_v66, val_main_v65, val_main_v63]

/-- The keys. -/
theorem ref_k (q : Fin 8192) (e : Fin 1024) : val_main_v78 (F := Ideal) X P W K V (ix2 q e)
    = kOut (fun k => X (ix2 q k)) (P (ix2 q 0)) W K V e := by
  unfold kOut
  rw [← ref_kr1, ← ref_kv]
  pointwise [val_main_v78, val_main_v77, val_main_v74, val_main_v73, val_main_v72, val_main_v71, val_main_v70]

/-- The values. -/
theorem ref_v (q : Fin 8192) (e : Fin 512) : val_main_v80 (F := Ideal) X W K V (ix2 q e)
    = vOut (fun k => X (ix2 q k)) W K V e := by
  unfold vOut
  rw [← ref_kv]
  pointwise [val_main_v80, val_main_v79]

/-- The cosines and sines. -/
theorem ref_cs (q : Fin 8192) (e : Fin 256) : val_main_v81 (F := Ideal) P V (ix2 q e) = csOut (P (ix2 q 0)) V e := by
  have e1 : val_main_v81 (F := Ideal) P V (ix2 q e) = if h : e.val < 128 then val_main_v13 (F := Ideal) P V (ix2 q ⟨e.val, h⟩)
      else val_main_v14 (F := Ideal) P V (ix2 q ⟨e.val - 128, by omega⟩) := by pointwise [val_main_v81]
  rw [e1]
  simp only [ref_cos, ref_sin]

end Cert.Own.FwdPre
-- ==== Proof.FwdPreValue.lean ====
module

public import proofs.«01_k».proof.Defs
public import proofs.«01_k».proof.Proof.FwdPreArray
public import proofs.«01_k».proof.Proof.FwdPreRef
public import proofs.«01_k».proof.Proof.Gen.FwdPreRefIdeal.Run

@[expose] public section

/-! The kernel's seven arrays are the reference's seven results. -/

noncomputable section

namespace Cert.Own.FwdPre

open Idealize.ShloMosaic Idealize.ShloMosaic.TcCoe Idealize.SL.Sem

/-- The reference runs, leaves its arguments and has no signals. -/
theorem ref_frame : Cert.quiescent_FwdPreRefIdeal := fun m ρ _ =>
  (θ_run _ _ _).mono (fun r h => ⟨fun c => (h c).2.2.2.2.2.2.2, sem_eq_zero_of_no_sems (by decide) r.2⟩) (Cert.FwdPreRefIdeal.Value.run (F := Ideal) m ρ)

/-- Two arrays of rows that agree at every row and lane are the same. -/
theorem rows_ext {n : ℕ} {α : Type} {f g : (⟨2, ![8192, n]⟩ : Shape).Idx → α} (h : ∀ q e, f (ix2 q e) = g (ix2 q e)) : f = g :=
  funext fun i => by rw [ix2_eta i]; exact h _ _

/-- The kernel and the reference leave the same compressed rows, gate, queries, keys, values, cosines and sines. -/
theorem algebraic : Cert.algebraic_FwdPreIdeal_FwdPreRefIdeal := by
  intro m ρ m' ρ' _ hag
  refine ⟨_, _, _, _, _, _, _, Cert.FwdPreIdeal.Value.run_blocks m ρ, ?_⟩
  refine (θ_run _ _ _).mono (fun r h c => ?_) (Cert.FwdPreRefIdeal.Value.run (F := Ideal) m' ρ')
  obtain ⟨h0, h1, h2, h3, h4, h5⟩ := hag c
  refine ⟨(h c).1.trans ?_, (h c).2.1.trans ?_, (h c).2.2.1.trans ?_, (h c).2.2.2.1.trans ?_, (h c).2.2.2.2.1.trans ?_,
    (h c).2.2.2.2.2.1.trans ?_, (h c).2.2.2.2.2.2.1.trans ?_, (h c).2.2.2.2.2.2.2⟩
  · rw [Cert.FwdPreRefIdeal.Read.val_main_v2_eq, h0, h2]
    exact (rows_ext fun q e => ref_cq _ _ q e).trans (arr6 m c).symm
  · rw [Cert.FwdPreRefIdeal.Read.val_main_v3_eq, h0, h2]
    exact (rows_ext fun q e => ref_ckv _ _ q e).trans (arr7 m c).symm
  · rw [Cert.FwdPreRefIdeal.Read.val_main_v5_eq, h0, h2]
    exact (rows_ext fun q e => ref_gate _ _ q e).trans (arr8 m c).symm
  · rw [Cert.FwdPreRefIdeal.Read.val_main_v76_eq, h0, h1, h2, h3, h5]
    exact (rows_ext fun q e => ref_q _ _ _ _ _ q e).trans (arr9 m c).symm
  · rw [Cert.FwdPreRefIdeal.Read.val_main_v78_eq, h0, h1, h2, h4, h5]
    exact (rows_ext fun q e => ref_k _ _ _ _ _ q e).trans (arr10 m c).symm
  · rw [Cert.FwdPreRefIdeal.Read.val_main_v80_eq, h0, h2, h4, h5]
    exact (rows_ext fun q e => ref_v _ _ _ _ q e).trans (arr11 m c).symm
  · rw [Cert.FwdPreRefIdeal.Read.val_main_v81_eq, h1, h5]
    exact (rows_ext fun q e => ref_cs _ _ q e).trans (arr12 m c).symm

end Cert.Own.FwdPre

end
-- ==== Proof.AttnBwdStep.lean ====
module

public import proofs.«01_k».proof.Proof.Gen.AttnBwdIdeal.Skeleton
public import Idealize.ShloMosaic.Lib.Pointwise
public import Idealize.ShloMosaic.Lib.WordCmp

@[expose] public section

/-! What the backward attention kernel computes of one block of 256 queries against one block of 256 keys: the weights, the gradient of
    the scores, and what the block adds to the gradients of the queries, the keys and the values. -/

noncomputable section

namespace Cert.Own.AttnBwd

open Idealize.ShloMosaic Idealize.ShloMosaic.TcCoe Idealize.SL.Sem Cert.AttnBwdIdeal Cert.AttnBwdIdeal.Gen

/-- The scale of the scores. -/
abbrev scale : EReal := Ideal.ofBits .f32 0x3DD105EC#32

variable (q K V G dos : Vec Ideal S256x128 .bf16) (L D : FVec Ideal S1x256 .f32) (A : FVec Ideal S256x128 .f32)

/-- The weight of key `n` for query `r`, from the query's log sum. -/
def weight (n r : Fin 256) : EReal := Ideal.exp ((∑ y : Fin 128, K (ix2 n y) * q (ix2 r y)) * scale - L (ix2 0 r))

/-- The gradient of a score, from its weight `p`. -/
def sgrad (p : EReal) (n r : Fin 256) : EReal := p * ((∑ d : Fin 128, V (ix2 n d) * dos (ix2 r d)) - D (ix2 0 r)) * scale

/-! ### A block of keys before the queries' own -/

theorem w0_apply (n r : Fin 256) : k0_pay6 L q K (ix2 n r) = weight q K L n r := by unfold weight; pointwise [k0_pay6]
theorem w1_apply (n r : Fin 256) : k0_pay11 L q K (ix2 n r) = weight q K L n r := by unfold weight; pointwise [k0_pay11]

theorem s0_apply (n r : Fin 256) : k0_pay8 dos D L q V K (ix2 n r) = sgrad V dos D (weight q K L n r) n r := by
  unfold sgrad; rw [← w0_apply]; pointwise [k0_pay8]
theorem s1_apply (n r : Fin 256) : k0_pay33 dos D V (k0_pay11 L q K) (constant S256x256 .f32 0#32) (ix2 n r) = sgrad V dos D (weight q K L n r) n r := by
  unfold sgrad; rw [← w1_apply]; pointwise [k0_pay33]

/-- The gradient of the first head's keys. -/
theorem dk0_apply (n : Fin 256) (y : Fin 128) :
    k0_pay9 dos D L q V K A (ix2 n y) = A (ix2 n y) + ∑ r : Fin 256, sgrad V dos D (weight q K L n r) n r * q (ix2 r y) := by
  simp only [← s0_apply]; pointwise [k0_pay9]
/-- The gradient of the second head's keys. -/
theorem dk1_apply (n : Fin 256) (y : Fin 128) :
    k0_pay34 dos D q V (k0_pay11 L q K) (constant S256x256 .f32 0#32) A (ix2 n y)
      = A (ix2 n y) + ∑ r : Fin 256, sgrad V dos D (weight q K L n r) n r * q (ix2 r y) := by
  simp only [← s1_apply]; pointwise [k0_pay34]
/-- The gradient of the first head's queries. -/
theorem dq0_apply (r : Fin 256) (y : Fin 128) :
    k0_pay10 dos D L q A V K (ix2 r y) = A (ix2 r y) + ∑ n : Fin 256, sgrad V dos D (weight q K L n r) n r * K (ix2 n y) := by
  simp only [← s0_apply]; pointwise [k0_pay10]
/-- The gradient of the second head's queries. -/
theorem dq1_apply (r : Fin 256) (y : Fin 128) :
    k0_pay35 dos D A V K (k0_pay11 L q K) (constant S256x256 .f32 0#32) (ix2 r y)
      = A (ix2 r y) + ∑ n : Fin 256, sgrad V dos D (weight q K L n r) n r * K (ix2 n y) := by
  simp only [← s1_apply]; pointwise [k0_pay35]

/-- The first head in the lanes below 64, the second in the others. -/
theorem lanes_select {α : Type} (d : Fin 128) (a b : α) :
    Scalar.select (IntOp.cmpi .slt (BitVec.ofNat 32 d.val) 64#32) a b = if d.val < 64 then a else b := by
  rw [show (64#32 : BitVec 32) = BitVec.ofNat 32 64 from rfl, WordCmp.cmpi_slt_ofNat (by have := d.isLt; omega) (by norm_num)]
  by_cases h : d.val < 64
  · rw [decide_eq_true h, if_pos h]; rfl
  · rw [decide_eq_false h, if_neg h]; rfl

theorem pv0_apply (n : Fin 256) (d : Fin 128) : k0_pay7 G L q K (ix2 n d) = ∑ r : Fin 256, weight q K L n r * G (ix2 r d) := by
  simp only [← w0_apply]; pointwise [k0_pay7]
theorem pv1_apply (n : Fin 256) (d : Fin 128) : k0_pay12 G L q K (ix2 n d) = ∑ r : Fin 256, weight q K L n r * G (ix2 r d) := by
  simp only [← w1_apply]; pointwise [k0_pay12]

/-- The gradient of the values. -/
theorem dv_apply (B₀ B₁ : FVec Ideal S256x128 .f32) (n : Fin 256) (d : Fin 128) :
    k0_pay36 k0_pay22 B₀ B₁ A (ix2 n d) = A (ix2 n d) + if d.val < 64 then B₀ (ix2 n d) else B₁ (ix2 n d) := by
  rw [← lanes_select]; pointwise [k0_pay36, k0_pay22]

/-! ### The queries' own block: a key after the query weighs nothing -/

theorem diag_select (n r : Fin 256) (a b : EReal) :
    Scalar.select (IntOp.cmpi .sle (BitVec.ofNat 32 n.val) (BitVec.ofNat 32 r.val)) a b = if n.val ≤ r.val then a else b := by
  rw [WordCmp.cmpi_sle_ofNat (by have := n.isLt; omega) (by have := r.isLt; omega)]
  by_cases h : n.val ≤ r.val
  · rw [decide_eq_true h, if_pos h]; rfl
  · rw [decide_eq_false h, if_neg h]; rfl

/-- The weight of key `n` for query `r` of the same block. -/
def dweight (n r : Fin 256) : EReal := if n.val ≤ r.val then weight q K L n r else 0

/-- The scale as the program hands it on. -/
abbrev scaleWord : Ideal .f32 := Scalar.ofBits .f32 0x3DD105EC#32

theorem dw0_apply (n r : Fin 256) : k0_pay41 L q K (ix2 n r) = dweight q K L n r := by
  unfold dweight weight
  rw [← diag_select, ← Ideal.ofBits_zero_f32]; pointwise [k0_pay41]
theorem dw1_apply (n r : Fin 256) : k0_pay47 L (k0_pay46 q K) scaleWord (ix2 n r) = dweight q K L n r := by
  unfold dweight weight
  rw [← diag_select, ← Ideal.ofBits_zero_f32]; pointwise [k0_pay47, k0_pay46]

theorem ds0_apply (n r : Fin 256) : k0_pay43 dos D L q V K (ix2 n r) = sgrad V dos D (dweight q K L n r) n r := by
  unfold sgrad; rw [← dw0_apply]; pointwise [k0_pay43]
theorem ds1_apply (n r : Fin 256) : k0_pay48 dos D L V (k0_pay46 q K) scaleWord (ix2 n r) = sgrad V dos D (dweight q K L n r) n r := by
  unfold sgrad; rw [← dw1_apply]; pointwise [k0_pay48]

/-- The gradient of the first head's keys. -/
theorem ddk0_apply (n : Fin 256) (y : Fin 128) :
    k0_pay44 dos D L q V K A (ix2 n y) = A (ix2 n y) + ∑ r : Fin 256, sgrad V dos D (dweight q K L n r) n r * q (ix2 r y) := by
  simp only [← ds0_apply]; pointwise [k0_pay44]
/-- The gradient of the second head's keys. -/
theorem ddk1_apply (n : Fin 256) (y : Fin 128) :
    k0_pay49 dos D L q V (k0_pay46 q K) scaleWord A (ix2 n y)
      = A (ix2 n y) + ∑ r : Fin 256, sgrad V dos D (dweight q K L n r) n r * q (ix2 r y) := by
  simp only [← ds1_apply]; pointwise [k0_pay49]
/-- The gradient of the first head's queries. -/
theorem ddq0_apply (r : Fin 256) (y : Fin 128) :
    k0_pay45 dos D L q A V K (ix2 r y) = A (ix2 r y) + ∑ n : Fin 256, sgrad V dos D (dweight q K L n r) n r * K (ix2 n y) := by
  simp only [← ds0_apply]; pointwise [k0_pay45]
/-- The gradient of the second head's queries. -/
theorem ddq1_apply (r : Fin 256) (y : Fin 128) :
    k0_pay50 dos D L A V K (k0_pay46 q K) scaleWord (ix2 r y)
      = A (ix2 r y) + ∑ n : Fin 256, sgrad V dos D (dweight q K L n r) n r * K (ix2 n y) := by
  simp only [← ds1_apply]; pointwise [k0_pay50]

theorem dpv0_apply (n : Fin 256) (d : Fin 128) : k0_pay42 G L q K (ix2 n d) = ∑ r : Fin 256, dweight q K L n r * G (ix2 r d) := by
  simp only [← dw0_apply]; pointwise [k0_pay42]

/-- The gradient of the values. -/
theorem ddv_apply (B₀ : FVec Ideal S256x128 .f32) (n : Fin 256) (d : Fin 128) :
    k0_pay51 k0_pay22 G L B₀ (k0_pay46 q K) scaleWord A (ix2 n d)
      = A (ix2 n d) + if d.val < 64 then B₀ (ix2 n d) else ∑ r : Fin 256, dweight q K L n r * G (ix2 r d) := by
  rw [← lanes_select]; simp only [← dw1_apply]; pointwise [k0_pay51, k0_pay22]

/-! ### What is read before the loop -/

theorem z0_apply (r : Fin 256) (y : Fin 128) : (k0_pay31 (F := Ideal)) (ix2 r y) = 0 := by pointwise [k0_pay31]
theorem z1_apply (r : Fin 256) (y : Fin 128) : (k0_pay32 (F := Ideal)) (ix2 r y) = 0 := by pointwise [k0_pay32]
theorem zk_apply (n : Fin 8192) (y : Fin 256) : (k0_pay20 (F := Ideal)) (ix2 n y) = 0 := by pointwise [k0_pay20]
theorem zv_apply (n : Fin 8192) (y : Fin 128) : (k0_pay21 (F := Ideal)) (ix2 n y) = 0 := by pointwise [k0_pay21]

/-- The first head's lanes of the gradient of the results, the others cleared. -/
theorem dos0_apply (r : Fin 256) (d : Fin 128) : k0_pay24 G (ix2 r d) = if d.val < 64 then G (ix2 r d) else 0 := by
  rw [← lanes_select, ← Ideal.ofBits_zero_bf16]; pointwise [k0_pay24, k0_pay22, k0_pay23]
/-- The second head's lanes of the gradient of the results, the others cleared. -/
theorem dos1_apply (r : Fin 256) (d : Fin 128) : k0_pay25 G (ix2 r d) = if d.val < 64 then 0 else G (ix2 r d) := by
  rw [← lanes_select, ← Ideal.ofBits_zero_bf16]; pointwise [k0_pay25, k0_pay22, k0_pay23]

/-- The first head's sums of the results times their gradient. -/
theorem delta0_apply (O : Vec Ideal S256x128 .f32) (r : Fin 256) :
    k0_pay27 G O (ix2 0 r) = ∑ y : Fin 64, G (ix2 r ⟨y.val, by omega⟩) * O (ix2 r ⟨y.val, by omega⟩) := by
  pointwise [k0_pay27, k0_pay26]
/-- The second head's sums of the results times their gradient. -/
theorem delta1_apply (O : Vec Ideal S256x128 .f32) (r : Fin 256) :
    k0_pay28 G O (ix2 0 r) = ∑ y : Fin 64, G (ix2 r ⟨64 + y.val, by omega⟩) * O (ix2 r ⟨64 + y.val, by omega⟩) := by
  pointwise [k0_pay28, k0_pay26]

theorem lse0_apply (X : Vec Ideal S1x1x256 .f32) (r : Fin 256) : k0_pay29 X (ix2 0 r) = X (ix3 0 0 r) := by pointwise [k0_pay29]
theorem lse1_apply (X : Vec Ideal S1x1x256 .f32) (r : Fin 256) : k0_pay30 X (ix2 0 r) = X (ix3 0 0 r) := by pointwise [k0_pay30]

/-! ### The rotation turned back -/

/-- A row rotated back: `c` cosines, `s` sines, `m1` and `m2` the two masks of lanes. -/
abbrev unrot (X c s : FVec Ideal S256x128 .f32) (m1 m2 : Vec Ideal S1x128 .f32) (r : Fin 256) (y : Fin 128) : EReal :=
  X (ix2 r y) * c (ix2 r y)
    + X (ix2 r ⟨(y.val + 128 - 16) % 128, Nat.mod_lt _ (by norm_num)⟩)
      * (s (ix2 r ⟨(y.val + 128 - 16) % 128, Nat.mod_lt _ (by norm_num)⟩) * m1 (ix2 0 ⟨(y.val + 128 - 16) % 128, Nat.mod_lt _ (by norm_num)⟩))
    + X (ix2 r ⟨(y.val + 128 - 112) % 128, Nat.mod_lt _ (by norm_num)⟩)
      * (s (ix2 r ⟨(y.val + 128 - 112) % 128, Nat.mod_lt _ (by norm_num)⟩) * m2 (ix2 0 ⟨(y.val + 128 - 112) % 128, Nat.mod_lt _ (by norm_num)⟩))

theorem unrot0_apply (X c s : FVec Ideal S256x128 .f32) (m1 m2 : Vec Ideal S1x128 .f32) (r : Fin 256) (y : Fin 128) :
    k0_pay2 X c s (k0_pay52 s m1) m2 (ix2 r y) = unrot X c s m1 m2 r y := by
  pointwise [k0_pay2, k0_pay1, k0_pay52]
theorem unrot1_apply (X c s : FVec Ideal S256x128 .f32) (m1 m2 : Vec Ideal S1x128 .f32) (r : Fin 256) (y : Fin 128) :
    k0_pay3 X c s (k0_pay52 s m1) m2 (ix2 r y) = unrot X c s m1 m2 r y := by
  pointwise [k0_pay3, k0_pay1, k0_pay52]

theorem outk_apply (X : Vec Ideal S8192x256 .f32) (n : Fin 8192) (y : Fin 256) : k0_pay4 X (ix2 n y) = X (ix2 n y) := by pointwise [k0_pay4]
theorem outv_apply (X : Vec Ideal S8192x128 .f32) (n : Fin 8192) (y : Fin 128) : k0_pay5 X (ix2 n y) = X (ix2 n y) := by pointwise [k0_pay5]

end Cert.Own.AttnBwd

end
-- ==== Proof.Blocks.lean ====
module

public import Idealize.ShloMosaic.PureOps.Ideal.Laws
public import Idealize.ShloMosaic.Lib.Pointwise

@[expose] public section

/-! Sums over 8192 rows taken 256 at a time, and the places of a block's rows in an array. -/

noncomputable section

namespace Cert.Own

open Idealize.ShloMosaic

/-- The first `b + 256` of 8192 terms: the first `b` and the next 256. -/
theorem sum_block (f : Fin 8192 → EReal) (b : ℕ) (hb : b + 256 ≤ 8192) :
    (∑ n : Fin 8192, if n.val < b + 256 then f n else 0)
      = (∑ n : Fin 8192, if n.val < b then f n else 0) + ∑ x : Fin 256, f ⟨b + x.val, by omega⟩ := by
  have e : ∑ x : Fin 256, f ⟨b + x.val, by omega⟩ = ∑ n : Fin 8192, if b ≤ n.val ∧ n.val < b + 256 then f n else 0 := by
    rw [← Finset.sum_filter]
    refine Finset.sum_bij (fun x _ => (⟨b + x.val, by omega⟩ : Fin 8192)) ?_ ?_ ?_ ?_
    · intro x _; exact Finset.mem_filter.2 ⟨Finset.mem_univ _, by show b ≤ b + x.val; omega, by show b + x.val < b + 256; omega⟩
    · intro x _ y _ h; exact Fin.ext (by have := congrArg Fin.val h; simp only at this; omega)
    · intro n hn
      obtain ⟨_, h1, h2⟩ := Finset.mem_filter.1 hn
      exact ⟨⟨n.val - b, by omega⟩, Finset.mem_univ _, Fin.ext (by show b + (n.val - b) = n.val; omega)⟩
    · intro x _; rfl
  rw [e, ← Finset.sum_add_distrib]
  refine Finset.sum_congr rfl fun n _ => ?_
  by_cases h1 : n.val < b
  · rw [if_pos (by omega), if_pos h1, if_neg (by omega), add_zero]
  · by_cases h2 : n.val < b + 256
    · rw [if_pos h2, if_neg h1, if_pos (by omega), zero_add]
    · rw [if_neg h2, if_neg h1, if_neg (by omega), add_zero]

/-- A sum over the terms before block `i`, and block `i`'s own, are the sum over the terms before the next block. -/
theorem next_sum (f : Fin 8192 → EReal) (i : Fin 32) :
    (∑ q : Fin 8192, if q.val < 256 * i.val then f q else 0) + ∑ r : Fin 256, f (⟨256 * i.val + r.val, by omega⟩)
      = ∑ q : Fin 8192, if q.val < 256 * (i.val + 1) then f q else 0 := by
  rw [show 256 * (i.val + 1) = 256 * i.val + 256 from by omega]
  exact (sum_block f (256 * i.val) (by omega)).symm

/-- No term comes before the first block. -/
theorem first_sum (f : Fin 8192 → EReal) (i : Fin 32) (h : i.val = 0) :
    ∑ r : Fin 256, f (⟨256 * i.val + r.val, by omega⟩) = ∑ q : Fin 8192, if q.val < 256 * (i.val + 1) then f q else 0 := by
  rw [← next_sum f i]
  have e : ∀ q : Fin 8192, (if q.val < 256 * i.val then f q else 0) = 0 := fun q => if_neg (by omega)
  simp only [e, Finset.sum_const_zero, zero_add]

/-- Every term comes before the end of the last block. -/
theorem last_sum (f : Fin 8192 → EReal) (i : Fin 32) (h : i.val = 31) :
    (∑ q : Fin 8192, if q.val < 256 * (i.val + 1) then f q else 0) = ∑ q : Fin 8192, f q :=
  Finset.sum_congr rfl fun q _ => if_pos (by have := q.isLt; omega)

/-- Row `r` of block `t`, in the array. -/
abbrev blockRow (t : ℕ) (ht : t < 32) (r : Fin 256) : Fin 8192 := ⟨256 * t + r.val, by omega⟩

/-- An array's index from a block's, where the block's index is `(t, 0)`. -/
theorem blockRow_idx {n : ℕ} (t : ℕ) (ht : t < 32) (w : Fin 2 → ℕ) (hw : w = ![t, 0]) (r : Fin 256) (e : Fin n)
    (i : (⟨2, ![8192, n]⟩ : Shape).Idx) (h0 : (i 0).val = w 0 * 256 + 1 * r.val) (h1 : (i 1).val = w 1 * n + 1 * e.val) :
    i = ix2 (blockRow t ht r) e := by
  subst hw
  funext a
  apply Fin.ext
  match a with
  | ⟨0, _⟩ => show (i 0).val = 256 * t + r.val; rw [h0]; show t * 256 + 1 * r.val = _; omega
  | ⟨1, _⟩ => show (i 1).val = e.val; rw [h1]; show 0 * n + 1 * e.val = _; omega

/-- The same where the block is the whole array. -/
theorem wholeBlock_idx {n k : ℕ} (w : Fin 2 → ℕ) (hw : w = ![0, 0]) (r : Fin n) (e : Fin k)
    (i : (⟨2, ![n, k]⟩ : Shape).Idx) (h0 : (i 0).val = w 0 * n + 1 * r.val) (h1 : (i 1).val = w 1 * k + 1 * e.val) :
    i = ix2 r e := by
  subst hw
  funext a
  apply Fin.ext
  match a with
  | ⟨0, _⟩ => show (i 0).val = r.val; rw [h0]; show 0 * n + 1 * r.val = _; omega
  | ⟨1, _⟩ => show (i 1).val = e.val; rw [h1]; show 0 * k + 1 * e.val = _; omega

end Cert.Own

end

end
-- ==== Proof.AttnBwdTrip.lean ====
module

public import proofs.«01_k».proof.Proof.AttnBwdStep
public import proofs.«01_k».proof.Proof.AttnTrip
public import proofs.«01_k».proof.Proof.Blocks
public import proofs.«01_k».proof.Proof.Gen.AttnBwdIdeal.Value
public import Idealize.ShloMosaic.Lib.LoopRemainder
public import Idealize.ShloMosaic.Lib.WritesUnit

@[expose] public section

/-! The loop of the backward attention kernel over the blocks of keys before the queries' own: after `k` trips the gradients of the
    queries hold the sums over the first `256·k` keys, and the accumulators of the keys and the values have the block's parts added in
    the first `256·k` rows. -/

noncomputable section

namespace Cert.Own.AttnBwd

open Idealize.ShloMosaic Idealize.ShloMosaic.TcCoe Idealize.SL.Sem Cert.AttnBwdIdeal Cert.AttnBwdIdeal.Gen
open Cert.Own.AttnFwd (lane ld_tile)

/-- Lane `y` of the values of head `a` of a pair of heads. -/
abbrev half (a : Fin 2) (y : Fin 64) : Fin 128 := ⟨64 * a.val + y.val, by omega⟩

section
variable (x0 : Vec Ideal S256x256 .bf16) (x1 : Vec Ideal S8192x256 .bf16) (x2 : Vec Ideal S8192x128 .bf16)
  (x3 : Vec Ideal S256x128 .bf16) (x4 : Vec Ideal S256x128 .f32) (x5 : Vec Ideal S1x2x256 .f32)

/-- The weight of key `n` for query row `r` of a block, no key left out. -/
def full (a : Fin 2) (n : Fin 8192) (r : Fin 256) : EReal :=
  Ideal.exp ((∑ y : Fin 128, x1 (ix2 n (lane a y)) * x0 (ix2 r (lane a y))) * scale - x5 (ix3 0 a r))

/-- The weight of key `n` for query row `r` of the block whose first query is `b`: a key after the query weighs nothing. -/
def wt (b : ℕ) (a : Fin 2) (n : Fin 8192) (r : Fin 256) : EReal := if n.val ≤ b + r.val then full x0 x1 x5 a n r else 0

/-- The sum of a row's results times their gradient. -/
def delta (a : Fin 2) (r : Fin 256) : EReal := ∑ y : Fin 64, x3 (ix2 r (half a y)) * x4 (ix2 r (half a y))

/-- The gradient of a score, from its weight `p`. -/
def sg (p : EReal) (a : Fin 2) (n : Fin 8192) (r : Fin 256) : EReal :=
  p * ((∑ y : Fin 64, x2 (ix2 n (half a y)) * x3 (ix2 r (half a y))) - delta x3 x4 a r) * scale

/-- The gradient of a score of the block whose first query is `b`. -/
abbrev sc (b : ℕ) (a : Fin 2) (n : Fin 8192) (r : Fin 256) : EReal := sg x2 x3 x4 (wt x0 x1 x5 b a n r) a n r

/-- What the kernel has read of one head: its queries, the gradients of its results with the other head's cleared, the sums of its
    results times their gradients, the log sums. -/
structure Head (a : Fin 2) (q dos : Vec Ideal S256x128 .bf16) (D L : FVec Ideal S1x256 .f32) : Prop where
  q_eq : ∀ (r : Fin 256) (y : Fin 128), q (ix2 r y) = x0 (ix2 r (lane a y))
  dos_eq : ∀ (v : Fin 128 → EReal) (r : Fin 256), ∑ d : Fin 128, v d * dos (ix2 r d) = ∑ y : Fin 64, v (half a y) * x3 (ix2 r (half a y))
  D_eq : ∀ r : Fin 256, D (ix2 0 r) = delta x3 x4 a r
  L_eq : ∀ r : Fin 256, L (ix2 0 r) = x5 (ix3 0 a r)

variable {x0 x1 x2 x3 x4 x5} {a : Fin 2} {q dos K V : Vec Ideal S256x128 .bf16} {D L : FVec Ideal S1x256 .f32}

theorem Head.weight_eq (H : Head x0 x3 x4 x5 a q dos D L) (n : Fin 8192) (x : Fin 256) (hK : ∀ y : Fin 128, K (ix2 x y) = x1 (ix2 n (lane a y)))
    (r : Fin 256) : weight q K L x r = full x0 x1 x5 a n r := by
  unfold weight full
  simp only [hK, H.q_eq, H.L_eq]

theorem Head.sgrad_eq (H : Head x0 x3 x4 x5 a q dos D L) (n : Fin 8192) (x : Fin 256) (hV : ∀ d : Fin 128, V (ix2 x d) = x2 (ix2 n d))
    (p : EReal) (r : Fin 256) : sgrad V dos D p x r = sg x2 x3 x4 p a n r := by
  unfold sgrad sg
  rw [H.dos_eq (fun d => V (ix2 x d)), H.D_eq]
  simp only [hV]

/-- A key of a block before the queries' own. -/
theorem Head.before (H : Head x0 x3 x4 x5 a q dos D L) (b : ℕ) (n : Fin 8192) (x : Fin 256) (hn : n.val < b)
    (hK : ∀ y : Fin 128, K (ix2 x y) = x1 (ix2 n (lane a y))) (r : Fin 256) : weight q K L x r = wt x0 x1 x5 b a n r := by
  rw [H.weight_eq n x hK, wt, if_pos (by omega)]

/-- A key of the queries' own block. -/
theorem Head.own (H : Head x0 x3 x4 x5 a q dos D L) (b : ℕ) (n : Fin 8192) (x : Fin 256) (hn : n.val = b + x.val)
    (hK : ∀ y : Fin 128, K (ix2 x y) = x1 (ix2 n (lane a y))) (r : Fin 256) : dweight q K L x r = wt x0 x1 x5 b a n r := by
  unfold dweight wt
  rw [H.weight_eq n x hK, hn]
  by_cases h : x.val ≤ r.val
  · rw [if_pos h, if_pos (by omega)]
  · rw [if_neg h, if_neg (by omega)]
end

/-! ### Tiles of 256 rows written into an accumulator -/

section
variable {κ : Kind} {sp : Space} (v : View sig κ sp (⟨2, ![8192, 256]⟩ : Shape) .f32) (f : v.ty.Contents (Elt Ideal))
  (T : List (View.Piece (Elt Ideal) (⟨2, ![8192, 256]⟩ : Shape) .f32))
  {off off' : Fin 2 → ℕ} (b : ℕ) (h1 : off = ![b, 128]) (h0 : off' = ![b, 0])
  (inb : ∀ x : Fin 2, off x + (![256, 128] : Fin 2 → ℕ) x ≤ (![8192, 256] : Fin 2 → ℕ) x)
  (inb' : ∀ x : Fin 2, off' x + (![256, 128] : Fin 2 → ℕ) x ≤ (![8192, 256] : Fin 2 → ℕ) x)
  (u1 u0 : FVec Ideal S256x128 .f32)
include h1 h0

/-- Two tiles side by side, read back in their rows. -/
theorem tiles_in (a : Fin 2) (n : Fin 8192) (x : Fin 256) (y : Fin 128) (hn : n.val = b + x.val) :
    v.read (Elt Ideal) (v.writes (Elt Ideal) f
      (⟨Rect.unit (s := ⟨2, ![8192, 256]⟩) off ![256, 128] inb, u1⟩ :: ⟨Rect.unit (s := ⟨2, ![8192, 256]⟩) off' ![256, 128] inb', u0⟩ :: T)) (ix2 n (lane a y))
      = if a = 0 then u0 (ix2 x y) else u1 (ix2 x y) := by
  have ha : a = 0 ∨ a = 1 := by omega
  rcases ha with rfl | rfl
  · rw [View.read_writes_cons_unit_of_not_mem v f inb u1 _ _ h1 (1 : Fin 2) (Or.inl (by show 128 * 0 + y.val < 128; omega)),
      View.read_writes_cons_unit_of_mem v f inb' u0 _ _ (ix2 x y) h0 (Fin.forall_fin_two.mpr ⟨hn, by show 128 * 0 + y.val = 0 + y.val; omega⟩)]
    rfl
  · rw [View.read_writes_cons_unit_of_mem v f inb u1 _ _ (ix2 x y) h1 (Fin.forall_fin_two.mpr ⟨hn, by show 128 * 1 + y.val = 128 + y.val; omega⟩)]
    rfl

/-- Two tiles side by side, read back elsewhere. -/
theorem tiles_out (n : Fin 8192) (l : Fin 256) (hn : n.val < b ∨ b + 256 ≤ n.val) :
    v.read (Elt Ideal) (v.writes (Elt Ideal) f
      (⟨Rect.unit (s := ⟨2, ![8192, 256]⟩) off ![256, 128] inb, u1⟩ :: ⟨Rect.unit (s := ⟨2, ![8192, 256]⟩) off' ![256, 128] inb', u0⟩ :: T)) (ix2 n l)
      = v.read (Elt Ideal) (v.writes (Elt Ideal) f T) (ix2 n l) := by
  rw [View.read_writes_cons_unit_of_not_mem v f inb u1 _ _ h1 (0 : Fin 2) hn,
      View.read_writes_cons_unit_of_not_mem v f inb' u0 _ _ h0 (0 : Fin 2) hn]
end

section
variable {κ : Kind} {sp : Space} (v : View sig κ sp (⟨2, ![8192, 128]⟩ : Shape) .f32) (f : v.ty.Contents (Elt Ideal))
  (T : List (View.Piece (Elt Ideal) (⟨2, ![8192, 128]⟩ : Shape) .f32))
  {off : Fin 2 → ℕ} (b : ℕ) (h : off = ![b, 0])
  (inb : ∀ x : Fin 2, off x + (![256, 128] : Fin 2 → ℕ) x ≤ (![8192, 128] : Fin 2 → ℕ) x) (u : FVec Ideal S256x128 .f32)
include h

/-- A tile of whole rows, read back in its rows. -/
theorem tile_in (n : Fin 8192) (x : Fin 256) (d : Fin 128) (hn : n.val = b + x.val) :
    v.read (Elt Ideal) (v.writes (Elt Ideal) f (⟨Rect.unit (s := ⟨2, ![8192, 128]⟩) off ![256, 128] inb, u⟩ :: T)) (ix2 n d) = u (ix2 x d) :=
  View.read_writes_cons_unit_of_mem v f inb u _ _ (ix2 x d) h (Fin.forall_fin_two.mpr ⟨hn, by show d.val = 0 + d.val; omega⟩)

/-- A tile of whole rows, read back elsewhere. -/
theorem tile_out (n : Fin 8192) (d : Fin 128) (hn : n.val < b ∨ b + 256 ≤ n.val) :
    v.read (Elt Ideal) (v.writes (Elt Ideal) f (⟨Rect.unit (s := ⟨2, ![8192, 128]⟩) off ![256, 128] inb, u⟩ :: T)) (ix2 n d)
      = v.read (Elt Ideal) (v.writes (Elt Ideal) f T) (ix2 n d) :=
  View.read_writes_cons_unit_of_not_mem v f inb u _ _ h (0 : Fin 2) hn
end

/-! ### The trips -/

/-- The first key of trip `k`'s block. -/
theorem off_word (i : grid0.Coords) (k : Fin (k0_t1_loop i).trips) :
    BitVec.toNat (Scalar.indexCast (Scalar.muli (Scf.iv 0#32 1#32 k.val) 256#32)) = 256 * k.val := by
  have h_c0 : Affine.IsInt 0#32 (0) := Affine.ofNat _ (by omega)
  have h_c1 : Affine.IsInt 1#32 (1) := Affine.ofNat _ (by omega)
  have hk : k.val < 31 := Nat.lt_of_lt_of_le k.isLt (k0_t1_abs i).2.1
  have h7 : Affine.IsInt _ ((k.val : Int)) := Affine.iv h_c0 h_c1 k.val (by omega)
  have h256 : Affine.IsInt 256#32 (256) := Affine.ofNat _ (by omega)
  exact Affine.nat_eq (Affine.indexCast (Affine.muli h7 h256 (e := 256 * (k.val : Int)) (by omega))) _ (by omega)

theorem off1_eq (i : grid0.Coords) (k : Fin (k0_t1_loop i).trips) : k0_off1 i k = ![256 * k.val, 0] := by
  rw [← off_word i k]; rfl
theorem off2_eq (i : grid0.Coords) (k : Fin (k0_t1_loop i).trips) : k0_off2 i k = ![256 * k.val, 0] := by
  rw [← off_word i k]; rfl
theorem off3_eq (i : grid0.Coords) (k : Fin (k0_t1_loop i).trips) : k0_off3 i k = ![256 * k.val, 128] := by
  rw [← off_word i k]; rfl

/-- The loop makes a trip for each block of keys before the queries' own. -/
theorem trips_eq (i : grid0.Coords) : (k0_t1_loop i).trips = (i 1).val := by
  have h0 : Affine.IsInt 0#32 (0) := Affine.ofNat _ (by omega)
  have r_i1 : (i 1).val < 32 := (i 1).isLt
  have h_arg1 : Affine.IsInt (BitVec.ofNat 32 (i 1).val) (((i 1).val : Int)) := Affine.ofNat _ (by omega)
  have h8 : Affine.IsInt _ (((i 1).val : Int)) := Affine.subi h_arg1 h0 (by omega)
  have h1 : Affine.IsInt 1#32 (1) := Affine.ofNat _ (by omega)
  have h10 : Affine.IsInt _ (((i 1).val : Int)) := Affine.divsi h8 h1 (by omega)
  have h11 : Affine.IsInt _ (((i 1).val : Int)) := Affine.muli h10 h1 (by omega)
  have h12 : Affine.IsInt _ (((i 1).val : Int)) := Affine.addi h0 h11 (by omega)
  exact Affine.trips_eq h0 h12 h1 _ (by omega)

/-- The remainder loop makes no trip. -/
theorem rem_trips_eq (i : grid0.Coords) : Scf.trips (k0_t2_loop i).lb (k0_t2_loop i).ub (k0_t2_loop i).st = 0 :=
  Nat.le_zero.1 (k0_t2_abs i).2.1

section
variable (c : Dev nD) (i : grid0.Coords)
    (arg2 : Memref sig .tc .vmem S256x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S256x128 .f32) (harg6 : arg6.IsWhole) (arg7 : Memref sig .tc .vmem S1x2x256 .f32) (harg7 : arg7.IsWhole) (arg8 : Memref sig .tc .vmem S256x256 .f32) (harg8 : arg8.IsWhole) (arg9 : Memref sig .tc .vmem S16x1024 .f32) (harg9 : arg9.IsWhole) (arg10 : Memref sig .tc .vmem S256x256 .bf16) (harg10 : arg10.IsWhole) (arg11 : Memref sig .tc .vmem S8192x256 .bf16) (harg11 : arg11.IsWhole) (arg12 : Memref sig .tc .vmem S8192x128 .bf16) (harg12 : arg12.IsWhole) (arg13 : Memref sig .tc .vmem S8192x256 .f32) (harg13 : arg13.IsWhole) (arg14 : Memref sig .tc .vmem S8192x128 .f32) (harg14 : arg14.IsWhole)
    (w1 : BitVec 32) (v5 : IVec S256x128 1) (v6 v8 : Vec Ideal S256x128 .bf16) (v9 : FVec Ideal S256x128 .bf16) (v16 v19 v21 v23 : FVec Ideal S1x256 .f32)
    (v24 v25 : Vec Ideal S256x128 .bf16) (v26 v27 : FVec Ideal S256x128 .f32) (w2 w3 : BitVec 32)
    (x1 : Vec Ideal S8192x256 .bf16) (x2 : Vec Ideal S8192x128 .bf16) (k : Fin (k0_t1_loop i).trips)

/-- The first head's keys of a trip. -/
abbrev K0 : Vec Ideal S256x128 .bf16 := View.ld x1 (Rect.unit (k0_off2 i k) S256x128.size (k0_off2_inb i k))
/-- The second head's keys of a trip. -/
abbrev K1 : Vec Ideal S256x128 .bf16 := View.ld x1 (Rect.unit (k0_off3 i k) S256x128.size (k0_off3_inb i k))
/-- The values of a trip. -/
abbrev VV : Vec Ideal S256x128 .bf16 := View.ld x2 (Rect.unit (k0_off1 i k) S256x128.size (k0_off1_inb i k))

variable (acc : FVec Ideal S256x128 .f32 × FVec Ideal S256x128 .f32) (f13 : BufTy.Contents (Elt Ideal) arg13.view.ty) (f14 : BufTy.Contents (Elt Ideal) arg14.view.ty)

/-- What a trip leaves of its carried values. -/
theorem tripR_eq : tripR_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 w1 v5 v6 v8 v9 v16 v19 v21 v23 v24 v25 v26 v27 w2 w3 (harg3.unread x1) (harg4.unread x2) k acc f13 f14
      = (k0_pay10 v8 v16 v21 v24 acc.1 (VV i x2 k) (K0 i x1 k),
         k0_pay35 v9 v19 acc.2 (VV i x2 k) (K1 i x1 k) (k0_pay11 v23 v25 (K1 i x1 k)) (constant S256x256 .f32 0#32)) := by
  unfold tripR_k0_t1 trip_k0_t1
  dsimp only
  sl_unfold_words
  simp only [View.readAt_eq_ld, Memref.IsWhole.read_unread]
  rfl

/-- What a trip stores. -/
theorem tripL_eq : tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 w1 v5 v6 v8 v9 v16 v19 v21 v23 v24 v25 v26 v27 w2 w3 (harg3.unread x1) (harg4.unread x2) k acc f13 f14
      = ([⟨Rect.unit (k0_off3 i k) S256x128.size (k0_off3_inb i k),
            k0_pay34 v9 v19 v25 (VV i x2 k) (k0_pay11 v23 v25 (K1 i x1 k)) (constant S256x256 .f32 0#32)
              (View.ld (arg13.view.read (Elt Ideal) f13) (Rect.unit (k0_off3 i k) S256x128.size (k0_off3_inb i k)))⟩,
          ⟨Rect.unit (k0_off2 i k) S256x128.size (k0_off2_inb i k),
            k0_pay9 v8 v16 v21 v24 (VV i x2 k) (K0 i x1 k)
              (View.ld (arg13.view.read (Elt Ideal) f13) (Rect.unit (k0_off2 i k) S256x128.size (k0_off2_inb i k)))⟩],
         [⟨Rect.unit (k0_off1 i k) S256x128.size (k0_off1_inb i k),
            k0_pay36 v5 (k0_pay7 v6 v21 v24 (K0 i x1 k)) (k0_pay12 v6 v23 v25 (K1 i x1 k))
              (View.ld (arg14.view.read (Elt Ideal) f14) (Rect.unit (k0_off1 i k) S256x128.size (k0_off1_inb i k)))⟩]) := by
  unfold tripL_k0_t1 trip_k0_t1
  dsimp only
  sl_unfold_words
  simp only [View.readAt_eq_ld, Memref.IsWhole.read_unread]
  rfl
end

end Cert.Own.AttnBwd

end
-- ==== Proof.AttnBwdLoop.lean ====
module

public import proofs.«01_k».proof.Proof.AttnBwdTrip

@[expose] public section

/-! What the loop over the earlier blocks of keys, and then the queries' own block, leave: an invariant of one block, and the loop. -/

noncomputable section

namespace Cert.Own.AttnBwd

open Idealize.ShloMosaic Idealize.ShloMosaic.TcCoe Idealize.SL.Sem Cert.AttnBwdIdeal Cert.AttnBwdIdeal.Gen
open Cert.Own.AttnFwd (lane ld_tile)

/-- The head of lane `d` of the values of a pair of heads. -/
def headOf (d : Fin 128) : Fin 2 := if d.val < 64 then 0 else 1

section
variable (x0 : Vec Ideal S256x256 .bf16) (x1 : Vec Ideal S8192x256 .bf16) (x2 : Vec Ideal S8192x128 .bf16)
  (x3 : Vec Ideal S256x128 .bf16) (x4 : Vec Ideal S256x128 .f32) (x5 : Vec Ideal S1x2x256 .f32)

/-- What a key's row adds to the gradient of the keys. -/
abbrev addK (b : ℕ) (n : Fin 8192) (a : Fin 2) (y : Fin 128) : EReal :=
  ∑ r : Fin 256, sc x0 x1 x2 x3 x4 x5 b a n r * x0 (ix2 r (lane a y))
/-- What a key's row adds to the gradient of the values. -/
abbrev addV (b : ℕ) (n : Fin 8192) (d : Fin 128) : EReal := ∑ r : Fin 256, wt x0 x1 x5 b (headOf d) n r * x3 (ix2 r d)
/-- What a key adds to the gradient of a query. -/
abbrev addQ (b : ℕ) (a : Fin 2) (r : Fin 256) (y : Fin 128) (n : Fin 8192) : EReal := sc x0 x1 x2 x3 x4 x5 b a n r * x1 (ix2 n (lane a y))

/-- After the first `m` keys, for the block of queries whose first is `b`: the gradients of the queries hold those keys' sums, the
    accumulators hold what they held (`g13`, `g14`) and those keys' parts. -/
structure Inv (b m : ℕ) (g13 : Vec Ideal S8192x256 .f32) (g14 : Vec Ideal S8192x128 .f32) (q0 q1 : FVec Ideal S256x128 .f32)
    (a13 : Vec Ideal S8192x256 .f32) (a14 : Vec Ideal S8192x128 .f32) : Prop where
  dq0 : ∀ (r : Fin 256) (y : Fin 128), q0 (ix2 r y) = ∑ n : Fin 8192, if n.val < m then addQ x0 x1 x2 x3 x4 x5 b 0 r y n else 0
  dq1 : ∀ (r : Fin 256) (y : Fin 128), q1 (ix2 r y) = ∑ n : Fin 8192, if n.val < m then addQ x0 x1 x2 x3 x4 x5 b 1 r y n else 0
  dk : ∀ (n : Fin 8192) (a : Fin 2) (y : Fin 128), a13 (ix2 n (lane a y)) = g13 (ix2 n (lane a y)) + if n.val < m then addK x0 x1 x2 x3 x4 x5 b n a y else 0
  dv : ∀ (n : Fin 8192) (d : Fin 128), a14 (ix2 n d) = g14 (ix2 n d) + if n.val < m then addV x0 x1 x3 x5 b n d else 0

variable {x0 x1 x2 x3 x4 x5}

/-- Nothing yet. -/
theorem Inv.zero (b : ℕ) (g13 : Vec Ideal S8192x256 .f32) (g14 : Vec Ideal S8192x128 .f32) (q0 q1 : FVec Ideal S256x128 .f32)
    (h0 : ∀ (r : Fin 256) (y : Fin 128), q0 (ix2 r y) = 0) (h1 : ∀ (r : Fin 256) (y : Fin 128), q1 (ix2 r y) = 0) :
    Inv x0 x1 x2 x3 x4 x5 b 0 g13 g14 q0 q1 g13 g14 := by
  refine ⟨fun r y => ?_, fun r y => ?_, fun n a y => ?_, fun n d => ?_⟩
  · rw [h0]; exact (Finset.sum_eq_zero fun n _ => if_neg (Nat.not_lt_zero _)).symm
  · rw [h1]; exact (Finset.sum_eq_zero fun n _ => if_neg (Nat.not_lt_zero _)).symm
  · rw [if_neg (Nat.not_lt_zero _), add_zero]
  · rw [if_neg (Nat.not_lt_zero _), add_zero]

/-- One block more. -/
theorem Inv.next {b m : ℕ} {g13 : Vec Ideal S8192x256 .f32} {g14 : Vec Ideal S8192x128 .f32} {q0 q1 : FVec Ideal S256x128 .f32}
    {a13 : Vec Ideal S8192x256 .f32} {a14 : Vec Ideal S8192x128 .f32} (hm : m + 256 ≤ 8192)
    (I : Inv x0 x1 x2 x3 x4 x5 b m g13 g14 q0 q1 a13 a14)
    (q0' q1' : FVec Ideal S256x128 .f32) (a13' : Vec Ideal S8192x256 .f32) (a14' : Vec Ideal S8192x128 .f32)
    (h0 : ∀ (r : Fin 256) (y : Fin 128), q0' (ix2 r y) = q0 (ix2 r y) + ∑ x : Fin 256, addQ x0 x1 x2 x3 x4 x5 b 0 r y ⟨m + x.val, by omega⟩)
    (h1 : ∀ (r : Fin 256) (y : Fin 128), q1' (ix2 r y) = q1 (ix2 r y) + ∑ x : Fin 256, addQ x0 x1 x2 x3 x4 x5 b 1 r y ⟨m + x.val, by omega⟩)
    (h13 : ∀ (x : Fin 256) (a : Fin 2) (y : Fin 128), a13' (ix2 ⟨m + x.val, by omega⟩ (lane a y))
      = a13 (ix2 ⟨m + x.val, by omega⟩ (lane a y)) + addK x0 x1 x2 x3 x4 x5 b ⟨m + x.val, by omega⟩ a y)
    (e13 : ∀ (n : Fin 8192) (l : Fin 256), n.val < m ∨ m + 256 ≤ n.val → a13' (ix2 n l) = a13 (ix2 n l))
    (h14 : ∀ (x : Fin 256) (d : Fin 128), a14' (ix2 ⟨m + x.val, by omega⟩ d)
      = a14 (ix2 ⟨m + x.val, by omega⟩ d) + addV x0 x1 x3 x5 b ⟨m + x.val, by omega⟩ d)
    (e14 : ∀ (n : Fin 8192) (d : Fin 128), n.val < m ∨ m + 256 ≤ n.val → a14' (ix2 n d) = a14 (ix2 n d)) :
    Inv x0 x1 x2 x3 x4 x5 b (m + 256) g13 g14 q0' q1' a13' a14' := by
  refine ⟨fun r y => ?_, fun r y => ?_, fun n a y => ?_, fun n d => ?_⟩
  · rw [h0, I.dq0, sum_block _ m hm]
  · rw [h1, I.dq1, sum_block _ m hm]
  · by_cases hin : m ≤ n.val ∧ n.val < m + 256
    · obtain ⟨x, hx⟩ : ∃ x : Fin 256, ∀ h, (⟨m + x.val, h⟩ : Fin 8192) = n :=
        ⟨⟨n.val - m, by omega⟩, fun _ => Fin.ext (by show m + (n.val - m) = n.val; omega)⟩
      have e := h13 x a y
      rw [hx] at e
      rw [e, I.dk, if_neg (by omega), if_pos hin.2, add_zero]
    · rw [e13 n _ (by omega), I.dk]
      by_cases h : n.val < m
      · rw [if_pos h, if_pos (by omega)]
      · rw [if_neg h, if_neg (by omega)]
  · by_cases hin : m ≤ n.val ∧ n.val < m + 256
    · obtain ⟨x, hx⟩ : ∃ x : Fin 256, ∀ h, (⟨m + x.val, h⟩ : Fin 8192) = n :=
        ⟨⟨n.val - m, by omega⟩, fun _ => Fin.ext (by show m + (n.val - m) = n.val; omega)⟩
      have e := h14 x d
      rw [hx] at e
      rw [e, I.dv, if_neg (by omega), if_pos hin.2, add_zero]
    · rw [e14 n _ (by omega), I.dv]
      by_cases h : n.val < m
      · rw [if_pos h, if_pos (by omega)]
      · rw [if_neg h, if_neg (by omega)]
end

section
variable (c : Dev nD) (i : grid0.Coords)
    (arg2 : Memref sig .tc .vmem S256x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S256x128 .f32) (harg6 : arg6.IsWhole) (arg7 : Memref sig .tc .vmem S1x2x256 .f32) (harg7 : arg7.IsWhole) (arg8 : Memref sig .tc .vmem S256x256 .f32) (harg8 : arg8.IsWhole) (arg9 : Memref sig .tc .vmem S16x1024 .f32) (harg9 : arg9.IsWhole) (arg10 : Memref sig .tc .vmem S256x256 .bf16) (harg10 : arg10.IsWhole) (arg11 : Memref sig .tc .vmem S8192x256 .bf16) (harg11 : arg11.IsWhole) (arg12 : Memref sig .tc .vmem S8192x128 .bf16) (harg12 : arg12.IsWhole) (arg13 : Memref sig .tc .vmem S8192x256 .f32) (harg13 : arg13.IsWhole) (arg14 : Memref sig .tc .vmem S8192x128 .f32) (harg14 : arg14.IsWhole)
    (w1 : BitVec 32) (v8 : Vec Ideal S256x128 .bf16) (v9 : FVec Ideal S256x128 .bf16) (v16 v19 v21 v23 : FVec Ideal S1x256 .f32)
    (v24 v25 : Vec Ideal S256x128 .bf16) (v26 v27 : FVec Ideal S256x128 .f32) (w2 w3 : BitVec 32)
    {x0 : Vec Ideal S256x256 .bf16} (x1 : Vec Ideal S8192x256 .bf16) (x2 : Vec Ideal S8192x128 .bf16)
    (x3 : Vec Ideal S256x128 .bf16) {x4 : Vec Ideal S256x128 .f32} {x5 : Vec Ideal S1x2x256 .f32}
    (f13 : BufTy.Contents (Elt Ideal) arg13.view.ty) (f14 : BufTy.Contents (Elt Ideal) arg14.view.ty)

/-- The loop's state after `k` trips. -/
theorem loop_inv (H0 : Head x0 x3 x4 x5 0 v24 v8 v16 v21) (H1 : Head x0 x3 x4 x5 1 v25 v9 v19 v23) :
    ∀ k : ℕ, k ≤ (k0_t1_loop i).trips → ∀ S, S = st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 w1 k0_pay22 x3 v8 v9 v16 v19 v21 v23 v24 v25 v26 v27 w2 w3 (harg3.unread x1) (harg4.unread x2) f13 f14 (k0_pay31, k0_pay32) k →
      Inv x0 x1 x2 x3 x4 x5 (256 * (i 1).val) (256 * k) (arg13.view.read (Elt Ideal) f13) (arg14.view.read (Elt Ideal) f14) S.1.1 S.1.2
        (arg13.view.read (Elt Ideal) (arg13.view.writes (Elt Ideal) f13 S.2.1)) (arg14.view.read (Elt Ideal) (arg14.view.writes (Elt Ideal) f14 S.2.2)) := by
  intro k
  induction k with
  | zero =>
    intro _ S hS
    have e : st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 w1 k0_pay22 x3 v8 v9 v16 v19 v21 v23 v24 v25 v26 v27 w2 w3 (harg3.unread x1) (harg4.unread x2) f13 f14 (k0_pay31, k0_pay32) 0
      = ((k0_pay31, k0_pay32), [], []) := rfl
    rw [e] at hS
    subst hS
    exact Inv.zero _ _ _ _ _ z0_apply z1_apply
  | succ k ih =>
    intro hk S hS
    have hlt : k < (k0_t1_loop i).trips := by omega
    have h31 := (k0_t1_abs i).2.1
    have ht := trips_eq i
    have I := ih (by omega) _ rfl
    rw [show k + 1 = (⟨k, hlt⟩ : Fin (k0_t1_loop i).trips).val + 1 from rfl, st_k0_t1_succ, tripR_eq, tripL_eq] at hS
    subst hS
    dsimp only at I ⊢
    have hV : ∀ (x : Fin 256) (d : Fin 128), VV i x2 ⟨k, hlt⟩ (ix2 x d) = x2 (ix2 ⟨256 * k + x.val, by omega⟩ d) := fun x d => by
      refine (ld_tile x2 _ _ (256 * k) 0 (off1_eq i ⟨k, hlt⟩) x d (by omega) (by omega)).trans ?_
      exact congrArg (fun z => x2 (ix2 _ z)) (Fin.ext (Nat.zero_add _))
    have hK0 : ∀ (x : Fin 256) (y : Fin 128), K0 i x1 ⟨k, hlt⟩ (ix2 x y) = x1 (ix2 ⟨256 * k + x.val, by omega⟩ (lane 0 y)) := fun x y => by
      exact (ld_tile x1 _ _ (256 * k) 0 (off2_eq i ⟨k, hlt⟩) x y (by omega) (by omega)).trans rfl
    have hK1 : ∀ (x : Fin 256) (y : Fin 128), K1 i x1 ⟨k, hlt⟩ (ix2 x y) = x1 (ix2 ⟨256 * k + x.val, by omega⟩ (lane 1 y)) := fun x y => by
      exact (ld_tile x1 _ _ (256 * k) 128 (off3_eq i ⟨k, hlt⟩) x y (by omega) (by omega)).trans rfl
    have hw0 : ∀ x r : Fin 256, weight v24 (K0 i x1 ⟨k, hlt⟩) v21 x r = wt x0 x1 x5 (256 * (i 1).val) 0 ⟨256 * k + x.val, by omega⟩ r := fun x r =>
      H0.before _ _ x (by show 256 * k + x.val < _; omega) (hK0 x) r
    have hw1 : ∀ x r : Fin 256, weight v25 (K1 i x1 ⟨k, hlt⟩) v23 x r = wt x0 x1 x5 (256 * (i 1).val) 1 ⟨256 * k + x.val, by omega⟩ r := fun x r =>
      H1.before _ _ x (by show 256 * k + x.val < _; omega) (hK1 x) r
    rw [show 256 * ((⟨k, hlt⟩ : Fin (k0_t1_loop i).trips).val + 1) = 256 * k + 256 by show 256 * (k + 1) = _; ring]
    refine I.next (by omega) _ _ _ _ (fun r y => ?_) (fun r y => ?_) (fun x a y => ?_) (fun n l hn => ?_) (fun x d => ?_) (fun n d hn => ?_)
    · rw [dq0_apply]
      refine congrArg _ (Finset.sum_congr rfl fun x _ => ?_)
      rw [hw0, H0.sgrad_eq _ x (hV x), hK0]
    · rw [dq1_apply]
      refine congrArg _ (Finset.sum_congr rfl fun x _ => ?_)
      rw [hw1, H1.sgrad_eq _ x (hV x), hK1]
    · refine (tiles_in arg13.view f13 _ (256 * k) (off3_eq i ⟨k, hlt⟩) (off2_eq i ⟨k, hlt⟩) _ _ _ _ a _ x y rfl).trans ?_
      have ha : a = 0 ∨ a = 1 := by omega
      rcases ha with rfl | rfl
      · rw [if_pos rfl, dk0_apply, ld_tile _ _ _ (256 * k) 0 (off2_eq i ⟨k, hlt⟩) x y (by omega) (by omega)]
        refine congrArg₂ _ rfl (Finset.sum_congr rfl fun r _ => ?_)
        rw [hw0, H0.sgrad_eq _ x (hV x), H0.q_eq]
      · rw [if_neg (by decide), dk1_apply, ld_tile _ _ _ (256 * k) 128 (off3_eq i ⟨k, hlt⟩) x y (by omega) (by omega)]
        refine congrArg₂ _ rfl (Finset.sum_congr rfl fun r _ => ?_)
        rw [hw1, H1.sgrad_eq _ x (hV x), H1.q_eq]
    · exact tiles_out arg13.view f13 _ (256 * k) (off3_eq i ⟨k, hlt⟩) (off2_eq i ⟨k, hlt⟩) _ _ _ _ n l hn
    · refine (tile_in arg14.view f14 _ (256 * k) (off1_eq i ⟨k, hlt⟩) _ _ _ x d rfl).trans ?_
      rw [dv_apply, ld_tile _ _ _ (256 * k) 0 (off1_eq i ⟨k, hlt⟩) x d (by omega) (by omega), pv0_apply, pv1_apply]
      refine congrArg₂ _ (congrArg (fun z => arg14.view.read (Elt Ideal) _ (ix2 _ z)) (Fin.ext (Nat.zero_add _))) ?_
      unfold addV headOf
      by_cases hd : d.val < 64
      · rw [if_pos hd, if_pos hd]; exact Finset.sum_congr rfl fun r _ => by rw [hw0]
      · rw [if_neg hd, if_neg hd]; exact Finset.sum_congr rfl fun r _ => by rw [hw1]
    · exact tile_out arg14.view f14 _ (256 * k) (off1_eq i ⟨k, hlt⟩) _ _ n d hn
end

end Cert.Own.AttnBwd

end
-- ==== Proof.AttnBwdOwn.lean ====
module

public import proofs.«01_k».proof.Proof.AttnBwdLoop

@[expose] public section

/-! The queries' own block, after the loop: with it the sums over all keys are complete. -/

noncomputable section

namespace Cert.Own.AttnBwd

open Idealize.ShloMosaic Idealize.ShloMosaic.TcCoe Idealize.SL.Sem Cert.AttnBwdIdeal Cert.AttnBwdIdeal.Gen
open Cert.Own.AttnFwd (lane ld_tile)

/-- The first key of the queries' own block. -/
theorem own_word (i : grid0.Coords) : BitVec.toNat (Scalar.indexCast (Scalar.muli (BitVec.ofNat 32 (i 1).val) 256#32)) = 256 * (i 1).val := by
  have r_i1 : (i 1).val < 32 := (i 1).isLt
  have h_arg1 : Affine.IsInt (BitVec.ofNat 32 (i 1).val) (((i 1).val : Int)) := Affine.ofNat _ (by omega)
  have h256 : Affine.IsInt 256#32 (256) := Affine.ofNat _ (by omega)
  exact Affine.nat_eq (Affine.indexCast (Affine.muli h_arg1 h256 (e := 256 * ((i 1).val : Int)) (by omega))) _ (by omega)

/-- Where the own block's rows begin, from lane `o`. -/
abbrev ownOff (i : grid0.Coords) (o : ℕ) : Fin 2 → ℕ := ![BitVec.toNat (Scalar.indexCast (Scalar.muli (BitVec.ofNat 32 (i 1).val) 256#32)), o]

theorem ownOff_eq (i : grid0.Coords) (o : ℕ) : ownOff i o = ![256 * (i 1).val, o] := by
  unfold ownOff; rw [own_word]

section
variable {x0 : Vec Ideal S256x256 .bf16} {x1 : Vec Ideal S8192x256 .bf16} {x2 : Vec Ideal S8192x128 .bf16}
  {x3 : Vec Ideal S256x128 .bf16} {x4 : Vec Ideal S256x128 .f32} {x5 : Vec Ideal S1x2x256 .f32}
  {g13 : Vec Ideal S8192x256 .f32} {g14 : Vec Ideal S8192x128 .f32} {q0 q1 : FVec Ideal S256x128 .f32}
  {a13 : Vec Ideal S8192x256 .f32} {a14 : Vec Ideal S8192x128 .f32}

/-- A key after every query of the block weighs nothing. -/
theorem wt_later (b : ℕ) (a : Fin 2) (n : Fin 8192) (h : ¬n.val < b + 256) (r : Fin 256) : wt x0 x1 x5 b a n r = 0 :=
  if_neg (by omega)

theorem sg_zero (a : Fin 2) (n : Fin 8192) (r : Fin 256) : sg x2 x3 x4 0 a n r = 0 := by
  unfold sg; rw [zero_mul, zero_mul]

/-- With the own block the sums are over all keys. -/
theorem Inv.done {b : ℕ} (I : Inv x0 x1 x2 x3 x4 x5 b (b + 256) g13 g14 q0 q1 a13 a14) :
    (∀ (r : Fin 256) (y : Fin 128), q0 (ix2 r y) = ∑ n : Fin 8192, addQ x0 x1 x2 x3 x4 x5 b 0 r y n)
    ∧ (∀ (r : Fin 256) (y : Fin 128), q1 (ix2 r y) = ∑ n : Fin 8192, addQ x0 x1 x2 x3 x4 x5 b 1 r y n)
    ∧ (∀ (n : Fin 8192) (a : Fin 2) (y : Fin 128), a13 (ix2 n (lane a y)) = g13 (ix2 n (lane a y)) + addK x0 x1 x2 x3 x4 x5 b n a y)
    ∧ (∀ (n : Fin 8192) (d : Fin 128), a14 (ix2 n d) = g14 (ix2 n d) + addV x0 x1 x3 x5 b n d) := by
  have hQ : ∀ (a : Fin 2) (r : Fin 256) (y : Fin 128) (n : Fin 8192),
      (if n.val < b + 256 then addQ x0 x1 x2 x3 x4 x5 b a r y n else 0) = addQ x0 x1 x2 x3 x4 x5 b a r y n := fun a r y n => by
    by_cases h : n.val < b + 256
    · rw [if_pos h]
    · rw [if_neg h, addQ, sc, wt_later b a n h, sg_zero, zero_mul]
  refine ⟨fun r y => ?_, fun r y => ?_, fun n a y => ?_, fun n d => ?_⟩
  · rw [I.dq0]; exact Finset.sum_congr rfl fun n _ => hQ 0 r y n
  · rw [I.dq1]; exact Finset.sum_congr rfl fun n _ => hQ 1 r y n
  · rw [I.dk]
    by_cases h : n.val < b + 256
    · rw [if_pos h]
    · rw [if_neg h]
      refine congrArg _ (Finset.sum_eq_zero fun r _ => ?_).symm
      rw [sc, wt_later b a n h, sg_zero, zero_mul]
  · rw [I.dv]
    by_cases h : n.val < b + 256
    · rw [if_pos h]
    · rw [if_neg h]
      refine congrArg _ (Finset.sum_eq_zero fun r _ => ?_).symm
      rw [wt_later b _ n h, zero_mul]
end

section
variable (i : grid0.Coords) {κ κ' : Kind} {sp sp' : Space} (u13 : View sig κ sp (⟨2, ![8192, 256]⟩ : Shape) .f32) (u14 : View sig κ' sp' (⟨2, ![8192, 128]⟩ : Shape) .f32)
    (v8 : Vec Ideal S256x128 .bf16) (v9 : FVec Ideal S256x128 .bf16) (v16 v19 v21 v23 : FVec Ideal S1x256 .f32)
    (v24 v25 : Vec Ideal S256x128 .bf16)
    {x0 : Vec Ideal S256x256 .bf16} (x1 : Vec Ideal S8192x256 .bf16) (x2 : Vec Ideal S8192x128 .bf16)
    (x3 : Vec Ideal S256x128 .bf16) {x4 : Vec Ideal S256x128 .f32} {x5 : Vec Ideal S1x2x256 .f32}
    (f13 : BufTy.Contents (Elt Ideal) u13.ty) (f14 : BufTy.Contents (Elt Ideal) u14.ty)
    (T13 : List (View.Piece (Elt Ideal) (⟨2, ![8192, 256]⟩ : Shape) .f32)) (T14 : List (View.Piece (Elt Ideal) (⟨2, ![8192, 128]⟩ : Shape) .f32))
    (d0 d1 : FVec Ideal S256x128 .f32)
    (inb0 : ∀ x : Fin 2, ownOff i 0 x + (![256, 128] : Fin 2 → ℕ) x ≤ (![8192, 256] : Fin 2 → ℕ) x)
    (inb1 : ∀ x : Fin 2, ownOff i 128 x + (![256, 128] : Fin 2 → ℕ) x ≤ (![8192, 256] : Fin 2 → ℕ) x)
    (inbv : ∀ x : Fin 2, ownOff i 0 x + (![256, 128] : Fin 2 → ℕ) x ≤ (![8192, 128] : Fin 2 → ℕ) x)

/-- The own block's values. -/
abbrev DV : Vec Ideal S256x128 .bf16 := View.ld x2 (Rect.unit (s := ⟨2, ![8192, 128]⟩) (ownOff i 0) ![256, 128] inbv)
/-- The own block's keys, first head. -/
abbrev DK0 : Vec Ideal S256x128 .bf16 := View.ld x1 (Rect.unit (s := ⟨2, ![8192, 256]⟩) (ownOff i 0) ![256, 128] inb0)
/-- The own block's keys, second head. -/
abbrev DK1 : Vec Ideal S256x128 .bf16 := View.ld x1 (Rect.unit (s := ⟨2, ![8192, 256]⟩) (ownOff i 128) ![256, 128] inb1)
/-- What is stored for the first head's keys. -/
abbrev P44 : View.Piece (Elt Ideal) (⟨2, ![8192, 256]⟩ : Shape) .f32 := ⟨Rect.unit (s := ⟨2, ![8192, 256]⟩) (ownOff i 0) ![256, 128] inb0,
  k0_pay44 v8 v16 v21 v24 (DV i x2 inbv) (DK0 i x1 inb0)
    (View.ld (u13.read (Elt Ideal) (u13.writes (Elt Ideal) f13 T13)) (Rect.unit (s := ⟨2, ![8192, 256]⟩) (ownOff i 0) ![256, 128] inb0))⟩
/-- What is stored for the second head's keys. -/
abbrev P49 : View.Piece (Elt Ideal) (⟨2, ![8192, 256]⟩ : Shape) .f32 := ⟨Rect.unit (s := ⟨2, ![8192, 256]⟩) (ownOff i 128) ![256, 128] inb1,
  k0_pay49 v9 v19 v23 v25 (DV i x2 inbv) (k0_pay46 v25 (DK1 i x1 inb1)) scaleWord
    (View.ld (u13.read (Elt Ideal) (u13.writes (Elt Ideal) f13 (P44 i u13 v8 v16 v21 v24 x1 x2 f13 T13 inb0 inbv :: T13)))
      (Rect.unit (s := ⟨2, ![8192, 256]⟩) (ownOff i 128) ![256, 128] inb1))⟩
/-- What is stored for the values. -/
abbrev P51 : View.Piece (Elt Ideal) (⟨2, ![8192, 128]⟩ : Shape) .f32 := ⟨Rect.unit (s := ⟨2, ![8192, 128]⟩) (ownOff i 0) ![256, 128] inbv,
  k0_pay51 k0_pay22 x3 v23 (k0_pay42 x3 v21 v24 (DK0 i x1 inb0)) (k0_pay46 v25 (DK1 i x1 inb1)) scaleWord
    (View.ld (u14.read (Elt Ideal) (u14.writes (Elt Ideal) f14 T14)) (Rect.unit (s := ⟨2, ![8192, 128]⟩) (ownOff i 0) ![256, 128] inbv))⟩

variable {g13 : Vec Ideal S8192x256 .f32} {g14 : Vec Ideal S8192x128 .f32}

/-- The own block's step. -/
theorem own_next (H0 : Head x0 x3 x4 x5 0 v24 v8 v16 v21) (H1 : Head x0 x3 x4 x5 1 v25 v9 v19 v23)
    (I : Inv x0 x1 x2 x3 x4 x5 (256 * (i 1).val) (256 * (i 1).val) g13 g14 d0 d1 (u13.read (Elt Ideal) (u13.writes (Elt Ideal) f13 T13))
      (u14.read (Elt Ideal) (u14.writes (Elt Ideal) f14 T14))) :
    Inv x0 x1 x2 x3 x4 x5 (256 * (i 1).val) (256 * (i 1).val + 256) g13 g14
      (k0_pay45 v8 v16 v21 v24 d0 (DV i x2 inbv) (DK0 i x1 inb0))
      (k0_pay50 v9 v19 v23 d1 (DV i x2 inbv) (DK1 i x1 inb1) (k0_pay46 v25 (DK1 i x1 inb1)) scaleWord)
      (u13.read (Elt Ideal) (u13.writes (Elt Ideal) f13 (P49 i u13 v8 v9 v16 v19 v21 v23 v24 v25 x1 x2 f13 T13 inb0 inb1 inbv
        :: P44 i u13 v8 v16 v21 v24 x1 x2 f13 T13 inb0 inbv :: T13)))
      (u14.read (Elt Ideal) (u14.writes (Elt Ideal) f14 (P51 i u14 v21 v23 v24 v25 x1 x3 f14 T14 inb0 inb1 inbv :: T14))) := by
  have r_i1 : (i 1).val < 32 := (i 1).isLt
  have o0 := ownOff_eq i 0
  have o1 := ownOff_eq i 128
  have hV : ∀ (x : Fin 256) (d : Fin 128), DV i x2 inbv (ix2 x d) = x2 (ix2 ⟨256 * (i 1).val + x.val, by omega⟩ d) := fun x d => by
    refine (ld_tile x2 _ _ _ 0 o0 x d (by omega) (by omega)).trans ?_
    exact congrArg (fun z => x2 (ix2 _ z)) (Fin.ext (Nat.zero_add _))
  have hK0 : ∀ (x : Fin 256) (y : Fin 128), DK0 i x1 inb0 (ix2 x y) = x1 (ix2 ⟨256 * (i 1).val + x.val, by omega⟩ (lane 0 y)) := fun x y =>
    (ld_tile x1 _ _ _ 0 o0 x y (by omega) (by omega)).trans rfl
  have hK1 : ∀ (x : Fin 256) (y : Fin 128), DK1 i x1 inb1 (ix2 x y) = x1 (ix2 ⟨256 * (i 1).val + x.val, by omega⟩ (lane 1 y)) := fun x y =>
    (ld_tile x1 _ _ _ 128 o1 x y (by omega) (by omega)).trans rfl
  have hw0 : ∀ x r : Fin 256, dweight v24 (DK0 i x1 inb0) v21 x r = wt x0 x1 x5 (256 * (i 1).val) 0 ⟨256 * (i 1).val + x.val, by omega⟩ r := fun x r =>
    H0.own _ _ x rfl (hK0 x) r
  have hw1 : ∀ x r : Fin 256, dweight v25 (DK1 i x1 inb1) v23 x r = wt x0 x1 x5 (256 * (i 1).val) 1 ⟨256 * (i 1).val + x.val, by omega⟩ r := fun x r =>
    H1.own _ _ x rfl (hK1 x) r
  refine I.next (by omega) _ _ _ _ (fun r y => ?_) (fun r y => ?_) (fun x a y => ?_) (fun n l hn => ?_) (fun x d => ?_) (fun n d hn => ?_)
  · rw [ddq0_apply]
    refine congrArg _ (Finset.sum_congr rfl fun x _ => ?_)
    rw [hw0, H0.sgrad_eq _ x (hV x), hK0]
  · rw [ddq1_apply]
    refine congrArg _ (Finset.sum_congr rfl fun x _ => ?_)
    rw [hw1, H1.sgrad_eq _ x (hV x), hK1]
  · refine (tiles_in u13 f13 _ _ o1 o0 _ _ _ _ a _ x y rfl).trans ?_
    have ha : a = 0 ∨ a = 1 := by omega
    rcases ha with rfl | rfl
    · rw [if_pos rfl, ddk0_apply, ld_tile _ _ _ _ 0 o0 x y (by omega) (by omega)]
      refine congrArg₂ _ rfl (Finset.sum_congr rfl fun r _ => ?_)
      rw [hw0, H0.sgrad_eq _ x (hV x), H0.q_eq]
    · rw [if_neg (by decide), ddk1_apply, ld_tile _ _ _ _ 128 o1 x y (by omega) (by omega)]
      refine congrArg₂ _ ?_ (Finset.sum_congr rfl fun r _ => ?_)
      · exact View.read_writes_cons_unit_of_not_mem u13 f13 inb0 _ _ _ o0 (1 : Fin 2) (Or.inr (by show 0 + 128 ≤ 128 + y.val; omega))
      rw [hw1, H1.sgrad_eq _ x (hV x), H1.q_eq]
  · exact tiles_out u13 f13 _ _ o1 o0 _ _ _ _ n l hn
  · refine (tile_in u14 f14 _ _ o0 _ _ _ x d rfl).trans ?_
    rw [ddv_apply, ld_tile _ _ _ _ 0 o0 x d (by omega) (by omega), dpv0_apply]
    refine congrArg₂ _ (congrArg (fun z => u14.read (Elt Ideal) _ (ix2 _ z)) (Fin.ext (Nat.zero_add _))) ?_
    unfold addV headOf
    by_cases hd : d.val < 64
    · rw [if_pos hd, if_pos hd]; exact Finset.sum_congr rfl fun r _ => by rw [hw0]
    · rw [if_neg hd, if_neg hd]; exact Finset.sum_congr rfl fun r _ => by rw [hw1]
  · exact tile_out u14 f14 _ _ o0 _ _ n d hn
end

end Cert.Own.AttnBwd

end
-- ==== Proof.AttnBwdBlock.lean ====
module

public import proofs.«01_k».proof.Proof.AttnBwdOwn

@[expose] public section

/-! What one grid point of the backward attention kernel leaves: of the accumulators, and of the gradient of its queries. -/

noncomputable section

namespace Cert.Own.AttnBwd

open Idealize.ShloMosaic Idealize.ShloMosaic.TcCoe Idealize.SL.Sem Cert.AttnBwdIdeal Cert.AttnBwdIdeal.Gen
open Cert.Own.AttnFwd (lane ld_tile)

section
variable (x0 : Vec Ideal S256x256 .bf16) (x3 : Vec Ideal S256x128 .bf16) (x4 : Vec Ideal S256x128 .f32) (x5 : Vec Ideal S1x2x256 .f32)

/-- The first head's queries of a block. -/
abbrev q0Of : Vec Ideal S256x128 .bf16 := View.ld x0 (Rect.unit ![0, 0] ![256, 128] inb_S256x256_S256x128_0_0)
/-- The second head's queries of a block. -/
abbrev q1Of : Vec Ideal S256x128 .bf16 := View.ld x0 (Rect.unit ![0, 128] ![256, 128] inb_S256x256_S256x128_0_128)
/-- The first head's log sums of a block. -/
abbrev l0Of : Vec Ideal S1x1x256 .f32 := View.ld x5 (Rect.unit ![0, 0, 0] ![1, 1, 256] inb_S1x2x256_S1x1x256_0_0_0)
/-- The second head's log sums of a block. -/
abbrev l1Of : Vec Ideal S1x1x256 .f32 := View.ld x5 (Rect.unit ![0, 1, 0] ![1, 1, 256] inb_S1x2x256_S1x1x256_0_1_0)

/-- A sum over 128 lanes as two sums over 64. -/
theorem sum_halves (f : Fin 128 → EReal) : ∑ d : Fin 128, f d = (∑ y : Fin 64, f (half 0 y)) + ∑ y : Fin 64, f (half 1 y) := by
  refine (Fin.sum_univ_add (a := 64) (b := 64) f).trans (congrArg₂ _ ?_ ?_)
  · exact Finset.sum_congr rfl fun y _ => congrArg f (Fin.ext (by show y.val = 64 * 0 + y.val; omega))
  · exact Finset.sum_congr rfl fun y _ => congrArg f (Fin.ext (by show 64 + y.val = 64 * 1 + y.val; omega))

theorem head0 : Head x0 x3 x4 x5 0 (q0Of x0) (k0_pay24 x3) (k0_pay27 x3 x4) (k0_pay29 (l0Of x5)) where
  q_eq r y := by
    refine (ld_tile x0 _ _ 0 0 rfl r y (by omega) (by omega)).trans ?_
    exact congrArg (fun z => x0 (ix2 z (lane 0 y))) (Fin.ext (Nat.zero_add _))
  dos_eq v r := by
    have e0 : ∀ y : Fin 64, (half 0 y).val < 64 := fun y => by show 64 * 0 + y.val < 64; omega
    have e1 : ∀ y : Fin 64, ¬(half 1 y).val < 64 := fun y => by show ¬64 * 1 + y.val < 64; omega
    simp only [dos0_apply, sum_halves, e0, e1, if_true, if_false, mul_zero, Finset.sum_const_zero, add_zero]
  D_eq r := by
    rw [delta0_apply]
    have e : ∀ y : Fin 64, (⟨y.val, by omega⟩ : Fin 128) = half 0 y := fun y => Fin.ext (by show y.val = 64 * 0 + y.val; omega)
    unfold delta
    simp only [e]
  L_eq r := by
    rw [lse0_apply, l0Of, View.ld_unit]
    exact congrArg x5 (funext fun a => by fin_cases a <;> exact Fin.ext (by simp [Rect.emb, Rect.unit, ix3]))

theorem head1 : Head x0 x3 x4 x5 1 (q1Of x0) (k0_pay25 x3) (k0_pay28 x3 x4) (k0_pay30 (l1Of x5)) where
  q_eq r y := by
    refine (ld_tile x0 _ _ 0 128 rfl r y (by omega) (by omega)).trans ?_
    exact congrArg (fun z => x0 (ix2 z (lane 1 y))) (Fin.ext (Nat.zero_add _))
  dos_eq v r := by
    have e0 : ∀ y : Fin 64, (half 0 y).val < 64 := fun y => by show 64 * 0 + y.val < 64; omega
    have e1 : ∀ y : Fin 64, ¬(half 1 y).val < 64 := fun y => by show ¬64 * 1 + y.val < 64; omega
    simp only [dos1_apply, sum_halves, e0, e1, if_true, if_false, mul_zero, Finset.sum_const_zero, zero_add]
  D_eq r := by
    rw [delta1_apply]
    have e : ∀ y : Fin 64, (⟨64 + y.val, by omega⟩ : Fin 128) = half 1 y := fun y => Fin.ext (by show 64 + y.val = 64 * 1 + y.val; omega)
    unfold delta
    simp only [e]
  L_eq r := by
    rw [lse1_apply, l1Of, View.ld_unit]
    exact congrArg x5 (funext fun a => by fin_cases a <;> exact Fin.ext (by simp [Rect.emb, Rect.unit, ix3]))
end

theorem own_inb0 (i : grid0.Coords) : ∀ x : Fin 2, ownOff i 0 x + (![256, 128] : Fin 2 → ℕ) x ≤ (![8192, 256] : Fin 2 → ℕ) x := k0_off8_inb i
theorem own_inb1 (i : grid0.Coords) : ∀ x : Fin 2, ownOff i 128 x + (![256, 128] : Fin 2 → ℕ) x ≤ (![8192, 256] : Fin 2 → ℕ) x := k0_off9_inb i
theorem own_inbv (i : grid0.Coords) : ∀ x : Fin 2, ownOff i 0 x + (![256, 128] : Fin 2 → ℕ) x ≤ (![8192, 128] : Fin 2 → ℕ) x := k0_off7_inb i

theorem zero_off : (![0, 0] : Fin 2 → ℕ) = fun _ => 0 := funext fun a => by fin_cases a <;> rfl
/-- A whole block, loaded. -/
theorem ld_rows {e : EltTy} (inb) (X : Vec Ideal S256x128 e) : View.ld X (Rect.unit (s := S256x128) ![0, 0] ![256, 128] inb) = X :=
  View.ld_unit_zero (S := S256x128) zero_off inb X
theorem ld_wide {e : EltTy} (inb) (X : Vec Ideal S8192x256 e) : View.ld X (Rect.unit (s := S8192x256) ![0, 0] ![8192, 256] inb) = X :=
  View.ld_unit_zero (S := S8192x256) zero_off inb X
theorem ld_thin {e : EltTy} (inb) (X : Vec Ideal S8192x128 e) : View.ld X (Rect.unit (s := S8192x128) ![0, 0] ![8192, 128] inb) = X :=
  View.ld_unit_zero (S := S8192x128) zero_off inb X

/-- An accumulator just cleared. -/
theorem cleared13 {κ : Kind} {sp : Space} (v : View sig κ sp (⟨2, ![8192, 256]⟩ : Shape) .f32) (f : v.ty.Contents (Elt Ideal))
    (inb : ∀ x : Fin 2, (![0, 0] : Fin 2 → ℕ) x + (![8192, 256] : Fin 2 → ℕ) x ≤ (![8192, 256] : Fin 2 → ℕ) x) (n : Fin 8192) (l : Fin 256) :
    v.read (Elt Ideal) (v.writes (Elt Ideal) f [⟨Rect.unit (s := ⟨2, ![8192, 256]⟩) ![0, 0] ![8192, 256] inb, k0_pay20 (F := Ideal)⟩]) (ix2 n l) = 0 :=
  (View.read_writes_cons_unit_of_mem v f inb _ _ (ix2 n l) (ix2 n l) rfl
    (Fin.forall_fin_two.mpr ⟨(Nat.zero_add _).symm, (Nat.zero_add _).symm⟩)).trans (zk_apply n l)

/-- An accumulator just cleared. -/
theorem cleared14 {κ : Kind} {sp : Space} (v : View sig κ sp (⟨2, ![8192, 128]⟩ : Shape) .f32) (f : v.ty.Contents (Elt Ideal))
    (inb : ∀ x : Fin 2, (![0, 0] : Fin 2 → ℕ) x + (![8192, 128] : Fin 2 → ℕ) x ≤ (![8192, 128] : Fin 2 → ℕ) x) (n : Fin 8192) (l : Fin 128) :
    v.read (Elt Ideal) (v.writes (Elt Ideal) f [⟨Rect.unit (s := ⟨2, ![8192, 128]⟩) ![0, 0] ![8192, 128] inb, k0_pay21 (F := Ideal)⟩]) (ix2 n l) = 0 :=
  (View.read_writes_cons_unit_of_mem v f inb _ _ (ix2 n l) (ix2 n l) rfl
    (Fin.forall_fin_two.mpr ⟨(Nat.zero_add _).symm, (Nat.zero_add _).symm⟩)).trans (zv_apply n l)

/-- Two tiles side by side, the second stored last: in each half its own. -/
theorem canon_halves (w0 w1 : (⟨2, ![256, 128]⟩ : Shape).Idx → EReal) (inb0) (inb1) (a : Fin 2) (r : Fin 256) (y : Fin 128) :
    View.canon (Val := Elt Ideal) (s := ⟨2, ![256, 256]⟩) (e := .bf16)
      [⟨Rect.unit (s := ⟨2, ![256, 256]⟩) ![0, 128] ![256, 128] inb1, w1⟩, ⟨Rect.unit (s := ⟨2, ![256, 256]⟩) ![0, 0] ![256, 128] inb0, w0⟩] (ix2 r (lane a y))
      = if a = 0 then w0 (ix2 r y) else w1 (ix2 r y) := by
  have e0 : (Rect.unit (s := ⟨2, ![256, 256]⟩) ![0, 0] ![256, 128] inb0).emb (ix2 r y) = ix2 r (lane 0 y) := by
    funext x; fin_cases x <;> exact Fin.ext (by simp [Rect.emb, Rect.unit, ix2])
  have e1 : (Rect.unit (s := ⟨2, ![256, 256]⟩) ![0, 128] ![256, 128] inb1).emb (ix2 r y) = ix2 r (lane 1 y) := by
    funext x; fin_cases x <;> exact Fin.ext (by simp [Rect.emb, Rect.unit, ix2])
  have ha : a = 0 ∨ a = 1 := by omega
  rcases ha with rfl | rfl
  · rw [if_pos rfl]
    refine (View.canon_cons_of_not_mem _ _ ?_).trans ?_
    · intro hm
      have h := ((Rect.mem_set_unit (inb := inb1)).1 hm) 1
      have h' : 128 ≤ 128 * 0 + y.val := h.1
      omega
    · rw [← e0]
      exact View.canon_cons_emb (Val := Elt Ideal) (e := .bf16) (Rect.unit (s := ⟨2, ![256, 256]⟩) ![0, 0] ![256, 128] inb0) w0 [] _
  · rw [if_neg (by decide)]
    rw [← e1]
    exact View.canon_cons_emb (Val := Elt Ideal) (e := .bf16) (Rect.unit (s := ⟨2, ![256, 256]⟩) ![0, 128] ![256, 128] inb1) w1 _ _

/-- A row rotated back: `c` cosines, `s` sines, `m1` and `m2` the two masks of lanes. -/
def turnBack (f c s m1 m2 : Fin 128 → EReal) (y : Fin 128) : EReal :=
  f y * c y
    + f ⟨(y.val + 128 - 16) % 128, Nat.mod_lt _ (by norm_num)⟩
      * (s ⟨(y.val + 128 - 16) % 128, Nat.mod_lt _ (by norm_num)⟩ * m1 ⟨(y.val + 128 - 16) % 128, Nat.mod_lt _ (by norm_num)⟩)
    + f ⟨(y.val + 128 - 112) % 128, Nat.mod_lt _ (by norm_num)⟩
      * (s ⟨(y.val + 128 - 112) % 128, Nat.mod_lt _ (by norm_num)⟩ * m2 ⟨(y.val + 128 - 112) % 128, Nat.mod_lt _ (by norm_num)⟩)

section
variable (x0 : Vec Ideal S256x256 .bf16) (x1 : Vec Ideal S8192x256 .bf16) (x2 : Vec Ideal S8192x128 .bf16)
  (x3 : Vec Ideal S256x128 .bf16) (x4 : Vec Ideal S256x128 .f32) (x5 : Vec Ideal S1x2x256 .f32) (x6 : Vec Ideal S256x256 .f32) (x7 : Vec Ideal S16x1024 .f32)

/-- The gradient of the block's queries, rotated back. -/
def outQ (b : ℕ) (a : Fin 2) (r : Fin 256) (y : Fin 128) : EReal :=
  turnBack (fun y => ∑ n : Fin 8192, addQ x0 x1 x2 x3 x4 x5 b a r y n) (fun y => x6 (ix2 r (lane 0 y))) (fun y => x6 (ix2 r (lane 1 y)))
    (fun y => x7 (ix2 5 ⟨y.val, by omega⟩)) (fun y => x7 (ix2 6 ⟨y.val, by omega⟩)) y

/-- The rotation's pieces, as they are read. -/
theorem unrot_eq (X : FVec Ideal S256x128 .f32) (f : Fin 128 → EReal) (r : Fin 256) (y : Fin 128) (hX : ∀ y : Fin 128, X (ix2 r y) = f y) :
    unrot X (View.ld x6 (Rect.unit ![0, 0] ![256, 128] inb_S256x256_S256x128_0_0)) (View.ld x6 (Rect.unit ![0, 128] ![256, 128] inb_S256x256_S256x128_0_128))
      (View.ld x7 (Rect.unit ![5, 0] ![1, 128] inb_S16x1024_S1x128_5_0)) (View.ld x7 (Rect.unit ![6, 0] ![1, 128] inb_S16x1024_S1x128_6_0)) r y
      = turnBack f (fun y => x6 (ix2 r (lane 0 y))) (fun y => x6 (ix2 r (lane 1 y)))
          (fun y => x7 (ix2 5 ⟨y.val, by omega⟩)) (fun y => x7 (ix2 6 ⟨y.val, by omega⟩)) y := by
  have hc : ∀ y : Fin 128, View.ld x6 (Rect.unit ![0, 0] ![256, 128] inb_S256x256_S256x128_0_0) (ix2 r y) = x6 (ix2 r (lane 0 y)) := fun y => by
    rw [View.ld_unit]
    exact congrArg x6 (funext fun a => by fin_cases a <;> exact Fin.ext (by simp [Rect.emb, Rect.unit, ix2]))
  have hs : ∀ y : Fin 128, View.ld x6 (Rect.unit ![0, 128] ![256, 128] inb_S256x256_S256x128_0_128) (ix2 r y) = x6 (ix2 r (lane 1 y)) := fun y => by
    rw [View.ld_unit]
    exact congrArg x6 (funext fun a => by fin_cases a <;> exact Fin.ext (by simp [Rect.emb, Rect.unit, ix2]))
  have h5 : ∀ y : Fin 128, View.ld x7 (Rect.unit ![5, 0] ![1, 128] inb_S16x1024_S1x128_5_0) (ix2 0 y) = x7 (ix2 5 ⟨y.val, by omega⟩) := fun y => by
    rw [View.ld_unit]
    exact congrArg x7 (funext fun a => by fin_cases a <;> exact Fin.ext (by simp [Rect.emb, Rect.unit, ix2]))
  have h6 : ∀ y : Fin 128, View.ld x7 (Rect.unit ![6, 0] ![1, 128] inb_S16x1024_S1x128_6_0) (ix2 0 y) = x7 (ix2 6 ⟨y.val, by omega⟩) := fun y => by
    rw [View.ld_unit]
    exact congrArg x7 (funext fun a => by fin_cases a <;> exact Fin.ext (by simp [Rect.emb, Rect.unit, ix2]))
  unfold unrot turnBack
  simp only [hX, hc, hs, h5, h6]
end

section
variable (c : Dev nD) (i : grid0.Coords)
    (arg2 : Memref sig .tc .vmem S256x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S256x128 .f32) (harg6 : arg6.IsWhole) (arg7 : Memref sig .tc .vmem S1x2x256 .f32) (harg7 : arg7.IsWhole) (arg8 : Memref sig .tc .vmem S256x256 .f32) (harg8 : arg8.IsWhole) (arg9 : Memref sig .tc .vmem S16x1024 .f32) (harg9 : arg9.IsWhole) (arg10 : Memref sig .tc .vmem S256x256 .bf16) (harg10 : arg10.IsWhole) (arg11 : Memref sig .tc .vmem S8192x256 .bf16) (harg11 : arg11.IsWhole) (arg12 : Memref sig .tc .vmem S8192x128 .bf16) (harg12 : arg12.IsWhole) (arg13 : Memref sig .tc .vmem S8192x256 .f32) (harg13 : arg13.IsWhole) (arg14 : Memref sig .tc .vmem S8192x128 .f32) (harg14 : arg14.IsWhole)
    (x0 : Vec Ideal S256x256 .bf16) (x1 : Vec Ideal S8192x256 .bf16) (x2 : Vec Ideal S8192x128 .bf16)
    (x3 : Vec Ideal S256x128 .bf16) (x4 : Vec Ideal S256x128 .f32) (x5 : Vec Ideal S1x2x256 .f32) (x6 : Vec Ideal S256x256 .f32) (x7 : Vec Ideal S16x1024 .f32)

/-- The loop and then the own block, from the accumulators' contents `f13` and `f14`. -/
theorem all_keys (f13 : BufTy.Contents (Elt Ideal) arg13.view.ty) (f14 : BufTy.Contents (Elt Ideal) arg14.view.ty)
    (S) (hS : S = st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) k0_pay22 x3 (k0_pay24 x3) (k0_pay25 x3) (k0_pay27 x3 x4) (k0_pay28 x3 x4) (k0_pay29 (l0Of x5)) (k0_pay30 (l1Of x5)) (q0Of x0) (q1Of x0) k0_pay31 k0_pay32 0#32 (Scalar.addi 0#32 (Scalar.muli (Scalar.divsi (Scalar.subi (BitVec.ofNat 32 (i 1).val) 0#32) 1#32) 1#32)) (harg3.unread x1) (harg4.unread x2) f13 f14 (k0_pay31, k0_pay32) (k0_t1_loop i).trips) :
    Inv x0 x1 x2 x3 x4 x5 (256 * (i 1).val) (256 * (i 1).val + 256) (arg13.view.read (Elt Ideal) f13) (arg14.view.read (Elt Ideal) f14)
      (k0_pay45 (k0_pay24 x3) (k0_pay27 x3 x4) (k0_pay29 (l0Of x5)) (q0Of x0) S.1.1 (DV i x2 (own_inbv i)) (DK0 i x1 (own_inb0 i)))
      (k0_pay50 (k0_pay25 x3) (k0_pay28 x3 x4) (k0_pay30 (l1Of x5)) S.1.2 (DV i x2 (own_inbv i)) (DK1 i x1 (own_inb1 i)) (k0_pay46 (q1Of x0) (DK1 i x1 (own_inb1 i))) scaleWord)
      (arg13.view.read (Elt Ideal) (arg13.view.writes (Elt Ideal) f13
        (P49 i arg13.view (k0_pay24 x3) (k0_pay25 x3) (k0_pay27 x3 x4) (k0_pay28 x3 x4) (k0_pay29 (l0Of x5)) (k0_pay30 (l1Of x5)) (q0Of x0) (q1Of x0) x1 x2 f13 S.2.1 (own_inb0 i) (own_inb1 i) (own_inbv i)
        :: P44 i arg13.view (k0_pay24 x3) (k0_pay27 x3 x4) (k0_pay29 (l0Of x5)) (q0Of x0) x1 x2 f13 S.2.1 (own_inb0 i) (own_inbv i) :: S.2.1)))
      (arg14.view.read (Elt Ideal) (arg14.view.writes (Elt Ideal) f14
        (P51 i arg14.view (k0_pay29 (l0Of x5)) (k0_pay30 (l1Of x5)) (q0Of x0) (q1Of x0) x1 x3 f14 S.2.2 (own_inb0 i) (own_inb1 i) (own_inbv i) :: S.2.2))) := by
  have H0 := head0 x0 x3 x4 x5
  have H1 := head1 x0 x3 x4 x5
  have I := loop_inv c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (k0_pay24 x3) (k0_pay25 x3) (k0_pay27 x3 x4) (k0_pay28 x3 x4) (k0_pay29 (l0Of x5)) (k0_pay30 (l1Of x5)) (q0Of x0) (q1Of x0) k0_pay31 k0_pay32 0#32 (Scalar.addi 0#32 (Scalar.muli (Scalar.divsi (Scalar.subi (BitVec.ofNat 32 (i 1).val) 0#32) 1#32) 1#32)) x1 x2 x3 f13 f14 H0 H1 (k0_t1_loop i).trips le_rfl S hS
  rw [trips_eq] at I
  exact own_next i arg13.view arg14.view _ _ _ _ _ _ _ _ x1 x2 x3 f13 f14 S.2.1 S.2.2 S.1.1 S.1.2 (own_inb0 i) (own_inb1 i) (own_inbv i) H0 H1 I

/-- A middle block of queries: the accumulator of the keys. -/
theorem atB_s0 (hc0 : ¬cond0_0 i) (hc1 : ¬cond0_1 i) (xs0 : Vec Ideal S8192x256 .f32) (xs1 : Vec Ideal S8192x128 .f32) (n : Fin 8192) (a : Fin 2) (y : Fin 128) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 (ix2 n (lane a y)) = xs0 (ix2 n (lane a y)) + addK x0 x1 x2 x3 x4 x5 (256 * (i 1).val) n a y := by
  unfold sout0_B_0 kernelRun0_B
  dsimp only
  sl_unfold_words
  simp only [View.readAt_eq_ld, Memref.IsWhole.read_unread, ld_rows, ld_wide, ld_thin]
  rw [rem_trips_eq]
  simp only [st_k0_t2.eq_1, List.nil_append]
  generalize hS : st_k0_t1 (F := Ideal) Variants.none _ _ _ arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _ _ _ _ _ _ _ _ _ _ = S
  have hS' := hS.symm
  clear hS
  have h := (all_keys c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (harg13.unread xs0) (harg14.unread xs1) _ hS').done.2.2.1 n a y
  rw [Memref.IsWhole.read_unread] at h
  exact h

/-- A middle block of queries: the accumulator of the values. -/
theorem atB_s1 (hc0 : ¬cond0_0 i) (hc1 : ¬cond0_1 i) (xs0 : Vec Ideal S8192x256 .f32) (xs1 : Vec Ideal S8192x128 .f32) (n : Fin 8192) (d : Fin 128) :
    sout0_B_1 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 (ix2 n d) = xs1 (ix2 n d) + addV x0 x1 x3 x5 (256 * (i 1).val) n d := by
  unfold sout0_B_1 kernelRun0_B
  dsimp only
  sl_unfold_words
  simp only [View.readAt_eq_ld, Memref.IsWhole.read_unread, ld_rows, ld_wide, ld_thin]
  rw [rem_trips_eq]
  simp only [st_k0_t2.eq_1, List.nil_append]
  generalize hS : st_k0_t1 (F := Ideal) Variants.none _ _ _ arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _ _ _ _ _ _ _ _ _ _ = S
  have hS' := hS.symm
  clear hS
  have h := (all_keys c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (harg13.unread xs0) (harg14.unread xs1) _ hS').done.2.2.2 n d
  rw [Memref.IsWhole.read_unread] at h
  exact h

/-- A middle block of queries: the gradient of the queries. -/
theorem atB_8 (hc0 : ¬cond0_0 i) (hc1 : ¬cond0_1 i) (xs0 : Vec Ideal S8192x256 .f32) (xs1 : Vec Ideal S8192x128 .f32) (a : Fin 2) (r : Fin 256) (y : Fin 128) :
    out0_B_8 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 (ix2 r (lane a y)) = outQ x0 x1 x2 x3 x4 x5 x6 x7 (256 * (i 1).val) a r y := by
  unfold out0_B_8
  rw [View.read_writes_eq_canon _ _ _ (fun y => cover0_B_8 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 y)]
  unfold kernelRun0_B
  dsimp only
  sl_unfold_words
  simp only [View.readAt_eq_ld, Memref.IsWhole.read_unread, ld_rows, ld_wide, ld_thin]
  rw [rem_trips_eq]
  simp only [st_k0_t2.eq_1, List.nil_append]
  generalize hS : st_k0_t1 (F := Ideal) Variants.none _ _ _ arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _ _ _ _ _ _ _ _ _ _ = S
  have hS' := hS.symm
  clear hS
  refine (canon_halves _ _ _ _ a r y).trans ?_
  have ha : a = 0 ∨ a = 1 := by omega
  rcases ha with rfl | rfl
  · rw [if_pos rfl]
    exact (unrot0_apply _ _ _ _ _ r y).trans (unrot_eq x6 x7 _ _ r y fun y => (all_keys c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (harg13.unread xs0) (harg14.unread xs1) _ hS').done.1 r y)
  · rw [if_neg (by decide)]
    exact (unrot1_apply _ _ _ _ _ r y).trans (unrot_eq x6 x7 _ _ r y fun y => (all_keys c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (harg13.unread xs0) (harg14.unread xs1) _ hS').done.2.1 r y)

/-- A first block of queries: the accumulator of the keys. -/
theorem atA_s0 (hc0 : cond0_0 i) (hc1 : ¬cond0_1 i) (n : Fin 8192) (a : Fin 2) (y : Fin 128) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 (ix2 n (lane a y)) = addK x0 x1 x2 x3 x4 x5 (256 * (i 1).val) n a y := by
  unfold sout0_A_0
  rw [View.read_writes_eq_canon _ _ _ (fun y => scover0_A_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 y), ← View.read_writes_eq_canon arg13.view arg13.view.junk _ (fun y => scover0_A_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 y)]
  unfold kernelRun0_A
  dsimp only
  sl_unfold_words
  simp only [View.readAt_eq_ld, Memref.IsWhole.read_unread, ld_rows, ld_wide, ld_thin]
  rw [rem_trips_eq]
  simp only [st_k0_t2.eq_1, List.nil_append]
  generalize hS : st_k0_t1 (F := Ideal) Variants.none _ _ _ arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _ _ _ _ _ _ _ _ _ _ = S
  have hS' := hS.symm
  clear hS
  simp only [← List.cons_append, View.writes_append]
  refine ((all_keys c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (arg13.view.writes (Elt Ideal) arg13.view.junk [⟨Rect.unit ![0, 0] ![8192, 256] inb_S8192x256_S8192x256_0_0, k0_pay20 (F := Ideal)⟩]) (arg14.view.writes (Elt Ideal) arg14.view.junk [⟨Rect.unit ![0, 0] ![8192, 128] inb_S8192x128_S8192x128_0_0, k0_pay21 (F := Ideal)⟩]) _ hS').done.2.2.1 n a y).trans ?_
  exact (congrArg (· + _) (cleared13 arg13.view _ _ n _)).trans (zero_add _)

/-- A first block of queries: the accumulator of the values. -/
theorem atA_s1 (hc0 : cond0_0 i) (hc1 : ¬cond0_1 i) (n : Fin 8192) (d : Fin 128) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 (ix2 n d) = addV x0 x1 x3 x5 (256 * (i 1).val) n d := by
  unfold sout0_A_1
  rw [View.read_writes_eq_canon _ _ _ (fun y => scover0_A_1 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 y), ← View.read_writes_eq_canon arg14.view arg14.view.junk _ (fun y => scover0_A_1 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 y)]
  unfold kernelRun0_A
  dsimp only
  sl_unfold_words
  simp only [View.readAt_eq_ld, Memref.IsWhole.read_unread, ld_rows, ld_wide, ld_thin]
  rw [rem_trips_eq]
  simp only [st_k0_t2.eq_1, List.nil_append]
  generalize hS : st_k0_t1 (F := Ideal) Variants.none _ _ _ arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _ _ _ _ _ _ _ _ _ _ = S
  have hS' := hS.symm
  clear hS
  simp only [← List.cons_append, View.writes_append]
  refine ((all_keys c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (arg13.view.writes (Elt Ideal) arg13.view.junk [⟨Rect.unit ![0, 0] ![8192, 256] inb_S8192x256_S8192x256_0_0, k0_pay20 (F := Ideal)⟩]) (arg14.view.writes (Elt Ideal) arg14.view.junk [⟨Rect.unit ![0, 0] ![8192, 128] inb_S8192x128_S8192x128_0_0, k0_pay21 (F := Ideal)⟩]) _ hS').done.2.2.2 n d).trans ?_
  exact (congrArg (· + _) (cleared14 arg14.view _ _ n _)).trans (zero_add _)

/-- A first block of queries: the gradient of the queries. -/
theorem atA_8 (hc0 : cond0_0 i) (hc1 : ¬cond0_1 i) (a : Fin 2) (r : Fin 256) (y : Fin 128) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 (ix2 r (lane a y)) = outQ x0 x1 x2 x3 x4 x5 x6 x7 (256 * (i 1).val) a r y := by
  unfold out0_A_8
  rw [View.read_writes_eq_canon _ _ _ (fun y => cover0_A_8 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 y)]
  unfold kernelRun0_A
  dsimp only
  sl_unfold_words
  simp only [View.readAt_eq_ld, Memref.IsWhole.read_unread, ld_rows, ld_wide, ld_thin]
  rw [rem_trips_eq]
  simp only [st_k0_t2.eq_1, List.nil_append]
  generalize hS : st_k0_t1 (F := Ideal) Variants.none _ _ _ arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _ _ _ _ _ _ _ _ _ _ = S
  have hS' := hS.symm
  clear hS
  refine (canon_halves _ _ _ _ a r y).trans ?_
  have ha : a = 0 ∨ a = 1 := by omega
  rcases ha with rfl | rfl
  · rw [if_pos rfl]
    exact (unrot0_apply _ _ _ _ _ r y).trans (unrot_eq x6 x7 _ _ r y fun y => (all_keys c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (arg13.view.writes (Elt Ideal) arg13.view.junk [⟨Rect.unit ![0, 0] ![8192, 256] inb_S8192x256_S8192x256_0_0, k0_pay20 (F := Ideal)⟩]) (arg14.view.writes (Elt Ideal) arg14.view.junk [⟨Rect.unit ![0, 0] ![8192, 128] inb_S8192x128_S8192x128_0_0, k0_pay21 (F := Ideal)⟩]) _ hS').done.1 r y)
  · rw [if_neg (by decide)]
    exact (unrot1_apply _ _ _ _ _ r y).trans (unrot_eq x6 x7 _ _ r y fun y => (all_keys c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (arg13.view.writes (Elt Ideal) arg13.view.junk [⟨Rect.unit ![0, 0] ![8192, 256] inb_S8192x256_S8192x256_0_0, k0_pay20 (F := Ideal)⟩]) (arg14.view.writes (Elt Ideal) arg14.view.junk [⟨Rect.unit ![0, 0] ![8192, 128] inb_S8192x128_S8192x128_0_0, k0_pay21 (F := Ideal)⟩]) _ hS').done.2.1 r y)

/-- A last block of queries: the gradient of the queries. -/
theorem atC_8 (hc0 : ¬cond0_0 i) (hc1 : cond0_1 i) (xs0 : Vec Ideal S8192x256 .f32) (xs1 : Vec Ideal S8192x128 .f32) (a : Fin 2) (r : Fin 256) (y : Fin 128) :
    out0_C_8 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 (ix2 r (lane a y)) = outQ x0 x1 x2 x3 x4 x5 x6 x7 (256 * (i 1).val) a r y := by
  unfold out0_C_8
  rw [View.read_writes_eq_canon _ _ _ (fun y => cover0_C_8 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 y)]
  unfold kernelRun0_C
  dsimp only
  sl_unfold_words
  simp only [View.readAt_eq_ld, Memref.IsWhole.read_unread, ld_rows, ld_wide, ld_thin]
  rw [rem_trips_eq]
  simp only [st_k0_t2.eq_1, List.nil_append]
  generalize hS : st_k0_t1 (F := Ideal) Variants.none _ _ _ arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _ _ _ _ _ _ _ _ _ _ = S
  have hS' := hS.symm
  clear hS
  refine (canon_halves _ _ _ _ a r y).trans ?_
  have ha : a = 0 ∨ a = 1 := by omega
  rcases ha with rfl | rfl
  · rw [if_pos rfl]
    exact (unrot0_apply _ _ _ _ _ r y).trans (unrot_eq x6 x7 _ _ r y fun y => (all_keys c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (harg13.unread xs0) (harg14.unread xs1) _ hS').done.1 r y)
  · rw [if_neg (by decide)]
    exact (unrot1_apply _ _ _ _ _ r y).trans (unrot_eq x6 x7 _ _ r y fun y => (all_keys c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (harg13.unread xs0) (harg14.unread xs1) _ hS').done.2.1 r y)

/-- A last block of queries: the gradient of the keys. -/
theorem atC_9 (hc0 : ¬cond0_0 i) (hc1 : cond0_1 i) (xs0 : Vec Ideal S8192x256 .f32) (xs1 : Vec Ideal S8192x128 .f32) (n : Fin 8192) (a : Fin 2) (y : Fin 128) :
    out0_C_9 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 (ix2 n (lane a y)) = xs0 (ix2 n (lane a y)) + addK x0 x1 x2 x3 x4 x5 (256 * (i 1).val) n a y := by
  unfold out0_C_9
  rw [View.read_writes_eq_canon _ _ _ (fun y => cover0_C_9 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 y)]
  unfold kernelRun0_C
  dsimp only
  sl_unfold_words
  simp only [View.readAt_eq_ld, Memref.IsWhole.read_unread, ld_rows, ld_wide, ld_thin]
  rw [View.canon_unit_zero zero_off]
  rw [rem_trips_eq]
  simp only [st_k0_t2.eq_1, List.nil_append]
  generalize hS : st_k0_t1 (F := Ideal) Variants.none _ _ _ arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _ _ _ _ _ _ _ _ _ _ = S
  have hS' := hS.symm
  clear hS
  refine (outk_apply _ n _).trans ?_
  have h := (all_keys c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (harg13.unread xs0) (harg14.unread xs1) _ hS').done.2.2.1 n a y
  rw [Memref.IsWhole.read_unread] at h
  exact h

/-- A last block of queries: the gradient of the values. -/
theorem atC_10 (hc0 : ¬cond0_0 i) (hc1 : cond0_1 i) (xs0 : Vec Ideal S8192x256 .f32) (xs1 : Vec Ideal S8192x128 .f32) (n : Fin 8192) (d : Fin 128) :
    out0_C_10 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 (ix2 n d) = xs1 (ix2 n d) + addV x0 x1 x3 x5 (256 * (i 1).val) n d := by
  unfold out0_C_10
  rw [View.read_writes_eq_canon _ _ _ (fun y => cover0_C_10 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 y)]
  unfold kernelRun0_C
  dsimp only
  sl_unfold_words
  simp only [View.readAt_eq_ld, Memref.IsWhole.read_unread, ld_rows, ld_wide, ld_thin]
  rw [View.canon_unit_zero zero_off]
  rw [rem_trips_eq]
  simp only [st_k0_t2.eq_1, List.nil_append]
  generalize hS : st_k0_t1 (F := Ideal) Variants.none _ _ _ arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _ _ _ _ _ _ _ _ _ _ = S
  have hS' := hS.symm
  clear hS
  refine (outv_apply _ n d).trans ?_
  have h := (all_keys c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (harg13.unread xs0) (harg14.unread xs1) _ hS').done.2.2.2 n d
  rw [Memref.IsWhole.read_unread] at h
  exact h
end

end Cert.Own.AttnBwd

end
-- ==== Proof.AttnBwdGlob.lean ====
module

public import proofs.«01_k».proof.Proof.AttnBwdBlock

@[expose] public section

/-! The gradients of the attention as functions of the whole arrays, and a grid point's part of them: the blocks a point reads are
    parts of the arrays, so what it adds is a sum over its own queries. -/

noncomputable section

namespace Cert.Own.AttnBwd

open Idealize.ShloMosaic Idealize.ShloMosaic.TcCoe Idealize.SL.Sem Cert.AttnBwdIdeal Cert.AttnBwdIdeal.Gen
open Cert.Own.AttnFwd (lane ld_tile)

/-- Lane `y` of head `h` of eight, of the queries and keys. -/
abbrev hlane (h : Fin 8) (y : Fin 128) : Fin 1024 := ⟨128 * h.val + y.val, by omega⟩

/-- Lane `y` of head `h` of eight, of the values. -/
abbrev vlane (h : Fin 8) (y : Fin 64) : Fin 512 := ⟨64 * h.val + y.val, by omega⟩

section
variable (Q K : Vec Ideal S8192x1024 .bf16) (V DO : Vec Ideal S8192x512 .bf16) (O : Vec Ideal S8192x512 .f32) (L : Vec Ideal S4x2x8192 .f32)
  (CS : Vec Ideal S8192x256 .f32) (PV : Vec Ideal S16x1024 .f32)

/-- The weight of key `n` for query `q` on head `h`: a key after the query weighs nothing. -/
def weightG (h : Fin 8) (n q : Fin 8192) : EReal :=
  if n.val ≤ q.val then Ideal.exp ((∑ y : Fin 128, K (ix2 n (hlane h y)) * Q (ix2 q (hlane h y))) * scale
    - L (ix3 ⟨h.val / 2, by omega⟩ ⟨h.val % 2, by omega⟩ q)) else 0

/-- The sum of a query's results times their gradient, on head `h`. -/
def deltaG (h : Fin 8) (q : Fin 8192) : EReal := ∑ y : Fin 64, DO (ix2 q (vlane h y)) * O (ix2 q (vlane h y))

/-- The gradient of the score of query `q` against key `n` on head `h`. -/
def scoreG (h : Fin 8) (n q : Fin 8192) : EReal :=
  weightG Q K L h n q * ((∑ y : Fin 64, V (ix2 n (vlane h y)) * DO (ix2 q (vlane h y))) - deltaG DO O h q) * scale

/-- One query's part of the gradient of a key. -/
def termK (h : Fin 8) (y : Fin 128) (n q : Fin 8192) : EReal := scoreG Q K V DO O L h n q * Q (ix2 q (hlane h y))

/-- One query's part of the gradient of a value. -/
def termV (h : Fin 8) (d : Fin 512) (n q : Fin 8192) : EReal := weightG Q K L h n q * DO (ix2 q d)

/-- The gradient of a query before its lanes are turned back. -/
def termQ (h : Fin 8) (y : Fin 128) (q : Fin 8192) : EReal := ∑ n : Fin 8192, scoreG Q K V DO O L h n q * K (ix2 n (hlane h y))

/-- The gradient of a query. -/
def gradQ (h : Fin 8) (y : Fin 128) (q : Fin 8192) : EReal :=
  turnBack (fun y => termQ Q K V DO O L h y q) (fun y => CS (ix2 q ⟨y.val, by omega⟩)) (fun y => CS (ix2 q ⟨128 + y.val, by omega⟩))
    (fun y => PV (ix2 5 ⟨y.val, by omega⟩)) (fun y => PV (ix2 6 ⟨y.val, by omega⟩)) y

/-- The gradient of a key. -/
def gradK (h : Fin 8) (y : Fin 128) (n : Fin 8192) : EReal := ∑ q : Fin 8192, termK Q K V DO O L h y n q

/-- The gradient of a value. -/
def gradV (h : Fin 8) (d : Fin 512) (n : Fin 8192) : EReal := ∑ q : Fin 8192, termV Q K DO L h d n q
end

/-- The printed index maps over the grid: point `(p, i)` takes query block `i` and all the keys of pair `p`. -/
theorem idx_facts : ∀ t : Fin cfg0.N, win0_0.index t = ![(grid0.coords t 1).val, (grid0.coords t 0).val]
    ∧ win0_1.index t = ![0, (grid0.coords t 0).val] ∧ win0_2.index t = ![0, (grid0.coords t 0).val]
    ∧ win0_3.index t = ![(grid0.coords t 1).val, (grid0.coords t 0).val] ∧ win0_4.index t = ![(grid0.coords t 1).val, (grid0.coords t 0).val]
    ∧ win0_5.index t = ![(grid0.coords t 0).val, 0, (grid0.coords t 1).val] ∧ win0_6.index t = ![(grid0.coords t 1).val, 0]
    ∧ win0_7.index t = ![0, 0] ∧ win0_8.index t = ![(grid0.coords t 1).val, (grid0.coords t 0).val]
    ∧ win0_9.index t = ![0, (grid0.coords t 0).val] ∧ win0_10.index t = ![0, (grid0.coords t 0).val] :=
  (by decide +kernel : ∀ t : Fin grid0.N, _)

/-- The points run pair by pair, block by block. -/
theorem coord_facts : ∀ t : Fin cfg0.N, (grid0.coords t 0).val = t.val / 32 ∧ (grid0.coords t 1).val = t.val % 32 :=
  (by decide +kernel : ∀ t : Fin grid0.N, _)

/-- Head `a` of pair `p`. -/
abbrev hd (p : Fin 4) (a : Fin 2) : Fin 8 := ⟨2 * p.val + a.val, by omega⟩
/-- Query `r` of block `i`. -/
abbrev gq (i : Fin 32) (r : Fin 256) : Fin 8192 := ⟨256 * i.val + r.val, by omega⟩
/-- Lane `d` of the two heads' values of pair `p`. -/
abbrev gd (p : Fin 4) (d : Fin 128) : Fin 512 := ⟨128 * p.val + d.val, by omega⟩

variable (m : (ℓ : Loc nD τ sig) → Buf (Elt Ideal) ℓ)

/-- The arrays a device starts with. -/
abbrev Qof (c : Dev nD) : Vec Ideal S8192x1024 .bf16 := m ((c : Thread nD τ).loc main_arg0)
abbrev Kof (c : Dev nD) : Vec Ideal S8192x1024 .bf16 := m ((c : Thread nD τ).loc main_arg1)
abbrev Vof (c : Dev nD) : Vec Ideal S8192x512 .bf16 := m ((c : Thread nD τ).loc main_arg2)
abbrev DOof (c : Dev nD) : Vec Ideal S8192x512 .bf16 := m ((c : Thread nD τ).loc main_arg3)
abbrev Oof (c : Dev nD) : Vec Ideal S8192x512 .f32 := m ((c : Thread nD τ).loc main_arg4)
abbrev Lof (c : Dev nD) : Vec Ideal S4x2x8192 .f32 := m ((c : Thread nD τ).loc main_arg5)
abbrev CSof (c : Dev nD) : Vec Ideal S8192x256 .f32 := m ((c : Thread nD τ).loc main_arg6)
abbrev PVof (c : Dev nD) : Vec Ideal S16x1024 .f32 := m ((c : Thread nD τ).loc main_arg7)

section
variable (c : Dev nD) (t : Fin cfg0.N) (p : Fin 4) (i : Fin 32) (hp : (grid0.coords t 0).val = p.val) (hi : (grid0.coords t 1).val = i.val)
include hp hi

/-- The queries of a point. -/
theorem blk0 (r : Fin 256) (a : Fin 2) (y : Fin 128) :
    (iblk m c 0 t : Vec Ideal S256x256 .bf16) (ix2 r (lane a y)) = Qof m c (ix2 (gq i r) (hlane (hd p a) y)) := by
  have e := (idx_facts t).1
  have e0 : win0_0.index t 0 = (grid0.coords t 1).val := by rw [e]; rfl
  have e1 : win0_0.index t 1 = (grid0.coords t 0).val := by rw [e]; rfl
  refine congrArg (Qof m c) (funext fun x => Fin.ext ?_)
  match x with
  | ⟨0, _⟩ => show win0_0.index t (0 : Fin 2) * 256 + 1 * r.val = 256 * i.val + r.val; omega
  | ⟨1, _⟩ => show win0_0.index t (1 : Fin 2) * 256 + 1 * (128 * a.val + y.val) = 128 * (2 * p.val + a.val) + y.val; omega

/-- The keys of a point. -/
theorem blk1 (n : Fin 8192) (a : Fin 2) (y : Fin 128) :
    (iblk m c 1 t : Vec Ideal S8192x256 .bf16) (ix2 n (lane a y)) = Kof m c (ix2 n (hlane (hd p a) y)) := by
  have e := (idx_facts t).2.1
  have e0 : win0_1.index t 0 = 0 := by rw [e]; rfl
  have e1 : win0_1.index t 1 = (grid0.coords t 0).val := by rw [e]; rfl
  refine congrArg (Kof m c) (funext fun x => Fin.ext ?_)
  match x with
  | ⟨0, _⟩ => show win0_1.index t (0 : Fin 2) * 8192 + 1 * n.val = n.val; omega
  | ⟨1, _⟩ => show win0_1.index t (1 : Fin 2) * 256 + 1 * (128 * a.val + y.val) = 128 * (2 * p.val + a.val) + y.val; omega

/-- The values of a point. -/
theorem blk2 (n : Fin 8192) (a : Fin 2) (y : Fin 64) :
    (iblk m c 2 t : Vec Ideal S8192x128 .bf16) (ix2 n (half a y)) = Vof m c (ix2 n (vlane (hd p a) y)) := by
  have e := (idx_facts t).2.2.1
  have e0 : win0_2.index t 0 = 0 := by rw [e]; rfl
  have e1 : win0_2.index t 1 = (grid0.coords t 0).val := by rw [e]; rfl
  refine congrArg (Vof m c) (funext fun x => Fin.ext ?_)
  match x with
  | ⟨0, _⟩ => show win0_2.index t (0 : Fin 2) * 8192 + 1 * n.val = n.val; omega
  | ⟨1, _⟩ => show win0_2.index t (1 : Fin 2) * 128 + 1 * (64 * a.val + y.val) = 64 * (2 * p.val + a.val) + y.val; omega

/-- The gradients of the results of a point. -/
theorem blk3 (r : Fin 256) (a : Fin 2) (y : Fin 64) :
    (iblk m c 3 t : Vec Ideal S256x128 .bf16) (ix2 r (half a y)) = DOof m c (ix2 (gq i r) (vlane (hd p a) y)) := by
  have e := (idx_facts t).2.2.2.1
  have e0 : win0_3.index t 0 = (grid0.coords t 1).val := by rw [e]; rfl
  have e1 : win0_3.index t 1 = (grid0.coords t 0).val := by rw [e]; rfl
  refine congrArg (DOof m c) (funext fun x => Fin.ext ?_)
  match x with
  | ⟨0, _⟩ => show win0_3.index t (0 : Fin 2) * 256 + 1 * r.val = 256 * i.val + r.val; omega
  | ⟨1, _⟩ => show win0_3.index t (1 : Fin 2) * 128 + 1 * (64 * a.val + y.val) = 64 * (2 * p.val + a.val) + y.val; omega

/-- The gradients of the results of a point. -/
theorem blk3d (r : Fin 256) (d : Fin 128) :
    (iblk m c 3 t : Vec Ideal S256x128 .bf16) (ix2 r d) = DOof m c (ix2 (gq i r) (gd p d)) := by
  have e := (idx_facts t).2.2.2.1
  have e0 : win0_3.index t 0 = (grid0.coords t 1).val := by rw [e]; rfl
  have e1 : win0_3.index t 1 = (grid0.coords t 0).val := by rw [e]; rfl
  refine congrArg (DOof m c) (funext fun x => Fin.ext ?_)
  match x with
  | ⟨0, _⟩ => show win0_3.index t (0 : Fin 2) * 256 + 1 * r.val = 256 * i.val + r.val; omega
  | ⟨1, _⟩ => show win0_3.index t (1 : Fin 2) * 128 + 1 * d.val = 128 * p.val + d.val; omega

/-- The results of a point. -/
theorem blk4 (r : Fin 256) (a : Fin 2) (y : Fin 64) :
    (iblk m c 4 t : Vec Ideal S256x128 .f32) (ix2 r (half a y)) = Oof m c (ix2 (gq i r) (vlane (hd p a) y)) := by
  have e := (idx_facts t).2.2.2.2.1
  have e0 : win0_4.index t 0 = (grid0.coords t 1).val := by rw [e]; rfl
  have e1 : win0_4.index t 1 = (grid0.coords t 0).val := by rw [e]; rfl
  refine congrArg (Oof m c) (funext fun x => Fin.ext ?_)
  match x with
  | ⟨0, _⟩ => show win0_4.index t (0 : Fin 2) * 256 + 1 * r.val = 256 * i.val + r.val; omega
  | ⟨1, _⟩ => show win0_4.index t (1 : Fin 2) * 128 + 1 * (64 * a.val + y.val) = 64 * (2 * p.val + a.val) + y.val; omega

/-- The log sums of a point. -/
theorem blk5 (a : Fin 2) (r : Fin 256) :
    (iblk m c 5 t : Vec Ideal S1x2x256 .f32) (ix3 0 a r) = Lof m c (ix3 p a (gq i r)) := by
  have e := (idx_facts t).2.2.2.2.2.1
  have e0 : win0_5.index t 0 = (grid0.coords t 0).val := by rw [e]; rfl
  have e1 : win0_5.index t 1 = 0 := by rw [e]; rfl
  have e2 : win0_5.index t 2 = (grid0.coords t 1).val := by rw [e]; rfl
  refine congrArg (Lof m c) (funext fun x => Fin.ext ?_)
  match x with
  | ⟨0, _⟩ => show win0_5.index t (0 : Fin 3) * 1 + 1 * (0 : ℕ) = p.val; omega
  | ⟨1, _⟩ => show win0_5.index t (1 : Fin 3) * 2 + 1 * a.val = a.val; omega
  | ⟨2, _⟩ => show win0_5.index t (2 : Fin 3) * 256 + 1 * r.val = 256 * i.val + r.val; omega

/-- The cosines and sines of a point. -/
theorem blk6 (r y : Fin 256) :
    (iblk m c 6 t : Vec Ideal S256x256 .f32) (ix2 r y) = CSof m c (ix2 (gq i r) y) := by
  have e := (idx_facts t).2.2.2.2.2.2.1
  have e0 : win0_6.index t 0 = (grid0.coords t 1).val := by rw [e]; rfl
  have e1 : win0_6.index t 1 = 0 := by rw [e]; rfl
  refine congrArg (CSof m c) (funext fun x => Fin.ext ?_)
  match x with
  | ⟨0, _⟩ => show win0_6.index t (0 : Fin 2) * 256 + 1 * r.val = 256 * i.val + r.val; omega
  | ⟨1, _⟩ => show win0_6.index t (1 : Fin 2) * 256 + 1 * y.val = y.val; omega

/-- The vectors of the layer of a point. -/
theorem blk7 (r : Fin 16) (y : Fin 1024) :
    (iblk m c 7 t : Vec Ideal S16x1024 .f32) (ix2 r y) = PVof m c (ix2 r y) := by
  have e := (idx_facts t).2.2.2.2.2.2.2.1
  have e0 : win0_7.index t 0 = 0 := by rw [e]; rfl
  have e1 : win0_7.index t 1 = 0 := by rw [e]; rfl
  refine congrArg (PVof m c) (funext fun x => Fin.ext ?_)
  match x with
  | ⟨0, _⟩ => show win0_7.index t (0 : Fin 2) * 16 + 1 * r.val = r.val; omega
  | ⟨1, _⟩ => show win0_7.index t (1 : Fin 2) * 1024 + 1 * y.val = y.val; omega

/-- A point's block of an array of gradients of the queries. -/
theorem read8 (f : S8192x1024.Idx → EReal) (r : Fin 256) (a : Fin 2) (y : Fin 128) :
    (((cfg0.win 8).blk t).view.read (Elt Ideal) f : S256x256.Idx → EReal) (ix2 r (lane a y)) = f (ix2 (gq i r) (hlane (hd p a) y)) := by
  have e := (idx_facts t).2.2.2.2.2.2.2.2.1
  have e0 : win0_8.index t 0 = (grid0.coords t 1).val := by rw [e]; rfl
  have e1 : win0_8.index t 1 = (grid0.coords t 0).val := by rw [e]; rfl
  refine congrArg f (funext fun x => Fin.ext ?_)
  match x with
  | ⟨0, _⟩ => show win0_8.index t (0 : Fin 2) * 256 + 1 * r.val = 256 * i.val + r.val; omega
  | ⟨1, _⟩ => show win0_8.index t (1 : Fin 2) * 256 + 1 * (128 * a.val + y.val) = 128 * (2 * p.val + a.val) + y.val; omega

/-- A point's block of an array of gradients of the keys. -/
theorem read9 (f : S8192x1024.Idx → EReal) (n : Fin 8192) (a : Fin 2) (y : Fin 128) :
    (((cfg0.win 9).blk t).view.read (Elt Ideal) f : S8192x256.Idx → EReal) (ix2 n (lane a y)) = f (ix2 n (hlane (hd p a) y)) := by
  have e := (idx_facts t).2.2.2.2.2.2.2.2.2.1
  have e0 : win0_9.index t 0 = 0 := by rw [e]; rfl
  have e1 : win0_9.index t 1 = (grid0.coords t 0).val := by rw [e]; rfl
  refine congrArg f (funext fun x => Fin.ext ?_)
  match x with
  | ⟨0, _⟩ => show win0_9.index t (0 : Fin 2) * 8192 + 1 * n.val = n.val; omega
  | ⟨1, _⟩ => show win0_9.index t (1 : Fin 2) * 256 + 1 * (128 * a.val + y.val) = 128 * (2 * p.val + a.val) + y.val; omega

/-- A point's block of an array of gradients of the values. -/
theorem read10 (f : S8192x512.Idx → EReal) (n : Fin 8192) (d : Fin 128) :
    (((cfg0.win 10).blk t).view.read (Elt Ideal) f : S8192x128.Idx → EReal) (ix2 n d) = f (ix2 n (gd p d)) := by
  have e := (idx_facts t).2.2.2.2.2.2.2.2.2.2
  have e0 : win0_10.index t 0 = 0 := by rw [e]; rfl
  have e1 : win0_10.index t 1 = (grid0.coords t 0).val := by rw [e]; rfl
  refine congrArg f (funext fun x => Fin.ext ?_)
  match x with
  | ⟨0, _⟩ => show win0_10.index t (0 : Fin 2) * 8192 + 1 * n.val = n.val; omega
  | ⟨1, _⟩ => show win0_10.index t (1 : Fin 2) * 128 + 1 * d.val = 128 * p.val + d.val; omega

theorem wt_at (a : Fin 2) (n : Fin 8192) (r : Fin 256) :
    wt (iblk m c 0 t) (iblk m c 1 t) (iblk m c 5 t) (256 * (grid0.coords t 1).val) a n r = weightG (Qof m c) (Kof m c) (Lof m c) (hd p a) n (gq i r) := by
  unfold wt weightG full
  simp only [blk0 m c t p i hp hi, blk1 m c t p i hp hi, blk5 m c t p i hp hi, hi]
  have e1 : ∀ h, (⟨(hd p a).val / 2, h⟩ : Fin 4) = p := fun h => Fin.ext (by show (2 * p.val + a.val) / 2 = p.val; omega)
  have e2 : ∀ h, (⟨(hd p a).val % 2, h⟩ : Fin 2) = a := fun h => Fin.ext (by show (2 * p.val + a.val) % 2 = a.val; omega)
  rw [e1, e2]

theorem sc_at (a : Fin 2) (n : Fin 8192) (r : Fin 256) :
    sc (iblk m c 0 t) (iblk m c 1 t) (iblk m c 2 t) (iblk m c 3 t) (iblk m c 4 t) (iblk m c 5 t) (256 * (grid0.coords t 1).val) a n r
      = scoreG (Qof m c) (Kof m c) (Vof m c) (DOof m c) (Oof m c) (Lof m c) (hd p a) n (gq i r) := by
  unfold sc
  rw [wt_at m c t p i hp hi]
  unfold sg scoreG delta deltaG
  simp only [blk2 m c t p i hp hi, blk3 m c t p i hp hi, blk4 m c t p i hp hi]

/-- What a point adds to the gradient of a key: its own queries' parts. -/
theorem addK_at (n : Fin 8192) (a : Fin 2) (y : Fin 128) :
    addK (iblk m c 0 t) (iblk m c 1 t) (iblk m c 2 t) (iblk m c 3 t) (iblk m c 4 t) (iblk m c 5 t) (256 * (grid0.coords t 1).val) n a y
      = ∑ r : Fin 256, termK (Qof m c) (Kof m c) (Vof m c) (DOof m c) (Oof m c) (Lof m c) (hd p a) y n (gq i r) := by
  unfold addK
  refine Finset.sum_congr rfl fun r _ => ?_
  rw [sc_at m c t p i hp hi, blk0 m c t p i hp hi]
  rfl

/-- What a point adds to the gradient of a value. -/
theorem addV_at (n : Fin 8192) (d : Fin 128) :
    addV (iblk m c 0 t) (iblk m c 1 t) (iblk m c 3 t) (iblk m c 5 t) (256 * (grid0.coords t 1).val) n d
      = ∑ r : Fin 256, termV (Qof m c) (Kof m c) (DOof m c) (Lof m c) (hd p (headOf d)) (gd p d) n (gq i r) := by
  unfold addV
  refine Finset.sum_congr rfl fun r _ => ?_
  rw [wt_at m c t p i hp hi, blk3d m c t p i hp hi]
  rfl

/-- What a point leaves of the gradients of its queries. -/
theorem outQ_at (a : Fin 2) (r : Fin 256) (y : Fin 128) :
    outQ (iblk m c 0 t) (iblk m c 1 t) (iblk m c 2 t) (iblk m c 3 t) (iblk m c 4 t) (iblk m c 5 t) (iblk m c 6 t) (iblk m c 7 t)
        (256 * (grid0.coords t 1).val) a r y
      = gradQ (Qof m c) (Kof m c) (Vof m c) (DOof m c) (Oof m c) (Lof m c) (CSof m c) (PVof m c) (hd p a) y (gq i r) := by
  unfold outQ gradQ termQ addQ
  simp only [sc_at m c t p i hp hi, blk1 m c t p i hp hi, blk6 m c t p i hp hi, blk7 m c t p i hp hi]
  have e1 : ∀ y : Fin 128, lane 0 y = (⟨y.val, by omega⟩ : Fin 256) := fun y => Fin.ext (by show 128 * 0 + y.val = y.val; omega)
  have e2 : ∀ y : Fin 128, lane 1 y = (⟨128 + y.val, by omega⟩ : Fin 256) := fun y => Fin.ext (by show 128 * 1 + y.val = 128 + y.val; omega)
  simp only [e1, e2]
end

end Cert.Own.AttnBwd
-- ==== Proof.AttnBwdArray.lean ====
module

public import proofs.«01_k».proof.Proof.AttnBwdGlob

@[expose] public section

/-! The three arrays the backward attention kernel leaves. Over a pair's blocks of queries the accumulators sum the parts of the
    keys' and the values' gradients; the last block writes them out. -/

noncomputable section

namespace Cert.Own.AttnBwd

open Idealize.ShloMosaic Idealize.ShloMosaic.TcCoe Idealize.SL.Sem Cert.AttnBwdIdeal Cert.AttnBwdIdeal.Gen
open Cert.Own.AttnFwd (lane ld_tile)

variable (m : (ℓ : Loc nD τ sig) → Buf (Elt Ideal) ℓ) (c : Dev nD)

/-- One query's part of a key's gradient on device `c`, and of a value's. -/
abbrev tK (p : Fin 4) (a : Fin 2) (y : Fin 128) (n q : Fin 8192) : EReal :=
  termK (Qof m c) (Kof m c) (Vof m c) (DOof m c) (Oof m c) (Lof m c) (hd p a) y n q
abbrev tV (p : Fin 4) (d : Fin 128) (n q : Fin 8192) : EReal :=
  termV (Qof m c) (Kof m c) (DOof m c) (Lof m c) (hd p (headOf d)) (gd p d) n q

/-- The accumulators after point `(p, i)`: the sums over the queries up to the end of block `i`. -/
structure Acc (s0 : Vec Ideal S8192x256 .f32) (s1 : Vec Ideal S8192x128 .f32) (p : Fin 4) (i : ℕ) : Prop where
  keys : ∀ (n : Fin 8192) (a : Fin 2) (y : Fin 128), s0 (ix2 n (lane a y)) = ∑ q : Fin 8192, if q.val < 256 * (i + 1) then tK m c p a y n q else 0
  vals : ∀ (n : Fin 8192) (d : Fin 128), s1 (ix2 n d) = ∑ q : Fin 8192, if q.val < 256 * (i + 1) then tV m c p d n q else 0

/-- The sweep over a pair's blocks. -/
theorem acc_at (p : Fin 4) (j : ℕ) (hj : j < 31) (h : 32 * p.val + j < cfg0.N) :
    Acc m c (outsAt0 m c (32 * p.val + j) h).2.2.2.1 (outsAt0 m c (32 * p.val + j) h).2.2.2.2 p j := by
  induction j with
  | zero =>
    have hp : (grid0.coords ⟨32 * p.val + 0, h⟩ 0).val = p.val := by rw [(coord_facts _).1]; show (32 * p.val + 0) / 32 = p.val; omega
    have hi : (grid0.coords ⟨32 * p.val + 0, h⟩ 1).val = (0 : Fin 32).val := by rw [(coord_facts _).2]; show (32 * p.val + 0) % 32 = 0; omega
    have E := outsAt0_A m c ⟨32 * p.val + 0, h⟩ (by show (32 * p.val + 0) % 32 = 0; omega) (by show ¬(32 * p.val + 0) % 32 = 31; omega)
    constructor
    · intro n a y
      refine (congrFun (congrArg (fun z => z.2.2.2.1) E) _).trans ?_
      dsimp only
      refine (atA_s0 _ _ _ _ _ _ _ _ _ _ _ _ _ _ _ _ _ _ _ _ _ _ _ _ _ _ _ _ _ _ _ _ _ _ _ _ _ _ n a y).trans ?_
      rw [addK_at m c _ p 0 hp hi]
      exact first_sum _ 0 rfl
    · intro n d
      refine (congrFun (congrArg (fun z => z.2.2.2.2) E) _).trans ?_
      dsimp only
      refine (atA_s1 _ _ _ _ _ _ _ _ _ _ _ _ _ _ _ _ _ _ _ _ _ _ _ _ _ _ _ _ _ _ _ _ _ _ _ _ _ _ n d).trans ?_
      rw [addV_at m c _ p 0 hp hi]
      exact first_sum _ 0 rfl
  | succ j ih =>
    have I := ih (by omega) (by omega)
    have hp : (grid0.coords ⟨32 * p.val + (j + 1), h⟩ 0).val = p.val := by rw [(coord_facts _).1]; show (32 * p.val + (j + 1)) / 32 = p.val; omega
    have hi : (grid0.coords ⟨32 * p.val + (j + 1), h⟩ 1).val = (⟨j + 1, by omega⟩ : Fin 32).val := by
      rw [(coord_facts _).2]; show (32 * p.val + (j + 1)) % 32 = j + 1; omega
    have E := outsAt0_B m c ⟨32 * p.val + (j + 1), h⟩ (by show ¬(32 * p.val + (j + 1)) % 32 = 0; omega) (by show ¬(32 * p.val + (j + 1)) % 32 = 31; omega)
    constructor
    · intro n a y
      refine (congrFun (congrArg (fun z => z.2.2.2.1) E) _).trans ?_
      dsimp only
      refine (atB_s0 _ _ _ _ _ _ _ _ _ _ _ _ _ _ _ _ _ _ _ _ _ _ _ _ _ _ _ _ _ _ _ _ _ _ _ _ _ _ _ _ n a y).trans ?_
      rw [addK_at m c _ p ⟨j + 1, by omega⟩ hp hi]
      exact (congrArg (· + _) (I.keys n a y)).trans (next_sum _ ⟨j + 1, by omega⟩)
    · intro n d
      refine (congrFun (congrArg (fun z => z.2.2.2.2) E) _).trans ?_
      dsimp only
      refine (atB_s1 _ _ _ _ _ _ _ _ _ _ _ _ _ _ _ _ _ _ _ _ _ _ _ _ _ _ _ _ _ _ _ _ _ _ _ _ _ _ _ _ n d).trans ?_
      rw [addV_at m c _ p ⟨j + 1, by omega⟩ hp hi]
      exact (congrArg (· + _) (I.vals n d)).trans (next_sum _ ⟨j + 1, by omega⟩)

/-- What the accumulators hold when a pair's last point starts. -/
theorem acc_before (t : Fin cfg0.N) (p : Fin 4) (hp : (grid0.coords t 0).val = p.val) (h1 : t.val % 32 = 31) (h : t.val - 1 < cfg0.N) :
    Acc m c (outsAt0 m c (t.val - 1) h).2.2.2.1 (outsAt0 m c (t.val - 1) h).2.2.2.2 p 30 := by
  have e : t.val - 1 = 32 * p.val + 30 := by have := (coord_facts t).1; omega
  have g : 32 * p.val + 30 < cfg0.N := e ▸ h
  have E : outsAt0 m c (t.val - 1) h = outsAt0 m c (32 * p.val + 30) g := by congr 1
  rw [E]
  exact acc_at m c p 30 (by norm_num) g

/-- The head and the lane of a lane of 1024. -/
abbrev headL (e : Fin 1024) : Fin 8 := ⟨e.val / 128, by omega⟩
abbrev laneL (e : Fin 1024) : Fin 128 := ⟨e.val % 128, Nat.mod_lt _ (by norm_num)⟩
/-- The head of a lane of the values. -/
abbrev headV (d : Fin 512) : Fin 8 := ⟨d.val / 64, by omega⟩

theorem headL_hlane (h : Fin 8) (y : Fin 128) : headL (hlane h y) = h := Fin.ext (by show (128 * h.val + y.val) / 128 = h.val; omega)
theorem laneL_hlane (h : Fin 8) (y : Fin 128) : laneL (hlane h y) = y := Fin.ext (by show (128 * h.val + y.val) % 128 = y.val; omega)
theorem headV_gd (p : Fin 4) (d : Fin 128) : headV (gd p d) = hd p (headOf d) := Fin.ext (by
  have := d.isLt
  show (128 * p.val + d.val) / 64 = 2 * p.val + (headOf d).val
  unfold headOf
  by_cases h : d.val < 64
  · rw [if_pos h]; show _ = 2 * p.val + 0; omega
  · rw [if_neg h]; show _ = 2 * p.val + 1; omega)

/-- The arrays of gradients of the queries, the keys and the values. -/
def arrayQ : Vec Ideal S8192x1024 .bf16 := fun i =>
  gradQ (Qof m c) (Kof m c) (Vof m c) (DOof m c) (Oof m c) (Lof m c) (CSof m c) (PVof m c) (headL (i 1)) (laneL (i 1)) (i 0)
def arrayK : Vec Ideal S8192x1024 .bf16 := fun i =>
  gradK (Qof m c) (Kof m c) (Vof m c) (DOof m c) (Oof m c) (Lof m c) (headL (i 1)) (laneL (i 1)) (i 0)
def arrayV : Vec Ideal S8192x512 .bf16 := fun i => gradV (Qof m c) (Kof m c) (DOof m c) (Lof m c) (headV (i 1)) (i 1) (i 0)

theorem ix2_zero {R C : ℕ} (n : Fin R) (y : Fin C) : (ix2 n y) 0 = n := rfl
theorem ix2_one {R C : ℕ} (n : Fin R) (y : Fin C) : (ix2 n y) 1 = y := rfl

/-- An index of two pairs of lanes. -/
theorem split_lane {R : ℕ} (j : (⟨2, ![R, 256]⟩ : Shape).Idx) : ∃ (n : Fin R) (a : Fin 2) (y : Fin 128), j = ix2 n (lane a y) := by
  have h1 : (j 1).val < 256 := (j 1).isLt
  refine ⟨j 0, ⟨(j 1).val / 128, by omega⟩, ⟨(j 1).val % 128, by omega⟩, funext fun x => ?_⟩
  match x with
  | ⟨0, _⟩ => rfl
  | ⟨1, _⟩ => exact Fin.ext (by show (j 1).val = 128 * ((j 1).val / 128) + (j 1).val % 128; omega)

/-- What a point writes back of the queries' gradients is its block of the array. -/
theorem flushedQ (t : Fin cfg0.N) : (dats m 0 c).flushed 8 t = ((cfg0.win 8).blk t).view.read (Elt Ideal) (arrayQ m c) := by
  have hp : (grid0.coords t 0).val = (⟨(grid0.coords t 0).val, (grid0.coords t 0).isLt⟩ : Fin 4).val := rfl
  have hi : (grid0.coords t 1).val = (⟨(grid0.coords t 1).val, (grid0.coords t 1).isLt⟩ : Fin 32).val := rfl
  funext j
  obtain ⟨r, a, y, rfl⟩ := split_lane (R := 256) j
  refine Eq.trans ?_ (read8 t _ _ hp hi (arrayQ m c) r a y).symm
  unfold arrayQ
  rw [ix2_one, ix2_zero, headL_hlane, laneL_hlane, ← outQ_at m c t _ _ hp hi]
  by_cases h0 : t.val % 32 = 0
  · have h1 : ¬t.val % 32 = 31 := by omega
    rw [Value.flushed8_A m c t h0 h1]
    exact atA_8 _ _ _ _ _ _ _ _ _ _ _ _ _ _ _ _ _ _ _ _ _ _ _ _ _ _ _ _ _ _ _ _ _ _ _ _ _ _ a r y
  · by_cases h1 : t.val % 32 = 31
    · rw [Value.flushed8_C m c t h0 h1]
      exact atC_8 _ _ _ _ _ _ _ _ _ _ _ _ _ _ _ _ _ _ _ _ _ _ _ _ _ _ _ _ _ _ _ _ _ _ _ _ _ _ _ _ a r y
    · rw [Value.flushed8_B m c t h0 h1]
      exact atB_8 _ _ _ _ _ _ _ _ _ _ _ _ _ _ _ _ _ _ _ _ _ _ _ _ _ _ _ _ _ _ _ _ _ _ _ _ _ _ _ _ a r y

/-- What a pair's last point writes back of the keys' gradients. -/
theorem flushedK (t : Fin cfg0.N) (h1 : t.val % 32 = 31) :
    (dats m 0 c).flushed 9 t = ((cfg0.win 9).blk t).view.read (Elt Ideal) (arrayK m c) := by
  have h0 : ¬t.val % 32 = 0 := by omega
  have hp : (grid0.coords t 0).val = (⟨(grid0.coords t 0).val, (grid0.coords t 0).isLt⟩ : Fin 4).val := rfl
  have hi : (grid0.coords t 1).val = (⟨31, by norm_num⟩ : Fin 32).val := by rw [(coord_facts t).2]; exact h1
  funext j
  obtain ⟨n, a, y, rfl⟩ := split_lane (R := 8192) j
  refine Eq.trans ?_ (read9 t _ _ hp hi (arrayK m c) n a y).symm
  unfold arrayK
  rw [ix2_one, ix2_zero, headL_hlane, laneL_hlane, Value.flushed9_C m c t h0 h1]
  refine (atC_9 _ _ _ _ _ _ _ _ _ _ _ _ _ _ _ _ _ _ _ _ _ _ _ _ _ _ _ _ _ _ _ _ _ _ _ _ _ _ _ _ n a y).trans ?_
  rw [addK_at m c t _ _ hp hi]
  refine (congrArg (· + _) ((acc_before m c t _ hp h1 _).keys n a y)).trans ?_
  exact (next_sum _ ⟨31, by norm_num⟩).trans (last_sum _ ⟨31, by norm_num⟩ rfl)

/-- What a pair's last point writes back of the values' gradients. -/
theorem flushedV (t : Fin cfg0.N) (h1 : t.val % 32 = 31) :
    (dats m 0 c).flushed 10 t = ((cfg0.win 10).blk t).view.read (Elt Ideal) (arrayV m c) := by
  have h0 : ¬t.val % 32 = 0 := by omega
  have hp : (grid0.coords t 0).val = (⟨(grid0.coords t 0).val, (grid0.coords t 0).isLt⟩ : Fin 4).val := rfl
  have hi : (grid0.coords t 1).val = (⟨31, by norm_num⟩ : Fin 32).val := by rw [(coord_facts t).2]; exact h1
  funext j
  obtain ⟨n, d, rfl⟩ : ∃ (n : Fin 8192) (d : Fin 128), j = ix2 n d := ⟨j 0, j 1, funext fun a => by fin_cases a <;> rfl⟩
  refine Eq.trans ?_ (read10 t _ _ hp hi (arrayV m c) n d).symm
  unfold arrayV
  rw [ix2_one, ix2_zero, headV_gd, Value.flushed10_C m c t h0 h1]
  refine (atC_10 _ _ _ _ _ _ _ _ _ _ _ _ _ _ _ _ _ _ _ _ _ _ _ _ _ _ _ _ _ _ _ _ _ _ _ _ _ _ _ _ n d).trans ?_
  rw [addV_at m c t _ _ hp hi]
  refine (congrArg (· + _) ((acc_before m c t _ hp h1 _).vals n d)).trans ?_
  exact (next_sum _ ⟨31, by norm_num⟩).trans (last_sum _ ⟨31, by norm_num⟩ rfl)

theorem mem_blkQ (t : Fin cfg0.N) (i : S8192x1024.Idx) :
    i ∈ ((cfg0.win 8).blk t).view.set ↔ ∀ a : Fin 2, win0_8.index t a * S256x256.size a ≤ (i a).val ∧ (i a).val < win0_8.index t a * S256x256.size a + S256x256.size a := by
  show i ∈ ((View.whole main_v0_0).slice (win0_8.rect t)).set ↔ _
  rw [View.set_slice_whole, Rect.mem_set_unit]
  exact Iff.rfl

theorem mem_blkK (t : Fin cfg0.N) (i : S8192x1024.Idx) :
    i ∈ ((cfg0.win 9).blk t).view.set ↔ ∀ a : Fin 2, win0_9.index t a * S8192x256.size a ≤ (i a).val ∧ (i a).val < win0_9.index t a * S8192x256.size a + S8192x256.size a := by
  show i ∈ ((View.whole main_v0_1).slice (win0_9.rect t)).set ↔ _
  rw [View.set_slice_whole, Rect.mem_set_unit]
  exact Iff.rfl

theorem mem_blkV (t : Fin cfg0.N) (i : S8192x512.Idx) :
    i ∈ ((cfg0.win 10).blk t).view.set ↔ ∀ a : Fin 2, win0_10.index t a * S8192x128.size a ≤ (i a).val ∧ (i a).val < win0_10.index t a * S8192x128.size a + S8192x128.size a := by
  show i ∈ ((View.whole main_v0_2).slice (win0_10.rect t)).set ↔ _
  rw [View.set_slice_whole, Rect.mem_set_unit]
  exact Iff.rfl

/-- The array of gradients of the queries after the run. -/
theorem arrQ : (dats m 0 c).arrAt 8 cfg0.N = arrayQ m c := by
  refine (dats m 0 c).arrAt_eq_of_cover 8 _ (fun t h => flushedQ m c t) (fun i => ?_)
  have h0 : (i 0).val < 8192 := (i 0).isLt
  have h1 : (i 1).val < 1024 := (i 1).isLt
  have hN : cfg0.N = 128 := rfl
  obtain ⟨t, ht⟩ : ∃ t : Fin cfg0.N, t.val = 32 * ((i 1).val / 256) + (i 0).val / 256 := ⟨⟨_, by rw [hN]; omega⟩, rfl⟩
  have e := (idx_facts t).2.2.2.2.2.2.2.2.1
  have e0 : win0_8.index t (0 : Fin 2) = (i 0).val / 256 := by rw [e]; show (grid0.coords t 1).val = _; rw [(coord_facts t).2]; omega
  have e1 : win0_8.index t (1 : Fin 2) = (i 1).val / 256 := by rw [e]; show (grid0.coords t 0).val = _; rw [(coord_facts t).1]; omega
  refine ⟨t, flush0_8 t, (mem_blkQ t i).2 fun a => ?_⟩
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 256 ≤ (i 1).val ∧ (i 1).val < win0_8.index t (1 : Fin 2) * 256 + 256; omega

/-- The array of gradients of the keys after the run. -/
theorem arrK : (dats m 0 c).arrAt 9 cfg0.N = arrayK m c := by
  refine (dats m 0 c).arrAt_eq_of_cover 9 _ (fun t h => flushedK m c t ((flush0_9 t).1 h)) (fun i => ?_)
  have h0 : (i 0).val < 8192 := (i 0).isLt
  have h1 : (i 1).val < 1024 := (i 1).isLt
  have hN : cfg0.N = 128 := rfl
  obtain ⟨t, ht⟩ : ∃ t : Fin cfg0.N, t.val = 32 * ((i 1).val / 256) + 31 := ⟨⟨_, by rw [hN]; omega⟩, rfl⟩
  have e := (idx_facts t).2.2.2.2.2.2.2.2.2.1
  have e0 : win0_9.index t (0 : Fin 2) = 0 := by rw [e]; rfl
  have e1 : win0_9.index t (1 : Fin 2) = (i 1).val / 256 := by rw [e]; show (grid0.coords t 0).val = _; rw [(coord_facts t).1]; omega
  refine ⟨t, (flush0_9 t).2 (by omega), (mem_blkK t i).2 fun a => ?_⟩
  match a with
  | ⟨0, _⟩ => show win0_9.index t (0 : Fin 2) * 8192 ≤ (i 0).val ∧ (i 0).val < win0_9.index t (0 : Fin 2) * 8192 + 8192; omega
  | ⟨1, _⟩ => show win0_9.index t (1 : Fin 2) * 256 ≤ (i 1).val ∧ (i 1).val < win0_9.index t (1 : Fin 2) * 256 + 256; omega

/-- The array of gradients of the values after the run. -/
theorem arrV : (dats m 0 c).arrAt 10 cfg0.N = arrayV m c := by
  refine (dats m 0 c).arrAt_eq_of_cover 10 _ (fun t h => flushedV m c t ((flush0_10 t).1 h)) (fun i => ?_)
  have h0 : (i 0).val < 8192 := (i 0).isLt
  have h1 : (i 1).val < 512 := (i 1).isLt
  have hN : cfg0.N = 128 := rfl
  obtain ⟨t, ht⟩ : ∃ t : Fin cfg0.N, t.val = 32 * ((i 1).val / 128) + 31 := ⟨⟨_, by rw [hN]; omega⟩, rfl⟩
  have e := (idx_facts t).2.2.2.2.2.2.2.2.2.2
  have e0 : win0_10.index t (0 : Fin 2) = 0 := by rw [e]; rfl
  have e1 : win0_10.index t (1 : Fin 2) = (i 1).val / 128 := by rw [e]; show (grid0.coords t 0).val = _; rw [(coord_facts t).1]; omega
  refine ⟨t, (flush0_10 t).2 (by omega), (mem_blkV t i).2 fun a => ?_⟩
  match a with
  | ⟨0, _⟩ => show win0_10.index t (0 : Fin 2) * 8192 ≤ (i 0).val ∧ (i 0).val < win0_10.index t (0 : Fin 2) * 8192 + 8192; omega
  | ⟨1, _⟩ => show win0_10.index t (1 : Fin 2) * 128 ≤ (i 1).val ∧ (i 1).val < win0_10.index t (1 : Fin 2) * 128 + 128; omega

end Cert.Own.AttnBwd
-- ==== Proof.AttnBwdRef.lean ====
module

public import proofs.«01_k».proof.Proof.AttnBwdGlob
public import proofs.«01_k».proof.Proof.FwdPreRef
public import proofs.«01_k».proof.Proof.Gen.AttnBwdRefIdeal.Read

@[expose] public section

/-! The three results of the reference for the backward attention, at an index. -/

noncomputable section

namespace Cert.Own.AttnBwd

open Idealize.ShloMosaic Cert.AttnBwdRefIdeal Cert.AttnBwdRefIdeal.Gen Cert.AttnBwdRefIdeal.Read

variable (Q K : Vec Ideal ⟨2, ![8192, 1024]⟩ .bf16) (V DO : Vec Ideal ⟨2, ![8192, 512]⟩ .bf16) (O : Vec Ideal ⟨2, ![8192, 512]⟩ .f32)
  (L : Vec Ideal ⟨3, ![4, 2, 8192]⟩ .f32) (CS : Vec Ideal ⟨2, ![8192, 256]⟩ .f32) (PV : Vec Ideal ⟨2, ![16, 1024]⟩ .f32)

theorem hlane_swap (h : Fin 8) (y : Fin 128) : hlane h y = ⟨h.val * 128 + y.val, by omega⟩ :=
  Fin.ext (by show 128 * h.val + y.val = h.val * 128 + y.val; omega)
theorem vlane_swap (h : Fin 8) (y : Fin 64) : vlane h y = ⟨h.val * 64 + y.val, by omega⟩ :=
  Fin.ext (by show 64 * h.val + y.val = h.val * 64 + y.val; omega)

/-- The arrays by head. -/
theorem ref_Q (q : Fin 8192) (h : Fin 8) (y : Fin 128) : val_main_v1 (F := Ideal) Q (ix3 q h y) = Q (ix2 q (hlane h y)) := by
  rw [hlane_swap]; pointwise [val_main_v1, val_main_v0]
theorem ref_K (n : Fin 8192) (h : Fin 8) (y : Fin 128) : val_main_v3 (F := Ideal) K (ix3 n h y) = K (ix2 n (hlane h y)) := by
  rw [hlane_swap]; pointwise [val_main_v3, val_main_v2]
theorem ref_V (n : Fin 8192) (h : Fin 8) (y : Fin 64) : val_main_v5 (F := Ideal) V (ix3 n h y) = V (ix2 n (vlane h y)) := by
  rw [vlane_swap]; pointwise [val_main_v5, val_main_v4]
theorem ref_DO (q : Fin 8192) (h : Fin 8) (y : Fin 64) : val_main_v7 (F := Ideal) DO (ix3 q h y) = DO (ix2 q (vlane h y)) := by
  rw [vlane_swap]; pointwise [val_main_v7, val_main_v6]
theorem ref_O (q : Fin 8192) (h : Fin 8) (y : Fin 64) : val_main_v26 (F := Ideal) O (ix3 q h y) = O (ix2 q (vlane h y)) := by
  rw [vlane_swap]; pointwise [val_main_v26]

/-- The score of a query against a key. -/
theorem ref_score (h : Fin 8) (n q : Fin 8192) : val_main_v10 (F := Ideal) Q K (ix3 h n q)
    = (∑ y : Fin 128, K (ix2 n (hlane h y)) * Q (ix2 q (hlane h y))) * scale := by
  simp only [← ref_Q Q, ← ref_K K]
  show _ = _ * Ideal.ofBits .f32 0x3DD105EC#32
  pointwise [val_main_v10, val_main_v9, val_main_cst, val_main_v8]

/-- The log sums by head. -/
theorem ref_lse (h : Fin 8) (n q : Fin 8192) :
    val_main_v19 (F := Ideal) L (ix3 h n q) = L (ix3 ⟨h.val / 2, by omega⟩ ⟨h.val % 2, by omega⟩ q) := by
  rw [val_main_v19_apply, val_main_v18_apply]
  refine congrArg L (funext fun a => Fin.ext ?_)
  have := h.isLt
  have := q.isLt
  match a with
  | ⟨0, _⟩ => show ((h.val * 1 + 0) * 8192 + q.val) / 16384 = h.val / 2; omega
  | ⟨1, _⟩ => show ((h.val * 1 + 0) * 8192 + q.val) / 8192 % 2 = h.val % 2; omega
  | ⟨2, _⟩ => show ((h.val * 1 + 0) * 8192 + q.val) % 8192 = q.val; omega

/-- The weight of a key. -/
theorem ref_weight (h : Fin 8) (n q : Fin 8192) : val_main_v22 (F := Ideal) Q K L (ix3 h n q) = weightG Q K L h n q := by
  rw [val_main_v22_apply, val_main_v21_apply, val_main_v20_apply, ref_score, ref_lse, val_main_call0_v1_apply, val_main_call0_v2_apply,
    val_main_call0_v0_apply, val_main_cst_0_apply, val_main_v17_apply, val_main_v16_apply, val_main_v14_apply, val_main_v15_apply,
    val_main_v12_apply, val_main_v13_apply, val_main_v11_apply, val_main_v11_apply]
  unfold weightG
  show Scalar.select (IntOp.cmpi .sle (BitVec.ofNat 32 n.val) (BitVec.ofNat 32 q.val)) _ (Ideal.ofBits .f32 0x00000000#32) = _
  rw [WordCmp.cmpi_sle_ofNat (by have := n.isLt; omega) (by have := q.isLt; omega), Ideal.ofBits_zero_f32]
  by_cases hle : n.val ≤ q.val
  · rw [decide_eq_true hle, if_pos hle]; rfl
  · rw [decide_eq_false hle, if_neg hle]; rfl

/-- The sum of a query's results times their gradients. -/
theorem ref_delta (h : Fin 8) (n q : Fin 8192) : val_main_v31 (F := Ideal) DO O (ix3 h n q) = deltaG DO O h q := by
  have e : val_main_v31 (F := Ideal) DO O (ix3 h n q)
      = Ideal.ofBits .f32 0x00000000#32 + ∑ y : Fin 64, val_main_v7 (F := Ideal) DO (ix3 q h y) * val_main_v26 (F := Ideal) O (ix3 q h y) := by
    pointwise [val_main_v31, val_main_v30, val_main_v29, val_main_v28, val_main_v27, val_main_cst_1]
  rw [e, Ideal.ofBits_zero_f32, zero_add]
  unfold deltaG
  simp only [ref_DO, ref_O]

/-- The gradient of a score. -/
theorem ref_sgrad (h : Fin 8) (n q : Fin 8192) :
    val_main_v35 (F := Ideal) Q K V DO O L (ix3 h n q) = scoreG Q K V DO O L h n q := by
  unfold scoreG
  simp only [← ref_V V, ← ref_DO DO]
  rw [← ref_weight, ← ref_delta DO O h n q]
  show _ = _ * Ideal.ofBits .f32 0x3DD105EC#32
  pointwise [val_main_v35, val_main_v34, val_main_cst_2, val_main_v33, val_main_v32, val_main_v25]

/-- The gradient of a value. -/
theorem ref_dv (n : Fin 8192) (d : Fin 512) (h : Fin 8) (y : Fin 64) (hd : d = vlane h y) :
    val_main_v69 (F := Ideal) Q K DO L (ix2 n d) = gradV Q K DO L h d n := by
  have e : val_main_v24 (F := Ideal) Q K DO L (ix3 n h y)
      = ∑ q : Fin 8192, val_main_v7 (F := Ideal) DO (ix3 q h y) * val_main_v22 (F := Ideal) Q K L (ix3 h n q) := by
    pointwise [val_main_v24, val_main_v23]
  have e' : val_main_v69 (F := Ideal) Q K DO L (ix2 n d) = val_main_v24 (F := Ideal) Q K DO L (ix3 n h y) := by
    rw [val_main_v69_apply, val_main_v68_apply]
    refine congrArg (val_main_v24 (F := Ideal) Q K DO L) (funext fun a => Fin.ext ?_)
    subst hd
    have := n.isLt
    match a with
    | ⟨0, _⟩ => show (n.val * 512 + (64 * h.val + y.val)) / 512 = n.val; omega
    | ⟨1, _⟩ => show (n.val * 512 + (64 * h.val + y.val)) / 64 % 8 = h.val; omega
    | ⟨2, _⟩ => show (n.val * 512 + (64 * h.val + y.val)) % 64 = y.val; omega
  rw [e', e]
  unfold gradV termV
  refine Finset.sum_congr rfl fun q _ => ?_
  rw [ref_DO, ref_weight, hd]
  exact mul_comm _ _

/-- The lane of an index of 1024, in the head's form. -/
theorem by_head (Y : FVec Ideal S8192x8x128 .f32) (n : Fin 8192) (h : Fin 8) (y : Fin 128) :
    shapeCast S8192x1024 Y shapeCasts_S8192x8x128_S8192x1024 (ix2 n (hlane h y)) = Y (ix3 n h y) := by
  refine shapeCast_apply Y shapeCasts_S8192x8x128_S8192x1024 (ix2 n (hlane h y)) (ix3 n h y) ?_
  rewrite [Shape.rowMajor_val_three, Shape.rowMajor_val_two]
  show (n.val * 8 + h.val) * 128 + y.val = n.val * 1024 + (128 * h.val + y.val)
  omega

/-- The gradient of a key. -/
theorem ref_dk (n : Fin 8192) (h : Fin 8) (y : Fin 128) :
    val_main_v67 (F := Ideal) Q K V DO O L (ix2 n (hlane h y)) = gradK Q K V DO O L h y n := by
  have e : val_main_v37 (F := Ideal) Q K V DO O L (ix3 n h y)
      = ∑ q : Fin 8192, val_main_v1 (F := Ideal) Q (ix3 q h y) * val_main_v35 (F := Ideal) Q K V DO O L (ix3 h n q) := by
    pointwise [val_main_v37, val_main_v36]
  have e' : val_main_v67 (F := Ideal) Q K V DO O L (ix2 n (hlane h y)) = val_main_v37 (F := Ideal) Q K V DO O L (ix3 n h y) := by
    unfold val_main_v67 val_main_v66
    generalize val_main_v37 (F := Ideal) Q K V DO O L = Y
    exact by_head Y n h y
  rw [e', e]
  unfold gradK termK
  refine Finset.sum_congr rfl fun q _ => ?_
  rw [ref_Q, ref_sgrad]
  exact mul_comm _ _

/-- The gradient of a query before its lanes are turned back. -/
theorem ref_dq0 (q : Fin 8192) (h : Fin 8) (y : Fin 128) :
    val_main_v39 (F := Ideal) Q K V DO O L (ix3 q h y) = termQ Q K V DO O L h y q := by
  have e : val_main_v39 (F := Ideal) Q K V DO O L (ix3 q h y)
      = ∑ n : Fin 8192, val_main_v3 (F := Ideal) K (ix3 n h y) * val_main_v35 (F := Ideal) Q K V DO O L (ix3 h n q) := by
    pointwise [val_main_v39, val_main_v38]
  rw [e]
  unfold termQ
  refine Finset.sum_congr rfl fun n _ => ?_
  rw [ref_K, ref_sgrad]
  exact mul_comm _ _

theorem ref_turn1 (q : Fin 8192) (h : Fin 8) (z : Fin 128) : val_main_v54 (F := Ideal) Q K V DO O L CS PV (ix3 q h z)
    = termQ Q K V DO O L h z q * (CS (ix2 q ⟨128 + z.val, by omega⟩) * PV (ix2 5 ⟨z.val, by omega⟩)) := by
  rw [← ref_dq0]
  pointwise [val_main_v54, val_main_v53, val_main_v52, val_main_v51, val_main_v50, val_main_v45, val_main_v44, val_main_v43, val_main_v42]

theorem ref_turn2 (q : Fin 8192) (h : Fin 8) (z : Fin 128) : val_main_v61 (F := Ideal) Q K V DO O L CS PV (ix3 q h z)
    = termQ Q K V DO O L h z q * (CS (ix2 q ⟨128 + z.val, by omega⟩) * PV (ix2 6 ⟨z.val, by omega⟩)) := by
  rw [← ref_dq0]
  pointwise [val_main_v61, val_main_v60, val_main_v59, val_main_v58, val_main_v57, val_main_v47, val_main_v46, val_main_v43, val_main_v42]

/-- The gradient of a query. -/
theorem ref_dq (q : Fin 8192) (h : Fin 8) (y : Fin 128) :
    val_main_v65 (F := Ideal) Q K V DO O L CS PV (ix2 q (hlane h y)) = gradQ Q K V DO O L CS PV h y q := by
  have e1 : val_main_v55 (F := Ideal) Q K V DO O L CS PV (ix3 q h y)
      = val_main_v54 (F := Ideal) Q K V DO O L CS PV (ix3 q h ⟨(y.val + 128 - 16) % 128, Nat.mod_lt _ (by norm_num)⟩) := by
    rw [← Cert.Own.Rows.turn_bwd (fun z => val_main_v54 (F := Ideal) Q K V DO O L CS PV (ix3 q h z))]
    pointwise [val_main_v55, val_main_call1_v0, val_main_call1_v1]
  have e2 : val_main_v62 (F := Ideal) Q K V DO O L CS PV (ix3 q h y)
      = val_main_v61 (F := Ideal) Q K V DO O L CS PV (ix3 q h ⟨(y.val + 128 - 112) % 128, Nat.mod_lt _ (by norm_num)⟩) := by
    rw [← Cert.Own.Rows.turn_fwd (fun z => val_main_v61 (F := Ideal) Q K V DO O L CS PV (ix3 q h z))]
    pointwise [val_main_v62, val_main_call2_v0, val_main_call2_v1]
  have e3 : val_main_v49 (F := Ideal) Q K V DO O L CS (ix3 q h y) = termQ Q K V DO O L h y q * CS (ix2 q ⟨y.val, by omega⟩) := by
    rw [← ref_dq0]
    pointwise [val_main_v49, val_main_v48, val_main_v41, val_main_v40]
  have e' : val_main_v65 (F := Ideal) Q K V DO O L CS PV (ix2 q (hlane h y))
      = val_main_v49 (F := Ideal) Q K V DO O L CS (ix3 q h y) + val_main_v55 (F := Ideal) Q K V DO O L CS PV (ix3 q h y)
        + val_main_v62 (F := Ideal) Q K V DO O L CS PV (ix3 q h y) := by
    have e4 : val_main_v65 (F := Ideal) Q K V DO O L CS PV (ix2 q (hlane h y)) = val_main_v63 (F := Ideal) Q K V DO O L CS PV (ix3 q h y) := by
      unfold val_main_v65 val_main_v64
      generalize val_main_v63 (F := Ideal) Q K V DO O L CS PV = Y
      exact by_head Y q h y
    rw [e4, val_main_v63_apply, val_main_v56_apply]
    rfl
  rw [e', e1, e2, e3, ref_turn1, ref_turn2]
  rfl

end Cert.Own.AttnBwd

end
-- ==== Proof.AttnBwdValue.lean ====
module

public import proofs.«01_k».proof.Defs
public import proofs.«01_k».proof.Proof.AttnBwdArray
public import proofs.«01_k».proof.Proof.AttnBwdRef
public import proofs.«01_k».proof.Proof.Gen.AttnBwdRefIdeal.Run
public import Idealize.ShloMosaic.Lib.Quiescent

@[expose] public section

/-! The backward attention kernel's three arrays are the reference's. -/

noncomputable section

namespace Cert.Own.AttnBwd

open Idealize.ShloMosaic Idealize.ShloMosaic.TcCoe Idealize.SL.Sem

/-- The reference runs, leaves its arguments alone and ends with every counter at zero. -/
theorem ref_frame : Cert.quiescent_AttnBwdRefIdeal := fun m ρ _ =>
  (θ_run _ _ _).mono (fun r h => ⟨fun c => (h c).2.2.2, sem_eq_zero_of_no_sems (by decide) r.2⟩)
    (Cert.AttnBwdRefIdeal.Value.run (F := Ideal) m ρ)

/-- A lane of 1024 is a head's lane. -/
theorem hlane_of (e : Fin 1024) : hlane (headL e) (laneL e) = e := Fin.ext (by show 128 * (e.val / 128) + e.val % 128 = e.val; omega)

/-- The kernel and the reference leave the same gradients of the queries, the keys and the values. -/
theorem algebraic : Cert.algebraic_AttnBwdIdeal_AttnBwdRefIdeal := by
  intro m ρ m' ρ' _ hag
  refine ⟨_, _, _, Cert.AttnBwdIdeal.Value.run_blocks m ρ, ?_⟩
  refine (θ_run _ _ _).mono (fun r h c => ?_) (Cert.AttnBwdRefIdeal.Value.run (F := Ideal) m' ρ')
  obtain ⟨h0, h1, h2, h3, h4, h5, h6, h7⟩ := hag c
  refine ⟨(h c).1.trans ?_, (h c).2.1.trans ?_, (h c).2.2.1.trans ?_, (h c).2.2.2⟩
  · rw [Cert.AttnBwdRefIdeal.Read.val_main_v65_eq, h0, h1, h2, h3, h4, h5, h6, h7]
    refine Eq.trans ?_ (arrQ m c).symm
    funext i
    obtain ⟨q, e, rfl⟩ : ∃ (q : Fin 8192) (e : Fin 1024), i = ix2 q e := ⟨i 0, i 1, funext fun a => by fin_cases a <;> rfl⟩
    have E := ref_dq (Qof m c) (Kof m c) (Vof m c) (DOof m c) (Oof m c) (Lof m c) (CSof m c) (PVof m c) q (headL e) (laneL e)
    rw [hlane_of] at E
    exact E
  · rw [Cert.AttnBwdRefIdeal.Read.val_main_v67_eq, h0, h1, h2, h3, h4, h5]
    refine Eq.trans ?_ (arrK m c).symm
    funext i
    obtain ⟨q, e, rfl⟩ : ∃ (q : Fin 8192) (e : Fin 1024), i = ix2 q e := ⟨i 0, i 1, funext fun a => by fin_cases a <;> rfl⟩
    have E := ref_dk (Qof m c) (Kof m c) (Vof m c) (DOof m c) (Oof m c) (Lof m c) q (headL e) (laneL e)
    rw [hlane_of] at E
    exact E
  · rw [Cert.AttnBwdRefIdeal.Read.val_main_v69_eq, h0, h1, h3, h5]
    refine Eq.trans ?_ (arrV m c).symm
    funext i
    obtain ⟨q, d, rfl⟩ : ∃ (q : Fin 8192) (d : Fin 512), i = ix2 q d := ⟨i 0, i 1, funext fun a => by fin_cases a <;> rfl⟩
    exact ref_dv (Qof m c) (Kof m c) (DOof m c) (Lof m c) q d (headV d) ⟨d.val % 64, Nat.mod_lt _ (by norm_num)⟩
      (Fin.ext (by show d.val = 64 * (d.val / 64) + d.val % 64; omega))

end Cert.Own.AttnBwd

end
-- ==== Proof.BwdPreRun.lean ====
module

public import proofs.«01_k».proof.Proof.Gen.BwdPreIdeal.Frame
public import proofs.«01_k».proof.Proof.Gen.BwdPreIdeal.Skeleton

@[expose] public section

/-! The body of the projections' backward kernel, run once: what its stores leave in the buffers of its five results. -/

noncomputable section

namespace Cert.Own.BwdPre

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.BwdPreIdeal Cert.BwdPreIdeal.Gen

variable {F : FTy → Type} [FloatOps F]

local notation "𝕄" => MT nD τ sig Unit (Elt F) ℕ (UR sig nD τ) ℕ

/-- The body's own test: is this the first point? -/
abbrev first (i : grid0.Coords) : Prop :=
  (Scalar.cmpi .ne (Scalar.extui (Scalar.cmpi .eq (BitVec.ofNat 32 (i 0).val) 0#32)) 0#32) = 1#1

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x256 .f32) (harg3 : arg3.IsWhole)
  (arg4 : Memref sig .tc .vmem S256x128 .f32) (harg4 : arg4.IsWhole)
  (arg5 : Memref sig .tc .vmem S256x256 .f32) (harg5 : arg5.IsWhole)
  (arg6 : Memref sig .tc .vmem S256x1024 .bf16) (harg6 : arg6.IsWhole)
  (arg7 : Memref sig .tc .vmem S256x1024 .bf16) (harg7 : arg7.IsWhole)
  (arg8 : Memref sig .tc .vmem S256x512 .bf16) (harg8 : arg8.IsWhole)
  (arg9 : Memref sig .tc .vmem S256x2048 .bf16) (harg9 : arg9.IsWhole)
  (arg10 : Memref sig .tc .vmem S1024x2560 .bf16) (harg10 : arg10.IsWhole)
  (arg11 : Memref sig .tc .vmem S256x1024 .bf16) (harg11 : arg11.IsWhole)
  (arg12 : Memref sig .tc .vmem S128x1536 .bf16) (harg12 : arg12.IsWhole)
  (arg13 : Memref sig .tc .vmem S16x1024 .f32) (harg13 : arg13.IsWhole)
  (arg14 : Memref sig .tc .vmem S256x1024 .f32) (harg14 : arg14.IsWhole)
  (arg15 : Memref sig .tc .vmem S1024x2560 .f32) (harg15 : arg15.IsWhole)
  (arg16 : Memref sig .tc .vmem S256x1024 .f32) (harg16 : arg16.IsWhole)
  (arg17 : Memref sig .tc .vmem S128x1536 .f32) (harg17 : arg17.IsWhole)
  (arg18 : Memref sig .tc .vmem S8x256 .f32) (harg18 : arg18.IsWhole)
variable (x1 : Vec F S256x1024 .f32) (x2 : Vec F S256x1024 .f32) (x3 : Vec F S256x256 .f32) (x4 : Vec F S256x128 .f32) (x5 : Vec F S256x256 .f32) (x6 : Vec F S256x1024 .bf16) (x7 : Vec F S256x1024 .bf16) (x8 : Vec F S256x512 .bf16) (x9 : Vec F S256x2048 .bf16) (x10 : Vec F S1024x2560 .bf16) (x11 : Vec F S256x1024 .bf16) (x12 : Vec F S128x1536 .bf16) (x13 : Vec F S16x1024 .f32)

set_option maxHeartbeats 1000000 in
/-- At the first point: the buffers are cleared first. -/
def runA (hc0 : first i) :
    Σ' (L14 : List (View.Piece (Elt F) S256x1024 .f32)), Σ' (L15 : List (View.Piece (Elt F) S1024x2560 .f32)), Σ' (L16 : List (View.Piece (Elt F) S256x1024 .f32)), Σ' (L17 : List (View.Piece (Elt F) S128x1536 .f32)), { L18 : List (View.Piece (Elt F) S8x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18)) -∗ K ⟨⟩))
          ⊢ wp frame (wpE (defs₀ (F := F)) Variants.none c none) E (cc0_bwd_pre i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun E K => ?run⟩
  case run =>
    simp only [cc0_bwd_pre_eq_skeleton]; unfold cc0_bwd_pre_skel
    simp only [k0_part1_eq_skeleton, k0_part2_eq_skeleton, k0_part3_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec (disch := sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]; · iexists _; iexact H15
    isplitl [H16]; · iexists _; iexact H16
    isplitl [H17]; · iexists _; iexact H17
    iexists _; iexact H18

set_option maxHeartbeats 1000000 in
/-- At any other point: four of the buffers are added to. -/
def runB (hc0 : ¬first i) (x15 : Vec F S1024x2560 .f32) (x16 : Vec F S256x1024 .f32) (x17 : Vec F S128x1536 .f32) (x18 : Vec F S8x256 .f32) :
    Σ' (L14 : List (View.Piece (Elt F) S256x1024 .f32)), Σ' (L15 : List (View.Piece (Elt F) S1024x2560 .f32)), Σ' (L16 : List (View.Piece (Elt F) S256x1024 .f32)), Σ' (L17 : List (View.Piece (Elt F) S128x1536 .f32)), { L18 : List (View.Piece (Elt F) S8x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ owns (c : Thread nD τ) arg15 fullShare x15 ∗ owns (c : Thread nD τ) arg16 fullShare x16 ∗ owns (c : Thread nD τ) arg17 fullShare x17 ∗ owns (c : Thread nD τ) arg18 fullShare x18
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ f, arg14.view.loc (c : Thread nD τ) ↦[arg14.view.set]{fullShare} arg14.view.writes (Elt F) f L14) ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16) ∗ (arg17.view.loc (c : Thread nD τ) ↦[arg17.view.set]{fullShare} arg17.view.writes (Elt F) (harg17.unread x17) L17) ∗ (arg18.view.loc (c : Thread nD τ) ↦[arg18.view.set]{fullShare} arg18.view.writes (Elt F) (harg18.unread x18) L18)) -∗ K ⟨⟩))
          ⊢ wp frame (wpE (defs₀ (F := F)) Variants.none c none) E (cc0_bwd_pre i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun E K => ?run⟩
  case run =>
    simp only [cc0_bwd_pre_eq_skeleton]; unfold cc0_bwd_pre_skel
    simp only [k0_part1_eq_skeleton, k0_part2_eq_skeleton, k0_part3_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%f17, %hf17, H17⟩, ⟨%f18, %hf18, H18⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg15.eq_unread hf15; obtain rfl := harg16.eq_unread hf16; obtain rfl := harg17.eq_unread hf17; obtain rfl := harg18.eq_unread hf18
    sl_exec (disch := sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]; · iexact H15
    isplitl [H16]; · iexact H16
    isplitl [H17]; · iexact H17
    iexact H18

end Cert.Own.BwdPre

end

end
-- ==== Proof.BwdPreStep.lean ====
module

public import proofs.«01_k».proof.Proof.BwdPreRun
public import Idealize.ShloMosaic.Lib.Pipeline.Value
public import Idealize.ShloMosaic.Lib.Pipeline.ReadBack
public import Idealize.ShloMosaic.Lib.Pointwise

@[expose] public section

/-! What one point of the projections' backward kernel computes, as functions of its blocks and of what the point before left; and the body's run to them. -/

noncomputable section

namespace Cert.Own.BwdPre

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.BwdPreIdeal Cert.BwdPreIdeal.Gen

variable {F : FTy → Type} [FloatOps F]

local notation "𝕄" => MT nD τ sig Unit (Elt F) ℕ (UR sig nD τ) ℕ

section values
variable (x1 : Vec F S256x1024 .f32) (x2 : Vec F S256x1024 .f32) (x3 : Vec F S256x256 .f32) (x4 : Vec F S256x128 .f32) (x5 : Vec F S256x256 .f32) (x6 : Vec F S256x1024 .bf16) (x7 : Vec F S256x1024 .bf16) (x8 : Vec F S256x512 .bf16) (x9 : Vec F S256x2048 .bf16) (x10 : Vec F S1024x2560 .bf16) (x11 : Vec F S256x1024 .bf16) (x12 : Vec F S128x1536 .bf16) (x13 : Vec F S16x1024 .f32)

/-- The parameters' rows the body reads: the two gains, and the two masks of lanes. -/
abbrev rowQ : Vec F S1x256 .f32 := View.ld x13 (Rect.unit ![0, 0] ![1, 256] inb_S16x1024_S1x256_0_0)
abbrev rowKV : Vec F S1x128 .f32 := View.ld x13 (Rect.unit ![1, 0] ![1, 128] inb_S16x1024_S1x128_1_0)
abbrev rowM1 : Vec F S1x128 .f32 := View.ld x13 (Rect.unit ![5, 0] ![1, 128] inb_S16x1024_S1x128_5_0)
abbrev rowM2 : Vec F S1x128 .f32 := View.ld x13 (Rect.unit ![6, 0] ![1, 128] inb_S16x1024_S1x128_6_0)
/-- The two halves of a block of the angles' table. -/
abbrev cosOf : Vec F S256x128 .f32 := View.ld x5 (Rect.unit ![0, 0] ![256, 128] inb_S256x256_S256x128_0_0)
abbrev sinOf : Vec F S256x128 .f32 := View.ld x5 (Rect.unit ![0, 128] ![256, 128] inb_S256x256_S256x128_0_128)
/-- The gradients of a block of the two compressed projections, and the summed gradient of its keys. -/
abbrev dcqOf : FVec F S256x256 .f32 := k0_pay13 (rowQ x13) (k0_pay8 x3) (k0_pay9 x3) (k0_pay10 x6 x11)
abbrev dckvOf : FVec F S256x128 .f32 := k0_pay20 (rowKV x13) (k0_pay15 x4) (k0_pay16 x4) (k0_pay17 x7 x8 x12)

/-- The block of the input's gradient. -/
def gxOf : Vec F S256x1024 .f32 :=
  k0_pay3 (dcqOf x3 x6 x11 x13) (dckvOf x4 x7 x8 x12 x13) (k0_pay21 x7) (cosOf x5) (sinOf x5) (k0_pay22 (rowM1 x13)) (rowM2 x13) x9 x2 x10
/-- The input weights' gradient after a point, `y` before it. -/
def gwinOf (y : Vec F S1024x2560 .f32) : Vec F S1024x2560 .f32 :=
  k0_pay2 (dcqOf x3 x6 x11 x13) (dckvOf x4 x7 x8 x12 x13) (k0_pay21 x7) (cosOf x5) (sinOf x5) (k0_pay22 (rowM1 x13)) (rowM2 x13) x9 y x1
/-- The query weights' gradient after a point, `y` before it. -/
def gwuqOf (y : Vec F S256x1024 .f32) : Vec F S256x1024 .f32 := k0_pay11 (rowQ x13) x6 x3 y
/-- The key and value weights' gradient after a point, `y` before it. -/
def gwkvOf (y : Vec F S128x1536 .f32) : Vec F S128x1536 .f32 := k0_pay18 (rowKV x13) x7 x8 x4 y
/-- The first row of the gains' gradients after a point, `y` the block before it; -/
def vec0Of (y : Vec F S8x256 .f32) : FVec F S1x256 .f32 :=
  k0_pay12 x6 x3 x11 (View.ld y (Rect.unit ![0, 0] ![1, 256] inb_S8x256_S1x256_0_0))
/-- and the part of the second row that is added to. -/
def vec1Of (y : Vec F S8x256 .f32) : FVec F S1x128 .f32 :=
  k0_pay19 (k0_pay16 x4) (k0_pay17 x7 x8 x12) (View.ld y (Rect.unit ![1, 0] ![1, 128] inb_S8x256_S1x128_1_0))
/-- The gains' gradients after a point: the first row, half of the second, and the rest as before. -/
def vecOf (y : Vec F S8x256 .f32) : Vec F S8x256 .f32 := fun j =>
  if (j 0).val = 0 then vec0Of x3 x6 x11 y (ix2 0 (j 1))
  else if h : (j 0).val = 1 ∧ (j 1).val < 128 then vec1Of x4 x7 x8 x12 y (ix2 0 ⟨(j 1).val, h.2⟩)
  else y j
end values

theorem zero_off : (![0, 0] : Fin 2 → ℕ) = fun _ => 0 := funext fun a => by fin_cases a <;> rfl

/-- A whole block, loaded. -/
theorem whole_S256x1024 {e : EltTy} (inb) (X : Vec F S256x1024 e) : View.ld X (Rect.unit (s := S256x1024) ![0, 0] ![256, 1024] inb) = X :=
  View.ld_unit_zero (S := S256x1024) zero_off inb X
theorem whole_S256x256 {e : EltTy} (inb) (X : Vec F S256x256 e) : View.ld X (Rect.unit (s := S256x256) ![0, 0] ![256, 256] inb) = X :=
  View.ld_unit_zero (S := S256x256) zero_off inb X
theorem whole_S256x128 {e : EltTy} (inb) (X : Vec F S256x128 e) : View.ld X (Rect.unit (s := S256x128) ![0, 0] ![256, 128] inb) = X :=
  View.ld_unit_zero (S := S256x128) zero_off inb X
theorem whole_S256x512 {e : EltTy} (inb) (X : Vec F S256x512 e) : View.ld X (Rect.unit (s := S256x512) ![0, 0] ![256, 512] inb) = X :=
  View.ld_unit_zero (S := S256x512) zero_off inb X
theorem whole_S256x2048 {e : EltTy} (inb) (X : Vec F S256x2048 e) : View.ld X (Rect.unit (s := S256x2048) ![0, 0] ![256, 2048] inb) = X :=
  View.ld_unit_zero (S := S256x2048) zero_off inb X
theorem whole_S1024x2560 {e : EltTy} (inb) (X : Vec F S1024x2560 e) : View.ld X (Rect.unit (s := S1024x2560) ![0, 0] ![1024, 2560] inb) = X :=
  View.ld_unit_zero (S := S1024x2560) zero_off inb X
theorem whole_S128x1536 {e : EltTy} (inb) (X : Vec F S128x1536 e) : View.ld X (Rect.unit (s := S128x1536) ![0, 0] ![128, 1536] inb) = X :=
  View.ld_unit_zero (S := S128x1536) zero_off inb X

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x256 .f32) (harg3 : arg3.IsWhole)
  (arg4 : Memref sig .tc .vmem S256x128 .f32) (harg4 : arg4.IsWhole)
  (arg5 : Memref sig .tc .vmem S256x256 .f32) (harg5 : arg5.IsWhole)
  (arg6 : Memref sig .tc .vmem S256x1024 .bf16) (harg6 : arg6.IsWhole)
  (arg7 : Memref sig .tc .vmem S256x1024 .bf16) (harg7 : arg7.IsWhole)
  (arg8 : Memref sig .tc .vmem S256x512 .bf16) (harg8 : arg8.IsWhole)
  (arg9 : Memref sig .tc .vmem S256x2048 .bf16) (harg9 : arg9.IsWhole)
  (arg10 : Memref sig .tc .vmem S1024x2560 .bf16) (harg10 : arg10.IsWhole)
  (arg11 : Memref sig .tc .vmem S256x1024 .bf16) (harg11 : arg11.IsWhole)
  (arg12 : Memref sig .tc .vmem S128x1536 .bf16) (harg12 : arg12.IsWhole)
  (arg13 : Memref sig .tc .vmem S16x1024 .f32) (harg13 : arg13.IsWhole)
  (arg14 : Memref sig .tc .vmem S256x1024 .f32) (harg14 : arg14.IsWhole)
  (arg15 : Memref sig .tc .vmem S1024x2560 .f32) (harg15 : arg15.IsWhole)
  (arg16 : Memref sig .tc .vmem S256x1024 .f32) (harg16 : arg16.IsWhole)
  (arg17 : Memref sig .tc .vmem S128x1536 .f32) (harg17 : arg17.IsWhole)
  (arg18 : Memref sig .tc .vmem S8x256 .f32) (harg18 : arg18.IsWhole)
variable (x1 : Vec F S256x1024 .f32) (x2 : Vec F S256x1024 .f32) (x3 : Vec F S256x256 .f32) (x4 : Vec F S256x128 .f32) (x5 : Vec F S256x256 .f32) (x6 : Vec F S256x1024 .bf16) (x7 : Vec F S256x1024 .bf16) (x8 : Vec F S256x512 .bf16) (x9 : Vec F S256x2048 .bf16) (x10 : Vec F S1024x2560 .bf16) (x11 : Vec F S256x1024 .bf16) (x12 : Vec F S128x1536 .bf16) (x13 : Vec F S16x1024 .f32)

variable (x15 : Vec F S1024x2560 .f32) (x16 : Vec F S256x1024 .f32) (x17 : Vec F S128x1536 .f32) (x18 : Vec F S8x256 .f32)

/-! The stores of each buffer, last first. -/

theorem runA_14 (hc0 : first i) : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11 x12 x13 hc0).1 =
    [⟨Rect.unit (s := S256x1024) ![0, 0] ![256, 1024] inb_S256x1024_S256x1024_0_0, gxOf x2 x3 x4 x5 x6 x7 x8 x9 x10 x11 x12 x13⟩] := by
  unfold runA; dsimp only; sl_unfold_words
  simp only [View.readAt_eq_ld, Memref.IsWhole.read_unread, whole_S256x1024, whole_S256x256, whole_S256x128, whole_S256x512, whole_S256x2048, whole_S1024x2560, whole_S128x1536]
  rfl
theorem runA_15 (hc0 : first i) : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11 x12 x13 hc0).2.1 =
    [⟨Rect.unit (s := S1024x2560) ![0, 0] ![1024, 2560] inb_S1024x2560_S1024x2560_0_0, gwinOf x1 x3 x4 x5 x6 x7 x8 x9 x11 x12 x13 (k0_pay4 (F := F))⟩, ⟨Rect.unit (s := S1024x2560) ![0, 0] ![1024, 2560] inb_S1024x2560_S1024x2560_0_0, k0_pay4 (F := F)⟩] := by
  unfold runA; dsimp only; sl_unfold_words
  simp only [View.readAt_eq_ld, Memref.IsWhole.read_unread, View.readCov_cons_toLoadRect, whole_S256x1024, whole_S256x256, whole_S256x128, whole_S256x512, whole_S256x2048, whole_S1024x2560, whole_S128x1536]
  rfl
theorem runA_16 (hc0 : first i) : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11 x12 x13 hc0).2.2.1 =
    [⟨Rect.unit (s := S256x1024) ![0, 0] ![256, 1024] inb_S256x1024_S256x1024_0_0, gwuqOf x3 x6 x13 (k0_pay5 (F := F))⟩, ⟨Rect.unit (s := S256x1024) ![0, 0] ![256, 1024] inb_S256x1024_S256x1024_0_0, k0_pay5 (F := F)⟩] := by
  unfold runA; dsimp only; sl_unfold_words
  simp only [View.readAt_eq_ld, Memref.IsWhole.read_unread, View.readCov_cons_toLoadRect, whole_S256x1024, whole_S256x256, whole_S256x128, whole_S256x512, whole_S256x2048, whole_S1024x2560, whole_S128x1536]
  rfl
theorem runA_17 (hc0 : first i) : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11 x12 x13 hc0).2.2.2.1 =
    [⟨Rect.unit (s := S128x1536) ![0, 0] ![128, 1536] inb_S128x1536_S128x1536_0_0, gwkvOf x4 x7 x8 x13 (k0_pay6 (F := F))⟩, ⟨Rect.unit (s := S128x1536) ![0, 0] ![128, 1536] inb_S128x1536_S128x1536_0_0, k0_pay6 (F := F)⟩] := by
  unfold runA; dsimp only; sl_unfold_words
  simp only [View.readAt_eq_ld, Memref.IsWhole.read_unread, View.readCov_cons_toLoadRect, whole_S256x1024, whole_S256x256, whole_S256x128, whole_S256x512, whole_S256x2048, whole_S1024x2560, whole_S128x1536]
  rfl
theorem runA_18 (hc0 : first i) : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11 x12 x13 hc0).2.2.2.2.1 =
    [⟨Rect.unit (s := S8x256) ![1, 0] ![1, 128] inb_S8x256_S1x128_1_0, vec1Of x4 x7 x8 x12 (k0_pay7 (F := F))⟩,
      ⟨Rect.unit (s := S8x256) ![0, 0] ![1, 256] inb_S8x256_S1x256_0_0, vec0Of x3 x6 x11 (k0_pay7 (F := F))⟩, ⟨Rect.unit (s := S8x256) ![0, 0] ![8, 256] inb_S8x256_S8x256_0_0, k0_pay7 (F := F)⟩] := by
  unfold runA; dsimp only; sl_unfold_words
  simp only [View.readAt_eq_ld, Memref.IsWhole.read_unread, whole_S256x1024, whole_S256x256, whole_S256x128, whole_S256x512, whole_S256x2048, whole_S1024x2560, whole_S128x1536]
  rw [View.readCov_skip _ _ _ _ _ (by decide), View.readCov_fill _ _ _ _ _ (by decide), View.readCov_fill _ _ _ _ _ (by decide)]
  rfl
theorem runB_14 (hc0 : ¬first i) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11 x12 x13 hc0 x15 x16 x17 x18).1 =
    [⟨Rect.unit (s := S256x1024) ![0, 0] ![256, 1024] inb_S256x1024_S256x1024_0_0, gxOf x2 x3 x4 x5 x6 x7 x8 x9 x10 x11 x12 x13⟩] := by
  unfold runB; dsimp only; sl_unfold_words
  simp only [View.readAt_eq_ld, Memref.IsWhole.read_unread, whole_S256x1024, whole_S256x256, whole_S256x128, whole_S256x512, whole_S256x2048, whole_S1024x2560, whole_S128x1536]
  rfl
theorem runB_15 (hc0 : ¬first i) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11 x12 x13 hc0 x15 x16 x17 x18).2.1 =
    [⟨Rect.unit (s := S1024x2560) ![0, 0] ![1024, 2560] inb_S1024x2560_S1024x2560_0_0, gwinOf x1 x3 x4 x5 x6 x7 x8 x9 x11 x12 x13 x15⟩] := by
  unfold runB; dsimp only; sl_unfold_words
  simp only [View.readAt_eq_ld, Memref.IsWhole.read_unread, whole_S256x1024, whole_S256x256, whole_S256x128, whole_S256x512, whole_S256x2048, whole_S1024x2560, whole_S128x1536]
  rfl
theorem runB_16 (hc0 : ¬first i) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11 x12 x13 hc0 x15 x16 x17 x18).2.2.1 =
    [⟨Rect.unit (s := S256x1024) ![0, 0] ![256, 1024] inb_S256x1024_S256x1024_0_0, gwuqOf x3 x6 x13 x16⟩] := by
  unfold runB; dsimp only; sl_unfold_words
  simp only [View.readAt_eq_ld, Memref.IsWhole.read_unread, whole_S256x1024, whole_S256x256, whole_S256x128, whole_S256x512, whole_S256x2048, whole_S1024x2560, whole_S128x1536]
  rfl
theorem runB_17 (hc0 : ¬first i) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11 x12 x13 hc0 x15 x16 x17 x18).2.2.2.1 =
    [⟨Rect.unit (s := S128x1536) ![0, 0] ![128, 1536] inb_S128x1536_S128x1536_0_0, gwkvOf x4 x7 x8 x13 x17⟩] := by
  unfold runB; dsimp only; sl_unfold_words
  simp only [View.readAt_eq_ld, Memref.IsWhole.read_unread, whole_S256x1024, whole_S256x256, whole_S256x128, whole_S256x512, whole_S256x2048, whole_S1024x2560, whole_S128x1536]
  rfl
theorem runB_18 (hc0 : ¬first i) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11 x12 x13 hc0 x15 x16 x17 x18).2.2.2.2.1 =
    [⟨Rect.unit (s := S8x256) ![1, 0] ![1, 128] inb_S8x256_S1x128_1_0, vec1Of x4 x7 x8 x12 x18⟩,
      ⟨Rect.unit (s := S8x256) ![0, 0] ![1, 256] inb_S8x256_S1x256_0_0, vec0Of x3 x6 x11 x18⟩] := by
  unfold runB; dsimp only; sl_unfold_words
  simp only [View.readAt_eq_ld, Memref.IsWhole.read_unread, whole_S256x1024, whole_S256x256, whole_S256x128, whole_S256x512, whole_S256x2048, whole_S1024x2560, whole_S128x1536]
  rfl

end Cert.Own.BwdPre

end

end
-- ==== Proof.BwdPreBody.lean ====
module

public import proofs.«01_k».proof.Proof.BwdPreStep
public import Idealize.ShloMosaic.Lib.Claim
public import Idealize.ShloMosaic.Lib.WritesUnit
public import Idealize.ShloMosaic.Lib.WordCmp

@[expose] public section

/-! The body of the projections' backward kernel at any point, from what its stores are. -/

noncomputable section

namespace Cert.Own.BwdPre

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BwdPreIdeal Cert.BwdPreIdeal.Gen

variable {F : FTy → Type} [FloatOps F]

local notation "𝕄" => MT nD τ sig Unit (Elt F) ℕ (UR sig nD τ) ℕ

section stores
variable {κ : Kind} {sp : Space}

/-- A store of the whole buffer, last: the buffer holds it. -/
theorem stored {S : Shape} {e : EltTy} (v : View sig κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w :=
  funext fun y => View.read_writes_cons_unit_of_mem v f inb w L y y h fun _ => (Nat.zero_add _).symm

/-- The first row and half of the second, stored last: the rest is as before. -/
theorem stored_rows (v : View sig κ sp S8x256 .f32) (f : v.ty.Contents (Elt F)) (i1) (i0) (w1 : FVec F S1x128 .f32) (w0 : FVec F S1x256 .f32)
    (L : List (View.Piece (Elt F) S8x256 .f32)) (y : Vec F S8x256 .f32) (hy : v.read (Elt F) (v.writes (Elt F) f L) = y) :
    v.read (Elt F) (v.writes (Elt F) f (⟨Rect.unit (s := S8x256) ![1, 0] ![1, 128] i1, w1⟩ :: ⟨Rect.unit (s := S8x256) ![0, 0] ![1, 256] i0, w0⟩ :: L))
      = fun j => if (j 0).val = 0 then w0 (ix2 0 (j 1))
          else if h : (j 0).val = 1 ∧ (j 1).val < 128 then w1 (ix2 0 ⟨(j 1).val, h.2⟩) else y j := by
  funext j
  split_ifs with h0 h1
  · refine (View.read_writes_cons_unit_of_not_mem v f i1 w1 _ j rfl 0 (Or.inl ?_)).trans ?_
    · show (j 0).val < 1; omega
    · exact View.read_writes_cons_unit_of_mem v f i0 w0 L j (ix2 0 (j 1)) rfl
        (Fin.forall_fin_two.mpr ⟨h0, (Nat.zero_add _).symm⟩)
  · exact View.read_writes_cons_unit_of_mem v f i1 w1 _ j (ix2 0 ⟨(j 1).val, h1.2⟩) rfl
      (Fin.forall_fin_two.mpr ⟨h1.1, (Nat.zero_add _).symm⟩)
  · have hm : (j 0).val ≠ 1 ∨ 128 ≤ (j 1).val := by
      by_contra hc; push Not at hc; exact h1 hc
    have e1 : v.read (Elt F) (v.writes (Elt F) f (⟨Rect.unit (s := S8x256) ![1, 0] ![1, 128] i1, w1⟩ :: ⟨Rect.unit (s := S8x256) ![0, 0] ![1, 256] i0, w0⟩ :: L)) j
        = v.read (Elt F) (v.writes (Elt F) f (⟨Rect.unit (s := S8x256) ![0, 0] ![1, 256] i0, w0⟩ :: L)) j := by
      rcases hm with hm | hm
      · refine View.read_writes_cons_unit_of_not_mem v f i1 w1 _ j rfl 0 (Or.inr ?_)
        show 1 + 1 ≤ (j 0).val; omega
      · refine View.read_writes_cons_unit_of_not_mem v f i1 w1 _ j rfl 1 (Or.inr ?_)
        show 0 + 128 ≤ (j 1).val; omega
    refine e1.trans ((View.read_writes_cons_unit_of_not_mem v f i0 w0 _ j rfl 0 (Or.inr ?_)).trans (congrFun hy j))
    show 0 + 1 ≤ (j 0).val; omega
end stores

section body
variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x256 .f32) (harg3 : arg3.IsWhole)
  (arg4 : Memref sig .tc .vmem S256x128 .f32) (harg4 : arg4.IsWhole)
  (arg5 : Memref sig .tc .vmem S256x256 .f32) (harg5 : arg5.IsWhole)
  (arg6 : Memref sig .tc .vmem S256x1024 .bf16) (harg6 : arg6.IsWhole)
  (arg7 : Memref sig .tc .vmem S256x1024 .bf16) (harg7 : arg7.IsWhole)
  (arg8 : Memref sig .tc .vmem S256x512 .bf16) (harg8 : arg8.IsWhole)
  (arg9 : Memref sig .tc .vmem S256x2048 .bf16) (harg9 : arg9.IsWhole)
  (arg10 : Memref sig .tc .vmem S1024x2560 .bf16) (harg10 : arg10.IsWhole)
  (arg11 : Memref sig .tc .vmem S256x1024 .bf16) (harg11 : arg11.IsWhole)
  (arg12 : Memref sig .tc .vmem S128x1536 .bf16) (harg12 : arg12.IsWhole)
  (arg13 : Memref sig .tc .vmem S16x1024 .f32) (harg13 : arg13.IsWhole)
  (arg14 : Memref sig .tc .vmem S256x1024 .f32) (harg14 : arg14.IsWhole)
  (arg15 : Memref sig .tc .vmem S1024x2560 .f32) (harg15 : arg15.IsWhole)
  (arg16 : Memref sig .tc .vmem S256x1024 .f32) (harg16 : arg16.IsWhole)
  (arg17 : Memref sig .tc .vmem S128x1536 .f32) (harg17 : arg17.IsWhole)
  (arg18 : Memref sig .tc .vmem S8x256 .f32) (harg18 : arg18.IsWhole)
variable (x1 : Vec F S256x1024 .f32) (x2 : Vec F S256x1024 .f32) (x3 : Vec F S256x256 .f32) (x4 : Vec F S256x128 .f32) (x5 : Vec F S256x256 .f32) (x6 : Vec F S256x1024 .bf16) (x7 : Vec F S256x1024 .bf16) (x8 : Vec F S256x512 .bf16) (x9 : Vec F S256x2048 .bf16) (x10 : Vec F S1024x2560 .bf16) (x11 : Vec F S256x1024 .bf16) (x12 : Vec F S128x1536 .bf16) (x13 : Vec F S16x1024 .f32)

variable (y15 : Vec F S1024x2560 .f32) (y16 : Vec F S256x1024 .f32) (y17 : Vec F S128x1536 .f32) (y18 : Vec F S8x256 .f32)

set_option maxHeartbeats 1000000 in
/-- The body at any point, on its blocks and on what the point before left (at the first point, on anything). -/
theorem body_run (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ owns (c : Thread nD τ) arg15 fullShare y15 ∗ owns (c : Thread nD τ) arg16 fullShare y16 ∗ owns (c : Thread nD τ) arg17 fullShare y17 ∗ owns (c : Thread nD τ) arg18 fullShare y18
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (gxOf x2 x3 x4 x5 x6 x7 x8 x9 x10 x11 x12 x13) ∗ owns (c : Thread nD τ) arg15 fullShare (gwinOf x1 x3 x4 x5 x6 x7 x8 x9 x11 x12 x13 (if first i then k0_pay4 (F := F) else y15)) ∗ owns (c : Thread nD τ) arg16 fullShare (gwuqOf x3 x6 x13 (if first i then k0_pay5 (F := F) else y16)) ∗ owns (c : Thread nD τ) arg17 fullShare (gwkvOf x4 x7 x8 x13 (if first i then k0_pay6 (F := F) else y17)) ∗ owns (c : Thread nD τ) arg18 fullShare (vecOf x3 x4 x6 x7 x8 x11 x12 (if first i then k0_pay7 (F := F) else y18))) -∗ K ⟨⟩))
      ⊢ wp frame (wpE (defs₀ (F := F)) Variants.none c none) E (cc0_bwd_pre i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  by_cases hc0 : first i
  · simp only [if_pos hc0]
    iintro ⟨H1, H2, H3, H4, H5, H6, H7, H8, H9, H10, H11, H12, H13, H14, H15, H16, H17, H18, Hk⟩
    iapply ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11 x12 x13 hc0).2.2.2.2.2 E K)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    iintro ⟨H1, H2, H3, H4, H5, H6, H7, H8, H9, H10, H11, H12, H13, ⟨%e14, H14⟩, ⟨%e15, H15⟩, ⟨%e16, H16⟩, ⟨%e17, H17⟩, ⟨%e18, H18⟩⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · unfold owns; iexists _; isplitr
      swap; · iexact H14
      ipureintro; rw [runA_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11 x12 x13 hc0]; exact stored _ _ zero_off _ _ _
    isplitl [H15]
    · unfold owns; iexists _; isplitr
      swap; · iexact H15
      ipureintro; rw [runA_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11 x12 x13 hc0]; exact stored _ _ zero_off _ _ _
    isplitl [H16]
    · unfold owns; iexists _; isplitr
      swap; · iexact H16
      ipureintro; rw [runA_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11 x12 x13 hc0]; exact stored _ _ zero_off _ _ _
    isplitl [H17]
    · unfold owns; iexists _; isplitr
      swap; · iexact H17
      ipureintro; rw [runA_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11 x12 x13 hc0]; exact stored _ _ zero_off _ _ _
    unfold owns; iexists _; isplitr
    swap; · iexact H18
    ipureintro; rw [runA_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11 x12 x13 hc0]; exact stored_rows _ _ _ _ _ _ _ _ (stored _ _ zero_off _ _ _)
  · simp only [if_neg hc0]
    iintro ⟨H1, H2, H3, H4, H5, H6, H7, H8, H9, H10, H11, H12, H13, H14, H15, H16, H17, H18, Hk⟩
    iapply ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11 x12 x13 hc0 y15 y16 y17 y18).2.2.2.2.2 E K)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iintro ⟨H1, H2, H3, H4, H5, H6, H7, H8, H9, H10, H11, H12, H13, ⟨%e14, H14⟩, H15, H16, H17, H18⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · unfold owns; iexists _; isplitr
      swap; · iexact H14
      ipureintro; rw [runB_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11 x12 x13 y15 y16 y17 y18 hc0]; exact stored _ _ zero_off _ _ _
    isplitl [H15]
    · unfold owns; iexists _; isplitr
      swap; · iexact H15
      ipureintro; rw [runB_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11 x12 x13 y15 y16 y17 y18 hc0]; exact stored _ _ zero_off _ _ _
    isplitl [H16]
    · unfold owns; iexists _; isplitr
      swap; · iexact H16
      ipureintro; rw [runB_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11 x12 x13 y15 y16 y17 y18 hc0]; exact stored _ _ zero_off _ _ _
    isplitl [H17]
    · unfold owns; iexists _; isplitr
      swap; · iexact H17
      ipureintro; rw [runB_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11 x12 x13 y15 y16 y17 y18 hc0]; exact stored _ _ zero_off _ _ _
    unfold owns; iexists _; isplitr
    swap; · iexact H18
    ipureintro; rw [runB_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11 x12 x13 y15 y16 y17 y18 hc0]; exact stored_rows _ _ _ _ _ _ _ _ (harg18.read_unread _)
end body

end Cert.Own.BwdPre

end

end
-- ==== Proof.BwdPreFrame.lean ====
module

public import proofs.«01_k».proof.Proof.BwdPreBody
public import Idealize.ShloMosaic.Lib.Claim
public import Idealize.ShloMosaic.Lib.WritesUnit
public import Idealize.ShloMosaic.Lib.WordCmp

@[expose] public section

/-! The proof data of the pipeline of the projections' backward kernel, and its run: it ends, with its arguments unchanged and the semaphores at zero. -/

noncomputable section

namespace Cert.Own.BwdPre

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BwdPreIdeal Cert.BwdPreIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's test is true at the first point alone. -/
theorem first_iff : ∀ t : Fin cfg0.N, first (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    have e1 : first (grid0.coords t) ↔ t.val % 32 = 0 := by
      simp only [first, e0]
      word_cmp
    rw [e1, Nat.mod_eq_of_lt ht]
   : ∀ t : Fin grid0.N, first (grid0.coords t) ↔ t.val = 0)

/-- What the four added-to buffers hold. -/
abbrev Sums (F : FTy → Type) := Vec F S1024x2560 .f32 × Vec F S256x1024 .f32 × Vec F S128x1536 .f32 × Vec F S8x256 .f32

/-- They are cleared first. -/
def cleared : Sums F := (k0_pay4, k0_pay5, k0_pay6, k0_pay7)

/-- What a point makes of them. -/
def stepAt (c : Dev nD) (t : Fin cfg0.N) (p : Sums F) : Sums F :=
  (gwinOf (iblk m c 0 t) (iblk m c 2 t) (iblk m c 3 t) (iblk m c 4 t) (iblk m c 5 t) (iblk m c 6 t) (iblk m c 7 t) (iblk m c 8 t) (iblk m c 10 t) (iblk m c 11 t) (iblk m c 12 t) p.1,
    gwuqOf (iblk m c 2 t) (iblk m c 5 t) (iblk m c 12 t) p.2.1,
    gwkvOf (iblk m c 3 t) (iblk m c 6 t) (iblk m c 7 t) (iblk m c 12 t) p.2.2.1,
    vecOf (iblk m c 2 t) (iblk m c 3 t) (iblk m c 5 t) (iblk m c 6 t) (iblk m c 7 t) (iblk m c 10 t) (iblk m c 11 t) p.2.2.2)

/-- The block of the input's gradient a point computes. -/
def gxAt (c : Dev nD) (t : Fin cfg0.N) : Vec F S256x1024 .f32 := gxOf (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- What they hold after a point. -/
def sumsAt (c : Dev nD) : (n : ℕ) → n < cfg0.N → Sums F
  | 0, h => stepAt m c ⟨0, h⟩ cleared
  | n + 1, h => stepAt m c ⟨n + 1, h⟩ (sumsAt c n (Nat.lt_of_succ_lt h))

theorem sumsAt_zero (c : Dev nD) (t : Fin cfg0.N) (ht : t.val = 0) : sumsAt m c t.val t.isLt = stepAt m c t cleared := by
  obtain ⟨n, h⟩ := t
  obtain rfl : n = 0 := ht
  rfl

theorem sumsAt_pos (c : Dev nD) (t : Fin cfg0.N) (ht : t.val ≠ 0) :
    sumsAt m c t.val t.isLt = stepAt m c t (sumsAt m c (t.val - 1) (Nat.lt_of_le_of_lt (Nat.sub_le _ _) t.isLt)) := by
  obtain ⟨n, h⟩ := t
  cases n with
  | zero => exact absurd rfl ht
  | succ n => rfl

/-- The proof data of the pipeline: each input's buffer keeps its block, and each result's buffer holds the point's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => gxAt m c t
    | ⟨14, _⟩ => (sumsAt m c t.val t.isLt).1
    | ⟨15, _⟩ => (sumsAt m c t.val t.isLt).2.1
    | ⟨16, _⟩ => (sumsAt m c t.val t.isLt).2.2.1
    | ⟨17, _⟩ => (sumsAt m c t.val t.isLt).2.2.2
    | ⟨n + 18, h⟩ => absurd (show n + 18 < 18 from h) (by omega)
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = gxAt m c t := by dsimp only [dats]
theorem after14 (c : Dev nD) (t : Fin cfg0.N) : (dats m 0 c).after 14 t = (sumsAt m c t.val t.isLt).1 := by dsimp only [dats]
theorem after15 (c : Dev nD) (t : Fin cfg0.N) : (dats m 0 c).after 15 t = (sumsAt m c t.val t.isLt).2.1 := by dsimp only [dats]
theorem after16 (c : Dev nD) (t : Fin cfg0.N) : (dats m 0 c).after 16 t = (sumsAt m c t.val t.isLt).2.2.1 := by dsimp only [dats]
theorem after17 (c : Dev nD) (t : Fin cfg0.N) : (dats m 0 c).after 17 t = (sumsAt m c t.val t.isLt).2.2.2 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d

/-- Before a point that is not the first, an added-to buffer holds what the point before left. -/
theorem before14 (c : Dev nD) (t : Fin cfg0.N) (ht : t.val ≠ 0) (d) :
    (dats m 0 c).before 14 t d = (sumsAt m c (t.val - 1) (Nat.lt_of_le_of_lt (Nat.sub_le _ _) t.isLt)).1 := by
  refine ((dats m 0 c).before_out_kept 14 rfl t ht (Bool.eq_false_iff.mpr fun h => ?_) (fun _ => rfl) (fun _ _ => rfl) d).trans (after14 m c _)
  have h31 := (flush0_14 _).mp h
  have ht' : t.val < 32 := Nat.lt_of_lt_of_eq t.isLt N_0
  simp only at h31
  omega
theorem before15 (c : Dev nD) (t : Fin cfg0.N) (ht : t.val ≠ 0) (d) :
    (dats m 0 c).before 15 t d = (sumsAt m c (t.val - 1) (Nat.lt_of_le_of_lt (Nat.sub_le _ _) t.isLt)).2.1 := by
  refine ((dats m 0 c).before_out_kept 15 rfl t ht (Bool.eq_false_iff.mpr fun h => ?_) (fun _ => rfl) (fun _ _ => rfl) d).trans (after15 m c _)
  have h31 := (flush0_15 _).mp h
  have ht' : t.val < 32 := Nat.lt_of_lt_of_eq t.isLt N_0
  simp only at h31
  omega
theorem before16 (c : Dev nD) (t : Fin cfg0.N) (ht : t.val ≠ 0) (d) :
    (dats m 0 c).before 16 t d = (sumsAt m c (t.val - 1) (Nat.lt_of_le_of_lt (Nat.sub_le _ _) t.isLt)).2.2.1 := by
  refine ((dats m 0 c).before_out_kept 16 rfl t ht (Bool.eq_false_iff.mpr fun h => ?_) (fun _ => rfl) (fun _ _ => rfl) d).trans (after16 m c _)
  have h31 := (flush0_16 _).mp h
  have ht' : t.val < 32 := Nat.lt_of_lt_of_eq t.isLt N_0
  simp only at h31
  omega
theorem before17 (c : Dev nD) (t : Fin cfg0.N) (ht : t.val ≠ 0) (d) :
    (dats m 0 c).before 17 t d = (sumsAt m c (t.val - 1) (Nat.lt_of_le_of_lt (Nat.sub_le _ _) t.isLt)).2.2.2 := by
  refine ((dats m 0 c).before_out_kept 17 rfl t ht (Bool.eq_false_iff.mpr fun h => ?_) (fun _ => rfl) (fun _ _ => rfl) d).trans (after17 m c _)
  have h31 := (flush0_17 _).mp h
  have ht' : t.val < 32 := Nat.lt_of_lt_of_eq t.isLt N_0
  simp only at h31
  omega

/-- What the body is called with, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

theorem leaves0 (c : Dev nD) (t : Fin cfg0.N) : (dats m 0 c).leavesExact 0 t = owns (c : Thread nD τ) (win0_0.stage (cfg0.slots t 0)) fullShare ((dats m 0 c).after 0 t) := by
  unfold Dat.leavesExact; rw [show cfg0.idle 0 (cfg0.grid.coords t) = false from rfl]
theorem leaves1 (c : Dev nD) (t : Fin cfg0.N) : (dats m 0 c).leavesExact 1 t = owns (c : Thread nD τ) (win0_1.stage (cfg0.slots t 1)) fullShare ((dats m 0 c).after 1 t) := by
  unfold Dat.leavesExact; rw [show cfg0.idle 1 (cfg0.grid.coords t) = false from rfl]
theorem leaves2 (c : Dev nD) (t : Fin cfg0.N) : (dats m 0 c).leavesExact 2 t = owns (c : Thread nD τ) (win0_2.stage (cfg0.slots t 2)) fullShare ((dats m 0 c).after 2 t) := by
  unfold Dat.leavesExact; rw [show cfg0.idle 2 (cfg0.grid.coords t) = false from rfl]
theorem leaves3 (c : Dev nD) (t : Fin cfg0.N) : (dats m 0 c).leavesExact 3 t = owns (c : Thread nD τ) (win0_3.stage (cfg0.slots t 3)) fullShare ((dats m 0 c).after 3 t) := by
  unfold Dat.leavesExact; rw [show cfg0.idle 3 (cfg0.grid.coords t) = false from rfl]
theorem leaves4 (c : Dev nD) (t : Fin cfg0.N) : (dats m 0 c).leavesExact 4 t = owns (c : Thread nD τ) (win0_4.stage (cfg0.slots t 4)) fullShare ((dats m 0 c).after 4 t) := by
  unfold Dat.leavesExact; rw [show cfg0.idle 4 (cfg0.grid.coords t) = false from rfl]
theorem leaves5 (c : Dev nD) (t : Fin cfg0.N) : (dats m 0 c).leavesExact 5 t = owns (c : Thread nD τ) (win0_5.stage (cfg0.slots t 5)) fullShare ((dats m 0 c).after 5 t) := by
  unfold Dat.leavesExact; rw [show cfg0.idle 5 (cfg0.grid.coords t) = false from rfl]
theorem leaves6 (c : Dev nD) (t : Fin cfg0.N) : (dats m 0 c).leavesExact 6 t = owns (c : Thread nD τ) (win0_6.stage (cfg0.slots t 6)) fullShare ((dats m 0 c).after 6 t) := by
  unfold Dat.leavesExact; rw [show cfg0.idle 6 (cfg0.grid.coords t) = false from rfl]
theorem leaves7 (c : Dev nD) (t : Fin cfg0.N) : (dats m 0 c).leavesExact 7 t = owns (c : Thread nD τ) (win0_7.stage (cfg0.slots t 7)) fullShare ((dats m 0 c).after 7 t) := by
  unfold Dat.leavesExact; rw [show cfg0.idle 7 (cfg0.grid.coords t) = false from rfl]
theorem leaves8 (c : Dev nD) (t : Fin cfg0.N) : (dats m 0 c).leavesExact 8 t = owns (c : Thread nD τ) (win0_8.stage (cfg0.slots t 8)) fullShare ((dats m 0 c).after 8 t) := by
  unfold Dat.leavesExact; rw [show cfg0.idle 8 (cfg0.grid.coords t) = false from rfl]
theorem leaves9 (c : Dev nD) (t : Fin cfg0.N) : (dats m 0 c).leavesExact 9 t = owns (c : Thread nD τ) (win0_9.stage (cfg0.slots t 9)) fullShare ((dats m 0 c).after 9 t) := by
  unfold Dat.leavesExact; rw [show cfg0.idle 9 (cfg0.grid.coords t) = false from rfl]
theorem leaves10 (c : Dev nD) (t : Fin cfg0.N) : (dats m 0 c).leavesExact 10 t = owns (c : Thread nD τ) (win0_10.stage (cfg0.slots t 10)) fullShare ((dats m 0 c).after 10 t) := by
  unfold Dat.leavesExact; rw [show cfg0.idle 10 (cfg0.grid.coords t) = false from rfl]
theorem leaves11 (c : Dev nD) (t : Fin cfg0.N) : (dats m 0 c).leavesExact 11 t = owns (c : Thread nD τ) (win0_11.stage (cfg0.slots t 11)) fullShare ((dats m 0 c).after 11 t) := by
  unfold Dat.leavesExact; rw [show cfg0.idle 11 (cfg0.grid.coords t) = false from rfl]
theorem leaves12 (c : Dev nD) (t : Fin cfg0.N) : (dats m 0 c).leavesExact 12 t = owns (c : Thread nD τ) (win0_12.stage (cfg0.slots t 12)) fullShare ((dats m 0 c).after 12 t) := by
  unfold Dat.leavesExact; rw [show cfg0.idle 12 (cfg0.grid.coords t) = false from rfl]
theorem leaves13 (c : Dev nD) (t : Fin cfg0.N) : (dats m 0 c).leavesExact 13 t = owns (c : Thread nD τ) (win0_13.stage (cfg0.slots t 13)) fullShare ((dats m 0 c).after 13 t) := by
  unfold Dat.leavesExact; rw [show cfg0.idle 13 (cfg0.grid.coords t) = false from rfl]
theorem leaves14 (c : Dev nD) (t : Fin cfg0.N) : (dats m 0 c).leavesExact 14 t = owns (c : Thread nD τ) (win0_14.stage (cfg0.slots t 14)) fullShare ((dats m 0 c).after 14 t) := by
  unfold Dat.leavesExact; rw [show cfg0.idle 14 (cfg0.grid.coords t) = false from rfl]
theorem leaves15 (c : Dev nD) (t : Fin cfg0.N) : (dats m 0 c).leavesExact 15 t = owns (c : Thread nD τ) (win0_15.stage (cfg0.slots t 15)) fullShare ((dats m 0 c).after 15 t) := by
  unfold Dat.leavesExact; rw [show cfg0.idle 15 (cfg0.grid.coords t) = false from rfl]
theorem leaves16 (c : Dev nD) (t : Fin cfg0.N) : (dats m 0 c).leavesExact 16 t = owns (c : Thread nD τ) (win0_16.stage (cfg0.slots t 16)) fullShare ((dats m 0 c).after 16 t) := by
  unfold Dat.leavesExact; rw [show cfg0.idle 16 (cfg0.grid.coords t) = false from rfl]
theorem leaves17 (c : Dev nD) (t : Fin cfg0.N) : (dats m 0 c).leavesExact 17 t = owns (c : Thread nD τ) (win0_17.stage (cfg0.slots t 17)) fullShare ((dats m 0 c).after 17 t) := by
  unfold Dat.leavesExact; rw [show cfg0.idle 17 (cfg0.grid.coords t) = false from rfl]

set_option maxHeartbeats 4000000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).owesAt () t.succ = (dats m 0 c).owesAt () t.castSucc from rfl]
  rw [show (dats m 0 c).Φ t.succ = (dats m 0 c).Φ t.castSucc from rfl]
  rw [leaves0, leaves1, leaves2, leaves3, leaves4, leaves5, leaves6, leaves7, leaves8, leaves9, leaves10, leaves11, leaves12, leaves13, leaves14, leaves15, leaves16, leaves17]
  rw [after0, after1, after2, after3, after4, after5, after6, after7, after8, after9, after10, after11, after12, after13, after14, after15, after16, after17]
  by_cases h0 : t.val = 0
  · rw [sumsAt_zero m c t h0]
    unfold stepAt gxAt cleared; dsimp only
    have hf := (first_iff t).mpr h0
    iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    have R := body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 14 t d14) ((dats m 0 c).before 15 t d15) ((dats m 0 c).before 16 t d16) ((dats m 0 c).before 17 t d17) Set.univ
    simp only [if_pos hf] at R
    iapply (R _)
    clear R
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexact H14
    isplitl [H15]; · iexact H15
    isplitl [H16]; · iexact H16
    isplitl [H17]; · iexact H17
    iintro ⟨H0, H1, H2, H3, H4, H5, H6, H7, H8, H9, H10, H11, H12, H13, H14, H15, H16, H17⟩
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · simp only [before14 m c t h0, before15 m c t h0, before16 m c t h0, before17 m c t h0]
    rw [sumsAt_pos m c t h0]
    unfold stepAt gxAt; dsimp only
    have hf : ¬first (grid0.coords t) := fun h => h0 ((first_iff t).mp h)
    iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    have R := body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (sumsAt m c (t.val - 1) (Nat.lt_of_le_of_lt (Nat.sub_le _ _) t.isLt)).1 (sumsAt m c (t.val - 1) (Nat.lt_of_le_of_lt (Nat.sub_le _ _) t.isLt)).2.1 (sumsAt m c (t.val - 1) (Nat.lt_of_le_of_lt (Nat.sub_le _ _) t.isLt)).2.2.1 (sumsAt m c (t.val - 1) (Nat.lt_of_le_of_lt (Nat.sub_le _ _) t.isLt)).2.2.2 Set.univ
    simp only [if_neg hf] at R
    iapply (R _)
    clear R
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexact H14
    isplitl [H15]; · iexact H15
    isplitl [H16]; · iexact H16
    isplitl [H17]; · iexact H17
    iintro ⟨H0, H1, H2, H3, H4, H5, H6, H7, H8, H9, H10, H11, H12, H13, H14, H15, H16, H17⟩
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

theorem defs₀_row (t : Fin cfg0.N) : defs₀ (F := F) .tc cfg0.body (cfg0.bodyArgs t (cfg0.slots t)) = bodyAt0 t := by
  unfold defs₀; rw [Defs.onTc_tc]

/-- The obligation of the pipeline: the body's triple at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: it ends, each array holding what the pipeline's points wrote back, every semaphore at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- It ends with its arguments unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.Own.BwdPre

end

end
-- ==== Proof.BwdPreBits.lean ====
module

public import proofs.«01_k».proof.Proof.BwdPreFrame
public import proofs.«01_k».proof.Proof.Gen.BwdPre.Frame
public import proofs.«01_k».proof.Defs

@[expose] public section

/-! The frame of the projections' backward kernel over bits, from the run of the idealized one: the two programs are the same. -/

noncomputable section

namespace Cert.Own.BwdPre

open Idealize.ShloMosaic Idealize.SL.Sem
open Cert.BwdPreIdeal

variable {F : FTy → Type} [FloatOps F]

/-- The body table of the kernel and of the idealized kernel are the same. -/
theorem same_bodies : (Cert.BwdPre.defs₀ (F := F) : Defs nD τ sig (Elt F) Λ₀) = Cert.BwdPreIdeal.defs₀ := by
  unfold Cert.BwdPre.defs₀ Cert.BwdPreIdeal.defs₀
  refine congrArg Defs.onTc (funext fun l => funext fun x => ?_)
  obtain ⟨l, hl⟩ := l
  cases l with
  | zero => obtain ⟨t, s⟩ := x; rfl
  | succ n => exact absurd hl (by omega)

/-- So are their tables with the pipeline. -/
theorem same_defs : (Cert.BwdPre.defs (F := F) : Defs nD τ sig (Elt F) (Pipeline.Sig Λ₀ (Fin 1) fun p => (pcfgs (F := F) p).Adm)) = Cert.BwdPreIdeal.defs :=
  congrArg (Pipeline.defs pcfgs) same_bodies

/-- The kernel ends with its arguments unchanged and every semaphore at zero. -/
theorem frame_bits : Cert.quiescent_BwdPre := fun m ρ _ => by
  have h := frame_run (F := Bits) m ρ
  rw [← same_defs] at h
  exact h
end Cert.Own.BwdPre

end

end
-- ==== Proof.BwdRows.lean ====
module

public import proofs.«01_k».proof.Proof.Rows

@[expose] public section

/-! The arithmetic of one row of the projections' backward kernel, as functions of the row alone: the gradients through the two
    root-mean-square norms and through the rotary embedding, and the products with the weights. -/

noncomputable section

namespace Cert.Own.BwdRows

open Idealize.ShloMosaic Cert.Own.Rows

/-- The two counts of lanes the norms divide by. -/
abbrev n256 : EReal := Ideal.ofBits .f32 0x43800000#32
abbrev n128 : EReal := Ideal.ofBits .f32 0x43000000#32

/-- A row over the root of its mean square. -/
def hat {d : ℕ} (n : EReal) (C : Fin d → EReal) (e : Fin d) : EReal := C e * rms n C

/-- The gradient through the norm: `g` is the gradient of the normed row with its gain. -/
def normGrad {d : ℕ} (n : EReal) (C g : Fin d → EReal) (e : Fin d) : EReal :=
  rms n C * (g e - hat n C e * Ideal.div (∑ k, g k * hat n C k) n)

/-- The keys' gradients, then the values'. -/
def keysVals (K : Fin 1024 → EReal) (V : Fin 512 → EReal) (e : Fin 1536) : EReal :=
  if h : e.val < 1024 then K ⟨e.val, h⟩ else V ⟨e.val - 1024, by omega⟩

/-- A row times the weights' transpose. -/
def back {n d : ℕ} (g : Fin n → EReal) (W : Vec Ideal ⟨2, ![d, n]⟩ .bf16) (e : Fin d) : EReal := ∑ k : Fin n, g k * W (ix2 e k)

/-- The keys' gradients summed over the heads. -/
def overHeads (K : Fin 1024 → EReal) (y : Fin 128) : EReal := ∑ h : Fin 8, K (hl h y)

/-- The gradient through the rotation whose cosines and sines are `cs`, the sines masked by two rows of the parameters. -/
def ropeGrad (d : Fin 128 → EReal) (cs : Fin 256 → EReal) (P : Vec Ideal ⟨2, ![16, 1024]⟩ .f32) (y : Fin 128) : EReal :=
  d y * cs ⟨y.val, by omega⟩
    + d (bwd16 y) * (cs ⟨128 + (bwd16 y).val, by omega⟩ * P (ix2 5 ⟨(bwd16 y).val, by omega⟩))
    + d (fwd16 y) * (cs ⟨128 + (fwd16 y).val, by omega⟩ * P (ix2 6 ⟨(fwd16 y).val, by omega⟩))

/-- One row of the kernel's nine arrays of rows. -/
structure Row where
  x : Fin 1024 → EReal
  dh : Fin 1024 → EReal
  cq : Fin 256 → EReal
  ckv : Fin 128 → EReal
  cs : Fin 256 → EReal
  dq : Fin 1024 → EReal
  dk : Fin 1024 → EReal
  dv : Fin 512 → EReal
  dg : Fin 2048 → EReal

/-- The row of nine arrays. -/
def rowAt {R : ℕ} (x : Vec Ideal ⟨2, ![R, 1024]⟩ .f32) (dh : Vec Ideal ⟨2, ![R, 1024]⟩ .f32) (cq : Vec Ideal ⟨2, ![R, 256]⟩ .f32)
    (ckv : Vec Ideal ⟨2, ![R, 128]⟩ .f32) (cs : Vec Ideal ⟨2, ![R, 256]⟩ .f32) (dq : Vec Ideal ⟨2, ![R, 1024]⟩ .bf16)
    (dk : Vec Ideal ⟨2, ![R, 1024]⟩ .bf16) (dv : Vec Ideal ⟨2, ![R, 512]⟩ .bf16) (dg : Vec Ideal ⟨2, ![R, 2048]⟩ .bf16) (n : Fin R) : Row :=
  ⟨fun k => x (ix2 n k), fun k => dh (ix2 n k), fun k => cq (ix2 n k), fun k => ckv (ix2 n k), fun k => cs (ix2 n k),
    fun k => dq (ix2 n k), fun k => dk (ix2 n k), fun k => dv (ix2 n k), fun k => dg (ix2 n k)⟩

variable (r : Row) (W : Vec Ideal ⟨2, ![1024, 2560]⟩ .bf16) (U : Vec Ideal ⟨2, ![256, 1024]⟩ .bf16)
  (K : Vec Ideal ⟨2, ![128, 1536]⟩ .bf16) (P : Vec Ideal ⟨2, ![16, 1024]⟩ .f32)

/-- The gradients of the two normed rows, before their gains. -/
def dqn (e : Fin 256) : EReal := back r.dq U e
def dkvn (e : Fin 128) : EReal := back (keysVals r.dk r.dv) K e

/-- The gradients of the compressed query and of the compressed key and value. -/
def dcq (e : Fin 256) : EReal := normGrad n256 r.cq (fun k => dqn r U k * P (ix2 0 ⟨k.val, by omega⟩)) e
def dckv (e : Fin 128) : EReal := normGrad n128 r.ckv (fun k => dkvn r K k * P (ix2 1 ⟨k.val, by omega⟩)) e

/-- The gradient of the rotary key before its rotation. -/
def dkr (y : Fin 128) : EReal := ropeGrad (overHeads r.dk) r.cs P y

/-- The four pieces of the projected row's gradient side by side. -/
def side (a : Fin 256 → EReal) (b c : Fin 128 → EReal) (d : Fin 2048 → EReal) (e : Fin 2560) : EReal :=
  if h : e.val < 256 then a ⟨e.val, h⟩ else if h : e.val - 256 < 128 then b ⟨e.val - 256, h⟩
    else if h : e.val - 256 - 128 < 128 then c ⟨e.val - 256 - 128, h⟩ else d ⟨e.val - 256 - 128 - 128, by omega⟩

/-- The gradient of the projected row. -/
def dproj (e : Fin 2560) : EReal := side (dcq r U P) (dckv r K P) (dkr r P) r.dg e

/-- A row of the input's gradient. -/
def gx (e : Fin 1024) : EReal := Ideal.ofBits .f32 0x3F9837F0#32 * r.dh e + back (dproj r U K P) W e

/-- What a row adds to the gradients of the three weights. -/
def tWin (a : Fin 1024) (b : Fin 2560) : EReal := r.x a * dproj r U K P b
def tWuq (a : Fin 256) (b : Fin 1024) : EReal := hat n256 r.cq a * P (ix2 0 ⟨a.val, by omega⟩) * r.dq b
def tWkv (a : Fin 128) (b : Fin 1536) : EReal := hat n128 r.ckv a * P (ix2 1 ⟨a.val, by omega⟩) * keysVals r.dk r.dv b
/-- What a row adds to the gradients of the two gains. -/
def tGq (e : Fin 256) : EReal := dqn r U e * hat n256 r.cq e
def tGkv (e : Fin 128) : EReal := dkvn r K e * hat n128 r.ckv e

/-- What a row adds to an entry of the gains' gradients: nothing outside the first row and half of the second. -/
def tVec (a : Fin 8) (e : Fin 256) : EReal :=
  if a.val = 0 then tGq r U e else if h : a.val = 1 ∧ e.val < 128 then tGkv r K ⟨e.val, h.2⟩ else 0

end Cert.Own.BwdRows

end

end
-- ==== Proof.BwdPreBlock.lean ====
module

public import proofs.«01_k».proof.Proof.BwdPreStep
public import proofs.«01_k».proof.Proof.BwdRows

@[expose] public section

/-! What one point of the projections' backward kernel computes at an index, as functions of the rows of its blocks. -/

noncomputable section

namespace Cert.Own.BwdPre

open Idealize.ShloMosaic Idealize.ShloMosaic.TcCoe Idealize.SL.Sem Cert.BwdPreIdeal Cert.BwdPreIdeal.Gen Cert.Own.Rows Cert.Own.BwdRows

variable (x1 : Vec Ideal S256x1024 .f32) (x2 : Vec Ideal S256x1024 .f32) (x3 : Vec Ideal S256x256 .f32) (x4 : Vec Ideal S256x128 .f32)
  (x5 : Vec Ideal S256x256 .f32) (x6 : Vec Ideal S256x1024 .bf16) (x7 : Vec Ideal S256x1024 .bf16) (x8 : Vec Ideal S256x512 .bf16)
  (x9 : Vec Ideal S256x2048 .bf16) (x10 : Vec Ideal S1024x2560 .bf16) (x11 : Vec Ideal S256x1024 .bf16) (x12 : Vec Ideal S128x1536 .bf16)
  (x13 : Vec Ideal S16x1024 .f32)

/-- The parameters' rows the body reads, and the two halves of the angles' table. -/
theorem rowQ_at (e : Fin 256) : rowQ x13 (ix2 0 e) = x13 (ix2 0 ⟨e.val, by omega⟩) := by
  unfold rowQ; rw [View.ld_unit]; pointwise []
theorem rowKV_at (e : Fin 128) : rowKV x13 (ix2 0 e) = x13 (ix2 1 ⟨e.val, by omega⟩) := by
  unfold rowKV; rw [View.ld_unit]; pointwise []
theorem rowM1_at (e : Fin 128) : rowM1 x13 (ix2 0 e) = x13 (ix2 5 ⟨e.val, by omega⟩) := by
  unfold rowM1; rw [View.ld_unit]; pointwise []
theorem rowM2_at (e : Fin 128) : rowM2 x13 (ix2 0 e) = x13 (ix2 6 ⟨e.val, by omega⟩) := by
  unfold rowM2; rw [View.ld_unit]; pointwise []
theorem cosOf_at (q : Fin 256) (e : Fin 128) : cosOf x5 (ix2 q e) = x5 (ix2 q ⟨e.val, by omega⟩) := by
  unfold cosOf; rw [View.ld_unit]; pointwise []
theorem sinOf_at (q : Fin 256) (e : Fin 128) : sinOf x5 (ix2 q e) = x5 (ix2 q ⟨128 + e.val, by omega⟩) := by
  unfold sinOf; rw [View.ld_unit]; pointwise []

/-- The norms of a row. -/
theorem blk_rq (q : Fin 256) : k0_pay8 (F := Ideal) x3 (ix2 q 0) = rms n256 (fun k => x3 (ix2 q k)) := by
  pointwise [k0_pay8]
theorem blk_hatq (q : Fin 256) (e : Fin 256) : k0_pay9 (F := Ideal) x3 (ix2 q e) = hat n256 (fun k => x3 (ix2 q k)) e := by
  unfold hat; rw [← blk_rq]; pointwise [k0_pay9]
theorem blk_rkv (q : Fin 256) : k0_pay15 (F := Ideal) x4 (ix2 q 0) = rms n128 (fun k => x4 (ix2 q k)) := by
  pointwise [k0_pay15]
theorem blk_hatkv (q : Fin 256) (e : Fin 128) : k0_pay16 (F := Ideal) x4 (ix2 q e) = hat n128 (fun k => x4 (ix2 q k)) e := by
  unfold hat; rw [← blk_rkv]; pointwise [k0_pay16]

/-- The gradients of the two normed rows. -/
theorem blk_dqn (q : Fin 256) (e : Fin 256) : k0_pay10 (F := Ideal) x6 x11 (ix2 q e) = back (fun k => x6 (ix2 q k)) x11 e := by
  unfold back; pointwise [k0_pay10]
theorem blk_kv (q : Fin 256) (e : Fin 1536) : k0_pay14 (F := Ideal) x7 x8 (ix2 q e) = keysVals (fun k => x7 (ix2 q k)) (fun k => x8 (ix2 q k)) e := by
  unfold keysVals; pointwise [k0_pay14]
theorem blk_dkvn (q : Fin 256) (e : Fin 128) : k0_pay17 (F := Ideal) x7 x8 x12 (ix2 q e)
    = back (keysVals (fun k => x7 (ix2 q k)) (fun k => x8 (ix2 q k))) x12 e := by
  unfold back; simp only [← blk_kv]; pointwise [k0_pay17]

/-- The gradients of the two compressed rows. -/
theorem blk_dcq (q : Fin 256) (e : Fin 256) : dcqOf (F := Ideal) x3 x6 x11 x13 (ix2 q e)
    = dcq (rowAt x1 x2 x3 x4 x5 x6 x7 x8 x9 q) x11 x13 e := by
  unfold dcq normGrad dqn rowAt
  dsimp only
  rw [← blk_rq x3 q]
  simp only [← rowQ_at, ← blk_hatq, ← blk_dqn]
  unfold dcqOf
  generalize rowQ x13 = a, k0_pay8 (F := Ideal) x3 = b, k0_pay9 (F := Ideal) x3 = c, k0_pay10 (F := Ideal) x6 x11 = d
  pointwise [k0_pay13]
theorem blk_dckv (q : Fin 256) (e : Fin 128) : dckvOf (F := Ideal) x4 x7 x8 x12 x13 (ix2 q e)
    = dckv (rowAt x1 x2 x3 x4 x5 x6 x7 x8 x9 q) x12 x13 e := by
  unfold dckv normGrad dkvn rowAt
  dsimp only
  rw [← blk_rkv x4 q]
  simp only [← rowKV_at, ← blk_hatkv, ← blk_dkvn]
  unfold dckvOf
  generalize rowKV x13 = a, k0_pay15 (F := Ideal) x4 = b, k0_pay16 (F := Ideal) x4 = c, k0_pay17 (F := Ideal) x7 x8 x12 = d
  pointwise [k0_pay20]

/-- The keys' gradients summed over the heads. -/
theorem blk_heads (q : Fin 256) (y : Fin 128) : k0_pay21 (F := Ideal) x7 (ix2 q y) = overHeads (fun k => x7 (ix2 q k)) y := by
  unfold overHeads
  rw [Fin.sum_univ_eight, show hl 0 y = ⟨y.val, by omega⟩ from Fin.ext (by show 128 * 0 + y.val = y.val; omega)]
  refine Eq.trans ?_ (show x7 (ix2 q ⟨y.val, by omega⟩) + x7 (ix2 q ⟨128 + y.val, by omega⟩) + x7 (ix2 q ⟨256 + y.val, by omega⟩)
    + x7 (ix2 q ⟨384 + y.val, by omega⟩) + x7 (ix2 q ⟨512 + y.val, by omega⟩) + x7 (ix2 q ⟨640 + y.val, by omega⟩)
    + x7 (ix2 q ⟨768 + y.val, by omega⟩) + x7 (ix2 q ⟨896 + y.val, by omega⟩) = _ from rfl)
  pointwise [k0_pay21]

/-- The gradient of the rotary key before its rotation. -/
theorem blk_dkr (q : Fin 256) (y : Fin 128) :
    k0_pay21 (F := Ideal) x7 (ix2 q y) * cosOf x5 (ix2 q y)
      + k0_pay21 (F := Ideal) x7 (ix2 q (bwd16 y)) * (sinOf x5 (ix2 q (bwd16 y)) * rowM1 x13 (ix2 0 (bwd16 y)))
      + k0_pay21 (F := Ideal) x7 (ix2 q (fwd16 y)) * (sinOf x5 (ix2 q (fwd16 y)) * rowM2 x13 (ix2 0 (fwd16 y)))
      = dkr (rowAt x1 x2 x3 x4 x5 x6 x7 x8 x9 q) x13 y := by
  rw [blk_heads, blk_heads, blk_heads, cosOf_at, sinOf_at, sinOf_at, rowM1_at, rowM2_at]
  rfl

/-- The four pieces set side by side. -/
theorem blk_side (a : Vec Ideal S256x256 .f32) (b c u v : Vec Ideal S256x128 .f32) (m1 m2 : Vec Ideal S1x128 .f32) (q : Fin 256) (e : Fin 2560) :
    k0_pay1 (F := Ideal) a b c u v (k0_pay22 m1) m2 x9 (ix2 q e)
      = side (fun k => a (ix2 q k)) (fun k => b (ix2 q k))
          (fun y => c (ix2 q y) * u (ix2 q y) + c (ix2 q (bwd16 y)) * (v (ix2 q (bwd16 y)) * m1 (ix2 0 (bwd16 y)))
            + c (ix2 q (fwd16 y)) * (v (ix2 q (fwd16 y)) * m2 (ix2 0 (fwd16 y))))
          (fun k => x9 (ix2 q k)) e := by
  unfold side bwd16 fwd16
  pointwise [k0_pay1, k0_pay22]

/-- The gradient of the projected row. -/
theorem blk_dproj (q : Fin 256) (e : Fin 2560) :
    k0_pay1 (F := Ideal) (dcqOf x3 x6 x11 x13) (dckvOf x4 x7 x8 x12 x13) (k0_pay21 x7) (cosOf x5) (sinOf x5) (k0_pay22 (rowM1 x13)) (rowM2 x13) x9 (ix2 q e)
      = dproj (rowAt x1 x2 x3 x4 x5 x6 x7 x8 x9 q) x11 x12 x13 e := by
  rw [blk_side]
  unfold dproj
  congr 1
  · exact funext fun k => blk_dcq x1 x2 x3 x4 x5 x6 x7 x8 x9 x11 x13 q k
  · exact funext fun k => blk_dckv x1 x2 x3 x4 x5 x6 x7 x8 x9 x12 x13 q k
  · exact funext fun y => blk_dkr x1 x2 x3 x4 x5 x6 x7 x8 x9 x13 q y

/-- A row of the input's gradient. -/
theorem blk_gx (q : Fin 256) (e : Fin 1024) : gxOf (F := Ideal) x2 x3 x4 x5 x6 x7 x8 x9 x10 x11 x12 x13 (ix2 q e)
    = gx (rowAt x1 x2 x3 x4 x5 x6 x7 x8 x9 q) x10 x11 x12 x13 e := by
  unfold gxOf gx back
  simp only [← blk_dproj]
  generalize dcqOf (F := Ideal) x3 x6 x11 x13 = a, dckvOf (F := Ideal) x4 x7 x8 x12 x13 = b, k0_pay21 (F := Ideal) x7 = c,
    cosOf x5 = u, sinOf x5 = v, k0_pay22 (F := Ideal) (rowM1 x13) = m1, rowM2 x13 = m2
  unfold k0_pay3
  generalize k0_pay1 (F := Ideal) a b c u v m1 m2 x9 = d
  show _ = Ideal.ofBits .f32 0x3F9837F0#32 * x2 (ix2 q e) + ∑ k : Fin 2560, d (ix2 q k) * x10 (ix2 e k)
  pointwise []

/-- What a point adds to the input weights' gradient. -/
theorem blk_gwin (y : Vec Ideal S1024x2560 .f32) (a : Fin 1024) (b : Fin 2560) :
    gwinOf (F := Ideal) x1 x3 x4 x5 x6 x7 x8 x9 x11 x12 x13 y (ix2 a b)
      = y (ix2 a b) + ∑ q : Fin 256, tWin (rowAt x1 x2 x3 x4 x5 x6 x7 x8 x9 q) x11 x12 x13 a b := by
  unfold gwinOf tWin
  simp only [← blk_dproj]
  generalize dcqOf (F := Ideal) x3 x6 x11 x13 = a', dckvOf (F := Ideal) x4 x7 x8 x12 x13 = b', k0_pay21 (F := Ideal) x7 = c,
    cosOf x5 = u, sinOf x5 = v, k0_pay22 (F := Ideal) (rowM1 x13) = m1, rowM2 x13 = m2
  unfold k0_pay2
  generalize k0_pay1 (F := Ideal) a' b' c u v m1 m2 x9 = d
  show _ = y (ix2 a b) + ∑ q : Fin 256, x1 (ix2 q a) * d (ix2 q b)
  pointwise []

/-- What a point adds to the query weights' gradient. -/
theorem blk_gwuq (y : Vec Ideal S256x1024 .f32) (a : Fin 256) (b : Fin 1024) :
    gwuqOf (F := Ideal) x3 x6 x13 y (ix2 a b)
      = y (ix2 a b) + ∑ q : Fin 256, tWuq (rowAt x1 x2 x3 x4 x5 x6 x7 x8 x9 q) x13 a b := by
  unfold gwuqOf tWuq rowAt
  dsimp only
  simp only [← rowQ_at, ← blk_hatq]
  unfold k0_pay11
  generalize rowQ x13 = g, k0_pay9 (F := Ideal) x3 = d
  pointwise []

/-- What a point adds to the key and value weights' gradient. -/
theorem blk_gwkv (y : Vec Ideal S128x1536 .f32) (a : Fin 128) (b : Fin 1536) :
    gwkvOf (F := Ideal) x4 x7 x8 x13 y (ix2 a b)
      = y (ix2 a b) + ∑ q : Fin 256, tWkv (rowAt x1 x2 x3 x4 x5 x6 x7 x8 x9 q) x13 a b := by
  unfold gwkvOf tWkv rowAt
  dsimp only
  simp only [← rowKV_at, ← blk_hatkv, ← blk_kv]
  unfold k0_pay18
  generalize rowKV x13 = g, k0_pay16 (F := Ideal) x4 = d, k0_pay14 (F := Ideal) x7 x8 = k
  pointwise []

/-- What a point adds to the gains' gradients. -/
theorem blk_vec0 (y : Vec Ideal S8x256 .f32) (e : Fin 256) :
    vec0Of (F := Ideal) x3 x6 x11 y (ix2 0 e)
      = y (ix2 0 e) + ∑ q : Fin 256, tGq (rowAt x1 x2 x3 x4 x5 x6 x7 x8 x9 q) x11 e := by
  have hy : View.ld y (Rect.unit ![0, 0] ![1, 256] inb_S8x256_S1x256_0_0) (ix2 0 e) = y (ix2 0 e) := by
    rw [View.ld_unit]; pointwise []
  rw [← hy]
  unfold vec0Of tGq dqn rowAt
  dsimp only
  simp only [← blk_hatq, ← blk_dqn]
  unfold k0_pay12
  generalize View.ld y (Rect.unit ![0, 0] ![1, 256] inb_S8x256_S1x256_0_0) = g, k0_pay9 (F := Ideal) x3 = d, k0_pay10 (F := Ideal) x6 x11 = k
  pointwise []

theorem blk_vec1 (y : Vec Ideal S8x256 .f32) (e : Fin 128) :
    vec1Of (F := Ideal) x4 x7 x8 x12 y (ix2 0 e)
      = y (ix2 1 ⟨e.val, by omega⟩) + ∑ q : Fin 256, tGkv (rowAt x1 x2 x3 x4 x5 x6 x7 x8 x9 q) x12 e := by
  have hy : View.ld y (Rect.unit ![1, 0] ![1, 128] inb_S8x256_S1x128_1_0) (ix2 0 e) = y (ix2 1 ⟨e.val, by omega⟩) := by
    rw [View.ld_unit]; pointwise []
  rw [← hy]
  unfold vec1Of tGkv dkvn rowAt
  dsimp only
  simp only [← blk_hatkv, ← blk_dkvn]
  unfold k0_pay19
  generalize View.ld y (Rect.unit ![1, 0] ![1, 128] inb_S8x256_S1x128_1_0) = g, k0_pay16 (F := Ideal) x4 = d, k0_pay17 (F := Ideal) x7 x8 x12 = k
  pointwise []

/-- What a point adds to the block of the gains' gradients. -/
theorem blk_vec (y : Vec Ideal S8x256 .f32) (a : Fin 8) (e : Fin 256) :
    vecOf (F := Ideal) x3 x4 x6 x7 x8 x11 x12 y (ix2 a e)
      = y (ix2 a e) + ∑ q : Fin 256, tVec (rowAt x1 x2 x3 x4 x5 x6 x7 x8 x9 q) x11 x12 a e := by
  unfold vecOf tVec
  show (if a.val = 0 then vec0Of x3 x6 x11 y (ix2 0 e) else if h : a.val = 1 ∧ e.val < 128 then vec1Of x4 x7 x8 x12 y (ix2 0 ⟨e.val, h.2⟩) else y (ix2 a e)) = _
  by_cases h0 : a.val = 0
  · obtain rfl : a = 0 := Fin.ext h0
    simp only [if_pos h0]
    exact blk_vec0 x1 x2 x3 x4 x5 x6 x7 x8 x9 x11 y e
  · simp only [if_neg h0]
    by_cases h1 : a.val = 1 ∧ e.val < 128
    · obtain rfl : a = 1 := Fin.ext h1.1
      simp only [dif_pos h1]
      exact blk_vec1 x1 x2 x3 x4 x5 x6 x7 x8 x9 x12 y ⟨e.val, h1.2⟩
    · simp only [dif_neg h1, Finset.sum_const_zero, add_zero]

end Cert.Own.BwdPre

end

end
-- ==== Proof.BwdPreArray.lean ====
module

public import proofs.«01_k».proof.Proof.BwdPreFrame
public import proofs.«01_k».proof.Proof.BwdPreBlock
public import proofs.«01_k».proof.Proof.Blocks

@[expose] public section

/-! The five arrays the projections' backward kernel leaves: the input's gradient row by row, and four sums over all the rows. -/

noncomputable section

namespace Cert.Own.BwdPre

open Idealize.ShloMosaic Idealize.ShloMosaic.TcCoe Idealize.SL.Sem Cert.BwdPreIdeal Cert.BwdPreIdeal.Gen Cert.Own.BwdRows

/-- The printed index maps over the grid: point `t` takes the rows from `256 t`, and all of the weights and parameters. -/
theorem idx_rows : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_13.index t = ![t.val, 0] :=
  (by decide +kernel : ∀ t : Fin grid0.N, _)

theorem idx_whole : ∀ t : Fin cfg0.N, win0_9.index t = ![0, 0] ∧ win0_10.index t = ![0, 0] ∧ win0_11.index t = ![0, 0]
    ∧ win0_12.index t = ![0, 0] ∧ win0_14.index t = ![0, 0] ∧ win0_15.index t = ![0, 0] ∧ win0_16.index t = ![0, 0]
    ∧ win0_17.index t = ![0, 0] :=
  (by decide +kernel : ∀ t : Fin grid0.N, _)

theorem t_lt (t : Fin cfg0.N) : t.val < 32 := t.isLt

variable (m : (ℓ : Loc nD τ sig) → Buf (Elt Ideal) ℓ) (c : Dev nD)

/-- The weights and parameters on device `c`, and a row of the nine arrays of rows. -/
abbrev Wof : Vec Ideal S1024x2560 .bf16 := m ((c : Thread nD τ).loc main_arg9)
abbrev Uof : Vec Ideal S256x1024 .bf16 := m ((c : Thread nD τ).loc main_arg10)
abbrev Kof : Vec Ideal S128x1536 .bf16 := m ((c : Thread nD τ).loc main_arg11)
abbrev Pof : Vec Ideal S16x1024 .f32 := m ((c : Thread nD τ).loc main_arg12)
abbrev rowOf (n : Fin 8192) : Row :=
  rowAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) n

theorem blkW (t : Fin cfg0.N) : (iblk m c 9 t : Vec Ideal S1024x2560 .bf16) = Wof m c := by
  funext j
  obtain ⟨a, b, rfl⟩ : ∃ (a : Fin 1024) (b : Fin 2560), j = ix2 a b := ⟨j 0, j 1, (ix2_eta j).symm⟩
  exact congrArg (Wof m c) (wholeBlock_idx _ (idx_whole t).1 a b _ rfl rfl)
theorem blkU (t : Fin cfg0.N) : (iblk m c 10 t : Vec Ideal S256x1024 .bf16) = Uof m c := by
  funext j
  obtain ⟨a, b, rfl⟩ : ∃ (a : Fin 256) (b : Fin 1024), j = ix2 a b := ⟨j 0, j 1, (ix2_eta j).symm⟩
  exact congrArg (Uof m c) (wholeBlock_idx _ (idx_whole t).2.1 a b _ rfl rfl)
theorem blkK (t : Fin cfg0.N) : (iblk m c 11 t : Vec Ideal S128x1536 .bf16) = Kof m c := by
  funext j
  obtain ⟨a, b, rfl⟩ : ∃ (a : Fin 128) (b : Fin 1536), j = ix2 a b := ⟨j 0, j 1, (ix2_eta j).symm⟩
  exact congrArg (Kof m c) (wholeBlock_idx _ (idx_whole t).2.2.1 a b _ rfl rfl)
theorem blkP (t : Fin cfg0.N) : (iblk m c 12 t : Vec Ideal S16x1024 .f32) = Pof m c := by
  funext j
  obtain ⟨a, b, rfl⟩ : ∃ (a : Fin 16) (b : Fin 1024), j = ix2 a b := ⟨j 0, j 1, (ix2_eta j).symm⟩
  exact congrArg (Pof m c) (wholeBlock_idx _ (idx_whole t).2.2.2.1 a b _ rfl rfl)

/-- A row of point `t`'s blocks is the row of the arrays. -/
theorem row_at (t : Fin cfg0.N) (r : Fin 256) :
    rowAt (iblk m c 0 t : Vec Ideal S256x1024 .f32) (iblk m c 1 t : Vec Ideal S256x1024 .f32) (iblk m c 2 t : Vec Ideal S256x256 .f32)
      (iblk m c 3 t : Vec Ideal S256x128 .f32) (iblk m c 4 t : Vec Ideal S256x256 .f32) (iblk m c 5 t : Vec Ideal S256x1024 .bf16)
      (iblk m c 6 t : Vec Ideal S256x1024 .bf16) (iblk m c 7 t : Vec Ideal S256x512 .bf16) (iblk m c 8 t : Vec Ideal S256x2048 .bf16) r
    = rowOf m c (blockRow t.val (t_lt t) r) := by
  have I := idx_rows t
  unfold rowOf rowAt
  congr 1
  · exact funext fun k => congrArg (m ((c : Thread nD τ).loc main_arg0) : Vec Ideal S8192x1024 .f32) (blockRow_idx t.val (t_lt t) _ I.1 r k _ rfl rfl)
  · exact funext fun k => congrArg (m ((c : Thread nD τ).loc main_arg1) : Vec Ideal S8192x1024 .f32) (blockRow_idx t.val (t_lt t) _ I.2.1 r k _ rfl rfl)
  · exact funext fun k => congrArg (m ((c : Thread nD τ).loc main_arg2) : Vec Ideal S8192x256 .f32) (blockRow_idx t.val (t_lt t) _ I.2.2.1 r k _ rfl rfl)
  · exact funext fun k => congrArg (m ((c : Thread nD τ).loc main_arg3) : Vec Ideal S8192x128 .f32) (blockRow_idx t.val (t_lt t) _ I.2.2.2.1 r k _ rfl rfl)
  · exact funext fun k => congrArg (m ((c : Thread nD τ).loc main_arg4) : Vec Ideal S8192x256 .f32) (blockRow_idx t.val (t_lt t) _ I.2.2.2.2.1 r k _ rfl rfl)
  · exact funext fun k => congrArg (m ((c : Thread nD τ).loc main_arg5) : Vec Ideal S8192x1024 .bf16) (blockRow_idx t.val (t_lt t) _ I.2.2.2.2.2.1 r k _ rfl rfl)
  · exact funext fun k => congrArg (m ((c : Thread nD τ).loc main_arg6) : Vec Ideal S8192x1024 .bf16) (blockRow_idx t.val (t_lt t) _ I.2.2.2.2.2.2.1 r k _ rfl rfl)
  · exact funext fun k => congrArg (m ((c : Thread nD τ).loc main_arg7) : Vec Ideal S8192x512 .bf16) (blockRow_idx t.val (t_lt t) _ I.2.2.2.2.2.2.2.1 r k _ rfl rfl)
  · exact funext fun k => congrArg (m ((c : Thread nD τ).loc main_arg8) : Vec Ideal S8192x2048 .bf16) (blockRow_idx t.val (t_lt t) _ I.2.2.2.2.2.2.2.2.1 r k _ rfl rfl)

/-- The block of the input's gradient. -/
theorem gxAt_apply (t : Fin cfg0.N) (r : Fin 256) (e : Fin 1024) :
    gxAt m c t (ix2 r e) = gx (rowOf m c (blockRow t.val (t_lt t) r)) (Wof m c) (Uof m c) (Kof m c) (Pof m c) e := by
  unfold gxAt
  rw [← row_at m c t r, ← blkW m c t, ← blkU m c t, ← blkK m c t, ← blkP m c t]
  exact blk_gx _ _ _ _ _ _ _ _ _ _ _ _ _ r e

/-- What a point adds to the four sums. -/
theorem stepAt_win (t : Fin cfg0.N) (p : Sums Ideal) (a : Fin 1024) (b : Fin 2560) :
    (stepAt m c t p).1 (ix2 a b)
      = p.1 (ix2 a b) + ∑ r : Fin 256, tWin (rowOf m c (blockRow t.val (t_lt t) r)) (Uof m c) (Kof m c) (Pof m c) a b := by
  unfold stepAt
  simp only [← row_at m c t]
  rw [← blkU m c t, ← blkK m c t, ← blkP m c t]
  exact blk_gwin _ _ _ _ _ _ _ _ _ _ _ _ _ a b
theorem stepAt_wuq (t : Fin cfg0.N) (p : Sums Ideal) (a : Fin 256) (b : Fin 1024) :
    (stepAt m c t p).2.1 (ix2 a b) = p.2.1 (ix2 a b) + ∑ r : Fin 256, tWuq (rowOf m c (blockRow t.val (t_lt t) r)) (Pof m c) a b := by
  unfold stepAt
  simp only [← row_at m c t]
  rw [← blkP m c t]
  exact blk_gwuq _ _ _ _ _ _ _ _ _ _ _ a b
theorem stepAt_wkv (t : Fin cfg0.N) (p : Sums Ideal) (a : Fin 128) (b : Fin 1536) :
    (stepAt m c t p).2.2.1 (ix2 a b) = p.2.2.1 (ix2 a b) + ∑ r : Fin 256, tWkv (rowOf m c (blockRow t.val (t_lt t) r)) (Pof m c) a b := by
  unfold stepAt
  simp only [← row_at m c t]
  rw [← blkP m c t]
  exact blk_gwkv _ _ _ _ _ _ _ _ _ _ _ a b
theorem stepAt_vec (t : Fin cfg0.N) (p : Sums Ideal) (a : Fin 8) (b : Fin 256) :
    (stepAt m c t p).2.2.2 (ix2 a b)
      = p.2.2.2 (ix2 a b) + ∑ r : Fin 256, tVec (rowOf m c (blockRow t.val (t_lt t) r)) (Uof m c) (Kof m c) a b := by
  unfold stepAt
  simp only [← row_at m c t]
  rw [← blkU m c t, ← blkK m c t]
  exact blk_vec _ _ _ _ _ _ _ _ _ _ _ _ a b

/-- The sums before the first point. -/
theorem cleared_win (a : Fin 1024) (b : Fin 2560) : (cleared (F := Ideal)).1 (ix2 a b) = 0 := by
  show k0_pay4 (F := Ideal) (ix2 a b) = 0
  pointwise [k0_pay4]
theorem cleared_wuq (a : Fin 256) (b : Fin 1024) : (cleared (F := Ideal)).2.1 (ix2 a b) = 0 := by
  show k0_pay5 (F := Ideal) (ix2 a b) = 0
  pointwise [k0_pay5]
theorem cleared_wkv (a : Fin 128) (b : Fin 1536) : (cleared (F := Ideal)).2.2.1 (ix2 a b) = 0 := by
  show k0_pay6 (F := Ideal) (ix2 a b) = 0
  pointwise [k0_pay6]
theorem cleared_vec (a : Fin 8) (b : Fin 256) : (cleared (F := Ideal)).2.2.2 (ix2 a b) = 0 := by
  show k0_pay7 (F := Ideal) (ix2 a b) = 0
  pointwise [k0_pay7]

/-- An entry that starts at zero and has a block's terms added at each point holds the sum of all the terms so far. -/
theorem sums_entry (g : Sums Ideal → EReal) (f : Fin 8192 → EReal) (h0 : g cleared = 0)
    (hs : ∀ (t : Fin cfg0.N) (p : Sums Ideal), g (stepAt m c t p) = g p + ∑ r : Fin 256, f (blockRow t.val (t_lt t) r)) :
    ∀ (n : ℕ) (h : n < cfg0.N), g (sumsAt m c n h) = ∑ q : Fin 8192, if q.val < 256 * (n + 1) then f q else 0
  | 0, h => by
    show g (stepAt m c ⟨0, h⟩ cleared) = _
    rw [hs, h0, zero_add]
    exact first_sum f 0 rfl
  | n + 1, h => by
    show g (stepAt m c ⟨n + 1, h⟩ (sumsAt m c n (Nat.lt_of_succ_lt h))) = _
    rw [hs, sums_entry g f h0 hs n]
    exact next_sum f ⟨n + 1, t_lt ⟨n + 1, h⟩⟩

/-- After the last point it holds the sum of all of them. -/
theorem sums_last (g : Sums Ideal → EReal) (f : Fin 8192 → EReal) (h0 : g cleared = 0)
    (hs : ∀ (t : Fin cfg0.N) (p : Sums Ideal), g (stepAt m c t p) = g p + ∑ r : Fin 256, f (blockRow t.val (t_lt t) r))
    (t : Fin cfg0.N) (ht : t.val % 32 = 31) : g (sumsAt m c t.val t.isLt) = ∑ q : Fin 8192, f q := by
  rw [sums_entry m c g f h0 hs]
  exact last_sum f ⟨t.val, t_lt t⟩ (by have := t_lt t; show t.val = 31; omega)

/-- The five arrays. -/
def gxArr : Vec Ideal S8192x1024 .f32 := fun i => gx (rowOf m c (i 0)) (Wof m c) (Uof m c) (Kof m c) (Pof m c) (i 1)
def winArr : Vec Ideal S1024x2560 .f32 := fun i => ∑ q : Fin 8192, tWin (rowOf m c q) (Uof m c) (Kof m c) (Pof m c) (i 0) (i 1)
def wuqArr : Vec Ideal S256x1024 .f32 := fun i => ∑ q : Fin 8192, tWuq (rowOf m c q) (Pof m c) (i 0) (i 1)
def wkvArr : Vec Ideal S128x1536 .f32 := fun i => ∑ q : Fin 8192, tWkv (rowOf m c q) (Pof m c) (i 0) (i 1)
def vecArr : Vec Ideal S8x256 .f32 := fun i => ∑ q : Fin 8192, tVec (rowOf m c q) (Uof m c) (Kof m c) (i 0) (i 1)

/-- Bounds of an index in the block that is the whole array. -/
theorem whole_mem {n k : ℕ} (w : Fin 2 → ℕ) (hw : w = ![0, 0]) (a : Fin n) (b : Fin k) :
    (w 0 * n ≤ a.val ∧ a.val < w 0 * n + n) ∧ (w 1 * k ≤ b.val ∧ b.val < w 1 * k + k) := by
  subst hw
  have := a.isLt
  have := b.isLt
  show (0 * n ≤ a.val ∧ a.val < 0 * n + n) ∧ (0 * k ≤ b.val ∧ b.val < 0 * k + k)
  omega

/-- The last point. -/
abbrev lastPt : Fin cfg0.N := ⟨31, by show 31 < 32; omega⟩

/-- The input's gradient after the run. -/
theorem arr13 : (dats m 0 c).arrAt 13 cfg0.N = gxArr m c := by
  refine (dats m 0 c).arrAt_eq_of_cover 13 _ (fun t _ => ?_) (fun i => ?_)
  · show (cfg0.win 13).cut (grid0.coords t) ((dats m 0 c).after 13 t) = _
    rw [after13]
    funext j
    obtain ⟨r, e, rfl⟩ : ∃ (r : Fin 256) (e : Fin 1024), j = ix2 r e := ⟨j 0, j 1, (ix2_eta j).symm⟩
    refine (gxAt_apply m c t r e).trans ?_
    exact (congrArg (gxArr m c) (blockRow_idx t.val (t_lt t) _ (idx_rows t).2.2.2.2.2.2.2.2.2 r e (((cfg0.win 13).blk t).view.emb (ix2 r e)) rfl rfl)).symm
  · have h0 : (i 0).val < 8192 := (i 0).isLt
    have h1 : (i 1).val < 1024 := (i 1).isLt
    let t : Fin cfg0.N := ⟨(i 0).val / 256, by show (i 0).val / 256 < 32; omega⟩
    refine ⟨t, flush0_13 t, ?_⟩
    show i ∈ ((View.whole main_v0_0).slice (win0_13.rect t)).set
    rw [View.set_slice_whole, Rect.mem_set_unit]
    intro a
    have e := (idx_rows t).2.2.2.2.2.2.2.2.2
    match a with
    | ⟨0, _⟩ =>
      show win0_13.index t 0 * 256 ≤ (i 0).val ∧ (i 0).val < win0_13.index t 0 * 256 + 256
      rw [e]; show (i 0).val / 256 * 256 ≤ (i 0).val ∧ (i 0).val < (i 0).val / 256 * 256 + 256; omega
    | ⟨1, _⟩ =>
      show win0_13.index t 1 * 1024 ≤ (i 1).val ∧ (i 1).val < win0_13.index t 1 * 1024 + 1024
      rw [e]; show 0 * 1024 ≤ (i 1).val ∧ (i 1).val < 0 * 1024 + 1024; omega

/-- The input weights' gradient after the run. -/
theorem arr14 : (dats m 0 c).arrAt 14 cfg0.N = winArr m c := by
  refine (dats m 0 c).arrAt_eq_of_cover 14 _ (fun t ht => ?_) (fun i => ⟨lastPt, (flush0_14 lastPt).2 rfl, ?_⟩)
  · show (cfg0.win 14).cut (grid0.coords t) ((dats m 0 c).after 14 t) = _
    rw [after14]
    funext j
    obtain ⟨a, b, rfl⟩ : ∃ (a : Fin 1024) (b : Fin 2560), j = ix2 a b := ⟨j 0, j 1, (ix2_eta j).symm⟩
    have h : (sumsAt m c t.val t.isLt).1 (ix2 a b) = winArr m c (ix2 a b) :=
      sums_last m c (fun p => p.1 (ix2 a b)) (fun q => tWin (rowOf m c q) (Uof m c) (Kof m c) (Pof m c) a b) (cleared_win a b) (fun t p => stepAt_win m c t p a b) t ((flush0_14 t).1 ht)
    generalize winArr m c = f at h ⊢
    exact h.trans (congrArg f (wholeBlock_idx _ (idx_whole t).2.2.2.2.1 a b (((cfg0.win 14).blk t).view.emb (ix2 a b)) rfl rfl)).symm
  · have hm := whole_mem _ (idx_whole lastPt).2.2.2.2.1 (i 0) (i 1)
    show i ∈ ((View.whole main_v0_1).slice (win0_14.rect lastPt)).set
    rw [View.set_slice_whole, Rect.mem_set_unit]
    intro a
    match a with
    | ⟨0, _⟩ => exact hm.1
    | ⟨1, _⟩ => exact hm.2

/-- The query weights' gradient after the run. -/
theorem arr15 : (dats m 0 c).arrAt 15 cfg0.N = wuqArr m c := by
  refine (dats m 0 c).arrAt_eq_of_cover 15 _ (fun t ht => ?_) (fun i => ⟨lastPt, (flush0_15 lastPt).2 rfl, ?_⟩)
  · show (cfg0.win 15).cut (grid0.coords t) ((dats m 0 c).after 15 t) = _
    rw [after15]
    funext j
    obtain ⟨a, b, rfl⟩ : ∃ (a : Fin 256) (b : Fin 1024), j = ix2 a b := ⟨j 0, j 1, (ix2_eta j).symm⟩
    have h : (sumsAt m c t.val t.isLt).2.1 (ix2 a b) = wuqArr m c (ix2 a b) :=
      sums_last m c (fun p => p.2.1 (ix2 a b)) (fun q => tWuq (rowOf m c q) (Pof m c) a b) (cleared_wuq a b) (fun t p => stepAt_wuq m c t p a b) t ((flush0_15 t).1 ht)
    generalize wuqArr m c = f at h ⊢
    exact h.trans (congrArg f (wholeBlock_idx _ (idx_whole t).2.2.2.2.2.1 a b (((cfg0.win 15).blk t).view.emb (ix2 a b)) rfl rfl)).symm
  · have hm := whole_mem _ (idx_whole lastPt).2.2.2.2.2.1 (i 0) (i 1)
    show i ∈ ((View.whole main_v0_2).slice (win0_15.rect lastPt)).set
    rw [View.set_slice_whole, Rect.mem_set_unit]
    intro a
    match a with
    | ⟨0, _⟩ => exact hm.1
    | ⟨1, _⟩ => exact hm.2

/-- The key and value weights' gradient after the run. -/
theorem arr16 : (dats m 0 c).arrAt 16 cfg0.N = wkvArr m c := by
  refine (dats m 0 c).arrAt_eq_of_cover 16 _ (fun t ht => ?_) (fun i => ⟨lastPt, (flush0_16 lastPt).2 rfl, ?_⟩)
  · show (cfg0.win 16).cut (grid0.coords t) ((dats m 0 c).after 16 t) = _
    rw [after16]
    funext j
    obtain ⟨a, b, rfl⟩ : ∃ (a : Fin 128) (b : Fin 1536), j = ix2 a b := ⟨j 0, j 1, (ix2_eta j).symm⟩
    have h : (sumsAt m c t.val t.isLt).2.2.1 (ix2 a b) = wkvArr m c (ix2 a b) :=
      sums_last m c (fun p => p.2.2.1 (ix2 a b)) (fun q => tWkv (rowOf m c q) (Pof m c) a b) (cleared_wkv a b) (fun t p => stepAt_wkv m c t p a b) t ((flush0_16 t).1 ht)
    generalize wkvArr m c = f at h ⊢
    exact h.trans (congrArg f (wholeBlock_idx _ (idx_whole t).2.2.2.2.2.2.1 a b (((cfg0.win 16).blk t).view.emb (ix2 a b)) rfl rfl)).symm
  · have hm := whole_mem _ (idx_whole lastPt).2.2.2.2.2.2.1 (i 0) (i 1)
    show i ∈ ((View.whole main_v0_3).slice (win0_16.rect lastPt)).set
    rw [View.set_slice_whole, Rect.mem_set_unit]
    intro a
    match a with
    | ⟨0, _⟩ => exact hm.1
    | ⟨1, _⟩ => exact hm.2

/-- The gains' gradients after the run. -/
theorem arr17 : (dats m 0 c).arrAt 17 cfg0.N = vecArr m c := by
  refine (dats m 0 c).arrAt_eq_of_cover 17 _ (fun t ht => ?_) (fun i => ⟨lastPt, (flush0_17 lastPt).2 rfl, ?_⟩)
  · show (cfg0.win 17).cut (grid0.coords t) ((dats m 0 c).after 17 t) = _
    rw [after17]
    funext j
    obtain ⟨a, b, rfl⟩ : ∃ (a : Fin 8) (b : Fin 256), j = ix2 a b := ⟨j 0, j 1, (ix2_eta j).symm⟩
    have h : (sumsAt m c t.val t.isLt).2.2.2 (ix2 a b) = vecArr m c (ix2 a b) :=
      sums_last m c (fun p => p.2.2.2 (ix2 a b)) (fun q => tVec (rowOf m c q) (Uof m c) (Kof m c) a b) (cleared_vec a b) (fun t p => stepAt_vec m c t p a b) t ((flush0_17 t).1 ht)
    generalize vecArr m c = f at h ⊢
    exact h.trans (congrArg f (wholeBlock_idx _ (idx_whole t).2.2.2.2.2.2.2 a b (((cfg0.win 17).blk t).view.emb (ix2 a b)) rfl rfl)).symm
  · have hm := whole_mem _ (idx_whole lastPt).2.2.2.2.2.2.2 (i 0) (i 1)
    show i ∈ ((View.whole main_v0_4).slice (win0_17.rect lastPt)).set
    rw [View.set_slice_whole, Rect.mem_set_unit]
    intro a
    match a with
    | ⟨0, _⟩ => exact hm.1
    | ⟨1, _⟩ => exact hm.2

variable (ρ : Dev nD → PrngReg)

/-- The run leaves the five arrays, and its arguments as they were. -/
theorem run_arrays : θ_run defs (onTc (τ := τ) (main (F := Ideal))) ⟨m, fun _ => 0, ρ⟩ (fun r => (∀ c : Dev nD,
      r.2.mem ((c.tc : Thread nD τ).loc main_v0_0) = gxArr m c
      ∧ r.2.mem ((c.tc : Thread nD τ).loc main_v0_1) = winArr m c
      ∧ r.2.mem ((c.tc : Thread nD τ).loc main_v0_2) = wuqArr m c
      ∧ r.2.mem ((c.tc : Thread nD τ).loc main_v0_3) = wkvArr m c
      ∧ r.2.mem ((c.tc : Thread nD τ).loc main_v0_4) = vecArr m c)) :=
  (θ_run defs _ _).mono (fun r h c => ⟨((h.1 c).1 13).trans (arr13 m c), ((h.1 c).1 14).trans (arr14 m c),
    ((h.1 c).1 15).trans (arr15 m c), ((h.1 c).1 16).trans (arr16 m c), ((h.1 c).1 17).trans (arr17 m c)⟩) (run_main_quiescent m ρ)

end Cert.Own.BwdPre

end

end
-- ==== Proof.BwdPreRef.lean ====
module

public import proofs.«01_k».proof.Proof.Gen.BwdPreRefIdeal.Read
public import proofs.«01_k».proof.Proof.BwdRows

@[expose] public section

/-! The reference's five results at an index, as functions of the rows of its arguments. -/

noncomputable section

namespace Cert.Own.BwdPre

open Idealize.ShloMosaic Cert.BwdPreRefIdeal Cert.BwdPreRefIdeal.Gen Cert.BwdPreRefIdeal.Read Cert.Own.Rows Cert.Own.BwdRows

variable (x0 : Vec Ideal ⟨2, ![8192, 1024]⟩ .f32) (x1 : Vec Ideal ⟨2, ![8192, 1024]⟩ .f32) (x2 : Vec Ideal ⟨2, ![8192, 256]⟩ .f32)
  (x3 : Vec Ideal ⟨2, ![8192, 128]⟩ .f32) (x4 : Vec Ideal ⟨2, ![8192, 256]⟩ .f32) (x5 : Vec Ideal ⟨2, ![8192, 1024]⟩ .bf16)
  (x6 : Vec Ideal ⟨2, ![8192, 1024]⟩ .bf16) (x7 : Vec Ideal ⟨2, ![8192, 512]⟩ .bf16) (x8 : Vec Ideal ⟨2, ![8192, 2048]⟩ .bf16)
  (x9 : Vec Ideal ⟨2, ![1024, 2560]⟩ .bf16) (x10 : Vec Ideal ⟨2, ![256, 1024]⟩ .bf16) (x11 : Vec Ideal ⟨2, ![128, 1536]⟩ .bf16)
  (x12 : Vec Ideal ⟨2, ![16, 1024]⟩ .f32)

/-- The norms of a row. -/
theorem ref_rq (n : Fin 8192) : val_main_v17 (F := Ideal) x2 (ix2 n 0) = rms n256 (fun k => x2 (ix2 n k)) := by
  pointwise [val_main_v17, val_main_v16, val_main_v15, val_main_v14, val_main_v13, val_main_v12, val_main_v11, val_main_v10,
    val_main_cst, val_main_cst_0, val_main_cst_1]
theorem ref_hatq (n : Fin 8192) (e : Fin 256) : val_main_v19 (F := Ideal) x2 (ix2 n e) = hat n256 (fun k => x2 (ix2 n k)) e := by
  unfold hat; rw [← ref_rq]; pointwise [val_main_v19, val_main_v18]
theorem ref_rkv (n : Fin 8192) : val_main_v48 (F := Ideal) x3 (ix2 n 0) = rms n128 (fun k => x3 (ix2 n k)) := by
  pointwise [val_main_v48, val_main_v47, val_main_v46, val_main_v45, val_main_v44, val_main_v43, val_main_v42, val_main_v41,
    val_main_cst_5, val_main_cst_6, val_main_cst_7]
theorem ref_hatkv (n : Fin 8192) (e : Fin 128) : val_main_v50 (F := Ideal) x3 (ix2 n e) = hat n128 (fun k => x3 (ix2 n k)) e := by
  unfold hat; rw [← ref_rkv]; pointwise [val_main_v50, val_main_v49]

/-- The gradients of the two normed rows. -/
theorem ref_dqn (n : Fin 8192) (e : Fin 256) : val_main_v21 (F := Ideal) x5 x10 (ix2 n e) = back (fun k => x5 (ix2 n k)) x10 e := by
  unfold back; pointwise [val_main_v21, val_main_v20, val_main_v3, val_main_v1]
theorem ref_kv (n : Fin 8192) (e : Fin 1536) : val_main_v40 (F := Ideal) x6 x7 (ix2 n e) = keysVals (fun k => x6 (ix2 n k)) (fun k => x7 (ix2 n k)) e := by
  unfold keysVals; pointwise [val_main_v40, val_main_v4, val_main_v5]
theorem ref_dkvn (n : Fin 8192) (e : Fin 128) : val_main_v52 (F := Ideal) x6 x7 x11 (ix2 n e)
    = back (keysVals (fun k => x6 (ix2 n k)) (fun k => x7 (ix2 n k))) x11 e := by
  unfold back; simp only [← ref_kv]; pointwise [val_main_v52, val_main_v51, val_main_v2]

/-- The gradients of the two compressed rows. -/
theorem ref_dcq (n : Fin 8192) (e : Fin 256) : val_main_v39 (F := Ideal) x2 x5 x10 x12 (ix2 n e)
    = dcq (rowAt x0 x1 x2 x3 x4 x5 x6 x7 x8 n) x10 x12 e := by
  unfold dcq normGrad dqn rowAt
  dsimp only
  rw [← ref_rq x2 n]
  simp only [← ref_hatq, ← ref_dqn]
  pointwise [val_main_v39, val_main_v38, val_main_v37, val_main_v36, val_main_v35, val_main_v34, val_main_v33, val_main_v32,
    val_main_v31, val_main_v30, val_main_v29, val_main_v28, val_main_cst_3, val_main_cst_4, val_main_v6]
theorem ref_dckv (n : Fin 8192) (e : Fin 128) : val_main_v70 (F := Ideal) x3 x6 x7 x11 x12 (ix2 n e)
    = dckv (rowAt x0 x1 x2 x3 x4 x5 x6 x7 x8 n) x11 x12 e := by
  unfold dckv normGrad dkvn rowAt
  dsimp only
  rw [← ref_rkv x3 n]
  simp only [← ref_hatkv, ← ref_dkvn]
  pointwise [val_main_v70, val_main_v69, val_main_v68, val_main_v67, val_main_v66, val_main_v65, val_main_v64, val_main_v63,
    val_main_v62, val_main_v61, val_main_v60, val_main_v59, val_main_cst_9, val_main_cst_10, val_main_v7]

/-- The keys' gradients summed over the heads. -/
theorem ref_heads (n : Fin 8192) (y : Fin 128) : val_main_v72 (F := Ideal) x6 (ix2 n y) = overHeads (fun k => x6 (ix2 n k)) y := by
  have e : ∀ h : Fin 8, x6 (ix2 n (hl h y)) = val_main_v71 (F := Ideal) x6 (ix3 n h y) := fun h => by
    rw [show hl h y = ⟨h.val * 128 + y.val, by omega⟩ from Fin.ext (by show 128 * h.val + y.val = h.val * 128 + y.val; omega)]
    pointwise [val_main_v71, val_main_v4]
  unfold overHeads
  simp only [e]
  pointwise [val_main_v72, val_main_cst_11]

/-- The gradient of the rotary key before its rotation. -/
theorem ref_dkr (n : Fin 8192) (y : Fin 128) : val_main_v85 (F := Ideal) x4 x6 x12 (ix2 n y)
    = dkr (rowAt x0 x1 x2 x3 x4 x5 x6 x7 x8 n) x12 y := by
  have e1 : val_main_v79 (F := Ideal) x4 x6 x12 (ix2 n y) = val_main_v78 (F := Ideal) x4 x6 x12 (ix2 n (bwd16 y)) := by
    rw [← turn_bwd (fun z => val_main_v78 (F := Ideal) x4 x6 x12 (ix2 n z))]
    pointwise [val_main_v79, val_main_call0_v0, val_main_call0_v1]
  have e2 : val_main_v84 (F := Ideal) x4 x6 x12 (ix2 n y) = val_main_v83 (F := Ideal) x4 x6 x12 (ix2 n (fwd16 y)) := by
    rw [← turn_fwd (fun z => val_main_v83 (F := Ideal) x4 x6 x12 (ix2 n z))]
    pointwise [val_main_v84, val_main_call1_v0, val_main_call1_v1]
  have f1 : ∀ z : Fin 128, val_main_v78 (F := Ideal) x4 x6 x12 (ix2 n z)
      = overHeads (fun k => x6 (ix2 n k)) z * (x4 (ix2 n ⟨128 + z.val, by omega⟩) * x12 (ix2 5 ⟨z.val, by omega⟩)) := fun z => by
    rw [← ref_heads]; pointwise [val_main_v78, val_main_v77, val_main_v76, val_main_v74, val_main_v8]
  have f2 : ∀ z : Fin 128, val_main_v83 (F := Ideal) x4 x6 x12 (ix2 n z)
      = overHeads (fun k => x6 (ix2 n k)) z * (x4 (ix2 n ⟨128 + z.val, by omega⟩) * x12 (ix2 6 ⟨z.val, by omega⟩)) := fun z => by
    rw [← ref_heads]; pointwise [val_main_v83, val_main_v82, val_main_v81, val_main_v74, val_main_v9]
  have f0 : val_main_v75 (F := Ideal) x4 x6 (ix2 n y) = overHeads (fun k => x6 (ix2 n k)) y * x4 (ix2 n ⟨y.val, by omega⟩) := by
    rw [← ref_heads]; pointwise [val_main_v75, val_main_v73]
  have g : val_main_v85 (F := Ideal) x4 x6 x12 (ix2 n y) = val_main_v75 (F := Ideal) x4 x6 (ix2 n y)
      + val_main_v79 (F := Ideal) x4 x6 x12 (ix2 n y) + val_main_v84 (F := Ideal) x4 x6 x12 (ix2 n y) := by
    pointwise [val_main_v85, val_main_v80]
  rw [g, e1, e2, f0, f1, f2]
  unfold dkr ropeGrad rowAt
  dsimp only

/-- The gradient of the projected row. -/
theorem ref_dproj (n : Fin 8192) (e : Fin 2560) : val_main_v87 (F := Ideal) x2 x3 x4 x5 x6 x7 x8 x10 x11 x12 (ix2 n e)
    = dproj (rowAt x0 x1 x2 x3 x4 x5 x6 x7 x8 n) x10 x11 x12 e := by
  have s : val_main_v87 (F := Ideal) x2 x3 x4 x5 x6 x7 x8 x10 x11 x12 (ix2 n e)
      = side (fun k => val_main_v39 (F := Ideal) x2 x5 x10 x12 (ix2 n k)) (fun k => val_main_v70 (F := Ideal) x3 x6 x7 x11 x12 (ix2 n k))
          (fun k => val_main_v85 (F := Ideal) x4 x6 x12 (ix2 n k)) (fun k => x8 (ix2 n k)) e := by
    unfold side
    pointwise [val_main_v87, val_main_v86]
  rw [s, show (fun k => val_main_v39 (F := Ideal) x2 x5 x10 x12 (ix2 n k)) = dcq (rowAt x0 x1 x2 x3 x4 x5 x6 x7 x8 n) x10 x12 from
      funext fun k => ref_dcq x0 x1 x2 x3 x4 x5 x6 x7 x8 x10 x12 n k,
    show (fun k => val_main_v70 (F := Ideal) x3 x6 x7 x11 x12 (ix2 n k)) = dckv (rowAt x0 x1 x2 x3 x4 x5 x6 x7 x8 n) x11 x12 from
      funext fun k => ref_dckv x0 x1 x2 x3 x4 x5 x6 x7 x8 x11 x12 n k,
    show (fun k => val_main_v85 (F := Ideal) x4 x6 x12 (ix2 n k)) = dkr (rowAt x0 x1 x2 x3 x4 x5 x6 x7 x8 n) x12 from
      funext fun k => ref_dkr x0 x1 x2 x3 x4 x5 x6 x7 x8 x12 n k]
  rfl

/-- The input's gradient. -/
theorem ref_gx (n : Fin 8192) (e : Fin 1024) : val_main_v94 (F := Ideal) x1 x2 x3 x4 x5 x6 x7 x8 x9 x10 x11 x12 (ix2 n e)
    = gx (rowAt x0 x1 x2 x3 x4 x5 x6 x7 x8 n) x9 x10 x11 x12 e := by
  unfold gx back
  simp only [← ref_dproj]
  show _ = Ideal.ofBits .f32 0x3F9837F0#32 * x1 (ix2 n e) + ∑ k : Fin 2560, val_main_v87 (F := Ideal) x2 x3 x4 x5 x6 x7 x8 x10 x11 x12 (ix2 n k) * x9 (ix2 e k)
  pointwise [val_main_v94, val_main_v93, val_main_v92, val_main_v91, val_main_v90, val_main_cst_12, val_main_v0]

/-- The three weights' gradients. -/
theorem ref_gwin (a : Fin 1024) (b : Fin 2560) : val_main_v89 (F := Ideal) x0 x2 x3 x4 x5 x6 x7 x8 x10 x11 x12 (ix2 a b)
    = ∑ n : Fin 8192, tWin (rowAt x0 x1 x2 x3 x4 x5 x6 x7 x8 n) x10 x11 x12 a b := by
  unfold tWin
  simp only [← ref_dproj]
  show _ = ∑ n : Fin 8192, x0 (ix2 n a) * val_main_v87 (F := Ideal) x2 x3 x4 x5 x6 x7 x8 x10 x11 x12 (ix2 n b)
  pointwise [val_main_v89, val_main_v88]
theorem ref_gwuq (a : Fin 256) (b : Fin 1024) : val_main_v25 (F := Ideal) x2 x5 x12 (ix2 a b)
    = ∑ n : Fin 8192, tWuq (rowAt x0 x1 x2 x3 x4 x5 x6 x7 x8 n) x12 a b := by
  unfold tWuq rowAt
  dsimp only
  simp only [← ref_hatq]
  pointwise [val_main_v25, val_main_v24, val_main_v23, val_main_v22, val_main_v6, val_main_v3]
theorem ref_gwkv (a : Fin 128) (b : Fin 1536) : val_main_v56 (F := Ideal) x3 x6 x7 x12 (ix2 a b)
    = ∑ n : Fin 8192, tWkv (rowAt x0 x1 x2 x3 x4 x5 x6 x7 x8 n) x12 a b := by
  unfold tWkv rowAt
  dsimp only
  simp only [← ref_hatkv, ← ref_kv]
  pointwise [val_main_v56, val_main_v55, val_main_v54, val_main_v53, val_main_v7]

/-- The two gains' gradients. -/
theorem ref_gq (e : Fin 256) : val_main_v27 (F := Ideal) x2 x5 x10 (ix1 e)
    = ∑ n : Fin 8192, tGq (rowAt x0 x1 x2 x3 x4 x5 x6 x7 x8 n) x10 e := by
  unfold tGq dqn rowAt
  dsimp only
  simp only [← ref_hatq, ← ref_dqn]
  pointwise [val_main_v27, val_main_v26, val_main_cst_2]
theorem ref_gkv (e : Fin 128) : val_main_v58 (F := Ideal) x3 x6 x7 x11 (ix1 e)
    = ∑ n : Fin 8192, tGkv (rowAt x0 x1 x2 x3 x4 x5 x6 x7 x8 n) x11 e := by
  unfold tGkv dkvn rowAt
  dsimp only
  simp only [← ref_hatkv, ← ref_dkvn]
  pointwise [val_main_v58, val_main_v57, val_main_cst_8]

/-- They are packed in one array, zero elsewhere. -/
theorem ref_vec (a : Fin 8) (e : Fin 256) : val_main_v100 (F := Ideal) x2 x3 x5 x6 x7 x10 x11 (ix2 a e)
    = ∑ n : Fin 8192, tVec (rowAt x0 x1 x2 x3 x4 x5 x6 x7 x8 n) x10 x11 a e := by
  have s : val_main_v100 (F := Ideal) x2 x3 x5 x6 x7 x10 x11 (ix2 a e)
      = if h : a.val < 1 then val_main_v27 (F := Ideal) x2 x5 x10 (ix1 e)
        else if h : a.val - 1 < 1 then (if h : e.val < 128 then val_main_v58 (F := Ideal) x3 x6 x7 x11 (ix1 ⟨e.val, h⟩) else 0) else 0 := by
    pointwise [val_main_v100, val_main_v99, val_main_v98, val_main_v97, val_main_v96, val_main_v95, val_main_cst_13, val_main_cst_14]
  rw [s]
  unfold tVec
  by_cases h0 : a.val = 0
  · simp only [if_pos h0]
    rw [dif_pos (by omega)]
    exact ref_gq x0 x1 x2 x3 x4 x5 x6 x7 x8 x10 e
  · simp only [if_neg h0]
    rw [dif_neg (by omega)]
    by_cases h1 : a.val = 1 ∧ e.val < 128
    · simp only [dif_pos h1]
      rw [dif_pos (by omega), dif_pos h1.2]
      exact ref_gkv x0 x1 x2 x3 x4 x5 x6 x7 x8 x11 ⟨e.val, h1.2⟩
    · simp only [dif_neg h1, Finset.sum_const_zero]
      by_cases h2 : a.val - 1 < 1
      · rw [dif_pos h2, dif_neg (by omega)]
      · rw [dif_neg h2]

end Cert.Own.BwdPre

end

end
-- ==== Proof.BwdPreValue.lean ====
module

public import proofs.«01_k».proof.Defs
public import proofs.«01_k».proof.Proof.BwdPreArray
public import proofs.«01_k».proof.Proof.BwdPreRef
public import proofs.«01_k».proof.Proof.Gen.BwdPreRefIdeal.Run

@[expose] public section

/-! The five arrays of the projections' backward kernel are the reference's five results. -/

noncomputable section

namespace Cert.Own.BwdPre

open Idealize.ShloMosaic Idealize.ShloMosaic.TcCoe Idealize.SL.Sem

/-- The reference runs, leaves its arguments and has no signals. -/
theorem ref_frame : Cert.quiescent_BwdPreRefIdeal := fun m ρ _ =>
  (θ_run _ _ _).mono (fun r h => ⟨fun c => (h c).2.2.2.2.2, sem_eq_zero_of_no_sems (by decide) r.2⟩) (Cert.BwdPreRefIdeal.Value.run (F := Ideal) m ρ)

/-- Two arrays that agree at every row and lane are the same. -/
theorem entries_ext {k n : ℕ} {α : Type} {f g : (⟨2, ![k, n]⟩ : Shape).Idx → α} (h : ∀ q e, f (ix2 q e) = g (ix2 q e)) : f = g :=
  funext fun i => (congrArg f (ix2_eta i)).symm.trans ((h _ _).trans (congrArg g (ix2_eta i)))

/-- The kernel and the reference leave the same gradients of the input, of the three weights and of the two gains. -/
theorem algebraic : Cert.algebraic_BwdPreIdeal_BwdPreRefIdeal := by
  intro m ρ m' ρ' _ hag
  refine ⟨gxArr m, winArr m, wuqArr m, wkvArr m, vecArr m, (θ_run _ _ _).mono (fun r h c =>
    ⟨(h.1 c).1, (h.1 c).2.1, (h.1 c).2.2.1, (h.1 c).2.2.2.1, (h.1 c).2.2.2.2, h.2.1 c⟩) (θ_run_and (run_arrays m ρ) (frame_run m ρ)), ?_⟩
  refine (θ_run _ _ _).mono (fun r h c => ?_) (Cert.BwdPreRefIdeal.Value.run (F := Ideal) m' ρ')
  obtain ⟨h0, h1, h2, h3, h4, h5, h6, h7, h8, h9, h10, h11, h12⟩ := hag c
  refine ⟨(h c).1.trans ?_, (h c).2.1.trans ?_, (h c).2.2.1.trans ?_, (h c).2.2.2.1.trans ?_, (h c).2.2.2.2.1.trans ?_, (h c).2.2.2.2.2⟩
  · rw [Cert.BwdPreRefIdeal.Read.val_main_v94_eq, h1, h2, h3, h4, h5, h6, h7, h8, h9, h10, h11, h12]
    exact entries_ext fun q e => ref_gx (m ((c : Thread Cert.BwdPreIdeal.nD Cert.BwdPreIdeal.τ).loc Cert.BwdPreIdeal.main_arg0)) _ _ _ _ _ _ _ _ _ _ _ _ q e
  · rw [Cert.BwdPreRefIdeal.Read.val_main_v89_eq, h0, h2, h3, h4, h5, h6, h7, h8, h10, h11, h12]
    exact entries_ext fun a b => ref_gwin _ (m ((c : Thread Cert.BwdPreIdeal.nD Cert.BwdPreIdeal.τ).loc Cert.BwdPreIdeal.main_arg1)) _ _ _ _ _ _ _ _ _ _ a b
  · rw [Cert.BwdPreRefIdeal.Read.val_main_v25_eq, h2, h5, h12]
    exact entries_ext fun a b => ref_gwuq (m ((c : Thread Cert.BwdPreIdeal.nD Cert.BwdPreIdeal.τ).loc Cert.BwdPreIdeal.main_arg0))
      (m ((c : Thread Cert.BwdPreIdeal.nD Cert.BwdPreIdeal.τ).loc Cert.BwdPreIdeal.main_arg1)) _
      (m ((c : Thread Cert.BwdPreIdeal.nD Cert.BwdPreIdeal.τ).loc Cert.BwdPreIdeal.main_arg3))
      (m ((c : Thread Cert.BwdPreIdeal.nD Cert.BwdPreIdeal.τ).loc Cert.BwdPreIdeal.main_arg4)) _
      (m ((c : Thread Cert.BwdPreIdeal.nD Cert.BwdPreIdeal.τ).loc Cert.BwdPreIdeal.main_arg6))
      (m ((c : Thread Cert.BwdPreIdeal.nD Cert.BwdPreIdeal.τ).loc Cert.BwdPreIdeal.main_arg7))
      (m ((c : Thread Cert.BwdPreIdeal.nD Cert.BwdPreIdeal.τ).loc Cert.BwdPreIdeal.main_arg8)) _ a b
  · rw [Cert.BwdPreRefIdeal.Read.val_main_v56_eq, h3, h6, h7, h12]
    exact entries_ext fun a b => ref_gwkv (m ((c : Thread Cert.BwdPreIdeal.nD Cert.BwdPreIdeal.τ).loc Cert.BwdPreIdeal.main_arg0))
      (m ((c : Thread Cert.BwdPreIdeal.nD Cert.BwdPreIdeal.τ).loc Cert.BwdPreIdeal.main_arg1))
      (m ((c : Thread Cert.BwdPreIdeal.nD Cert.BwdPreIdeal.τ).loc Cert.BwdPreIdeal.main_arg2)) _
      (m ((c : Thread Cert.BwdPreIdeal.nD Cert.BwdPreIdeal.τ).loc Cert.BwdPreIdeal.main_arg4))
      (m ((c : Thread Cert.BwdPreIdeal.nD Cert.BwdPreIdeal.τ).loc Cert.BwdPreIdeal.main_arg5)) _ _
      (m ((c : Thread Cert.BwdPreIdeal.nD Cert.BwdPreIdeal.τ).loc Cert.BwdPreIdeal.main_arg8)) _ a b
  · rw [Cert.BwdPreRefIdeal.Read.val_main_v100_eq, h2, h3, h5, h6, h7, h10, h11]
    exact entries_ext fun a b => ref_vec (m ((c : Thread Cert.BwdPreIdeal.nD Cert.BwdPreIdeal.τ).loc Cert.BwdPreIdeal.main_arg0))
      (m ((c : Thread Cert.BwdPreIdeal.nD Cert.BwdPreIdeal.τ).loc Cert.BwdPreIdeal.main_arg1)) _ _
      (m ((c : Thread Cert.BwdPreIdeal.nD Cert.BwdPreIdeal.τ).loc Cert.BwdPreIdeal.main_arg4)) _ _ _
      (m ((c : Thread Cert.BwdPreIdeal.nD Cert.BwdPreIdeal.τ).loc Cert.BwdPreIdeal.main_arg8)) _ _ a b

end Cert.Own.BwdPre

end

end
-- ==== Proof.PostClear.lean ====
module

public import proofs.«01_k».proof.Proof.Gen.PostIdeal.Frame
public import proofs.«01_k».proof.Proof.Gen.PostIdeal.Skeleton
public import Idealize.ShloMosaic.Lib.WritesUnit

@[expose] public section

/-! The first lines of the output projection's kernel, which clear its sums at the first point. -/

noncomputable section

namespace Cert.Own.Post

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.PostIdeal Cert.PostIdeal.Gen

variable {F : FTy → Type} [FloatOps F]

local notation "𝕄" => MT nD τ sig Unit (Elt F) ℕ (UR sig nD τ) ℕ

/-- The body's own test: is this the first point? -/
abbrev first (i : grid0.Coords) : Prop :=
  (Scalar.cmpi .ne (Scalar.extui (Scalar.cmpi .eq (BitVec.ofNat 32 (i 0).val) 0#32)) 0#32) = 1#1

/-- And is it the last? -/
abbrev final (i : grid0.Coords) : Prop := k0_cond2 i = 1#1

section stores
variable {κ : Kind} {sp : Space}

/-- A store of the whole buffer, last: the buffer holds it. -/
theorem stored_all {S : Shape} {e : EltTy} (v : View sig κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w :=
  funext fun y => View.read_writes_cons_unit_of_mem v f inb w L y y h fun _ => (Nat.zero_add _).symm
end stores

theorem zero_off : (![0, 0] : Fin 2 → ℕ) = fun _ => 0 := funext fun a => by fin_cases a <;> rfl
theorem zero_off3 : (![0, 0, 0] : Fin 3 → ℕ) = fun _ => 0 := funext fun a => by fin_cases a <;> rfl

/-- What a sum holds once it is cleared, the output weights. -/
def begin13 (i : grid0.Coords) (y : Vec F S1024x1024 .f32) : Vec F S1024x1024 .f32 := if first i then k0_pay20 (F := F) else y

/-- What a sum holds once it is cleared, the mixing weights. -/
def begin14 (i : grid0.Coords) (y : Vec F S8x128x128 .f32) : Vec F S8x128x128 .f32 := if first i then k0_pay21 (F := F) else y

/-- What a sum holds once it is cleared, the rows of sums. -/
def begin16 (i : grid0.Coords) (y : Vec F S8x1024 .f32) : Vec F S8x1024 .f32 := if first i then k0_pay22 (F := F) else y

/-- What a sum holds once it is cleared, the mixing biases. -/
def begin19 (i : grid0.Coords) (y : Vec F S128x512 .f32) : Vec F S128x512 .f32 := if first i then k0_pay23 (F := F) else y

/-- The sums are cleared at the first point. -/
def clear (i : grid0.Coords)
  (arg13 : Memref sig .tc .vmem S1024x1024 .f32) (harg13 : arg13.IsWhole)
  (arg14 : Memref sig .tc .vmem S8x128x128 .f32) (harg14 : arg14.IsWhole)
  (arg16 : Memref sig .tc .vmem S8x1024 .f32) (harg16 : arg16.IsWhole)
  (arg19 : Memref sig .tc .vmem S128x512 .f32) (harg19 : arg19.IsWhole) :
    Prog (TpuEff nD τ sig (Elt F) Λ₀ .tc) PUnit := do
  if k0_h1 : first i then do
    let v670 : Vec F S1024x1024 .f32 ← Prog.lift (.load arg13 (Rect.unit (s := S1024x1024) ![0, 0] S1024x1024.size inb_S1024x1024_S1024x1024_0_0).toLoadRect (View.loadsAt_vmem h_S1024x1024))
    Prog.lift (.store arg13 (Rect.unit (s := S1024x1024) ![0, 0] S1024x1024.size inb_S1024x1024_S1024x1024_0_0) (k0_pay20 (F := F)) Finset.univ (View.stores_vmem_bits_univ h_S1024x1024 rfl) (.inl rfl))
    let v672 : Vec F S8x128x128 .f32 ← Prog.lift (.load arg14 (Rect.unit (s := S8x128x128) ![0, 0, 0] S8x128x128.size inb_S8x128x128_S8x128x128_0_0_0).toLoadRect (View.loadsAt_vmem h_S8x128x128))
    Prog.lift (.store arg14 (Rect.unit (s := S8x128x128) ![0, 0, 0] S8x128x128.size inb_S8x128x128_S8x128x128_0_0_0) (k0_pay21 (F := F)) Finset.univ (View.stores_vmem_bits_univ h_S8x128x128 rfl) (.inl rfl))
    let v674 : Vec F S8x1024 .f32 ← Prog.lift (.load arg16 (Rect.unit (s := S8x1024) ![0, 0] S8x1024.size inb_S8x1024_S8x1024_0_0).toLoadRect (View.loadsAt_vmem h_S8x1024))
    Prog.lift (.store arg16 (Rect.unit (s := S8x1024) ![0, 0] S8x1024.size inb_S8x1024_S8x1024_0_0) (k0_pay22 (F := F)) Finset.univ (View.stores_vmem_bits_univ h_S8x1024 rfl) (.inl rfl))
    let v676 : Vec F S128x512 .f32 ← Prog.lift (.load arg19 (Rect.unit (s := S128x512) ![0, 0] S128x512.size inb_S128x512_S128x512_0_0).toLoadRect (View.loadsAt_vmem h_S128x512))
    Prog.lift (.store arg19 (Rect.unit (s := S128x512) ![0, 0] S128x512.size inb_S128x512_S128x512_0_0) (k0_pay23 (F := F)) Finset.univ (View.stores_vmem_bits_univ h_S128x512 rfl) (.inl rfl))
    pure ⟨⟩
  else do
    pure ⟨⟩

variable (c : Dev nD) (i : grid0.Coords)
  (arg13 : Memref sig .tc .vmem S1024x1024 .f32) (harg13 : arg13.IsWhole)
  (arg14 : Memref sig .tc .vmem S8x128x128 .f32) (harg14 : arg14.IsWhole)
  (arg16 : Memref sig .tc .vmem S8x1024 .f32) (harg16 : arg16.IsWhole)
  (arg19 : Memref sig .tc .vmem S128x512 .f32) (harg19 : arg19.IsWhole)

set_option maxHeartbeats 1000000 in
/-- What they hold then, whatever comes after. -/
theorem clear_run {α : Type} (k : PUnit → Prog (TpuEff nD τ sig (Elt F) Λ₀ .tc) α) (y13 : Vec F S1024x1024 .f32) (y14 : Vec F S8x128x128 .f32) (y16 : Vec F S8x1024 .f32) (y19 : Vec F S128x512 .f32)
    (E : Set ℕ) (K : α → sProp 𝕄) :
    iprop(owns (c : Thread nD τ) arg13 fullShare y13 ∗ owns (c : Thread nD τ) arg14 fullShare y14 ∗ owns (c : Thread nD τ) arg16 fullShare y16 ∗ owns (c : Thread nD τ) arg19 fullShare y19
        ∗ (iprop(owns (c : Thread nD τ) arg13 fullShare (begin13 i y13) ∗ owns (c : Thread nD τ) arg14 fullShare (begin14 i y14) ∗ owns (c : Thread nD τ) arg16 fullShare (begin16 i y16) ∗ owns (c : Thread nD τ) arg19 fullShare (begin19 i y19)) -∗ wp frame (wpE (defs₀ (F := F)) Variants.none c none) E (k ⟨⟩) K))
      ⊢ wp frame (wpE (defs₀ (F := F)) Variants.none c none) E (clear i arg13 harg13 arg14 harg14 arg16 harg16 arg19 harg19 >>= k) K := by
  unfold clear
  by_cases hc0 : first i
  · simp only [begin13, begin14, begin16, begin19, if_pos hc0]
    unfold owns
    iintro ⟨⟨%f13, -, H13⟩, ⟨%f14, -, H14⟩, ⟨%f16, -, H16⟩, ⟨%f19, -, H19⟩, Hk⟩
    sl_exec (disch := sl_exact hc0)
    iapply Hk
    isplitl [H13]
    · iexists _; isplitr
      swap; · iexact H13
      ipureintro; exact stored_all _ _ zero_off _ _ _
    isplitl [H14]
    · iexists _; isplitr
      swap; · iexact H14
      ipureintro; exact stored_all _ _ zero_off3 _ _ _
    isplitl [H16]
    · iexists _; isplitr
      swap; · iexact H16
      ipureintro; exact stored_all _ _ zero_off _ _ _
    iexists _; isplitr
    swap; · iexact H19
    ipureintro; exact stored_all _ _ zero_off _ _ _
  · simp only [begin13, begin14, begin16, begin19, if_neg hc0]
    unfold owns
    iintro ⟨⟨%f13, %hf13, H13⟩, ⟨%f14, %hf14, H14⟩, ⟨%f16, %hf16, H16⟩, ⟨%f19, %hf19, H19⟩, Hk⟩
    sl_exec (disch := sl_exact hc0)
    iapply Hk
    isplitl [H13]
    · iexists f13; isplitr; · ipureintro; exact hf13
      iexact H13
    isplitl [H14]
    · iexists f14; isplitr; · ipureintro; exact hf14
      iexact H14
    isplitl [H16]
    · iexists f16; isplitr; · ipureintro; exact hf16
      iexact H16
    iexists f19; isplitr; · ipureintro; exact hf19
    iexact H19

end Cert.Own.Post

end

end
-- ==== Proof.PostRun.lean ====
module

public import proofs.«01_k».proof.Proof.PostClear

@[expose] public section

/-! The body of the output projection's kernel, run once at any point: what its stores leave in the buffers. -/

noncomputable section

namespace Cert.Own.Post

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.PostIdeal Cert.PostIdeal.Gen

variable {F : FTy → Type} [FloatOps F]

local notation "𝕄" => MT nD τ sig Unit (Elt F) ℕ (UR sig nD τ) ℕ

/-- The blocks' parts the body reads first. -/
def loads (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x512 .f32) (harg3 : arg3.IsWhole)
  (arg4 : Memref sig .tc .vmem S256x2048 .f32) (harg4 : arg4.IsWhole)
  (arg5 : Memref sig .tc .vmem S1024x1024 .bf16) (harg5 : arg5.IsWhole)
  (arg6 : Memref sig .tc .vmem S16x1024 .f32) (harg6 : arg6.IsWhole)
  (arg7 : Memref sig .tc .vmem S8x128x128 .bf16) (harg7 : arg7.IsWhole)
  (arg8 : Memref sig .tc .vmem S8x128x128 .bf16) (harg8 : arg8.IsWhole)
  (arg9 : Memref sig .tc .vmem S128x512 .f32) (harg9 : arg9.IsWhole)
  (arg10 : Memref sig .tc .vmem S256x1024 .f32) (harg10 : arg10.IsWhole)
  (arg11 : Memref sig .tc .vmem S256x512 .bf16) (harg11 : arg11.IsWhole)
  (arg12 : Memref sig .tc .vmem S256x2048 .bf16) (harg12 : arg12.IsWhole)
  (arg13 : Memref sig .tc .vmem S1024x1024 .f32) (harg13 : arg13.IsWhole)
  (arg14 : Memref sig .tc .vmem S8x128x128 .f32) (harg14 : arg14.IsWhole)
  (arg15 : Memref sig .tc .vmem S128x128 .f32) (harg15 : arg15.IsWhole)
  (arg16 : Memref sig .tc .vmem S8x1024 .f32) (harg16 : arg16.IsWhole)
  (arg17 : Memref sig .tc .vmem S256x512 .f32) (harg17 : arg17.IsWhole)
  (arg18 : Memref sig .tc .vmem S256x512 .f32) (harg18 : arg18.IsWhole)
  (arg19 : Memref sig .tc .vmem S128x512 .f32) (harg19 : arg19.IsWhole) :
    Prog (TpuEff nD τ sig (Elt F) Λ₀ .tc) (Σ' (arg0 : BitVec 32) (v3 : Vec F S256x512 .f32) (v4 : Vec F S256x512 .f32) (v5 : Vec F S256x512 .f32) (v6 : Vec F S256x512 .f32) (v7 : Vec F S1x512 .f32) (v8 : Vec F S1x512 .f32) (v9 : Vec F S1x1024 .f32) (v10 : Vec F S1x1024 .f32) (v11 : Vec F S256x512 .f32) (v18 : FVec F S256x512 .f32) (v19 : FVec F S256x512 .f32) (v27 : FVec F S256x512 .f32) (v29 : FVec F S256x512 .f32), F .f32) := do
  let arg0 : BitVec 32 := BitVec.ofNat 32 (i 0).val
  let v3 : Vec F S256x512 .f32 ← Prog.lift (.load arg4 (Rect.unit (s := S256x2048) ![0, 0] S256x512.size inb_S256x2048_S256x512_0_0).toLoadRect (View.loadsAt_vmem h_S256x512))
  let v4 : Vec F S256x512 .f32 ← Prog.lift (.load arg4 (Rect.unit (s := S256x2048) ![0, 512] S256x512.size inb_S256x2048_S256x512_0_512).toLoadRect (View.loadsAt_vmem h_S256x512))
  let v5 : Vec F S256x512 .f32 ← Prog.lift (.load arg4 (Rect.unit (s := S256x2048) ![0, 1024] S256x512.size inb_S256x2048_S256x512_0_1024).toLoadRect (View.loadsAt_vmem h_S256x512))
  let v6 : Vec F S256x512 .f32 ← Prog.lift (.load arg4 (Rect.unit (s := S256x2048) ![0, 1536] S256x512.size inb_S256x2048_S256x512_0_1536).toLoadRect (View.loadsAt_vmem h_S256x512))
  let v7 : Vec F S1x512 .f32 ← Prog.lift (.load arg6 (Rect.unit (s := S16x1024) ![2, 0] S1x512.size inb_S16x1024_S1x512_2_0).toLoadRect (View.loadsAt_vmem h_S1x512))
  let v8 : Vec F S1x512 .f32 ← Prog.lift (.load arg6 (Rect.unit (s := S16x1024) ![3, 0] S1x512.size inb_S16x1024_S1x512_3_0).toLoadRect (View.loadsAt_vmem h_S1x512))
  let v9 : Vec F S1x1024 .f32 ← Prog.lift (.load arg6 (Rect.unit (s := S16x1024) ![7, 0] S1x1024.size inb_S16x1024_S1x1024_7_0).toLoadRect (View.loadsAt_vmem h_S1x1024))
  let v10 : Vec F S1x1024 .f32 ← Prog.lift (.load arg6 (Rect.unit (s := S16x1024) ![8, 0] S1x1024.size inb_S16x1024_S1x1024_8_0).toLoadRect (View.loadsAt_vmem h_S1x1024))
  let v11 : Vec F S256x512 .f32 ← Prog.lift (.load arg3 (Rect.unit (s := S256x512) ![0, 0] S256x512.size inb_S256x512_S256x512_0_0).toLoadRect (View.loadsAt_vmem h_S256x512))
  have cst_17 : F .f32 := Scalar.ofBits .f32 0x3F3504F3#32
  pure ⟨arg0, v3, v4, v5, v6, v7, v8, v9, v10, v11, k0_pay24 v3, k0_pay25 v3, k0_pay26 v4, k0_pay27 v5, cst_17⟩

/-- The body's first part clears the sums and reads these. -/
theorem part6_eq (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x512 .f32) (harg3 : arg3.IsWhole)
  (arg4 : Memref sig .tc .vmem S256x2048 .f32) (harg4 : arg4.IsWhole)
  (arg5 : Memref sig .tc .vmem S1024x1024 .bf16) (harg5 : arg5.IsWhole)
  (arg6 : Memref sig .tc .vmem S16x1024 .f32) (harg6 : arg6.IsWhole)
  (arg7 : Memref sig .tc .vmem S8x128x128 .bf16) (harg7 : arg7.IsWhole)
  (arg8 : Memref sig .tc .vmem S8x128x128 .bf16) (harg8 : arg8.IsWhole)
  (arg9 : Memref sig .tc .vmem S128x512 .f32) (harg9 : arg9.IsWhole)
  (arg10 : Memref sig .tc .vmem S256x1024 .f32) (harg10 : arg10.IsWhole)
  (arg11 : Memref sig .tc .vmem S256x512 .bf16) (harg11 : arg11.IsWhole)
  (arg12 : Memref sig .tc .vmem S256x2048 .bf16) (harg12 : arg12.IsWhole)
  (arg13 : Memref sig .tc .vmem S1024x1024 .f32) (harg13 : arg13.IsWhole)
  (arg14 : Memref sig .tc .vmem S8x128x128 .f32) (harg14 : arg14.IsWhole)
  (arg15 : Memref sig .tc .vmem S128x128 .f32) (harg15 : arg15.IsWhole)
  (arg16 : Memref sig .tc .vmem S8x1024 .f32) (harg16 : arg16.IsWhole)
  (arg17 : Memref sig .tc .vmem S256x512 .f32) (harg17 : arg17.IsWhole)
  (arg18 : Memref sig .tc .vmem S256x512 .f32) (harg18 : arg18.IsWhole)
  (arg19 : Memref sig .tc .vmem S128x512 .f32) (harg19 : arg19.IsWhole) :
    k0_part6_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = clear i arg13 harg13 arg14 harg14 arg16 harg16 arg19 harg19 >>= fun _ => loads i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  unfold k0_part6_skel clear loads
  by_cases h : first i
  · simp only [dif_pos h]; rfl
  · simp only [dif_neg h]; rfl

/-- The last lines: at the last point the mixing weights' gradient keeps its lower triangles and the biases' is summed. -/
def finish (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x512 .f32) (harg3 : arg3.IsWhole)
  (arg4 : Memref sig .tc .vmem S256x2048 .f32) (harg4 : arg4.IsWhole)
  (arg5 : Memref sig .tc .vmem S1024x1024 .bf16) (harg5 : arg5.IsWhole)
  (arg6 : Memref sig .tc .vmem S16x1024 .f32) (harg6 : arg6.IsWhole)
  (arg7 : Memref sig .tc .vmem S8x128x128 .bf16) (harg7 : arg7.IsWhole)
  (arg8 : Memref sig .tc .vmem S8x128x128 .bf16) (harg8 : arg8.IsWhole)
  (arg9 : Memref sig .tc .vmem S128x512 .f32) (harg9 : arg9.IsWhole)
  (arg10 : Memref sig .tc .vmem S256x1024 .f32) (harg10 : arg10.IsWhole)
  (arg11 : Memref sig .tc .vmem S256x512 .bf16) (harg11 : arg11.IsWhole)
  (arg12 : Memref sig .tc .vmem S256x2048 .bf16) (harg12 : arg12.IsWhole)
  (arg13 : Memref sig .tc .vmem S1024x1024 .f32) (harg13 : arg13.IsWhole)
  (arg14 : Memref sig .tc .vmem S8x128x128 .f32) (harg14 : arg14.IsWhole)
  (arg15 : Memref sig .tc .vmem S128x128 .f32) (harg15 : arg15.IsWhole)
  (arg16 : Memref sig .tc .vmem S8x1024 .f32) (harg16 : arg16.IsWhole)
  (arg17 : Memref sig .tc .vmem S256x512 .f32) (harg17 : arg17.IsWhole)
  (arg18 : Memref sig .tc .vmem S256x512 .f32) (harg18 : arg18.IsWhole)
  (arg19 : Memref sig .tc .vmem S128x512 .f32) (harg19 : arg19.IsWhole) :
    Prog (TpuEff nD τ sig (Elt F) Λ₀ .tc) PUnit := do
  if k0_h2 : final i then do
    let ⟨v671, v696, v697⟩ : Σ' (v671 : IVec S128x128 1) (v696 : FVec F S128x128 .f32), Vec F S1x128x128 .f32 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    let ⟨v724, v725⟩ : Σ' (v724 : FVec F S128x128 .f32), Vec F S1x128x128 .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v671 v696 v697
    let ⟨v728, v763, v764, v765⟩ : Σ' (v728 : IVec S128x128 32) (v763 : FVec F S128x128 .f32) (v764 : Vec F S128x128 .f32), IVec S128x128 32 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v724 v725
    let ⟨v797, v798, v805, cst_513⟩ : Σ' (v797 : FVec F S128x128 .f32) (v798 : Vec F S128x128 .f32) (v805 : IVec S128x128 1), F .f32 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v728 v763 v764 v765
    let ⟨v831, v843, v847⟩ : Σ' (v831 : FVec F S128x128 .f32) (v843 : IVec S128x128 1), FVec F S128x128 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v728 v797 v798 v805 cst_513
    let v849 : Vec F S128x128 .f32 ← Prog.lift (.load arg19 (Rect.unit (s := S128x512) ![0, 384] S128x128.size inb_S128x512_S128x128_0_384).toLoadRect (View.loadsAt_vmem h_S128x128))
    let v866 : Vec F S128x128 .f32 ← Prog.lift (.load arg15 (Rect.unit (s := S128x128) ![0, 0] S128x128.size inb_S128x128_S128x128_0_0).toLoadRect (View.loadsAt_vmem h_S128x128))
    Prog.lift (.store arg15 (Rect.unit (s := S128x128) ![0, 0] S128x128.size inb_S128x128_S128x128_0_0) (k0_pay2 v728 v831 v843 v847 v849) Finset.univ (View.stores_vmem_bits_univ h_S128x128 rfl) (.inl rfl))
    pure ⟨⟩
  else do
    pure ⟨⟩
  pure ⟨⟩

attribute [irreducible] finish

unseal finish in
/-- These lines, as the body spells them. -/
theorem finish_eq (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x512 .f32) (harg3 : arg3.IsWhole)
  (arg4 : Memref sig .tc .vmem S256x2048 .f32) (harg4 : arg4.IsWhole)
  (arg5 : Memref sig .tc .vmem S1024x1024 .bf16) (harg5 : arg5.IsWhole)
  (arg6 : Memref sig .tc .vmem S16x1024 .f32) (harg6 : arg6.IsWhole)
  (arg7 : Memref sig .tc .vmem S8x128x128 .bf16) (harg7 : arg7.IsWhole)
  (arg8 : Memref sig .tc .vmem S8x128x128 .bf16) (harg8 : arg8.IsWhole)
  (arg9 : Memref sig .tc .vmem S128x512 .f32) (harg9 : arg9.IsWhole)
  (arg10 : Memref sig .tc .vmem S256x1024 .f32) (harg10 : arg10.IsWhole)
  (arg11 : Memref sig .tc .vmem S256x512 .bf16) (harg11 : arg11.IsWhole)
  (arg12 : Memref sig .tc .vmem S256x2048 .bf16) (harg12 : arg12.IsWhole)
  (arg13 : Memref sig .tc .vmem S1024x1024 .f32) (harg13 : arg13.IsWhole)
  (arg14 : Memref sig .tc .vmem S8x128x128 .f32) (harg14 : arg14.IsWhole)
  (arg15 : Memref sig .tc .vmem S128x128 .f32) (harg15 : arg15.IsWhole)
  (arg16 : Memref sig .tc .vmem S8x1024 .f32) (harg16 : arg16.IsWhole)
  (arg17 : Memref sig .tc .vmem S256x512 .f32) (harg17 : arg17.IsWhole)
  (arg18 : Memref sig .tc .vmem S256x512 .f32) (harg18 : arg18.IsWhole)
  (arg19 : Memref sig .tc .vmem S128x512 .f32) (harg19 : arg19.IsWhole) :
    finish (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = (do
  if k0_h2 : final i then do
    let ⟨v671, v696, v697⟩ : Σ' (v671 : IVec S128x128 1) (v696 : FVec F S128x128 .f32), Vec F S1x128x128 .f32 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    let ⟨v724, v725⟩ : Σ' (v724 : FVec F S128x128 .f32), Vec F S1x128x128 .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v671 v696 v697
    let ⟨v728, v763, v764, v765⟩ : Σ' (v728 : IVec S128x128 32) (v763 : FVec F S128x128 .f32) (v764 : Vec F S128x128 .f32), IVec S128x128 32 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v724 v725
    let ⟨v797, v798, v805, cst_513⟩ : Σ' (v797 : FVec F S128x128 .f32) (v798 : Vec F S128x128 .f32) (v805 : IVec S128x128 1), F .f32 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v728 v763 v764 v765
    let ⟨v831, v843, v847⟩ : Σ' (v831 : FVec F S128x128 .f32) (v843 : IVec S128x128 1), FVec F S128x128 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v728 v797 v798 v805 cst_513
    let v849 : Vec F S128x128 .f32 ← Prog.lift (.load arg19 (Rect.unit (s := S128x512) ![0, 384] S128x128.size inb_S128x512_S128x128_0_384).toLoadRect (View.loadsAt_vmem h_S128x128))
    let v866 : Vec F S128x128 .f32 ← Prog.lift (.load arg15 (Rect.unit (s := S128x128) ![0, 0] S128x128.size inb_S128x128_S128x128_0_0).toLoadRect (View.loadsAt_vmem h_S128x128))
    Prog.lift (.store arg15 (Rect.unit (s := S128x128) ![0, 0] S128x128.size inb_S128x128_S128x128_0_0) (k0_pay2 v728 v831 v843 v847 v849) Finset.univ (View.stores_vmem_bits_univ h_S128x128 rfl) (.inl rfl))
    pure ⟨⟩
  else do
    pure ⟨⟩
  pure ⟨⟩) := rfl

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x512 .f32) (harg3 : arg3.IsWhole)
  (arg4 : Memref sig .tc .vmem S256x2048 .f32) (harg4 : arg4.IsWhole)
  (arg5 : Memref sig .tc .vmem S1024x1024 .bf16) (harg5 : arg5.IsWhole)
  (arg6 : Memref sig .tc .vmem S16x1024 .f32) (harg6 : arg6.IsWhole)
  (arg7 : Memref sig .tc .vmem S8x128x128 .bf16) (harg7 : arg7.IsWhole)
  (arg8 : Memref sig .tc .vmem S8x128x128 .bf16) (harg8 : arg8.IsWhole)
  (arg9 : Memref sig .tc .vmem S128x512 .f32) (harg9 : arg9.IsWhole)
  (arg10 : Memref sig .tc .vmem S256x1024 .f32) (harg10 : arg10.IsWhole)
  (arg11 : Memref sig .tc .vmem S256x512 .bf16) (harg11 : arg11.IsWhole)
  (arg12 : Memref sig .tc .vmem S256x2048 .bf16) (harg12 : arg12.IsWhole)
  (arg13 : Memref sig .tc .vmem S1024x1024 .f32) (harg13 : arg13.IsWhole)
  (arg14 : Memref sig .tc .vmem S8x128x128 .f32) (harg14 : arg14.IsWhole)
  (arg15 : Memref sig .tc .vmem S128x128 .f32) (harg15 : arg15.IsWhole)
  (arg16 : Memref sig .tc .vmem S8x1024 .f32) (harg16 : arg16.IsWhole)
  (arg17 : Memref sig .tc .vmem S256x512 .f32) (harg17 : arg17.IsWhole)
  (arg18 : Memref sig .tc .vmem S256x512 .f32) (harg18 : arg18.IsWhole)
  (arg19 : Memref sig .tc .vmem S128x512 .f32) (harg19 : arg19.IsWhole)
variable (x1 : Vec F S256x1024 .f32) (x2 : Vec F S256x1024 .f32) (x3 : Vec F S256x512 .f32) (x4 : Vec F S256x2048 .f32) (x5 : Vec F S1024x1024 .bf16) (x6 : Vec F S16x1024 .f32) (x7 : Vec F S8x128x128 .bf16) (x8 : Vec F S8x128x128 .bf16) (x9 : Vec F S128x512 .f32)

set_option maxHeartbeats 16000000 in
/-- The body up to its last lines, whatever these are found to do: what its stores are. -/
def run (y13 : Vec F S1024x1024 .f32) (y14 : Vec F S8x128x128 .f32) (y16 : Vec F S8x1024 .f32) (y19 : Vec F S128x512 .f32) :
    Σ' (L10 : List (View.Piece (Elt F) S256x1024 .f32)), Σ' (L11 : List (View.Piece (Elt F) S256x512 .bf16)), Σ' (L12 : List (View.Piece (Elt F) S256x2048 .bf16)), Σ' (L13 : List (View.Piece (Elt F) S1024x1024 .f32)), Σ' (L14 : List (View.Piece (Elt F) S8x128x128 .f32)), Σ' (L16 : List (View.Piece (Elt F) S8x1024 .f32)), { L19 : List (View.Piece (Elt F) S128x512 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare y13 ∗ owns (c : Thread nD τ) arg14 fullShare y14 ∗ owns (c : Thread nD τ) arg16 fullShare y16 ∗ (∃ d, owns (c : Thread nD τ) arg17 fullShare d) ∗ (∃ d, owns (c : Thread nD τ) arg18 fullShare d) ∗ owns (c : Thread nD τ) arg19 fullShare y19
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (arg13.view.loc (c : Thread nD τ) ↦[arg13.view.set]{fullShare} arg13.view.writes (Elt F) (harg13.unread (begin13 i y13)) L13) ∗ (arg14.view.loc (c : Thread nD τ) ↦[arg14.view.set]{fullShare} arg14.view.writes (Elt F) (harg14.unread (begin14 i y14)) L14) ∗ (arg16.view.loc (c : Thread nD τ) ↦[arg16.view.set]{fullShare} arg16.view.writes (Elt F) (harg16.unread (begin16 i y16)) L16) ∗ (∃ d, owns (c : Thread nD τ) arg17 fullShare d) ∗ (∃ d, owns (c : Thread nD τ) arg18 fullShare d) ∗ (arg19.view.loc (c : Thread nD τ) ↦[arg19.view.set]{fullShare} arg19.view.writes (Elt F) (harg19.unread (begin19 i y19)) L19)) -∗ wp frame (wpE (defs₀ (F := F)) Variants.none c none) E (finish i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K))
          ⊢ wp frame (wpE (defs₀ (F := F)) Variants.none c none) E (cc0_post i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, fun E K => ?run⟩
  case run =>
    simp only [cc0_post_eq_skeleton]; unfold cc0_post_skel
    simp only [← finish_eq]
    generalize finish (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = last
    simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    iintro ⟨H1, H2, H3, H4, H5, H6, H7, H8, H9, H10, H11, H12, H13, H14, H16, H17, H18, H19, Hk⟩
    rw [part6_eq, Prog.bind_assoc]
    iapply (clear_run (F := F) (α := PUnit) c i arg13 harg13 arg14 harg14 arg16 harg16 arg19 harg19)
    isplitl [H13]; · iexact H13
    isplitl [H14]; · iexact H14
    isplitl [H16]; · iexact H16
    isplitl [H19]; · iexact H19
    iintro ⟨H13, H14, H16, H19⟩
    unfold owns
    icases H1 with ⟨%f1, %hf1, H1⟩
    icases H2 with ⟨%f2, %hf2, H2⟩
    icases H3 with ⟨%f3, %hf3, H3⟩
    icases H4 with ⟨%f4, %hf4, H4⟩
    icases H5 with ⟨%f5, %hf5, H5⟩
    icases H6 with ⟨%f6, %hf6, H6⟩
    icases H7 with ⟨%f7, %hf7, H7⟩
    icases H8 with ⟨%f8, %hf8, H8⟩
    icases H9 with ⟨%f9, %hf9, H9⟩
    icases H10 with ⟨%d10, %f10, -, H10⟩
    icases H11 with ⟨%d11, %f11, -, H11⟩
    icases H12 with ⟨%d12, %f12, -, H12⟩
    icases H13 with ⟨%f13, %hf13, H13⟩
    icases H14 with ⟨%f14, %hf14, H14⟩
    icases H16 with ⟨%f16, %hf16, H16⟩
    icases H17 with ⟨%d17, %f17, -, H17⟩
    icases H18 with ⟨%d18, %f18, -, H18⟩
    icases H19 with ⟨%f19, %hf19, H19⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg13.eq_unread hf13; obtain rfl := harg14.eq_unread hf14; obtain rfl := harg16.eq_unread hf16; obtain rfl := harg19.eq_unread hf19
    sl_exec
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    isplitl [H13]; · iexact H13
    isplitl [H14]; · iexact H14
    isplitl [H16]; · iexact H16
    isplitl [H17]
    · iexists (arg17.view.read (Elt F) _), _; isplitr
      swap; · iexact H17
      ipureintro; exact rfl
    isplitl [H18]
    · iexists (arg18.view.read (Elt F) _), _; isplitr
      swap; · iexact H18
      ipureintro; exact rfl
    iexact H19

end Cert.Own.Post

end

end
-- ==== Proof.PostFinish.lean ====
module

public import proofs.«01_k».proof.Proof.PostRun

@[expose] public section

/-! The last lines of the output projection's kernel: at the last point the mixing weights' gradient keeps its lower triangles, and the mixing biases' is summed. -/

noncomputable section

namespace Cert.Own.Post

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.PostIdeal Cert.PostIdeal.Gen

variable {F : FTy → Type} [FloatOps F]

local notation "𝕄" => MT nD τ sig Unit (Elt F) ℕ (UR sig nD τ) ℕ

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x512 .f32) (harg3 : arg3.IsWhole)
  (arg4 : Memref sig .tc .vmem S256x2048 .f32) (harg4 : arg4.IsWhole)
  (arg5 : Memref sig .tc .vmem S1024x1024 .bf16) (harg5 : arg5.IsWhole)
  (arg6 : Memref sig .tc .vmem S16x1024 .f32) (harg6 : arg6.IsWhole)
  (arg7 : Memref sig .tc .vmem S8x128x128 .bf16) (harg7 : arg7.IsWhole)
  (arg8 : Memref sig .tc .vmem S8x128x128 .bf16) (harg8 : arg8.IsWhole)
  (arg9 : Memref sig .tc .vmem S128x512 .f32) (harg9 : arg9.IsWhole)
  (arg10 : Memref sig .tc .vmem S256x1024 .f32) (harg10 : arg10.IsWhole)
  (arg11 : Memref sig .tc .vmem S256x512 .bf16) (harg11 : arg11.IsWhole)
  (arg12 : Memref sig .tc .vmem S256x2048 .bf16) (harg12 : arg12.IsWhole)
  (arg13 : Memref sig .tc .vmem S1024x1024 .f32) (harg13 : arg13.IsWhole)
  (arg14 : Memref sig .tc .vmem S8x128x128 .f32) (harg14 : arg14.IsWhole)
  (arg15 : Memref sig .tc .vmem S128x128 .f32) (harg15 : arg15.IsWhole)
  (arg16 : Memref sig .tc .vmem S8x1024 .f32) (harg16 : arg16.IsWhole)
  (arg17 : Memref sig .tc .vmem S256x512 .f32) (harg17 : arg17.IsWhole)
  (arg18 : Memref sig .tc .vmem S256x512 .f32) (harg18 : arg18.IsWhole)
  (arg19 : Memref sig .tc .vmem S128x512 .f32) (harg19 : arg19.IsWhole)

set_option maxHeartbeats 4000000 in
/-- At the last point: what the stores are. -/
def lastRun (y14 : Vec F S8x128x128 .f32) (y19 : Vec F S128x512 .f32) (hc : final i) :
    Σ' (L14 : List (View.Piece (Elt F) S8x128x128 .f32)), { L15 : List (View.Piece (Elt F) S128x128 .f32) //
      ∀ (E : Set ℕ) (K : PUnit → sProp 𝕄),
        iprop(owns (c : Thread nD τ) arg14 fullShare y14 ∗ (∃ d, owns (c : Thread nD τ) arg15 fullShare d) ∗ owns (c : Thread nD τ) arg19 fullShare y19
            ∗ (iprop((arg14.view.loc (c : Thread nD τ) ↦[arg14.view.set]{fullShare} arg14.view.writes (Elt F) (harg14.unread y14) L14) ∗ (∃ f, arg15.view.loc (c : Thread nD τ) ↦[arg15.view.set]{fullShare} arg15.view.writes (Elt F) f L15) ∗ owns (c : Thread nD τ) arg19 fullShare y19) -∗ K ⟨⟩))
          ⊢ wp frame (wpE (defs₀ (F := F)) Variants.none c none) E (finish i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun E K => ?run⟩
  case run =>
    rw [finish_eq]
    simp only [k0_part1_eq_skeleton, k0_part2_eq_skeleton, k0_part3_eq_skeleton, k0_part4_eq_skeleton, k0_part5_eq_skeleton]
    unfold owns
    iintro ⟨⟨%f14, %hf14, H14⟩, ⟨%d15, %f15, -, H15⟩, ⟨%f19, %hf19, H19⟩, Hk⟩
    obtain rfl := harg14.eq_unread hf14; obtain rfl := harg19.eq_unread hf19
    sl_exec (disch := sl_exact hc)
    sl_step
    iapply Hk
    isplitl [H14]; · iexact H14
    isplitl [H15]; · iexists _; iexact H15
    iexists _; isplitr; · ipureintro; exact harg19.read_unread _
    iexact H19

/-- What the mixing weights' gradient is then, -/
def end14 (y14 : Vec F S8x128x128 .f32) (y19 : Vec F S128x512 .f32) : Vec F S8x128x128 .f32 :=
  if hc : final i then arg14.view.read (Elt F) (arg14.view.writes (Elt F) (harg14.unread y14) (lastRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 y14 y19 hc).1) else y14

/-- and the mixing biases'. -/
def end15 (y14 : Vec F S8x128x128 .f32) (y15 : Vec F S128x128 .f32) (y19 : Vec F S128x512 .f32) : Vec F S128x128 .f32 :=
  if hc : final i then arg15.view.read (Elt F) (arg15.view.writes (Elt F) arg15.view.junk (lastRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 y14 y19 hc).2.1) else y15

theorem cover15 (y14 : Vec F S8x128x128 .f32) (y19 : Vec F S128x512 .f32) (hc : final i) (y : S128x128.Idx) :
    ∃ pc ∈ (lastRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 y14 y19 hc).2.1, y ∈ pc.1.set :=
  View.cover_of_tiledL (lastRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 y14 y19 hc).2.1 S128x128.size (by sl_kernel_rfl) y

set_option maxHeartbeats 1000000 in
/-- The last lines at any point. -/
theorem finish_run (y14 : Vec F S8x128x128 .f32) (y15 : Vec F S128x128 .f32) (y19 : Vec F S128x512 .f32) (E : Set ℕ) (K : PUnit → sProp 𝕄) :
    iprop(owns (c : Thread nD τ) arg14 fullShare y14 ∗ owns (c : Thread nD τ) arg15 fullShare y15 ∗ owns (c : Thread nD τ) arg19 fullShare y19
        ∗ (iprop(owns (c : Thread nD τ) arg14 fullShare (end14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 y14 y19) ∗ owns (c : Thread nD τ) arg15 fullShare (end15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 y14 y15 y19) ∗ owns (c : Thread nD τ) arg19 fullShare y19) -∗ K ⟨⟩))
      ⊢ wp frame (wpE (defs₀ (F := F)) Variants.none c none) E (finish i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  by_cases hc : final i
  · simp only [end14, end15, dif_pos hc]
    iintro ⟨H14, H15, H19, Hk⟩
    iapply ((lastRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 y14 y19 hc).2.2 E K)
    isplitl [H14]; · iexact H14
    isplitl [H15]; · iexists _; iexact H15
    isplitl [H19]; · iexact H19
    iintro ⟨H14, ⟨%f, H15⟩, H19⟩
    iapply Hk
    isplitl [H14]
    · unfold owns; iexists _; isplitr
      swap; · iexact H14
      ipureintro; rfl
    isplitl [H15]
    · unfold owns; iexists _; isplitr
      swap; · iexact H15
      ipureintro; exact View.read_writes_of_cover _ _ _ _ _ (cover15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 y14 y19 hc)
    iexact H19
  · simp only [end14, end15, dif_neg hc]
    rw [finish_eq]
    simp only [dif_neg hc]
    iintro ⟨H14, H15, H19, Hk⟩
    sl_step
    iapply Hk
    isplitl [H14]; · iexact H14
    isplitl [H15]; · iexact H15
    iexact H19

end Cert.Own.Post

end

end
-- ==== Proof.PostBody.lean ====
module

public import proofs.«01_k».proof.Proof.PostFinish

@[expose] public section

/-! The body of the output projection's kernel at any point. -/

noncomputable section

namespace Cert.Own.Post

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.PostIdeal Cert.PostIdeal.Gen

variable {F : FTy → Type} [FloatOps F]

local notation "𝕄" => MT nD τ sig Unit (Elt F) ℕ (UR sig nD τ) ℕ

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x512 .f32) (harg3 : arg3.IsWhole)
  (arg4 : Memref sig .tc .vmem S256x2048 .f32) (harg4 : arg4.IsWhole)
  (arg5 : Memref sig .tc .vmem S1024x1024 .bf16) (harg5 : arg5.IsWhole)
  (arg6 : Memref sig .tc .vmem S16x1024 .f32) (harg6 : arg6.IsWhole)
  (arg7 : Memref sig .tc .vmem S8x128x128 .bf16) (harg7 : arg7.IsWhole)
  (arg8 : Memref sig .tc .vmem S8x128x128 .bf16) (harg8 : arg8.IsWhole)
  (arg9 : Memref sig .tc .vmem S128x512 .f32) (harg9 : arg9.IsWhole)
  (arg10 : Memref sig .tc .vmem S256x1024 .f32) (harg10 : arg10.IsWhole)
  (arg11 : Memref sig .tc .vmem S256x512 .bf16) (harg11 : arg11.IsWhole)
  (arg12 : Memref sig .tc .vmem S256x2048 .bf16) (harg12 : arg12.IsWhole)
  (arg13 : Memref sig .tc .vmem S1024x1024 .f32) (harg13 : arg13.IsWhole)
  (arg14 : Memref sig .tc .vmem S8x128x128 .f32) (harg14 : arg14.IsWhole)
  (arg15 : Memref sig .tc .vmem S128x128 .f32) (harg15 : arg15.IsWhole)
  (arg16 : Memref sig .tc .vmem S8x1024 .f32) (harg16 : arg16.IsWhole)
  (arg17 : Memref sig .tc .vmem S256x512 .f32) (harg17 : arg17.IsWhole)
  (arg18 : Memref sig .tc .vmem S256x512 .f32) (harg18 : arg18.IsWhole)
  (arg19 : Memref sig .tc .vmem S128x512 .f32) (harg19 : arg19.IsWhole)
variable (x1 : Vec F S256x1024 .f32) (x2 : Vec F S256x1024 .f32) (x3 : Vec F S256x512 .f32) (x4 : Vec F S256x2048 .f32) (x5 : Vec F S1024x1024 .bf16) (x6 : Vec F S16x1024 .f32) (x7 : Vec F S8x128x128 .bf16) (x8 : Vec F S8x128x128 .bf16) (x9 : Vec F S128x512 .f32)
variable (y13 : Vec F S1024x1024 .f32) (y14 : Vec F S8x128x128 .f32) (y16 : Vec F S8x1024 .f32) (y19 : Vec F S128x512 .f32)

/-- What a point leaves: the projected gradient. -/
def out10 : Vec F S256x1024 .f32 :=
  arg10.view.read (Elt F) (arg10.view.writes (Elt F) arg10.view.junk (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19).1)

/-- What a point leaves: the attention's gradient. -/
def out11 : Vec F S256x512 .bf16 :=
  arg11.view.read (Elt F) (arg11.view.writes (Elt F) arg11.view.junk (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19).2.1)

/-- What a point leaves: the gates' gradient. -/
def out12 : Vec F S256x2048 .bf16 :=
  arg12.view.read (Elt F) (arg12.view.writes (Elt F) arg12.view.junk (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19).2.2.1)

/-- What a point leaves: the output weights' gradient. -/
def out13 : Vec F S1024x1024 .f32 :=
  arg13.view.read (Elt F) (arg13.view.writes (Elt F) (harg13.unread (begin13 i y13)) (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19).2.2.2.1)

/-- What a point leaves: the mixing weights' gradient before the last lines. -/
def out14 : Vec F S8x128x128 .f32 :=
  arg14.view.read (Elt F) (arg14.view.writes (Elt F) (harg14.unread (begin14 i y14)) (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19).2.2.2.2.1)

/-- What a point leaves: the rows of sums. -/
def out16 : Vec F S8x1024 .f32 :=
  arg16.view.read (Elt F) (arg16.view.writes (Elt F) (harg16.unread (begin16 i y16)) (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19).2.2.2.2.2.1)

/-- What a point leaves: the mixing biases' sums. -/
def out19 : Vec F S128x512 .f32 :=
  arg19.view.read (Elt F) (arg19.view.writes (Elt F) (harg19.unread (begin19 i y19)) (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19).2.2.2.2.2.2.1)

/-- Its stores cover the buffer. -/
theorem cover10 (y : S256x1024.Idx) : ∃ pc ∈ (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19).1, y ∈ pc.1.set :=
  View.cover_of_tiledL (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19).1 S256x1024.size (by sl_kernel_rfl) y

/-- Its stores cover the buffer. -/
theorem cover11 (y : S256x512.Idx) : ∃ pc ∈ (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19).2.1, y ∈ pc.1.set :=
  View.cover_of_tiledL (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19).2.1 S256x512.size (by sl_kernel_rfl) y

/-- Its stores cover the buffer. -/
theorem cover12 (y : S256x2048.Idx) : ∃ pc ∈ (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19).2.2.1, y ∈ pc.1.set :=
  View.cover_of_tiledL (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19).2.2.1 S256x512.size (by sl_kernel_rfl) y

set_option maxHeartbeats 2000000 in
/-- The body at any point: what it leaves in each buffer. -/
theorem body_run (y15 : Vec F S128x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare y13 ∗ owns (c : Thread nD τ) arg14 fullShare y14 ∗ owns (c : Thread nD τ) arg15 fullShare y15 ∗ owns (c : Thread nD τ) arg16 fullShare y16 ∗ (∃ d, owns (c : Thread nD τ) arg17 fullShare d) ∗ (∃ d, owns (c : Thread nD τ) arg18 fullShare d) ∗ owns (c : Thread nD τ) arg19 fullShare y19
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19) ∗ owns (c : Thread nD τ) arg11 fullShare (out11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19) ∗ owns (c : Thread nD τ) arg12 fullShare (out12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19) ∗ owns (c : Thread nD τ) arg13 fullShare (out13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19) ∗ owns (c : Thread nD τ) arg14 fullShare (end14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (out14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19) (out19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19)) ∗ owns (c : Thread nD τ) arg15 fullShare (end15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (out14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19) y15 (out19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19)) ∗ owns (c : Thread nD τ) arg16 fullShare (out16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19) ∗ (∃ d, owns (c : Thread nD τ) arg17 fullShare d) ∗ (∃ d, owns (c : Thread nD τ) arg18 fullShare d) ∗ owns (c : Thread nD τ) arg19 fullShare (out19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19)) -∗ K ⟨⟩))
      ⊢ wp frame (wpE (defs₀ (F := F)) Variants.none c none) E (cc0_post i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  iintro ⟨H1, H2, H3, H4, H5, H6, H7, H8, H9, H10, H11, H12, H13, H14, H15, H16, H17, H18, H19, Hk⟩
  iapply ((run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19).2.2.2.2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H16]; · iexact H16
  isplitl [H17]; · iexact H17
  isplitl [H18]; · iexact H18
  isplitl [H19]; · iexact H19
  iintro ⟨H1, H2, H3, H4, H5, H6, H7, H8, H9, ⟨%f10, H10⟩, ⟨%f11, H11⟩, ⟨%f12, H12⟩, H13, H14, H16, H17, H18, H19⟩
  iapply (finish_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (out14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19) y15 (out19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19) E K)
  isplitl [H14]
  · unfold owns; iexists _; isplitr
    swap; · iexact H14
    ipureintro; rfl
  isplitl [H15]; · iexact H15
  isplitl [H19]
  · unfold owns; iexists _; isplitr
    swap; · iexact H19
    ipureintro; rfl
  iintro ⟨H14, H15, H19⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19)
  isplitl [H11]
  · unfold owns; iexists _; isplitr
    swap; · iexact H11
    ipureintro; exact View.read_writes_of_cover _ _ _ _ _ (cover11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19)
  isplitl [H12]
  · unfold owns; iexists _; isplitr
    swap; · iexact H12
    ipureintro; exact View.read_writes_of_cover _ _ _ _ _ (cover12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19)
  isplitl [H13]
  · unfold owns; iexists _; isplitr
    swap; · iexact H13
    ipureintro; rfl
  isplitl [H14]; · iexact H14
  isplitl [H15]; · iexact H15
  isplitl [H16]
  · unfold owns; iexists _; isplitr
    swap; · iexact H16
    ipureintro; rfl
  isplitl [H17]; · iexact H17
  isplitl [H18]; · iexact H18
  iexact H19

end Cert.Own.Post

end

end
-- ==== Proof.PostFirst.lean ====
module

public import proofs.«01_k».proof.Proof.PostBody

@[expose] public section

/-! At the first point what the sums held before is not used. -/

noncomputable section

namespace Cert.Own.Post

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.PostIdeal Cert.PostIdeal.Gen

variable {F : FTy → Type} [FloatOps F]

local notation "𝕄" => MT nD τ sig Unit (Elt F) ℕ (UR sig nD τ) ℕ

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x512 .f32) (harg3 : arg3.IsWhole)
  (arg4 : Memref sig .tc .vmem S256x2048 .f32) (harg4 : arg4.IsWhole)
  (arg5 : Memref sig .tc .vmem S1024x1024 .bf16) (harg5 : arg5.IsWhole)
  (arg6 : Memref sig .tc .vmem S16x1024 .f32) (harg6 : arg6.IsWhole)
  (arg7 : Memref sig .tc .vmem S8x128x128 .bf16) (harg7 : arg7.IsWhole)
  (arg8 : Memref sig .tc .vmem S8x128x128 .bf16) (harg8 : arg8.IsWhole)
  (arg9 : Memref sig .tc .vmem S128x512 .f32) (harg9 : arg9.IsWhole)
  (arg10 : Memref sig .tc .vmem S256x1024 .f32) (harg10 : arg10.IsWhole)
  (arg11 : Memref sig .tc .vmem S256x512 .bf16) (harg11 : arg11.IsWhole)
  (arg12 : Memref sig .tc .vmem S256x2048 .bf16) (harg12 : arg12.IsWhole)
  (arg13 : Memref sig .tc .vmem S1024x1024 .f32) (harg13 : arg13.IsWhole)
  (arg14 : Memref sig .tc .vmem S8x128x128 .f32) (harg14 : arg14.IsWhole)
  (arg15 : Memref sig .tc .vmem S128x128 .f32) (harg15 : arg15.IsWhole)
  (arg16 : Memref sig .tc .vmem S8x1024 .f32) (harg16 : arg16.IsWhole)
  (arg17 : Memref sig .tc .vmem S256x512 .f32) (harg17 : arg17.IsWhole)
  (arg18 : Memref sig .tc .vmem S256x512 .f32) (harg18 : arg18.IsWhole)
  (arg19 : Memref sig .tc .vmem S128x512 .f32) (harg19 : arg19.IsWhole)
variable (x1 : Vec F S256x1024 .f32) (x2 : Vec F S256x1024 .f32) (x3 : Vec F S256x512 .f32) (x4 : Vec F S256x2048 .f32) (x5 : Vec F S1024x1024 .bf16) (x6 : Vec F S16x1024 .f32) (x7 : Vec F S8x128x128 .bf16) (x8 : Vec F S8x128x128 .bf16) (x9 : Vec F S128x512 .f32)
variable (y13 : Vec F S1024x1024 .f32) (y14 : Vec F S8x128x128 .f32) (y16 : Vec F S8x1024 .f32) (y19 : Vec F S128x512 .f32)
variable (z13 : Vec F S1024x1024 .f32) (z14 : Vec F S8x128x128 .f32) (z16 : Vec F S8x1024 .f32) (z19 : Vec F S128x512 .f32)

theorem out10_any : out10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19 = out10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 z13 z14 z16 z19 := by
  unfold out10 run; dsimp only
theorem out11_any : out11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19 = out11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 z13 z14 z16 z19 := by
  unfold out11 run; dsimp only
theorem out12_any : out12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19 = out12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 z13 z14 z16 z19 := by
  unfold out12 run; dsimp only
theorem out13_first (hf : first i) : out13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19 = out13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 z13 z14 z16 z19 := by
  unfold out13 run; dsimp only
  sl_unfold_words
  simp only [begin13, begin14, begin16, begin19, if_pos hf]
theorem out14_first (hf : first i) : out14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19 = out14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 z13 z14 z16 z19 := by
  unfold out14 run; dsimp only
  sl_unfold_words
  simp only [begin13, begin14, begin16, begin19, if_pos hf]
theorem out16_first (hf : first i) : out16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19 = out16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 z13 z14 z16 z19 := by
  unfold out16 run; dsimp only
  sl_unfold_words
  simp only [begin13, begin14, begin16, begin19, if_pos hf]
theorem out19_first (hf : first i) : out19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 y13 y14 y16 y19 = out19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 z13 z14 z16 z19 := by
  unfold out19 run; dsimp only
  sl_unfold_words
  simp only [begin13, begin14, begin16, begin19, if_pos hf]

end Cert.Own.Post

end

end
-- ==== Proof.PostFrame.lean ====
module

public import proofs.«01_k».proof.Proof.PostFirst
public import Idealize.ShloMosaic.Lib.Claim
public import Idealize.ShloMosaic.Lib.WordCmp

@[expose] public section

/-! The proof data of the pipeline of the output projection's kernel, and its run: it ends, with its arguments unchanged and the semaphores at zero. -/

noncomputable section

namespace Cert.Own.Post

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PostIdeal Cert.PostIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's first test is true at the first point alone, -/
theorem first_iff : ∀ t : Fin cfg0.N, first (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    have e1 : first (grid0.coords t) ↔ t.val % 32 = 0 := by
      simp only [first, e0]
      word_cmp
    rw [e1, Nat.mod_eq_of_lt ht]
   : ∀ t : Fin grid0.N, first (grid0.coords t) ↔ t.val = 0)

/-- and its second at the last alone. -/
theorem final_iff : ∀ t : Fin cfg0.N, final (grid0.coords t) ↔ t.val = 31 :=
  (fun t => by
    have ht : t.val < 32 := Nat.lt_of_lt_of_eq t.isLt N_0
    have e0 : (grid0.coords t 0).val = t.val / 1 % 32 := Pipeline.Grid.coords_val t 0 (by decide) rfl
    have e1 : final (grid0.coords t) ↔ t.val % 32 = 31 := by
      simp only [final, k0_cond2, e0]
      word_cmp
    rw [e1, Nat.mod_eq_of_lt ht]
   : ∀ t : Fin grid0.N, final (grid0.coords t) ↔ t.val = 31)

/-- What the four added-to buffers hold: the output weights' gradient, the mixing weights', the rows of sums, the mixing biases' sums. -/
abbrev Sums (F : FTy → Type) := Vec F S1024x1024 .f32 × Vec F S8x128x128 .f32 × Vec F S8x1024 .f32 × Vec F S128x512 .f32

/-- They are cleared first. -/
def cleared : Sums F := (k0_pay20, k0_pay21, k0_pay22, k0_pay23)

/-- What a point makes of them: the projected gradient. -/
def dhAt (c : Dev nD) (t : Fin cfg0.N) (p : Sums F) : Vec F S256x1024 .f32 :=
  out10 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) p.1 p.2.1 p.2.2.1 p.2.2.2

/-- What a point makes of them: the attention's gradient. -/
def doAt (c : Dev nD) (t : Fin cfg0.N) (p : Sums F) : Vec F S256x512 .bf16 :=
  out11 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) p.1 p.2.1 p.2.2.1 p.2.2.2

/-- What a point makes of them: the gates' gradient. -/
def dgateAt (c : Dev nD) (t : Fin cfg0.N) (p : Sums F) : Vec F S256x2048 .bf16 :=
  out12 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) p.1 p.2.1 p.2.2.1 p.2.2.2

/-- What a point makes of them: the output weights' gradient. -/
def gwoutAt (c : Dev nD) (t : Fin cfg0.N) (p : Sums F) : Vec F S1024x1024 .f32 :=
  out13 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) p.1 p.2.1 p.2.2.1 p.2.2.2

/-- What a point makes of them: the mixing weights' gradient before the last lines. -/
def midAt (c : Dev nD) (t : Fin cfg0.N) (p : Sums F) : Vec F S8x128x128 .f32 :=
  out14 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) p.1 p.2.1 p.2.2.1 p.2.2.2

/-- What a point makes of them: the rows of sums. -/
def vecAt (c : Dev nD) (t : Fin cfg0.N) (p : Sums F) : Vec F S8x1024 .f32 :=
  out16 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) p.1 p.2.1 p.2.2.1 p.2.2.2

/-- What a point makes of them: the mixing biases' sums. -/
def baccAt (c : Dev nD) (t : Fin cfg0.N) (p : Sums F) : Vec F S128x512 .f32 :=
  out19 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) p.1 p.2.1 p.2.2.1 p.2.2.2

/-- What a point leaves of the mixing weights' gradient, -/
def gwspAt (c : Dev nD) (t : Fin cfg0.N) (p : Sums F) : Vec F S8x128x128 .f32 := end14 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (midAt m c t p) (baccAt m c t p)

/-- and of the mixing biases'. -/
def gbspAt (c : Dev nD) (t : Fin cfg0.N) (p : Sums F) (y : Vec F S128x128 .f32) : Vec F S128x128 .f32 := end15 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (midAt m c t p) y (baccAt m c t p)

/-- What a point makes of the four. -/
def stepAt (c : Dev nD) (t : Fin cfg0.N) (p : Sums F) : Sums F := (gwoutAt m c t p, gwspAt m c t p, vecAt m c t p, baccAt m c t p)

theorem dhAt_any (c : Dev nD) (t : Fin cfg0.N) (p q : Sums F) : dhAt m c t p = dhAt m c t q := by
  unfold dhAt; exact out10_any _ _ _ _ _ _ _ _ _ _ _ _ _ _ _ _ _ _ _ _ _ _ _ _ _ _ _ _ _ _ _ _ _ _ _ _ _ _ _ _ _ _ _ _ _ _ _ _ _ _ _ _ _ _ _ _ _
theorem doAt_any (c : Dev nD) (t : Fin cfg0.N) (p q : Sums F) : doAt m c t p = doAt m c t q := by
  unfold doAt; exact out11_any _ _ _ _ _ _ _ _ _ _ _ _ _ _ _ _ _ _ _ _ _ _ _ _ _ _ _ _ _ _ _ _ _ _ _ _ _ _ _ _ _ _ _ _ _ _ _ _ _ _ _ _ _ _ _ _ _
theorem dgateAt_any (c : Dev nD) (t : Fin cfg0.N) (p q : Sums F) : dgateAt m c t p = dgateAt m c t q := by
  unfold dgateAt; exact out12_any _ _ _ _ _ _ _ _ _ _ _ _ _ _ _ _ _ _ _ _ _ _ _ _ _ _ _ _ _ _ _ _ _ _ _ _ _ _ _ _ _ _ _ _ _ _ _ _ _ _ _ _ _ _ _ _ _
theorem gwoutAt_first (c : Dev nD) (t : Fin cfg0.N) (hf : first (grid0.coords t)) (p q : Sums F) : gwoutAt m c t p = gwoutAt m c t q := by
  unfold gwoutAt; exact out13_first _ _ _ _ _ _ _ _ _ _ _ _ _ _ _ _ _ _ _ _ _ _ _ _ _ _ _ _ _ _ _ _ _ _ _ _ _ _ _ _ _ _ _ _ _ _ _ _ _ _ _ _ _ _ _ _ _ hf
theorem midAt_first (c : Dev nD) (t : Fin cfg0.N) (hf : first (grid0.coords t)) (p q : Sums F) : midAt m c t p = midAt m c t q := by
  unfold midAt; exact out14_first _ _ _ _ _ _ _ _ _ _ _ _ _ _ _ _ _ _ _ _ _ _ _ _ _ _ _ _ _ _ _ _ _ _ _ _ _ _ _ _ _ _ _ _ _ _ _ _ _ _ _ _ _ _ _ _ _ hf
theorem vecAt_first (c : Dev nD) (t : Fin cfg0.N) (hf : first (grid0.coords t)) (p q : Sums F) : vecAt m c t p = vecAt m c t q := by
  unfold vecAt; exact out16_first _ _ _ _ _ _ _ _ _ _ _ _ _ _ _ _ _ _ _ _ _ _ _ _ _ _ _ _ _ _ _ _ _ _ _ _ _ _ _ _ _ _ _ _ _ _ _ _ _ _ _ _ _ _ _ _ _ hf
theorem baccAt_first (c : Dev nD) (t : Fin cfg0.N) (hf : first (grid0.coords t)) (p q : Sums F) : baccAt m c t p = baccAt m c t q := by
  unfold baccAt; exact out19_first _ _ _ _ _ _ _ _ _ _ _ _ _ _ _ _ _ _ _ _ _ _ _ _ _ _ _ _ _ _ _ _ _ _ _ _ _ _ _ _ _ _ _ _ _ _ _ _ _ _ _ _ _ _ _ _ _ hf
theorem step_first (c : Dev nD) (t : Fin cfg0.N) (hf : first (grid0.coords t)) (p q : Sums F) : stepAt m c t p = stepAt m c t q := by
  unfold stepAt gwspAt; rw [gwoutAt_first m c t hf p q, midAt_first m c t hf p q, vecAt_first m c t hf p q, baccAt_first m c t hf p q]
theorem gbspAt_first (c : Dev nD) (t : Fin cfg0.N) (hf : first (grid0.coords t)) (p q : Sums F) (y) : gbspAt m c t p y = gbspAt m c t q y := by
  unfold gbspAt; rw [midAt_first m c t hf p q, baccAt_first m c t hf p q]

/-- Before the last point the biases' gradient is untouched; -/
theorem gbspAt_idle (c : Dev nD) (t : Fin cfg0.N) (h : ¬final (grid0.coords t)) (p : Sums F) (y) : gbspAt m c t p y = y := by
  unfold gbspAt end15; exact dif_neg h
/-- at the last point what it was is not used. -/
theorem gbspAt_any (c : Dev nD) (t : Fin cfg0.N) (h : final (grid0.coords t)) (p : Sums F) (y z) : gbspAt m c t p y = gbspAt m c t p z := by
  unfold gbspAt end15; rw [dif_pos h, dif_pos h]

/-- What they hold before a point, -/
def prevAt (c : Dev nD) : (n : ℕ) → n ≤ cfg0.N → Sums F
  | 0, _ => cleared
  | n + 1, h => stepAt m c ⟨n, h⟩ (prevAt c n (Nat.le_of_lt h))

/-- and after it. -/
def sumsAt (c : Dev nD) (t : Fin cfg0.N) : Sums F := stepAt m c t (prevAt m c t.val (Nat.le_of_lt t.isLt))

theorem prevAt_pos (c : Dev nD) (n : ℕ) (h : n ≤ cfg0.N) (hn : n ≠ 0) :
    prevAt m c n h = sumsAt m c ⟨n - 1, by omega⟩ := by
  cases n with
  | zero => exact absurd rfl hn
  | succ n => rfl

/-- The mixing biases' gradient, once it is written. -/
def biasAt (c : Dev nD) (t : Fin cfg0.N) : Vec F S128x128 .f32 :=
  gbspAt m c t (prevAt m c t.val (Nat.le_of_lt t.isLt)) ((win0_14.stage (cfg0.slots t 14)).view.read (Elt F) (win0_14.stage (cfg0.slots t 14)).view.junk)

/-- The buffers of the kernel's own that are not carried, and the one that is: what it holds between points. -/
def PhiS (c : Dev nD) : (n : ℕ) → n ≤ cfg0.N → sProp 𝕄
  | 0, _ => Pipeline.ΦA spec0 c
  | n + 1, h => iprop(iprop((∃ d, owns (c : Thread nD τ) (Memref.whole cc0_scratch0) fullShare d) ∗ (∃ d, owns (c : Thread nD τ) (Memref.whole cc0_scratch1) fullShare d)
      ∗ owns (c : Thread nD τ) (Memref.whole cc0_scratch2) fullShare (prevAt m c (n + 1) h).2.2.2) ∗ (∃ r, prngReg c r))

theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d)) ∗ (∃ r, prngReg c r)) := by
  unfold Pipeline.ΦA; rw [scopedRest0_eq]; simp only [owns_whole]; try rfl

theorem PhiS_pos (c : Dev nD) (n : ℕ) (h : n ≤ cfg0.N) (hn : n ≠ 0) :
    PhiS m c n h = iprop(iprop((∃ d, owns (c : Thread nD τ) (Memref.whole cc0_scratch0) fullShare d) ∗ (∃ d, owns (c : Thread nD τ) (Memref.whole cc0_scratch1) fullShare d)
      ∗ owns (c : Thread nD τ) (Memref.whole cc0_scratch2) fullShare (prevAt m c n h).2.2.2) ∗ (∃ r, prngReg c r)) := by
  cases n with
  | zero => exact absurd rfl hn
  | succ n => rfl

/-- The proof data of the pipeline: each input's buffer keeps its block, and each result's buffer holds the point's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => dhAt m c t (prevAt m c t.val (Nat.le_of_lt t.isLt))
    | ⟨10, _⟩ => doAt m c t (prevAt m c t.val (Nat.le_of_lt t.isLt))
    | ⟨11, _⟩ => dgateAt m c t (prevAt m c t.val (Nat.le_of_lt t.isLt))
    | ⟨12, _⟩ => (sumsAt m c t).1
    | ⟨13, _⟩ => (sumsAt m c t).2.1
    | ⟨14, _⟩ => biasAt m c t
    | ⟨15, _⟩ => (sumsAt m c t).2.2.1
    | ⟨n + 16, h⟩ => absurd (show n + 16 < 16 from h) (by omega)
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = dhAt m c t (prevAt m c t.val (Nat.le_of_lt t.isLt)) := by dsimp only [dats]
theorem after10 (c : Dev nD) (t : Fin cfg0.N) : (dats m 0 c).after 10 t = doAt m c t (prevAt m c t.val (Nat.le_of_lt t.isLt)) := by dsimp only [dats]
theorem after11 (c : Dev nD) (t : Fin cfg0.N) : (dats m 0 c).after 11 t = dgateAt m c t (prevAt m c t.val (Nat.le_of_lt t.isLt)) := by dsimp only [dats]
theorem after12 (c : Dev nD) (t : Fin cfg0.N) : (dats m 0 c).after 12 t = (sumsAt m c t).1 := by dsimp only [dats]
theorem after13 (c : Dev nD) (t : Fin cfg0.N) : (dats m 0 c).after 13 t = (sumsAt m c t).2.1 := by dsimp only [dats]
theorem after14 (c : Dev nD) (t : Fin cfg0.N) : (dats m 0 c).after 14 t = biasAt m c t := by dsimp only [dats]
theorem after15 (c : Dev nD) (t : Fin cfg0.N) : (dats m 0 c).after 15 t = (sumsAt m c t).2.2.1 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-- Before a point that is not the first, an added-to buffer holds what the point before left. -/
theorem before12 (c : Dev nD) (t : Fin cfg0.N) (ht : t.val ≠ 0) (d) :
    (dats m 0 c).before 12 t d = (prevAt m c t.val (Nat.le_of_lt t.isLt)).1 := by
  rw [prevAt_pos m c t.val _ ht]
  refine ((dats m 0 c).before_out_kept 12 rfl t ht (Bool.eq_false_iff.mpr fun h => ?_) (fun _ => rfl) (fun _ _ => rfl) d).trans (after12 m c _)
  have h31 := (flush0_12 _).mp h
  have ht' : t.val < 32 := Nat.lt_of_lt_of_eq t.isLt N_0
  simp only at h31
  omega
theorem before13 (c : Dev nD) (t : Fin cfg0.N) (ht : t.val ≠ 0) (d) :
    (dats m 0 c).before 13 t d = (prevAt m c t.val (Nat.le_of_lt t.isLt)).2.1 := by
  rw [prevAt_pos m c t.val _ ht]
  refine ((dats m 0 c).before_out_kept 13 rfl t ht (Bool.eq_false_iff.mpr fun h => ?_) (fun _ => rfl) (fun _ _ => rfl) d).trans (after13 m c _)
  have h31 := (flush0_13 _).mp h
  have ht' : t.val < 32 := Nat.lt_of_lt_of_eq t.isLt N_0
  simp only at h31
  omega
theorem before15 (c : Dev nD) (t : Fin cfg0.N) (ht : t.val ≠ 0) (d) :
    (dats m 0 c).before 15 t d = (prevAt m c t.val (Nat.le_of_lt t.isLt)).2.2.1 := by
  rw [prevAt_pos m c t.val _ ht]
  refine ((dats m 0 c).before_out_kept 15 rfl t ht (Bool.eq_false_iff.mpr fun h => ?_) (fun _ => rfl) (fun _ _ => rfl) d).trans (after15 m c _)
  have h31 := (flush0_15 _).mp h
  have ht' : t.val < 32 := Nat.lt_of_lt_of_eq t.isLt N_0
  simp only at h31
  omega

theorem idle14 (t : Fin cfg0.N) (h : ¬final (grid0.coords t)) : cfg0.idle 14 (cfg0.grid.coords t) = true := by
  show (!(k0_cond2 (grid0.coords t) == 1#1)) = true
  simpa using h
theorem live14 (t : Fin cfg0.N) (h : final (grid0.coords t)) : cfg0.idle 14 (cfg0.grid.coords t) = false := by
  show (!(k0_cond2 (grid0.coords t) == 1#1)) = false
  simpa using h
theorem quiet14 (t : Fin cfg0.N) (h : ¬final (grid0.coords t)) : (cfg0.win 14).flush t = false :=
  Bool.eq_false_iff.mpr fun hf => h ((final_iff t).mpr (by
    have := (flush0_14 t).mp hf
    have ht' : t.val < 32 := Nat.lt_of_lt_of_eq t.isLt N_0
    omega))

/-- What the body is called with, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

theorem leaves0 (c : Dev nD) (t : Fin cfg0.N) : (dats m 0 c).leavesExact 0 t = owns (c : Thread nD τ) (win0_0.stage (cfg0.slots t 0)) fullShare ((dats m 0 c).after 0 t) := by
  unfold Dat.leavesExact; rw [show cfg0.idle 0 (cfg0.grid.coords t) = false from rfl]
theorem leaves1 (c : Dev nD) (t : Fin cfg0.N) : (dats m 0 c).leavesExact 1 t = owns (c : Thread nD τ) (win0_1.stage (cfg0.slots t 1)) fullShare ((dats m 0 c).after 1 t) := by
  unfold Dat.leavesExact; rw [show cfg0.idle 1 (cfg0.grid.coords t) = false from rfl]
theorem leaves2 (c : Dev nD) (t : Fin cfg0.N) : (dats m 0 c).leavesExact 2 t = owns (c : Thread nD τ) (win0_2.stage (cfg0.slots t 2)) fullShare ((dats m 0 c).after 2 t) := by
  unfold Dat.leavesExact; rw [show cfg0.idle 2 (cfg0.grid.coords t) = false from rfl]
theorem leaves3 (c : Dev nD) (t : Fin cfg0.N) : (dats m 0 c).leavesExact 3 t = owns (c : Thread nD τ) (win0_3.stage (cfg0.slots t 3)) fullShare ((dats m 0 c).after 3 t) := by
  unfold Dat.leavesExact; rw [show cfg0.idle 3 (cfg0.grid.coords t) = false from rfl]
theorem leaves4 (c : Dev nD) (t : Fin cfg0.N) : (dats m 0 c).leavesExact 4 t = owns (c : Thread nD τ) (win0_4.stage (cfg0.slots t 4)) fullShare ((dats m 0 c).after 4 t) := by
  unfold Dat.leavesExact; rw [show cfg0.idle 4 (cfg0.grid.coords t) = false from rfl]
theorem leaves5 (c : Dev nD) (t : Fin cfg0.N) : (dats m 0 c).leavesExact 5 t = owns (c : Thread nD τ) (win0_5.stage (cfg0.slots t 5)) fullShare ((dats m 0 c).after 5 t) := by
  unfold Dat.leavesExact; rw [show cfg0.idle 5 (cfg0.grid.coords t) = false from rfl]
theorem leaves6 (c : Dev nD) (t : Fin cfg0.N) : (dats m 0 c).leavesExact 6 t = owns (c : Thread nD τ) (win0_6.stage (cfg0.slots t 6)) fullShare ((dats m 0 c).after 6 t) := by
  unfold Dat.leavesExact; rw [show cfg0.idle 6 (cfg0.grid.coords t) = false from rfl]
theorem leaves7 (c : Dev nD) (t : Fin cfg0.N) : (dats m 0 c).leavesExact 7 t = owns (c : Thread nD τ) (win0_7.stage (cfg0.slots t 7)) fullShare ((dats m 0 c).after 7 t) := by
  unfold Dat.leavesExact; rw [show cfg0.idle 7 (cfg0.grid.coords t) = false from rfl]
theorem leaves8 (c : Dev nD) (t : Fin cfg0.N) : (dats m 0 c).leavesExact 8 t = owns (c : Thread nD τ) (win0_8.stage (cfg0.slots t 8)) fullShare ((dats m 0 c).after 8 t) := by
  unfold Dat.leavesExact; rw [show cfg0.idle 8 (cfg0.grid.coords t) = false from rfl]
theorem leaves9 (c : Dev nD) (t : Fin cfg0.N) : (dats m 0 c).leavesExact 9 t = owns (c : Thread nD τ) (win0_9.stage (cfg0.slots t 9)) fullShare ((dats m 0 c).after 9 t) := by
  unfold Dat.leavesExact; rw [show cfg0.idle 9 (cfg0.grid.coords t) = false from rfl]
theorem leaves10 (c : Dev nD) (t : Fin cfg0.N) : (dats m 0 c).leavesExact 10 t = owns (c : Thread nD τ) (win0_10.stage (cfg0.slots t 10)) fullShare ((dats m 0 c).after 10 t) := by
  unfold Dat.leavesExact; rw [show cfg0.idle 10 (cfg0.grid.coords t) = false from rfl]
theorem leaves11 (c : Dev nD) (t : Fin cfg0.N) : (dats m 0 c).leavesExact 11 t = owns (c : Thread nD τ) (win0_11.stage (cfg0.slots t 11)) fullShare ((dats m 0 c).after 11 t) := by
  unfold Dat.leavesExact; rw [show cfg0.idle 11 (cfg0.grid.coords t) = false from rfl]
theorem leaves12 (c : Dev nD) (t : Fin cfg0.N) : (dats m 0 c).leavesExact 12 t = owns (c : Thread nD τ) (win0_12.stage (cfg0.slots t 12)) fullShare ((dats m 0 c).after 12 t) := by
  unfold Dat.leavesExact; rw [show cfg0.idle 12 (cfg0.grid.coords t) = false from rfl]
theorem leaves13 (c : Dev nD) (t : Fin cfg0.N) : (dats m 0 c).leavesExact 13 t = owns (c : Thread nD τ) (win0_13.stage (cfg0.slots t 13)) fullShare ((dats m 0 c).after 13 t) := by
  unfold Dat.leavesExact; rw [show cfg0.idle 13 (cfg0.grid.coords t) = false from rfl]
theorem leaves15 (c : Dev nD) (t : Fin cfg0.N) : (dats m 0 c).leavesExact 15 t = owns (c : Thread nD τ) (win0_15.stage (cfg0.slots t 15)) fullShare ((dats m 0 c).after 15 t) := by
  unfold Dat.leavesExact; rw [show cfg0.idle 15 (cfg0.grid.coords t) = false from rfl]

set_option maxHeartbeats 4000000 in
/-- The body at a point, whatever the sums hold before it. -/
theorem body_at (c : Dev nD) (t : Fin cfg0.N) (p : Sums F) (y : Vec F S128x128 .f32) (K : PUnit → sProp 𝕄) :
    iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ (∃ d, owns (c : Thread nD τ) (win0_9.stage (cfg0.slots t 9)) fullShare d) ∗ (∃ d, owns (c : Thread nD τ) (win0_10.stage (cfg0.slots t 10)) fullShare d) ∗ (∃ d, owns (c : Thread nD τ) (win0_11.stage (cfg0.slots t 11)) fullShare d) ∗ owns (c : Thread nD τ) (win0_12.stage (cfg0.slots t 12)) fullShare p.1 ∗ owns (c : Thread nD τ) (win0_13.stage (cfg0.slots t 13)) fullShare p.2.1 ∗ owns (c : Thread nD τ) (win0_14.stage (cfg0.slots t 14)) fullShare y ∗ owns (c : Thread nD τ) (win0_15.stage (cfg0.slots t 15)) fullShare p.2.2.1 ∗ (∃ d, owns (c : Thread nD τ) (Memref.whole cc0_scratch0) fullShare d) ∗ (∃ d, owns (c : Thread nD τ) (Memref.whole cc0_scratch1) fullShare d) ∗ owns (c : Thread nD τ) (Memref.whole cc0_scratch2) fullShare p.2.2.2
        ∗ (iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ owns (c : Thread nD τ) (win0_9.stage (cfg0.slots t 9)) fullShare (dhAt m c t p) ∗ owns (c : Thread nD τ) (win0_10.stage (cfg0.slots t 10)) fullShare (doAt m c t p) ∗ owns (c : Thread nD τ) (win0_11.stage (cfg0.slots t 11)) fullShare (dgateAt m c t p) ∗ owns (c : Thread nD τ) (win0_12.stage (cfg0.slots t 12)) fullShare (stepAt m c t p).1 ∗ owns (c : Thread nD τ) (win0_13.stage (cfg0.slots t 13)) fullShare (stepAt m c t p).2.1 ∗ owns (c : Thread nD τ) (win0_14.stage (cfg0.slots t 14)) fullShare (gbspAt m c t p y) ∗ owns (c : Thread nD τ) (win0_15.stage (cfg0.slots t 15)) fullShare (stepAt m c t p).2.2.1 ∗ (∃ d, owns (c : Thread nD τ) (Memref.whole cc0_scratch0) fullShare d) ∗ (∃ d, owns (c : Thread nD τ) (Memref.whole cc0_scratch1) fullShare d) ∗ owns (c : Thread nD τ) (Memref.whole cc0_scratch2) fullShare (stepAt m c t p).2.2.2) -∗ K ⟨⟩))
      ⊢ wp frame (wpE (defs₀ (F := F)) Variants.none c none) Set.univ (bodyAt0 t) K :=
  body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) p.1 p.2.1 p.2.2.1 p.2.2.2 y Set.univ K

set_option maxHeartbeats 4000000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5, before6, before7, before8]
  rw [show (dats m 0 c).owesAt () t.succ = (dats m 0 c).owesAt () t.castSucc from rfl]
  rw [show (dats m 0 c).Φ t.succ = PhiS m c (t.val + 1) t.isLt from rfl, PhiS_pos m c (t.val + 1) _ (Nat.succ_ne_zero _), Phi_castSucc]
  rw [show prevAt m c (t.val + 1) t.isLt = sumsAt m c t from rfl]
  rw [leaves0, leaves1, leaves2, leaves3, leaves4, leaves5, leaves6, leaves7, leaves8, leaves9, leaves10, leaves11, leaves12, leaves13, leaves15]
  rw [after0, after1, after2, after3, after4, after5, after6, after7, after8, after9, after10, after11, after12, after13, after15]
  by_cases h0 : t.val = 0
  · have hf := (first_iff t).mpr h0
    rw [show PhiS m c t.val (Nat.le_of_lt t.isLt) = Pipeline.ΦA spec0 c from by simp only [h0]; rfl, PhiA_eq]
    by_cases hl : t.val = 31
    · exact absurd (h0.symm.trans hl) (by decide)
    · rw [Dat.leavesExact_idle (dats m 0 c) 14 t (idle14 t (fun h => hl ((final_iff t).mp h))) (quiet14 t (fun h => hl ((final_iff t).mp h)))]
      iintro ⟨⟨⟨S0, S1, ⟨%s2, S2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      have R := body_at m c t ((dats m 0 c).before 12 t d12, (dats m 0 c).before 13 t d13, (dats m 0 c).before 15 t d15, s2) ((dats m 0 c).before 14 t d14)
      rw [dhAt_any m c t _ (prevAt m c t.val (Nat.le_of_lt t.isLt)), doAt_any m c t _ (prevAt m c t.val (Nat.le_of_lt t.isLt)), dgateAt_any m c t _ (prevAt m c t.val (Nat.le_of_lt t.isLt)), step_first m c t hf _ (prevAt m c t.val (Nat.le_of_lt t.isLt)), gbspAt_idle m c t (fun h => hl ((final_iff t).mp h))] at R
      iapply (R _)
      clear R
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexact H12
      isplitl [H13]; · iexact H13
      isplitl [H14]; · iexact H14
      isplitl [H15]; · iexact H15
      isplitl [S0]; · iexact S0
      isplitl [S1]; · iexact S1
      isplitl [S2]; · iexact S2
      iintro ⟨H0, H1, H2, H3, H4, H5, H6, H7, H8, H9, H10, H11, H12, H13, H14, H15, S0, S1, S2⟩
      isplitl [S0 S1 S2 Hg]
      · isplitl [S0 S1 S2]
        · isplitl [S0]; · iexact S0
          isplitl [S1]; · iexact S1
          iexact S2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists d14; iexact H14
      iexact H15
  · rw [PhiS_pos m c t.val _ h0]
    simp only [before12 m c t h0, before13 m c t h0, before15 m c t h0]
    by_cases hl : t.val = 31
    · rw [show (dats m 0 c).leavesExact 14 t = owns (c : Thread nD τ) (win0_14.stage (cfg0.slots t 14)) fullShare ((dats m 0 c).after 14 t) from by
        unfold Dat.leavesExact; rw [live14 t ((final_iff t).mpr hl)], after14]
      iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      have R := body_at m c t (prevAt m c t.val (Nat.le_of_lt t.isLt)) ((dats m 0 c).before 14 t d14)
      rw [gbspAt_any m c t ((final_iff t).mpr hl) _ _ ((win0_14.stage (cfg0.slots t 14)).view.read (Elt F) (win0_14.stage (cfg0.slots t 14)).view.junk)] at R
      iapply (R _)
      clear R
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexact H12
      isplitl [H13]; · iexact H13
      isplitl [H14]; · iexact H14
      isplitl [H15]; · iexact H15
      isplitl [S0]; · iexact S0
      isplitl [S1]; · iexact S1
      isplitl [S2]; · iexact S2
      iintro ⟨H0, H1, H2, H3, H4, H5, H6, H7, H8, H9, H10, H11, H12, H13, H14, H15, S0, S1, S2⟩
      isplitl [S0 S1 S2 Hg]
      · isplitl [S0 S1 S2]
        · isplitl [S0]; · iexact S0
          isplitl [S1]; · iexact S1
          iexact S2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    · rw [Dat.leavesExact_idle (dats m 0 c) 14 t (idle14 t (fun h => hl ((final_iff t).mp h))) (quiet14 t (fun h => hl ((final_iff t).mp h)))]
      iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      have R := body_at m c t (prevAt m c t.val (Nat.le_of_lt t.isLt)) ((dats m 0 c).before 14 t d14)
      rw [gbspAt_idle m c t (fun h => hl ((final_iff t).mp h))] at R
      iapply (R _)
      clear R
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexact H12
      isplitl [H13]; · iexact H13
      isplitl [H14]; · iexact H14
      isplitl [H15]; · iexact H15
      isplitl [S0]; · iexact S0
      isplitl [S1]; · iexact S1
      isplitl [S2]; · iexact S2
      iintro ⟨H0, H1, H2, H3, H4, H5, H6, H7, H8, H9, H10, H11, H12, H13, H14, H15, S0, S1, S2⟩
      isplitl [S0 S1 S2 Hg]
      · isplitl [S0 S1 S2]
        · isplitl [S0]; · iexact S0
          isplitl [S1]; · iexact S1
          iexact S2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists d14; iexact H14
      iexact H15

theorem defs₀_row (t : Fin cfg0.N) : defs₀ (F := F) .tc cfg0.body (cfg0.bodyArgs t (cfg0.slots t)) = bodyAt0 t := by
  unfold defs₀; rw [Defs.onTc_tc]

/-- The obligation of the pipeline: the body's triple at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the region starts with is the invariant before the first point, -/
theorem hin (c : Dev nD) : Pipeline.ΦA spec0 c ⊢ (dats m 0 c).Φ 0 := by
  rw [show (dats m 0 c).Φ 0 = PhiS m c 0 (Nat.zero_le _) from rfl]
  exact .rfl

/-- and the invariant after the last gives it back. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiS_pos m c _ _ (by have : cfg0.N = 32 := N_0; omega), PhiA_eq]
  iintro ⟨⟨S0, S1, S2⟩, Hg⟩
  isplitl [S0 S1 S2]
  · isplitl [S0]; · iexact S0
    isplitl [S1]; · iexact S1
    iexists _; iexact S2
  iexact Hg

set_option backward.isDefEq.respectTransparency.types false in
/-- The run: it ends, each array holding what the pipeline's points wrote back, every semaphore at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- It ends with its arguments unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.Own.Post

end

end
-- ==== Proof.PostBits.lean ====
module

public import proofs.«01_k».proof.Proof.PostFrame
public import proofs.«01_k».proof.Proof.Gen.Post.Frame
public import proofs.«01_k».proof.Defs

@[expose] public section

/-! The frame of the output projection's kernel over bits, from the run of the idealized one: the two programs are the same. -/

noncomputable section

namespace Cert.Own.Post

open Idealize.ShloMosaic Idealize.SL.Sem
open Cert.PostIdeal

variable {F : FTy → Type} [FloatOps F]

/-- The body table of the kernel and of the idealized kernel are the same. -/
theorem same_bodies : (Cert.Post.defs₀ (F := F) : Defs nD τ sig (Elt F) Λ₀) = Cert.PostIdeal.defs₀ := by
  unfold Cert.Post.defs₀ Cert.PostIdeal.defs₀
  refine congrArg Defs.onTc (funext fun l => funext fun x => ?_)
  obtain ⟨l, hl⟩ := l
  cases l with
  | zero => obtain ⟨t, s⟩ := x; rfl
  | succ n => exact absurd hl (by omega)

/-- So are their tables with the pipeline. -/
theorem same_defs : (Cert.Post.defs (F := F) : Defs nD τ sig (Elt F) (Pipeline.Sig Λ₀ (Fin 1) fun p => (pcfgs (F := F) p).Adm)) = Cert.PostIdeal.defs :=
  congrArg (Pipeline.defs pcfgs) same_bodies

/-- The kernel ends with its arguments unchanged and every semaphore at zero. -/
theorem frame_bits : Cert.quiescent_Post := fun m ρ _ => by
  have h := frame_run (F := Bits) m ρ
  rw [← same_defs] at h
  exact h
end Cert.Own.Post

end

end
-- ==== Proof.PostRefFrame.lean ====
module

public import proofs.«01_k».proof.Defs
public import proofs.«01_k».proof.Proof.Gen.PostRefIdeal.Run

@[expose] public section

/-! The run of the reference of the output projection's kernel. -/

noncomputable section

namespace Cert.Own.Post

open Idealize.ShloMosaic Idealize.ShloMosaic.TcCoe Idealize.SL.Sem

/-- The reference runs, leaves its arguments and has no signals. -/
theorem ref_frame : Cert.quiescent_PostRefIdeal := fun m ρ _ =>
  (θ_run _ _ _).mono (fun r h => ⟨fun c => (h c).2.2.2.2.2.2.2, sem_eq_zero_of_no_sems (by decide) r.2⟩) (Cert.PostRefIdeal.Value.run (F := Ideal) m ρ)

end Cert.Own.Post

end

end
-- ==== Proof.lean ====
module

public import proofs.«01_k».proof.Defs
public import proofs.«01_k».proof.Proof.Gen.AdamW
public import proofs.«01_k».proof.Proof.Gen.AdamW.Frame
public import proofs.«01_k».proof.Proof.Gen.AdamWIdeal
public import proofs.«01_k».proof.Proof.Gen.AdamWIdeal.Frame
public import proofs.«01_k».proof.Proof.Gen.AdamWRefIdeal
public import proofs.«01_k».proof.Proof.Gen.AdamWIdeal.Value
public import proofs.«01_k».proof.Proof.Gen.AdamWRefIdeal.Read
public import proofs.«01_k».proof.Proof.Gen.AdamWRefIdeal.Run
public import proofs.«01_k».proof.Proof.AdamW
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Frame
public import proofs.«01_k».proof.Proof.Gen.AttnFwdRefIdeal
public import proofs.«01_k».proof.Proof.Gen.AttnFwdIdeal.Value
public import proofs.«01_k».proof.Proof.Gen.AttnFwdRefIdeal.Read
public import proofs.«01_k».proof.Proof.Gen.AttnFwdRefIdeal.Run
public import proofs.«01_k».proof.Proof.AttnFrame
public import proofs.«01_k».proof.Proof.AttnValue
public import proofs.«01_k».proof.Proof.Gen.FwdPre
public import proofs.«01_k».proof.Proof.Gen.FwdPre.Frame
public import proofs.«01_k».proof.Proof.Gen.FwdPreIdeal
public import proofs.«01_k».proof.Proof.Gen.FwdPreIdeal.Frame
public import proofs.«01_k».proof.Proof.Gen.FwdPreRefIdeal
public import proofs.«01_k».proof.Proof.Gen.FwdPreIdeal.Value
public import proofs.«01_k».proof.Proof.Gen.FwdPreRefIdeal.Read
public import proofs.«01_k».proof.Proof.Gen.FwdPreRefIdeal.Run
public import proofs.«01_k».proof.Proof.FwdPreValue
public import proofs.«01_k».proof.Proof.Gen.AttnBwd
public import proofs.«01_k».proof.Proof.Gen.AttnBwd.Frame
public import proofs.«01_k».proof.Proof.Gen.AttnBwdIdeal
public import proofs.«01_k».proof.Proof.Gen.AttnBwdIdeal.Frame
public import proofs.«01_k».proof.Proof.Gen.AttnBwdRefIdeal
public import proofs.«01_k».proof.Proof.Gen.AttnBwdIdeal.Value
public import proofs.«01_k».proof.Proof.Gen.AttnBwdRefIdeal.Read
public import proofs.«01_k».proof.Proof.Gen.AttnBwdRefIdeal.Run
public import proofs.«01_k».proof.Proof.AttnBwdValue
public import proofs.«01_k».proof.Proof.Gen.BwdPre
public import proofs.«01_k».proof.Proof.Gen.BwdPre.Frame
public import proofs.«01_k».proof.Proof.Gen.BwdPreIdeal
public import proofs.«01_k».proof.Proof.Gen.BwdPreIdeal.Frame
public import proofs.«01_k».proof.Proof.Gen.BwdPreIdeal.Skeleton
public import proofs.«01_k».proof.Proof.Gen.BwdPreRefIdeal
public import proofs.«01_k».proof.Proof.Gen.BwdPreRefIdeal.Read
public import proofs.«01_k».proof.Proof.Gen.BwdPreRefIdeal.Run
public import proofs.«01_k».proof.Proof.BwdPreBits
public import proofs.«01_k».proof.Proof.BwdPreValue
public import proofs.«01_k».proof.Proof.Gen.Post
public import proofs.«01_k».proof.Proof.Gen.Post.Frame
public import proofs.«01_k».proof.Proof.Gen.PostIdeal
public import proofs.«01_k».proof.Proof.Gen.PostIdeal.Frame
public import proofs.«01_k».proof.Proof.Gen.PostIdeal.Skeleton
public import proofs.«01_k».proof.Proof.Gen.PostRefIdeal
public import proofs.«01_k».proof.Proof.Gen.PostRefIdeal.Run
public import proofs.«01_k».proof.Proof.PostBits
public import proofs.«01_k».proof.Proof.PostRefFrame
public import Idealize.ShloMosaic.Adequacy
public import Idealize.ShloMosaic.Init

@[expose] public section

noncomputable section

namespace Cert.Proof

open Idealize.ShloMosaic Idealize.SL.Sem

/-- The certificate: the frames and values of the calls taken, one after the other. -/
theorem claim : Cert.Claim := ⟨
  Cert.AdamW.Gen.facts, Cert.AdamWIdeal.Gen.facts, Cert.AdamWRefIdeal.Gen.facts, Cert.AttnFwd.Gen.facts, Cert.AttnFwdIdeal.Gen.facts, Cert.AttnFwdRefIdeal.Gen.facts, Cert.FwdPre.Gen.facts, Cert.FwdPreIdeal.Gen.facts, Cert.FwdPreRefIdeal.Gen.facts, Cert.AttnBwd.Gen.facts, Cert.AttnBwdIdeal.Gen.facts, Cert.AttnBwdRefIdeal.Gen.facts, Cert.BwdPre.Gen.facts, Cert.BwdPreIdeal.Gen.facts, Cert.BwdPreRefIdeal.Gen.facts, Cert.Post.Gen.facts, Cert.PostIdeal.Gen.facts, Cert.PostRefIdeal.Gen.facts,
  Cert.Own.AttnFwd.pre_facts,
  fun m ρ _ => Cert.AdamW.Gen.frame m ρ,
  fun m ρ _ => Cert.AdamWIdeal.Gen.frame m ρ,
  Cert.Own.AdamW.ref_frame,
  fun m ρ _ => Cert.AttnFwd.Gen.frame m ρ,
  fun m ρ _ => Cert.AttnFwdIdeal.Gen.frame m ρ,
  fun m ρ _ => Cert.AttnFwdIdeal.Gen.frame m ρ,
  Cert.Own.AttnFwd.ref_frame,
  fun m ρ _ => Cert.Own.AttnFwd.ref_frame m ρ trivial,
  fun m ρ _ => Cert.FwdPre.Gen.frame m ρ,
  fun m ρ _ => Cert.FwdPreIdeal.Gen.frame m ρ,
  Cert.Own.FwdPre.ref_frame,
  fun m ρ _ => Cert.AttnBwd.Gen.frame m ρ,
  fun m ρ _ => Cert.AttnBwdIdeal.Gen.frame m ρ,
  Cert.Own.AttnBwd.ref_frame,
  Cert.Own.BwdPre.frame_bits,
  fun m ρ _ => Cert.Own.BwdPre.frame_run m ρ,
  Cert.Own.BwdPre.ref_frame,
  Cert.Own.Post.frame_bits,
  fun m ρ _ => Cert.Own.Post.frame_run m ρ,
  Cert.Own.Post.ref_frame,
  trivial,
  Cert.Own.AdamW.algebraic,
  trivial,
  Cert.Own.AttnFwd.algebraic,
  trivial,
  Cert.Own.FwdPre.algebraic,
  trivial,
  Cert.Own.AttnBwd.algebraic,
  trivial,
  Cert.Own.BwdPre.algebraic,
  trivial⟩

end Cert.Proof

end
